-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Partial (m : (ℓ : Loc Cert.Partial.nD Cert.Partial.τ Cert.Partial.sig) → Buf (Elt Bits) ℓ) : Prop :=
  True

def Pre_PartialIdeal (m : (ℓ : Loc Cert.PartialIdeal.nD Cert.PartialIdeal.τ Cert.PartialIdeal.sig) → Buf (Elt Ideal) ℓ) : Prop :=
  True

def Pre_PartialReferenceIdeal (m : (ℓ : Loc Cert.PartialReferenceIdeal.nD Cert.PartialReferenceIdeal.τ Cert.PartialReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Partial [hPartial : Cert.Partial.Facts] : Prop :=
  ∀ (m : (ℓ : Loc Cert.Partial.nD Cert.Partial.τ Cert.Partial.sig) → Buf (Elt Bits) ℓ) (g : Dev Cert.Partial.nD → PrngReg), Pre_Partial m →
    θ_run (Cert.Partial.defs (F := Bits)) (onTc (τ := Cert.Partial.τ) (Cert.Partial.main (F := Bits))) ⟨m, fun _ => 0, g⟩ (fun r => (∀ c : Dev Cert.Partial.nD,
      r.2.mem ((c.tc : Thread Cert.Partial.nD Cert.Partial.τ).loc Cert.Partial.main_arg0) = m ((c.tc : Thread Cert.Partial.nD Cert.Partial.τ).loc Cert.Partial.main_arg0)
      ∧ r.2.mem ((c.tc : Thread Cert.Partial.nD Cert.Partial.τ).loc Cert.Partial.main_arg1) = m ((c.tc : Thread Cert.Partial.nD Cert.Partial.τ).loc Cert.Partial.main_arg1)
      ∧ r.2.mem ((c.tc : Thread Cert.Partial.nD Cert.Partial.τ).loc Cert.Partial.main_arg2) = m ((c.tc : Thread Cert.Partial.nD Cert.Partial.τ).loc Cert.Partial.main_arg2)
      ∧ r.2.mem ((c.tc : Thread Cert.Partial.nD Cert.Partial.τ).loc Cert.Partial.main_arg3) = m ((c.tc : Thread Cert.Partial.nD Cert.Partial.τ).loc Cert.Partial.main_arg3))
      ∧ r.2.sem = fun _ => 0)

def quiescent_PartialIdeal [hPartialIdeal : Cert.PartialIdeal.Facts] : Prop :=
  ∀ (m : (ℓ : Loc Cert.PartialIdeal.nD Cert.PartialIdeal.τ Cert.PartialIdeal.sig) → Buf (Elt Ideal) ℓ) (g : Dev Cert.PartialIdeal.nD → PrngReg), Pre_PartialIdeal m →
    θ_run (Cert.PartialIdeal.defs (F := Ideal)) (onTc (τ := Cert.PartialIdeal.τ) (Cert.PartialIdeal.main (F := Ideal))) ⟨m, fun _ => 0, g⟩ (fun r => (∀ c : Dev Cert.PartialIdeal.nD,
      r.2.mem ((c.tc : Thread Cert.PartialIdeal.nD Cert.PartialIdeal.τ).loc Cert.PartialIdeal.main_arg0) = m ((c.tc : Thread Cert.PartialIdeal.nD Cert.PartialIdeal.τ).loc Cert.PartialIdeal.main_arg0)
      ∧ r.2.mem ((c.tc : Thread Cert.PartialIdeal.nD Cert.PartialIdeal.τ).loc Cert.PartialIdeal.main_arg1) = m ((c.tc : Thread Cert.PartialIdeal.nD Cert.PartialIdeal.τ).loc Cert.PartialIdeal.main_arg1)
      ∧ r.2.mem ((c.tc : Thread Cert.PartialIdeal.nD Cert.PartialIdeal.τ).loc Cert.PartialIdeal.main_arg2) = m ((c.tc : Thread Cert.PartialIdeal.nD Cert.PartialIdeal.τ).loc Cert.PartialIdeal.main_arg2)
      ∧ r.2.mem ((c.tc : Thread Cert.PartialIdeal.nD Cert.PartialIdeal.τ).loc Cert.PartialIdeal.main_arg3) = m ((c.tc : Thread Cert.PartialIdeal.nD Cert.PartialIdeal.τ).loc Cert.PartialIdeal.main_arg3))
      ∧ r.2.sem = fun _ => 0)

def quiescent_PartialReferenceIdeal [hPartialReferenceIdeal : Cert.PartialReferenceIdeal.Facts] : Prop :=
  ∀ (m : (ℓ : Loc Cert.PartialReferenceIdeal.nD Cert.PartialReferenceIdeal.τ Cert.PartialReferenceIdeal.sig) → Buf (Elt Ideal) ℓ) (g : Dev Cert.PartialReferenceIdeal.nD → PrngReg), Pre_PartialReferenceIdeal m →
    θ_run (Cert.PartialReferenceIdeal.defs (F := Ideal)) (onTc (τ := Cert.PartialReferenceIdeal.τ) (Cert.PartialReferenceIdeal.main (F := Ideal))) ⟨m, fun _ => 0, g⟩ (fun r => (∀ c : Dev Cert.PartialReferenceIdeal.nD,
      r.2.mem ((c.tc : Thread Cert.PartialReferenceIdeal.nD Cert.PartialReferenceIdeal.τ).loc Cert.PartialReferenceIdeal.main_arg0) = m ((c.tc : Thread Cert.PartialReferenceIdeal.nD Cert.PartialReferenceIdeal.τ).loc Cert.PartialReferenceIdeal.main_arg0)
      ∧ r.2.mem ((c.tc : Thread Cert.PartialReferenceIdeal.nD Cert.PartialReferenceIdeal.τ).loc Cert.PartialReferenceIdeal.main_arg1) = m ((c.tc : Thread Cert.PartialReferenceIdeal.nD Cert.PartialReferenceIdeal.τ).loc Cert.PartialReferenceIdeal.main_arg1)
      ∧ r.2.mem ((c.tc : Thread Cert.PartialReferenceIdeal.nD Cert.PartialReferenceIdeal.τ).loc Cert.PartialReferenceIdeal.main_arg2) = m ((c.tc : Thread Cert.PartialReferenceIdeal.nD Cert.PartialReferenceIdeal.τ).loc Cert.PartialReferenceIdeal.main_arg2)
      ∧ r.2.mem ((c.tc : Thread Cert.PartialReferenceIdeal.nD Cert.PartialReferenceIdeal.τ).loc Cert.PartialReferenceIdeal.main_arg3) = m ((c.tc : Thread Cert.PartialReferenceIdeal.nD Cert.PartialReferenceIdeal.τ).loc Cert.PartialReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 8]⟩ ⟨2, ![16384, 8]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v24) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def preserves_Partial_PartialIdeal : Prop :=
  True

def algebraic_PartialIdeal_PartialReferenceIdeal [hPartialIdeal : Cert.PartialIdeal.Facts] [hPartialReferenceIdeal : Cert.PartialReferenceIdeal.Facts] : Prop :=
  ∀ (m : (ℓ : Loc Cert.PartialIdeal.nD Cert.PartialIdeal.τ Cert.PartialIdeal.sig) → Buf (Elt Ideal) ℓ) (g : Dev Cert.PartialIdeal.nD → PrngReg)
    (m' : (ℓ : Loc Cert.PartialReferenceIdeal.nD Cert.PartialReferenceIdeal.τ Cert.PartialReferenceIdeal.sig) → Buf (Elt Ideal) ℓ) (g' : Dev Cert.PartialReferenceIdeal.nD → PrngReg), Pre_PartialIdeal m →
    (∀ c : Dev Cert.PartialIdeal.nD,
      m ((c.tc : Thread Cert.PartialIdeal.nD Cert.PartialIdeal.τ).loc Cert.PartialIdeal.main_arg0) = m' (((0 : Dev Cert.PartialReferenceIdeal.nD).tc : Thread Cert.PartialReferenceIdeal.nD Cert.PartialReferenceIdeal.τ).loc Cert.PartialReferenceIdeal.main_arg0)
      ∧ m ((c.tc : Thread Cert.PartialIdeal.nD Cert.PartialIdeal.τ).loc Cert.PartialIdeal.main_arg1) = m' (((0 : Dev Cert.PartialReferenceIdeal.nD).tc : Thread Cert.PartialReferenceIdeal.nD Cert.PartialReferenceIdeal.τ).loc Cert.PartialReferenceIdeal.main_arg1)
      ∧ m ((c.tc : Thread Cert.PartialIdeal.nD Cert.PartialIdeal.τ).loc Cert.PartialIdeal.main_arg2) = Layout.block ⟨4, ![1, 2048, 8, 128]⟩ ⟨4, ![1, 16384, 8, 128]⟩ 1 8 c (m' (((0 : Dev Cert.PartialReferenceIdeal.nD).tc : Thread Cert.PartialReferenceIdeal.nD Cert.PartialReferenceIdeal.τ).loc Cert.PartialReferenceIdeal.main_arg2))
      ∧ m ((c.tc : Thread Cert.PartialIdeal.nD Cert.PartialIdeal.τ).loc Cert.PartialIdeal.main_arg3) = Layout.block ⟨4, ![1, 2048, 8, 128]⟩ ⟨4, ![1, 16384, 8, 128]⟩ 1 8 c (m' (((0 : Dev Cert.PartialReferenceIdeal.nD).tc : Thread Cert.PartialReferenceIdeal.nD Cert.PartialReferenceIdeal.τ).loc Cert.PartialReferenceIdeal.main_arg3))) →
    ∃ (v0 : Buf (Elt Ideal) (((0 : Dev Cert.PartialReferenceIdeal.nD).tc : Thread Cert.PartialReferenceIdeal.nD Cert.PartialReferenceIdeal.τ).loc Cert.PartialReferenceIdeal.main_v31)) (v1 : Buf (Elt Ideal) (((0 : Dev Cert.PartialReferenceIdeal.nD).tc : Thread Cert.PartialReferenceIdeal.nD Cert.PartialReferenceIdeal.τ).loc Cert.PartialReferenceIdeal.main_v34)),
      θ_run (Cert.PartialIdeal.defs (F := Ideal)) (onTc (τ := Cert.PartialIdeal.τ) (Cert.PartialIdeal.main (F := Ideal))) ⟨m, fun _ => 0, g⟩ (fun r => ∀ c : Dev Cert.PartialIdeal.nD,
          r.2.mem ((c.tc : Thread Cert.PartialIdeal.nD Cert.PartialIdeal.τ).loc Cert.PartialIdeal.main_v1_0) = Layout.block ⟨2, ![2048, 1024]⟩ ⟨2, ![16384, 1024]⟩ 0 8 c v0
          ∧ r.2.mem ((c.tc : Thread Cert.PartialIdeal.nD Cert.PartialIdeal.τ).loc Cert.PartialIdeal.main_v1_1) = Layout.block ⟨2, ![2048, 8]⟩ ⟨2, ![16384, 8]⟩ 0 8 c v1
          ∧ r.2.mem ((c.tc : Thread Cert.PartialIdeal.nD Cert.PartialIdeal.τ).loc Cert.PartialIdeal.main_arg0) = m ((c.tc : Thread Cert.PartialIdeal.nD Cert.PartialIdeal.τ).loc Cert.PartialIdeal.main_arg0)
          ∧ r.2.mem ((c.tc : Thread Cert.PartialIdeal.nD Cert.PartialIdeal.τ).loc Cert.PartialIdeal.main_arg1) = m ((c.tc : Thread Cert.PartialIdeal.nD Cert.PartialIdeal.τ).loc Cert.PartialIdeal.main_arg1)
          ∧ r.2.mem ((c.tc : Thread Cert.PartialIdeal.nD Cert.PartialIdeal.τ).loc Cert.PartialIdeal.main_arg2) = m ((c.tc : Thread Cert.PartialIdeal.nD Cert.PartialIdeal.τ).loc Cert.PartialIdeal.main_arg2)
          ∧ r.2.mem ((c.tc : Thread Cert.PartialIdeal.nD Cert.PartialIdeal.τ).loc Cert.PartialIdeal.main_arg3) = m ((c.tc : Thread Cert.PartialIdeal.nD Cert.PartialIdeal.τ).loc Cert.PartialIdeal.main_arg3))
      ∧ θ_run (Cert.PartialReferenceIdeal.defs (F := Ideal)) (onTc (τ := Cert.PartialReferenceIdeal.τ) (Cert.PartialReferenceIdeal.main (F := Ideal))) ⟨m', fun _ => 0, g'⟩ (fun r =>
          r.2.mem (((0 : Dev Cert.PartialReferenceIdeal.nD).tc : Thread Cert.PartialReferenceIdeal.nD Cert.PartialReferenceIdeal.τ).loc Cert.PartialReferenceIdeal.main_v31) = v0
          ∧ r.2.mem (((0 : Dev Cert.PartialReferenceIdeal.nD).tc : Thread Cert.PartialReferenceIdeal.nD Cert.PartialReferenceIdeal.τ).loc Cert.PartialReferenceIdeal.main_v34) = v1
          ∧ r.2.mem (((0 : Dev Cert.PartialReferenceIdeal.nD).tc : Thread Cert.PartialReferenceIdeal.nD Cert.PartialReferenceIdeal.τ).loc Cert.PartialReferenceIdeal.main_arg0) = m' (((0 : Dev Cert.PartialReferenceIdeal.nD).tc : Thread Cert.PartialReferenceIdeal.nD Cert.PartialReferenceIdeal.τ).loc Cert.PartialReferenceIdeal.main_arg0)
          ∧ r.2.mem (((0 : Dev Cert.PartialReferenceIdeal.nD).tc : Thread Cert.PartialReferenceIdeal.nD Cert.PartialReferenceIdeal.τ).loc Cert.PartialReferenceIdeal.main_arg1) = m' (((0 : Dev Cert.PartialReferenceIdeal.nD).tc : Thread Cert.PartialReferenceIdeal.nD Cert.PartialReferenceIdeal.τ).loc Cert.PartialReferenceIdeal.main_arg1)
          ∧ r.2.mem (((0 : Dev Cert.PartialReferenceIdeal.nD).tc : Thread Cert.PartialReferenceIdeal.nD Cert.PartialReferenceIdeal.τ).loc Cert.PartialReferenceIdeal.main_arg2) = m' (((0 : Dev Cert.PartialReferenceIdeal.nD).tc : Thread Cert.PartialReferenceIdeal.nD Cert.PartialReferenceIdeal.τ).loc Cert.PartialReferenceIdeal.main_arg2)
          ∧ r.2.mem (((0 : Dev Cert.PartialReferenceIdeal.nD).tc : Thread Cert.PartialReferenceIdeal.nD Cert.PartialReferenceIdeal.τ).loc Cert.PartialReferenceIdeal.main_arg3) = m' (((0 : Dev Cert.PartialReferenceIdeal.nD).tc : Thread Cert.PartialReferenceIdeal.nD Cert.PartialReferenceIdeal.τ).loc Cert.PartialReferenceIdeal.main_arg3))

def Claim : Prop :=
  ∃ (hKernel : Cert.Kernel.Facts) (hKernelIdeal : Cert.KernelIdeal.Facts) (hReferenceIdeal : Cert.ReferenceIdeal.Facts) (hPartial : Cert.Partial.Facts) (hPartialIdeal : Cert.PartialIdeal.Facts) (hPartialReferenceIdeal : Cert.PartialReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Partial (hPartial := hPartial)
    ∧ quiescent_PartialIdeal (hPartialIdeal := hPartialIdeal)
    ∧ quiescent_PartialReferenceIdeal (hPartialReferenceIdeal := hPartialReferenceIdeal)
    ∧ preserves_Kernel_KernelIdeal
    ∧ algebraic_KernelIdeal_ReferenceIdeal (hKernelIdeal := hKernelIdeal) (hReferenceIdeal := hReferenceIdeal)
    ∧ preserves_Partial_PartialIdeal
    ∧ algebraic_PartialIdeal_PartialReferenceIdeal (hPartialIdeal := hPartialIdeal) (hPartialReferenceIdeal := hPartialReferenceIdeal)
-- ==== Kernel.lean ====
abbrev S2048x1024 : Shape := ⟨2, ![2048, 1024]⟩
abbrev S2048x8 : Shape := ⟨2, ![2048, 8]⟩
abbrev S1024x1024 : Shape := ⟨2, ![1024, 1024]⟩
abbrev S1x2048x1024 : Shape := ⟨3, ![1, 2048, 1024]⟩
abbrev S256x1024 : Shape := ⟨2, ![256, 1024]⟩
abbrev S256x8 : Shape := ⟨2, ![256, 8]⟩
abbrev S3x256x1024 : Shape := ⟨3, ![3, 256, 1024]⟩
abbrev S3x256x8 : Shape := ⟨3, ![3, 256, 8]⟩
abbrev S1792x1024 : Shape := ⟨2, ![1792, 1024]⟩
abbrev S3 : Shape := ⟨1, ![3]⟩
abbrev S2x7 : Shape := ⟨2, ![2, 7]⟩
abbrev S_ : Shape := ⟨0, ![]⟩
abbrev S128x1024 : Shape := ⟨2, ![128, 1024]⟩
abbrev S128x8 : Shape := ⟨2, ![128, 8]⟩
abbrev S1792x128 : Shape := ⟨2, ![1792, 128]⟩
abbrev S1792x1 : Shape := ⟨2, ![1792, 1]⟩
abbrev S1x1 : Shape := ⟨2, ![1, 1]⟩
abbrev S1 : Shape := ⟨1, ![1]⟩
abbrev S1x256x1024 : Shape := ⟨3, ![1, 256, 1024]⟩
abbrev S1x256x8 : Shape := ⟨3, ![1, 256, 8]⟩
abbrev S128x128 : Shape := ⟨2, ![128, 128]⟩
abbrev S128x1 : Shape := ⟨2, ![128, 1]⟩

abbrev nBuf : Space → Nat
  | .hbm => 4
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x8, .f32⟩
  | .hbm, ⟨2, _⟩ => ⟨S1024x1024, .f32⟩
  | .hbm, ⟨3, _⟩ => ⟨S1x2048x1024, .f32⟩
  | .local _ .vmem, ⟨0, _⟩ => ⟨S2048x1024, .f32⟩
  | .local _ .vmem, ⟨1, _⟩ => ⟨S2048x8, .f32⟩
  | .local _ .vmem, ⟨2, _⟩ => ⟨S1024x1024, .f32⟩
  | .local _ .vmem, ⟨3, _⟩ => ⟨S1x2048x1024, .f32⟩
  | .local _ .vmem, ⟨4, _⟩ => ⟨S256x1024, .f32⟩
  | .local _ .vmem, ⟨5, _⟩ => ⟨S256x8, .f32⟩
  | .local _ .vmem, ⟨6, _⟩ => ⟨S3x256x1024, .f32⟩
  | .local _ .vmem, ⟨7, _⟩ => ⟨S3x256x8, .f32⟩
  | .local _ .vmem, ⟨8, _⟩ => ⟨S1792x1024, .bf16⟩
  | .local _ .vmem, ⟨9, _⟩ => ⟨S2048x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14 : BitVec 32 := 1#32
  let v27 : BitVec 32 := Scalar.xori v2 c1_i32_14
  let c1_i32_16 : BitVec 32 := 1#32
  let v30 : BitVec 32 := Scalar.muli v27 c1_i32_16
  let v31 : BitVec 32 := Scalar.addi c0_i32_17 v30
  v31.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v28 : BitVec 32 := Scalar.xori v2 c3_i32
  let c1_i32_19 : BitVec 32 := 1#32
  let v32 : BitVec 32 := Scalar.muli v28 c1_i32_19
  let v33 : BitVec 32 := Scalar.addi c0_i32_20 v32
  v33.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v29 : BitVec 32 := Scalar.xori v2 c4_i32
  let c1_i32_22 : BitVec 32 := 1#32
  let v34 : BitVec 32 := Scalar.muli v29 c1_i32_22
  let v35 : BitVec 32 := Scalar.addi c0_i32_23 v34
  v35.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_25 : BitVec 32 := 1#32
  let v36 : BitVec 32 := Scalar.muli v13 c1_i32_25
  let v37 : BitVec 32 := Scalar.addi c0_i32_26 v36
  v37.toNat
def k0_dev5 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_28 : BitVec 32 := 1#32
  let v38 : BitVec 32 := Scalar.muli v25 c1_i32_28
  let v39 : BitVec 32 := Scalar.addi c0_i32_29 v38
  v39.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_43 : BitVec 32 := 0#32
  let v60 : BitVec 1 := Scalar.cmpi .eq v2 c0_i32_43
  let v61 : BitVec 32 := Scalar.extui v60
  let c0_i32_44 : BitVec 32 := 0#32
  let v62 : BitVec 1 := Scalar.cmpi .ne v61 c0_i32_44
  v62

def k0_dev6 (d0 : Dev nD) : Nat :=
  let c0_i32_542 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_541 : BitVec 32 := 1#32
  let v540 : BitVec 32 := Scalar.muli v13 c1_i32_541
  let v541 : BitVec 32 := Scalar.addi c0_i32_542 v540
  v541.toNat
def k0_dev7 (d0 : Dev nD) : Nat :=
  let c0_i32_552 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_551 : BitVec 32 := 1#32
  let v548 : BitVec 32 := Scalar.muli v25 c1_i32_551
  let v549 : BitVec 32 := Scalar.addi c0_i32_552 v548
  v549.toNat
def k0_dev8 (d0 : Dev nD) : Nat :=
  let c0_i32_562 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_561 : BitVec 32 := 1#32
  let v556 : BitVec 32 := Scalar.muli v13 c1_i32_561
  let v557 : BitVec 32 := Scalar.addi c0_i32_562 v556
  v557.toNat
def k0_dev9 (d0 : Dev nD) : Nat :=
  let c0_i32_571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_570 : BitVec 32 := 1#32
  let v564 : BitVec 32 := Scalar.muli v25 c1_i32_570
  let v565 : BitVec 32 := Scalar.addi c0_i32_571 v564
  v565.toNat
def k0_dev10 (d0 : Dev nD) : Nat :=
  let c0_i32_581 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_580 : BitVec 32 := 1#32
  let v572 : BitVec 32 := Scalar.muli v13 c1_i32_580
  let v573 : BitVec 32 := Scalar.addi c0_i32_581 v572
  v573.toNat
def k0_dev11 (d0 : Dev nD) : Nat :=
  let c0_i32_590 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_589 : BitVec 32 := 1#32
  let v580 : BitVec 32 := Scalar.muli v25 c1_i32_589
  let v581 : BitVec 32 := Scalar.addi c0_i32_590 v580
  v581.toNat
def k0_dev12 (d0 : Dev nD) : Nat :=
  let c0_i32_600 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_599 : BitVec 32 := 1#32
  let v588 : BitVec 32 := Scalar.muli v13 c1_i32_599
  let v589 : BitVec 32 := Scalar.addi c0_i32_600 v588
  v589.toNat
def k0_dev13 (d0 : Dev nD) : Nat :=
  let c0_i32_609 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_608 : BitVec 32 := 1#32
  let v596 : BitVec 32 := Scalar.muli v25 c1_i32_608
  let v597 : BitVec 32 := Scalar.addi c0_i32_609 v596
  v597.toNat
def k0_dev14 (d0 : Dev nD) : Nat :=
  let c0_i32_619 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_618 : BitVec 32 := 1#32
  let v604 : BitVec 32 := Scalar.muli v13 c1_i32_618
  let v605 : BitVec 32 := Scalar.addi c0_i32_619 v604
  v605.toNat
def k0_dev15 (d0 : Dev nD) : Nat :=
  let c0_i32_628 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_627 : BitVec 32 := 1#32
  let v612 : BitVec 32 := Scalar.muli v25 c1_i32_627
  let v613 : BitVec 32 := Scalar.addi c0_i32_628 v612
  v613.toNat
def k0_dev16 (d0 : Dev nD) : Nat :=
  let c0_i32_638 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_637 : BitVec 32 := 1#32
  let v620 : BitVec 32 := Scalar.muli v13 c1_i32_637
  let v621 : BitVec 32 := Scalar.addi c0_i32_638 v620
  v621.toNat
def k0_dev17 (d0 : Dev nD) : Nat :=
  let c0_i32_647 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_646 : BitVec 32 := 1#32
  let v628 : BitVec 32 := Scalar.muli v25 c1_i32_646
  let v629 : BitVec 32 := Scalar.addi c0_i32_647 v628
  v629.toNat
def k0_dev18 (d0 : Dev nD) : Nat :=
  let c0_i32_657 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_656 : BitVec 32 := 1#32
  let v636 : BitVec 32 := Scalar.muli v13 c1_i32_656
  let v637 : BitVec 32 := Scalar.addi c0_i32_657 v636
  v637.toNat
def k0_dev19 (d0 : Dev nD) : Nat :=
  let c0_i32_666 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_665 : BitVec 32 := 1#32
  let v644 : BitVec 32 := Scalar.muli v25 c1_i32_665
  let v645 : BitVec 32 := Scalar.addi c0_i32_666 v644
  v645.toNat
def k0_dev20 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_45 : BitVec 32 := 1#32
  let v63 : BitVec 32 := Scalar.xori v2 c1_i32_45
  let c1_i32_49 : BitVec 32 := 1#32
  let v64 : BitVec 32 := Scalar.muli v63 c1_i32_49
  let v65 : BitVec 32 := Scalar.addi c0_i32_50 v64
  v65.toNat
def k0_dev21 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_45 : BitVec 32 := 1#32
  let v63 : BitVec 32 := Scalar.xori v2 c1_i32_45
  let c1_i32_56 : BitVec 32 := 1#32
  let v72 : BitVec 32 := Scalar.muli v63 c1_i32_56
  let v73 : BitVec 32 := Scalar.addi c0_i32_57 v72
  v73.toNat
def k0_dev22 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_100 : BitVec 32 := 3#32
  let v114 : BitVec 32 := Scalar.xori v2 c3_i32_100
  let c1_i32_104 : BitVec 32 := 1#32
  let v115 : BitVec 32 := Scalar.muli v114 c1_i32_104
  let v116 : BitVec 32 := Scalar.addi c0_i32_105 v115
  v116.toNat
def k0_dev23 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_100 : BitVec 32 := 3#32
  let v114 : BitVec 32 := Scalar.xori v2 c3_i32_100
  let c1_i32_111 : BitVec 32 := 1#32
  let v123 : BitVec 32 := Scalar.muli v114 c1_i32_111
  let v124 : BitVec 32 := Scalar.addi c0_i32_112 v123
  v124.toNat
def k0_dev24 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_154 : BitVec 32 := 4#32
  let v165 : BitVec 32 := Scalar.xori v2 c4_i32_154
  let c1_i32_157 : BitVec 32 := 1#32
  let v166 : BitVec 32 := Scalar.muli v165 c1_i32_157
  let v167 : BitVec 32 := Scalar.addi c0_i32_158 v166
  v167.toNat
def k0_dev25 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_154 : BitVec 32 := 4#32
  let v165 : BitVec 32 := Scalar.xori v2 c4_i32_154
  let c1_i32_164 : BitVec 32 := 1#32
  let v174 : BitVec 32 := Scalar.muli v165 c1_i32_164
  let v175 : BitVec 32 := Scalar.addi c0_i32_165 v174
  v175.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_214 : BitVec 32 := 1#32
  let v221 : BitVec 1 := Scalar.cmpi .sge v2 c1_i32_214
  let c3_i32_215 : BitVec 32 := 3#32
  let v222 : BitVec 1 := Scalar.cmpi .sle v2 c3_i32_215
  let v223 : BitVec 1 := Scalar.andi v221 v222
  let v224 : BitVec 32 := Scalar.extui v223
  let c0_i32_220 : BitVec 32 := 0#32
  let v225 : BitVec 1 := Scalar.cmpi .ne v224 c0_i32_220
  v225

def k0_dev26 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_489 : BitVec 32 := 1#32
  let v460 : BitVec 32 := Scalar.muli v13 c1_i32_489
  let v461 : BitVec 32 := Scalar.addi c0_i32_490 v460
  v461.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v229 : BitVec 1 := Scalar.cmpi .sge v2 c6_i32
  let v230 : BitVec 32 := Scalar.extui v229
  let c0_i32_231 : BitVec 32 := 0#32
  let v231 : BitVec 1 := Scalar.cmpi .ne v230 c0_i32_231
  v231

def k0_dev27 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_489 : BitVec 32 := 1#32
  let v460 : BitVec 32 := Scalar.muli v25 c1_i32_489
  let v461 : BitVec 32 := Scalar.addi c0_i32_490 v460
  v461.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_239 : BitVec 32 := 1#32
  let v237 : BitVec 1 := Scalar.cmpi .sge v2 c1_i32_239
  let c3_i32_240 : BitVec 32 := 3#32
  let v238 : BitVec 1 := Scalar.cmpi .sle v2 c3_i32_240
  let v239 : BitVec 1 := Scalar.andi v237 v238
  let v240 : BitVec 32 := Scalar.extui v239
  let c0_i32_245 : BitVec 32 := 0#32
  let v241 : BitVec 1 := Scalar.cmpi .ne v240 c0_i32_245
  v241

def k0_dev28 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_489 : BitVec 32 := 1#32
  let v460 : BitVec 32 := Scalar.muli v13 c1_i32_489
  let v461 : BitVec 32 := Scalar.addi c0_i32_490 v460
  v461.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_252 : BitVec 32 := 6#32
  let v245 : BitVec 1 := Scalar.cmpi .sge v2 c6_i32_252
  let v246 : BitVec 32 := Scalar.extui v245
  let c0_i32_257 : BitVec 32 := 0#32
  let v247 : BitVec 1 := Scalar.cmpi .ne v246 c0_i32_257
  v247

def k0_dev29 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_489 : BitVec 32 := 1#32
  let v460 : BitVec 32 := Scalar.muli v25 c1_i32_489
  let v461 : BitVec 32 := Scalar.addi c0_i32_490 v460
  v461.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_265 : BitVec 32 := 1#32
  let v253 : BitVec 1 := Scalar.cmpi .sge v2 c1_i32_265
  let c3_i32_266 : BitVec 32 := 3#32
  let v254 : BitVec 1 := Scalar.cmpi .sle v2 c3_i32_266
  let v255 : BitVec 1 := Scalar.andi v253 v254
  let v256 : BitVec 32 := Scalar.extui v255
  let c0_i32_271 : BitVec 32 := 0#32
  let v257 : BitVec 1 := Scalar.cmpi .ne v256 c0_i32_271
  v257

def k0_dev30 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_489 : BitVec 32 := 1#32
  let v460 : BitVec 32 := Scalar.muli v13 c1_i32_489
  let v461 : BitVec 32 := Scalar.addi c0_i32_490 v460
  v461.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_278 : BitVec 32 := 6#32
  let v261 : BitVec 1 := Scalar.cmpi .sge v2 c6_i32_278
  let v262 : BitVec 32 := Scalar.extui v261
  let c0_i32_283 : BitVec 32 := 0#32
  let v263 : BitVec 1 := Scalar.cmpi .ne v262 c0_i32_283
  v263

def k0_dev31 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_489 : BitVec 32 := 1#32
  let v460 : BitVec 32 := Scalar.muli v25 c1_i32_489
  let v461 : BitVec 32 := Scalar.addi c0_i32_490 v460
  v461.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_291 : BitVec 32 := 1#32
  let v269 : BitVec 1 := Scalar.cmpi .sge v2 c1_i32_291
  let c3_i32_292 : BitVec 32 := 3#32
  let v270 : BitVec 1 := Scalar.cmpi .sle v2 c3_i32_292
  let v271 : BitVec 1 := Scalar.andi v269 v270
  let v272 : BitVec 32 := Scalar.extui v271
  let c0_i32_297 : BitVec 32 := 0#32
  let v273 : BitVec 1 := Scalar.cmpi .ne v272 c0_i32_297
  v273

def k0_dev32 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_489 : BitVec 32 := 1#32
  let v460 : BitVec 32 := Scalar.muli v13 c1_i32_489
  let v461 : BitVec 32 := Scalar.addi c0_i32_490 v460
  v461.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_304 : BitVec 32 := 6#32
  let v277 : BitVec 1 := Scalar.cmpi .sge v2 c6_i32_304
  let v278 : BitVec 32 := Scalar.extui v277
  let c0_i32_309 : BitVec 32 := 0#32
  let v279 : BitVec 1 := Scalar.cmpi .ne v278 c0_i32_309
  v279

def k0_dev33 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_489 : BitVec 32 := 1#32
  let v460 : BitVec 32 := Scalar.muli v25 c1_i32_489
  let v461 : BitVec 32 := Scalar.addi c0_i32_490 v460
  v461.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_317 : BitVec 32 := 1#32
  let v285 : BitVec 1 := Scalar.cmpi .sge v2 c1_i32_317
  let c3_i32_318 : BitVec 32 := 3#32
  let v286 : BitVec 1 := Scalar.cmpi .sle v2 c3_i32_318
  let v287 : BitVec 1 := Scalar.andi v285 v286
  let v288 : BitVec 32 := Scalar.extui v287
  let c0_i32_323 : BitVec 32 := 0#32
  let v289 : BitVec 1 := Scalar.cmpi .ne v288 c0_i32_323
  v289

def k0_dev34 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_489 : BitVec 32 := 1#32
  let v460 : BitVec 32 := Scalar.muli v13 c1_i32_489
  let v461 : BitVec 32 := Scalar.addi c0_i32_490 v460
  v461.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_330 : BitVec 32 := 6#32
  let v293 : BitVec 1 := Scalar.cmpi .sge v2 c6_i32_330
  let v294 : BitVec 32 := Scalar.extui v293
  let c0_i32_335 : BitVec 32 := 0#32
  let v295 : BitVec 1 := Scalar.cmpi .ne v294 c0_i32_335
  v295

def k0_dev35 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_489 : BitVec 32 := 1#32
  let v460 : BitVec 32 := Scalar.muli v25 c1_i32_489
  let v461 : BitVec 32 := Scalar.addi c0_i32_490 v460
  v461.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_343 : BitVec 32 := 1#32
  let v301 : BitVec 1 := Scalar.cmpi .sge v2 c1_i32_343
  let c3_i32_344 : BitVec 32 := 3#32
  let v302 : BitVec 1 := Scalar.cmpi .sle v2 c3_i32_344
  let v303 : BitVec 1 := Scalar.andi v301 v302
  let v304 : BitVec 32 := Scalar.extui v303
  let c0_i32_349 : BitVec 32 := 0#32
  let v305 : BitVec 1 := Scalar.cmpi .ne v304 c0_i32_349
  v305

def k0_dev36 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_489 : BitVec 32 := 1#32
  let v460 : BitVec 32 := Scalar.muli v13 c1_i32_489
  let v461 : BitVec 32 := Scalar.addi c0_i32_490 v460
  v461.toNat
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_356 : BitVec 32 := 6#32
  let v309 : BitVec 1 := Scalar.cmpi .sge v2 c6_i32_356
  let v310 : BitVec 32 := Scalar.extui v309
  let c0_i32_361 : BitVec 32 := 0#32
  let v311 : BitVec 1 := Scalar.cmpi .ne v310 c0_i32_361
  v311

def k0_dev37 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_489 : BitVec 32 := 1#32
  let v460 : BitVec 32 := Scalar.muli v25 c1_i32_489
  let v461 : BitVec 32 := Scalar.addi c0_i32_490 v460
  v461.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_369 : BitVec 32 := 1#32
  let v317 : BitVec 1 := Scalar.cmpi .sge v2 c1_i32_369
  let c3_i32_370 : BitVec 32 := 3#32
  let v318 : BitVec 1 := Scalar.cmpi .sle v2 c3_i32_370
  let v319 : BitVec 1 := Scalar.andi v317 v318
  let v320 : BitVec 32 := Scalar.extui v319
  let c0_i32_375 : BitVec 32 := 0#32
  let v321 : BitVec 1 := Scalar.cmpi .ne v320 c0_i32_375
  v321

def k0_dev38 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_489 : BitVec 32 := 1#32
  let v460 : BitVec 32 := Scalar.muli v13 c1_i32_489
  let v461 : BitVec 32 := Scalar.addi c0_i32_490 v460
  v461.toNat
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_382 : BitVec 32 := 6#32
  let v325 : BitVec 1 := Scalar.cmpi .sge v2 c6_i32_382
  let v326 : BitVec 32 := Scalar.extui v325
  let c0_i32_387 : BitVec 32 := 0#32
  let v327 : BitVec 1 := Scalar.cmpi .ne v326 c0_i32_387
  v327

def k0_dev39 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_489 : BitVec 32 := 1#32
  let v460 : BitVec 32 := Scalar.muli v25 c1_i32_489
  let v461 : BitVec 32 := Scalar.addi c0_i32_490 v460
  v461.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16384x1024 : Shape := ⟨2, ![16384, 1024]⟩
abbrev S16384x8 : Shape := ⟨2, ![16384, 8]⟩
abbrev S1024x1024 : Shape := ⟨2, ![1024, 1024]⟩
abbrev S8x2048x1024 : Shape := ⟨3, ![8, 2048, 1024]⟩
abbrev S8x2048x8 : Shape := ⟨3, ![8, 2048, 8]⟩
abbrev S2048 : Shape := ⟨1, ![2048]⟩
abbrev S_ : Shape := ⟨0, ![]⟩
abbrev S2048x1 : Shape := ⟨2, ![2048, 1]⟩
abbrev S1x2048x1024 : Shape := ⟨3, ![1, 2048, 1024]⟩
abbrev S2048x1024 : Shape := ⟨2, ![2048, 1024]⟩
abbrev S1x2048x8 : Shape := ⟨3, ![1, 2048, 8]⟩
abbrev S2048x8 : Shape := ⟨2, ![2048, 8]⟩
abbrev S2048x8x128 : Shape := ⟨3, ![2048, 8, 128]⟩
abbrev S2048x8x1 : Shape := ⟨3, ![2048, 8, 1]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x8, .f32⟩
  | .hbm, ⟨2, _⟩ => ⟨S1024x1024, .f32⟩
  | .hbm, ⟨3, _⟩ => ⟨S8x2048x1024, .f32⟩
  | .hbm, ⟨4, _⟩ => ⟨S8x2048x8, .f32⟩
  | .hbm, ⟨5, _⟩ => ⟨S2048, .i32⟩
  | .hbm, ⟨6, _⟩ => ⟨S_, .i32⟩
  | .hbm, ⟨7, _⟩ => ⟨S2048, .i32⟩
  | .hbm, ⟨8, _⟩ => ⟨S2048, .i1⟩
  | .hbm, ⟨9, _⟩ => ⟨S_, .i32⟩
  | .hbm, ⟨10, _⟩ => ⟨S2048, .i32⟩
  | .hbm, ⟨11, _⟩ => ⟨S2048, .i1⟩
  | .hbm, ⟨12, _⟩ => ⟨S2048, .i1⟩
  | .hbm, ⟨13, _⟩ => ⟨S2048x1, .i1⟩
  | .hbm, ⟨14, _⟩ => ⟨S1x2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .i1⟩
  | .hbm, ⟨19, _⟩ => ⟨S2048x1024, .f32⟩
  | .hbm, ⟨20, _⟩ => ⟨S2048x1, .i1⟩
  | .hbm, ⟨21, _⟩ => ⟨S1x2048x8, .f32⟩
  | .hbm, ⟨22, _⟩ => ⟨S2048x8, .f32⟩
  | .hbm, ⟨23, _⟩ => ⟨S_, .f32⟩
  | .hbm, ⟨24, _⟩ => ⟨S2048x8, .f32⟩
  | .hbm, ⟨25, _⟩ => ⟨S2048x8, .i1⟩
  | .hbm, ⟨26, _⟩ => ⟨S2048x8, .f32⟩
  | .hbm, ⟨27, _⟩ => ⟨S2048x8x128, .f32⟩
  | .hbm, ⟨28, _⟩ => ⟨S2048x8x1, .f32⟩
  | .hbm, ⟨29, _⟩ => ⟨S2048x8x128, .f32⟩
  | .hbm, ⟨30, _⟩ => ⟨S2048x8x128, .f32⟩
  | .hbm, ⟨31, _⟩ => ⟨S2048x1024, .f32⟩
  | .hbm, ⟨32, _⟩ => ⟨S2048x1024, .f32⟩
  | .hbm, ⟨33, _⟩ => ⟨S1x2048x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_call1_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Partial.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S2048x1024 : Shape := ⟨2, ![2048, 1024]⟩
abbrev S2048x8 : Shape := ⟨2, ![2048, 8]⟩
abbrev S1x512x1024 : Shape := ⟨3, ![1, 512, 1024]⟩
abbrev S512x1024 : Shape := ⟨2, ![512, 1024]⟩
abbrev S1024x128 : Shape := ⟨2, ![1024, 128]⟩
abbrev S512x128 : Shape := ⟨2, ![512, 128]⟩
abbrev S512x2048 : Shape := ⟨2, ![512, 2048]⟩
abbrev S1x2048x1x128 : Shape := ⟨4, ![1, 2048, 1, 128]⟩
abbrev S2048x128 : Shape := ⟨2, ![2048, 128]⟩
abbrev S512 : Shape := ⟨1, ![512]⟩
abbrev S512x1 : Shape := ⟨2, ![512, 1]⟩
abbrev S512x768 : Shape := ⟨2, ![512, 768]⟩
abbrev S1x768x1x128 : Shape := ⟨4, ![1, 768, 1, 128]⟩
abbrev S768x128 : Shape := ⟨2, ![768, 128]⟩
abbrev S1x128x1x128 : Shape := ⟨4, ![1, 128, 1, 128]⟩
abbrev S128x128 : Shape := ⟨2, ![128, 128]⟩
abbrev S512x640 : Shape := ⟨2, ![512, 640]⟩
abbrev S1x640x1x128 : Shape := ⟨4, ![1, 640, 1, 128]⟩
abbrev S640x128 : Shape := ⟨2, ![640, 128]⟩

abbrev nBuf : Space → Nat
  | .hbm => 6
  | .vmem => 6
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x2048x8x128, .f32⟩
  | .hbm, ⟨3, _⟩ => ⟨S1x2048x8x128, .f32⟩
  | .hbm, ⟨4, _⟩ => ⟨S2048x1024, .f32⟩
  | .hbm, ⟨5, _⟩ => ⟨S2048x8, .f32⟩
  | .local _ .vmem, ⟨0, _⟩ => ⟨S1x2048x1024, .f32⟩
  | .local _ .vmem, ⟨1, _⟩ => ⟨S1024x1024, .f32⟩
  | .local _ .vmem, ⟨2, _⟩ => ⟨S1x2048x8x128, .f32⟩
  | .local _ .vmem, ⟨3, _⟩ => ⟨S1x2048x8x128, .f32⟩
  | .local _ .vmem, ⟨4, _⟩ => ⟨S2048x1024, .f32⟩
  | .local _ .vmem, ⟨5, _⟩ => ⟨S2048x8, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 8
abbrev τ : Topo := Topo.v7x

variable {F : FTy → Type} [FloatOps F]

abbrev grid0 : Pipeline.Grid := .none

abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== PartialReferenceIdeal.lean ====
abbrev S1x2048x1024 : Shape := ⟨3, ![1, 2048, 1024]⟩
abbrev S1024x1024 : Shape := ⟨2, ![1024, 1024]⟩
abbrev S1x16384x8x128 : Shape := ⟨4, ![1, 16384, 8, 128]⟩
abbrev S2048x8x128 : Shape := ⟨3, ![2048, 8, 128]⟩
abbrev S8x2048x8x128 : Shape := ⟨4, ![8, 2048, 8, 128]⟩
abbrev S2048 : Shape := ⟨1, ![2048]⟩
abbrev S2048x1 : Shape := ⟨2, ![2048, 1]⟩
abbrev S16384 : Shape := ⟨1, ![16384]⟩
abbrev S1x16384 : Shape := ⟨2, ![1, 16384]⟩
abbrev S2048x16384 : Shape := ⟨2, ![2048, 16384]⟩
abbrev S_ : Shape := ⟨0, ![]⟩
abbrev S2048x8x2048 : Shape := ⟨3, ![2048, 8, 2048]⟩
abbrev S8x2048x8x2048 : Shape := ⟨4, ![8, 2048, 8, 2048]⟩
abbrev S1x2048x8x2048 : Shape := ⟨4, ![1, 2048, 8, 2048]⟩
abbrev S8x8x128x2048 : Shape := ⟨4, ![8, 8, 128, 2048]⟩
abbrev S16384x1024 : Shape := ⟨2, ![16384, 1024]⟩
abbrev S8x2048x8 : Shape := ⟨3, ![8, 2048, 8]⟩
abbrev S16384x8 : Shape := ⟨2, ![16384, 8]⟩

abbrev nBuf : Space → Nat
  | .hbm => 48
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x16384x8x128, .f32⟩
  | .hbm, ⟨3, _⟩ => ⟨S1x16384x8x128, .f32⟩
  | .hbm, ⟨4, _⟩ => ⟨S1x2048x1024, .f32⟩
  | .hbm, ⟨5, _⟩ => ⟨S2048x8x128, .f32⟩
  | .hbm, ⟨6, _⟩ => ⟨S8x2048x8x128, .f32⟩
  | .hbm, ⟨7, _⟩ => ⟨S8x2048x8x128, .f32⟩
  | .hbm, ⟨8, _⟩ => ⟨S2048, .i32⟩
  | .hbm, ⟨9, _⟩ => ⟨S2048x1, .i32⟩
  | .hbm, ⟨10, _⟩ => ⟨S16384, .i32⟩
  | .hbm, ⟨11, _⟩ => ⟨S1x16384, .i32⟩
  | .hbm, ⟨12, _⟩ => ⟨S2048x16384, .i32⟩
  | .hbm, ⟨13, _⟩ => ⟨S2048x16384, .i32⟩
  | .hbm, ⟨14, _⟩ => ⟨S2048x16384, .i32⟩
  | .hbm, ⟨15, _⟩ => ⟨S2048x16384, .i32⟩
  | .hbm, ⟨16, _⟩ => ⟨S_, .i32⟩
  | .hbm, ⟨17, _⟩ => ⟨S2048x16384, .i32⟩
  | .hbm, ⟨18, _⟩ => ⟨S2048x16384, .i1⟩
  | .hbm, ⟨19, _⟩ => ⟨S_, .i32⟩
  | .hbm, ⟨20, _⟩ => ⟨S1x16384, .i32⟩
  | .hbm, ⟨21, _⟩ => ⟨S1x16384, .i1⟩
  | .hbm, ⟨22, _⟩ => ⟨S2048x16384, .i1⟩
  | .hbm, ⟨23, _⟩ => ⟨S2048x16384, .i1⟩
  | .hbm, ⟨24, _⟩ => ⟨S_, .i32⟩
  | .hbm, ⟨25, _⟩ => ⟨S2048x1, .i32⟩
  | .hbm, ⟨26, _⟩ => ⟨S2048x1, .i1⟩
  | .hbm, ⟨27, _⟩ => ⟨S2048x16384, .i1⟩
  | .hbm, ⟨28, _⟩ => ⟨S2048x16384, .i1⟩
  | .hbm, ⟨29, _⟩ => ⟨S2048x8x2048, .i1⟩
  | .hbm, ⟨30, _⟩ => ⟨S8x2048x8x2048, .f32⟩
  | .hbm, ⟨31, _⟩ => ⟨S_, .f32⟩
  | .hbm, ⟨32, _⟩ => ⟨S8x2048x8x2048, .f32⟩
  | .hbm, ⟨33, _⟩ => ⟨S8x2048x8x2048, .f32⟩
  | .hbm, ⟨34, _⟩ => ⟨S1x2048x8x2048, .i1⟩
  | .hbm, ⟨35, _⟩ => ⟨S8x2048x8x2048, .f32⟩
  | .hbm, ⟨36, _⟩ => ⟨S_, .f32⟩
  | .hbm, ⟨37, _⟩ => ⟨S_, .f32⟩
  | .hbm, ⟨38, _⟩ => ⟨S8x2048x8x2048, .i1⟩
  | .hbm, ⟨39, _⟩ => ⟨S8x2048x8x2048, .f32⟩
  | .hbm, ⟨40, _⟩ => ⟨S8x2048x8x2048, .f32⟩
  | .hbm, ⟨41, _⟩ => ⟨S8x8x128x2048, .f32⟩
  | .hbm, ⟨42, _⟩ => ⟨S8x2048x8x128, .f32⟩
  | .hbm, ⟨43, _⟩ => ⟨S16384x1024, .f32⟩
  | .hbm, ⟨44, _⟩ => ⟨S_, .f32⟩
  | .hbm, ⟨45, _⟩ => ⟨S8x2048x8, .f32⟩
  | .hbm, ⟨46, _⟩ => ⟨S8x2048x8, .f32⟩
  | .hbm, ⟨47, _⟩ => ⟨S16384x8, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Proof.Proto.lean ====
/-
  The protocol of the ring kernel: the names of its semaphores, what the buffers hold at each stage of the run,
  who pays which semaphore with what, and what every device owes at launch.

  Three exchanges use these semaphores.
  - The barrier: every device signals five others once and waits for five units. With its unit a device hands over
    the buffers which the signalled device will write into.
  - Three rounds of an all-reduce of the edge rows: in round r a device sends its partial sums to its partner
    (device number exclusive-or 1, 3, 4) and adds what the partner sent.
  - The relay of the middle rows: device 0 divides them and sends seven chunks to its right and to its left; devices
    1 to 3 pass them on to the right, devices 7 and 6 to the left.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.TalkSites
public import Idealize.ShloMosaic.Lib.Pipeline.Regions
public import Idealize.ShloMosaic.Lib.Pipeline.RegionTalk
public import Idealize.ShloMosaic.Lib.Pipeline.Value
public import Idealize.ShloMosaic.Lib.Rounds
public import Idealize.ShloMosaic.Lib.StableHlo
public import Idealize.ShloMosaic.Lib.Tactic
public import Idealize.ShloMosaic.Lib.ValueIdxCore
public import Idealize.ShloMosaic.PureOps

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL Fam)
open Cert.KernelIdeal.Gen
open Idealize.ShloMosaic.ValueIdx (ix2 eq_ix2 idx2_lt0 idx2_lt1)

variable {F : FTy → Type} [FloatOps F]

/-! ## Names of the semaphores -/

/-- The kernel's semaphores: the barrier; in round r the send and receive semaphores of the sums (`xs`, `xr`) and of
    the denominators (`ls`, `lr`); for direction d (0 right, 1 left) and chunk k those of the relay (`cs`, `cr`). -/
inductive Nm where
  | bar
  | xs (r : Fin 3)
  | xr (r : Fin 3)
  | ls (r : Fin 3)
  | lr (r : Fin 3)
  | cs (d : Fin 2) (k : Fin 7)
  | cr (d : Fin 2) (k : Fin 7)
  deriving DecidableEq

/-- The barrier semaphore. -/
abbrev barS : Sem sig := (SemArray.scalar (sig.barrier 0 rfl) : Sems sig S_).sem

/-- The machine's semaphore of a name. -/
def Nm.sem : Nm → SemLoc sig
  | .bar => .reg barS
  | .xs r => .dma ⟨4 + r.val, by have := r.isLt; show 4 + r.val < 44; omega⟩
  | .xr r => .dma ⟨7 + r.val, by have := r.isLt; show 7 + r.val < 44; omega⟩
  | .ls r => .dma ⟨10 + r.val, by have := r.isLt; show 10 + r.val < 44; omega⟩
  | .lr r => .dma ⟨13 + r.val, by have := r.isLt; show 13 + r.val < 44; omega⟩
  | .cs d k => .dma ⟨16 + 7 * d.val + k.val, by have := d.isLt; have := k.isLt; show 16 + 7 * d.val + k.val < 44; omega⟩
  | .cr d k => .dma ⟨30 + 7 * d.val + k.val, by have := d.isLt; have := k.isLt; show 30 + 7 * d.val + k.val < 44; omega⟩

/-- The relay's names of one kind, direction by direction. -/
abbrev relay (f : Fin 2 → Fin 7 → Nm) : List Nm := (List.finRange 2).flatMap fun d => (List.finRange 7).map (f d)

/-- The names of the kernel's own semaphores, in the order of their numbers. -/
def ownNm : List Nm :=
  (List.finRange 3).map .xs ++ (List.finRange 3).map .xr ++ (List.finRange 3).map .ls ++ (List.finRange 3).map .lr ++ relay .cs ++ relay .cr

/-- All names. -/
def allNm : List Nm := .bar :: ownNm

theorem mem_allNm : ∀ n : Nm, n ∈ allNm := by
  intro n
  rcases n with _ | r | r | r | r | ⟨d, k⟩ | ⟨d, k⟩
  · decide
  · revert r; decide
  · revert r; decide
  · revert r; decide
  · revert r; decide
  · revert d k; decide
  · revert d k; decide

/-- The name of a machine semaphore, if it is one of the kernel's. -/
def key (s : SemLoc sig) : Option Nm := allNm.find? fun n => n.sem = s

theorem key_sem (n : Nm) : key n.sem = some n :=
  (by decide +kernel : ∀ n ∈ allNm, key n.sem = some n) n (mem_allNm n)

theorem sem_inj {n n' : Nm} (h : n.sem = n'.sem) : n = n' := by
  have := key_sem n
  rw [h, key_sem] at this
  exact (Option.some.inj this).symm

/-! ## Who talks to whom -/

/-- Device c's partner in round r of the all-reduce. -/
def partner : ℕ → Dev nD → Dev nD
  | 0, c => ⟨(c.val ^^^ 1) % 8, Nat.mod_lt _ (by decide)⟩
  | 1, c => ⟨(c.val ^^^ 3) % 8, Nat.mod_lt _ (by decide)⟩
  | _, c => ⟨(c.val ^^^ 4) % 8, Nat.mod_lt _ (by decide)⟩

/-- The next device in direction d. -/
def next (d : Fin 2) (c : Dev nD) : Dev nD := ⟨(c.val + (if d = 0 then 1 else 7)) % 8, Nat.mod_lt _ (by decide)⟩
/-- The device of which c is the next in direction d. -/
def prev (d : Fin 2) (c : Dev nD) : Dev nD := ⟨(c.val + (if d = 0 then 7 else 1)) % 8, Nat.mod_lt _ (by decide)⟩

/-- Device c sends chunks in direction d. -/
def snd (d : Fin 2) (c : Dev nD) : Bool := if d = 0 then c.val ≤ 3 else c.val = 0 ∨ 6 ≤ c.val
/-- Device c receives chunks that travel in direction d. -/
def rcv (d : Fin 2) (c : Dev nD) : Bool := if d = 0 then 1 ≤ c.val ∧ c.val ≤ 4 else 5 ≤ c.val

theorem partner_partner (r : Fin 3) (c : Dev nD) : partner r.val (partner r.val c) = c := by revert r c; decide +kernel
theorem prev_next (d : Fin 2) (c : Dev nD) : prev d (next d c) = c := by revert d c; decide +kernel
theorem next_prev (d : Fin 2) (c : Dev nD) : next d (prev d c) = c := by revert d c; decide +kernel
theorem rcv_next (d : Fin 2) (c : Dev nD) : rcv d (next d c) = snd d c := by revert d c; decide +kernel

/-! ## What the buffers hold -/

section Contents

variable (va : Dev nD → FVec F S2048x1024 .f32) (vl : Dev nD → FVec F S2048x8 .f32)

/-- Rows 0 to 127 and 1920 to 2047 of a block, one after the other. -/
def edge {n : ℕ} (f : FVec F ⟨2, ![2048, n]⟩ .f32) : FVec F ⟨2, ![256, n]⟩ .f32 := fun i =>
  if (i 0).val < 128 then f (ix2 ⟨(i 0).val, Nat.lt_trans (idx2_lt0 i) (by decide)⟩ (i 1))
  else f (ix2 ⟨(i 0).val + 1792, by have := idx2_lt0 i; omega⟩ (i 1))

/-- Device c's partial sums of the edge rows before round r. -/
def sums : ℕ → Dev nD → FVec F S256x1024 .f32
  | 0, c => edge (va c)
  | r + 1, c => addf (sums r c) (sums r (partner r c))
/-- Device c's partial sums of the edge rows' denominators before round r. -/
def dens : ℕ → Dev nD → FVec F S256x8 .f32
  | 0, c => edge (vl c)
  | r + 1, c => addf (dens r c) (dens r (partner r c))

/-- A column's head: the denominator's column. -/
def headOf (j : Fin 1024) : Fin 8 := ⟨j.val / 128, by have := j.isLt; omega⟩

/-- The middle rows, divided on device 0 and rounded to bf16. -/
def mid : FVec F S1792x1024 .bf16 := fun i =>
  FloatOps.truncf .bf16 bitsLt_bf16_f32
    (FloatOps.divf (va 0 (ix2 ⟨(i 0).val + 128, by have := idx2_lt0 i; omega⟩ (i 1)))
      (vl 0 (ix2 ⟨(i 0).val + 128, by have := idx2_lt0 i; omega⟩ (headOf (i 1)))))

/-- The context before the last product, on device c. -/
def ctx (c : Dev nD) : FVec F S2048x1024 .f32 := fun i =>
  if h : (i 0).val < 128 then FloatOps.divf (sums va 3 c (ix2 ⟨(i 0).val, by omega⟩ (i 1))) (dens vl 3 c (ix2 ⟨(i 0).val, by omega⟩ (headOf (i 1))))
  else if h' : (i 0).val < 1920 then FloatOps.extf .f32 bitsLt_bf16_f32 (mid va vl (ix2 ⟨(i 0).val - 128, by omega⟩ (i 1)))
  else FloatOps.divf (sums va 3 c (ix2 ⟨(i 0).val - 1792, by have := idx2_lt0 i; omega⟩ (i 1)))
    (dens vl 3 c (ix2 ⟨(i 0).val - 1792, by have := idx2_lt0 i; omega⟩ (headOf (i 1))))

end Contents

/-! ## The algebra, the cells, the memory -/

/-- The pipeline library's copy of the rounds algebra and the protocol's. -/
abbrev UU : Type := UR sig nD τ × URounds (GSem nD τ sig) (Fin 5)

local notation "𝕄" => MT nD τ sig ℕ (Elt F) ℕ UU ℕ

abbrev EP : Emb (UR sig nD τ) (MT nD τ sig ℕ (Elt F) ℕ UU ℕ) := embL
abbrev ER : Emb (URounds (GSem nD τ sig) (Fin 5)) (MT nD τ sig ℕ (Elt F) ℕ UU ℕ) := embR

/-- Device c's cell of a name. -/
abbrev cell (c : Dev nD) (n : Nm) : GSem nD τ sig := ((c : Thread nD τ), n.sem)

abbrev accM : Memref sig .tc .vmem S2048x1024 .f32 := Memref.whole cc0_stg0_0
abbrev lM : Memref sig .tc .vmem S2048x8 .f32 := Memref.whole cc0_stg1_0
abbrev woM : Memref sig .tc .vmem S1024x1024 .f32 := Memref.whole cc0_stg2_0
abbrev outM : Memref sig .tc .vmem S1x2048x1024 .f32 := Memref.whole cc0_stg3_0
abbrev xaM : Memref sig .tc .vmem S256x1024 .f32 := Memref.whole cc0_scratch0
abbrev xlM : Memref sig .tc .vmem S256x8 .f32 := Memref.whole cc0_scratch1
abbrev raM : Memref sig .tc .vmem S3x256x1024 .f32 := Memref.whole cc0_scratch2
abbrev rlM : Memref sig .tc .vmem S3x256x8 .f32 := Memref.whole cc0_scratch3
abbrev bcM : Memref sig .tc .vmem S1792x1024 .bf16 := Memref.whole cc0_scratch4
abbrev cxM : Memref sig .tc .vmem S2048x1024 .f32 := Memref.whole cc0_scratch5

theorem inb_ra (r : Fin 3) : ∀ a, (![r.val, 0, 0] : Fin 3 → Nat) a + S1x256x1024.size a ≤ S3x256x1024.size a := by revert r; decide
theorem inb_rl (r : Fin 3) : ∀ a, (![r.val, 0, 0] : Fin 3 → Nat) a + S1x256x8.size a ≤ S3x256x8.size a := by revert r; decide
theorem inb_bc (k : Fin 7) : ∀ a, (![256 * k.val, 0] : Fin 2 → Nat) a + S256x1024.size a ≤ S1792x1024.size a := by revert k; decide

/-- The slot that round r's sums are received in. -/
abbrev raV (r : Fin 3) : Memref sig .tc .vmem S256x1024 .f32 :=
  (raM.slice (Rect.unit (s := S3x256x1024) ![r.val, 0, 0] S1x256x1024.size (inb_ra r)) (fun _ => rfl)).squeeze S256x1024 squeezes_S1x256x1024_S256x1024
/-- The slot that round r's denominators are received in. -/
abbrev rlV (r : Fin 3) : Memref sig .tc .vmem S256x8 .f32 :=
  (rlM.slice (Rect.unit (s := S3x256x8) ![r.val, 0, 0] S1x256x8.size (inb_rl r)) (fun _ => rfl)).squeeze S256x8 squeezes_S1x256x8_S256x8
/-- Chunk k of the middle rows. -/
abbrev bcV (k : Fin 7) : Memref sig .tc .vmem S256x1024 .bf16 :=
  bcM.slice (Rect.unit (s := S1792x1024) ![256 * k.val, 0] S256x1024.size (inb_bc k)) (fun _ => rfl)

/-- Device c's memref at contents f, its share q. -/
abbrev pts {s : Shape} {e : EltTy} (m : Memref sig .tc .vmem s e) (c : Dev nD) (q : PosShare TreeShare) (f : Buf (Elt F) (m.view.loc (c : Thread nD τ))) : sProp 𝕄 :=
  m.view.loc (c : Thread nD τ) ↦[m.view.set]{q} f

/-- The share of a chunk that device c lends to the copy in direction d. -/
def lent (d : Fin 2) (c : Dev nD) : PosShare TreeShare :=
  if d = 0 then fullShare.left else if c = 0 then fullShare.right.left else fullShare.left

/-! ## The schedule -/

section Sched

variable (va : Dev nD → FVec F S2048x1024 .f32) (vl : Dev nD → FVec F S2048x8 .f32)

/-- A statement for each of the seven chunks. -/
abbrev seven (Φ : Fin 7 → sProp 𝕄) : sProp 𝕄 := iprop(Φ 0 ∗ Φ 1 ∗ Φ 2 ∗ Φ 3 ∗ Φ 4 ∗ Φ 5 ∗ Φ 6)

/-- Handed over with a barrier unit for round r: device p's receive slots, and that its receive cells are at round 0. -/
def slotPay (p : Dev nD) (r : Fin 3) : sProp 𝕄 :=
  iprop((∃ f, pts (raV r) p fullShare f) ∗ (∃ f, pts (rlV r) p fullShare f) ∗ reached ER (cell p (.xr r)) 0 ∗ reached ER (cell p (.lr r)) 0)

/-- Handed over with a barrier unit for the relay in direction d: device p's seven chunks, and that its receive cells are at round 0. -/
def relayPay (p : Dev nD) (d : Fin 2) : sProp 𝕄 :=
  seven fun k => iprop((∃ f, pts (bcV k) p fullShare f) ∗ reached ER (cell p (.cr d k)) 0)

/-- Which of the duties of a name exist on device c. -/
def dutiesOf (c : Dev nD) : Nm → Finset (Fin 5)
  | .bar => Finset.univ
  | .cs d _ => if snd d c then {0} else ∅
  | .cr d _ => if rcv d c then {0} else ∅
  | _ => {0}

/-- The units of one duty of a name. -/
def amt : Nm → ℕ
  | .bar => 1
  | .ls _ => xlM.view.dmaCredit
  | .lr _ => xlM.view.dmaCredit
  | .xs _ => xaM.view.dmaCredit
  | .xr _ => xaM.view.dmaCredit
  | .cs _ _ => (bcV 0).view.dmaCredit
  | .cr _ _ => (bcV 0).view.dmaCredit

theorem amt_pos (n : Nm) : 0 < amt n := by
  cases n <;> first | exact Nat.one_pos | exact View.dmaCredit_pos _ (by decide)

/-- What a barrier unit of duty j brings to device c: from the partners of the three rounds their slots; from its left
    neighbour (duty 3) that neighbour's chunks if c sends to the left, from its right neighbour (duty 4) if it sends to the right. -/
def barPay (c : Dev nD) (j : Fin 5) : sProp 𝕄 :=
  if j = 0 then slotPay (partner 0 c) 0 else if j = 1 then slotPay (partner 1 c) 1 else if j = 2 then slotPay (partner 2 c) 2
  else if j = 3 then (if snd 1 c then relayPay (next 1 c) 1 else iprop(emp))
  else (if snd 0 c then relayPay (next 0 c) 0 else iprop(emp))

/-- What a duty of a name pays on device c. -/
def pay (c : Dev nD) (j : Fin 5) : Nm → sProp 𝕄
  | .bar => barPay c j
  | .xs r => pts xaM c fullShare (sums va r.val c)
  | .xr r => iprop(∃ f, pts (raV r) c fullShare f ∗ ⌜(raV r).view.read (Elt F) f = sums va r.val (partner r.val c)⌝)
  | .ls r => pts xlM c fullShare (dens vl r.val c)
  | .lr r => iprop(∃ f, pts (rlV r) c fullShare f ∗ ⌜(rlV r).view.read (Elt F) f = dens vl r.val (partner r.val c)⌝)
  | .cs d k => pts (bcV k) c (lent d c) (mid va vl)
  | .cr _ k => pts (bcV k) c fullShare (mid va vl)

/-- Every cell has its duties in round 0 and none later. -/
def Rd : Schedule (GSem nD τ sig) (Fin 5) 𝕄 where
  duties g r := if g.1.2 = .tc ∧ r = 0 then (match key g.2 with | some n => dutiesOf g.1.1 n | none => ∅) else ∅
  unitless _ := False
  amount g _ _ := match key g.2 with | some n => amt n | none => 1
  payload g _ j := match key g.2 with | some n => pay va vl g.1.1 j n | none => iprop(emp)
  amount_pos g _ _ _ := by
    cases key g.2 with
    | none => exact Nat.one_pos
    | some n => exact amt_pos n

set_option synthInstance.maxHeartbeats 400000 in
instance slotPay_storable (p : Dev nD) (r : Fin 3) : BI.Storable (upEmb : UEmb _ 𝕄) (slotPay (F := F) p r) := by
  unfold slotPay; infer_instance
set_option synthInstance.maxHeartbeats 400000 in
instance relayPay_storable (p : Dev nD) (d : Fin 2) : BI.Storable (upEmb : UEmb _ 𝕄) (relayPay (F := F) p d) := by
  unfold relayPay; infer_instance
instance barPay_storable (c : Dev nD) (j : Fin 5) : BI.Storable (upEmb : UEmb _ 𝕄) (barPay (F := F) c j) := by
  unfold barPay
  (repeat' split) <;> infer_instance
instance pay_storable (c : Dev nD) (j : Fin 5) (n : Nm) : BI.Storable (upEmb : UEmb _ 𝕄) (pay va vl c j n) := by
  cases n <;> (unfold pay; infer_instance)
instance Rd_payload_storable (g : GSem nD τ sig) (r : ℕ) (j : Fin 5) : BI.Storable (upEmb : UEmb _ 𝕄) ((Rd va vl).payload g r j) := by
  show BI.Storable upEmb (match key g.2 with | some n => pay va vl g.1.1 j n | none => iprop(emp))
  cases key g.2 with
  | none => infer_instance
  | some n => exact pay_storable va vl _ j n

variable (c : Dev nD) (n : Nm)

theorem duties_cell : (Rd va vl).duties (cell c n) 0 = dutiesOf c n := by
  dsimp only [Rd]; rw [if_pos ⟨rfl, rfl⟩, key_sem]
theorem duties_later : ∀ r, 1 ≤ r → (Rd va vl).duties (cell c n) r = ∅ := fun r hr => by
  dsimp only [Rd]; rw [if_neg (fun h => by omega)]
theorem amount_cell (j : Fin 5) : (Rd va vl).amount (cell c n) 0 j = amt n := by
  dsimp only [Rd]; rw [key_sem]
theorem payload_cell (j : Fin 5) : (Rd va vl).payload (cell c n) 0 j = pay va vl c j n := by
  dsimp only [Rd]; rw [key_sem]

theorem expect_one (h : dutiesOf c n = {0}) : (Rd va vl).expect (cell c n) 0 = amt n := by
  unfold Schedule.expect Schedule.amountOf; rw [duties_cell, h, Finset.sum_singleton, amount_cell]
theorem rest_one (h : dutiesOf c n = {0}) :
    bigSep ((Rd va vl).duties (cell c n) 0 \ ∅) (fun u => (Rd va vl).payload (cell c n) 0 u) = pay va vl c 0 n := by
  rw [Finset.sdiff_empty, duties_cell, h, bigSep_singleton, payload_cell]
theorem expect_bar : (Rd va vl).expect (cell c .bar) 0 = 5 := by
  unfold Schedule.expect Schedule.amountOf; rw [duties_cell]
  simp only [amount_cell, amt, dutiesOf]; rfl
theorem rest_bar : bigSep ((Rd va vl).duties (cell c .bar) 0 \ ∅) (fun u => (Rd va vl).payload (cell c .bar) 0 u)
    = iprop(barPay c 0 ∗ barPay c 1 ∗ barPay c 2 ∗ barPay c 3 ∗ barPay c 4) := by
  rw [Finset.sdiff_empty, duties_cell]
  simp only [payload_cell]
  exact bigSep_univ_eq_bigSepL [(0 : Fin 5), 1, 2, 3, 4] (by decide) (by decide) (fun j => pay va vl c j .bar)

end Sched

/-! ## Levels, and what every device owes at launch -/

/-- The level of device c's cell of a name: below those of the cells that are waited on before it is paid. -/
def lvl (c : Dev nD) : Nm → ℕ
  | .bar => 1
  | .xr r => 2 + r.val
  | .lr r => 2 + r.val
  | .cr d _ => if d = 0 then 10 + c.val else 18 - c.val
  | _ => 0

/-- A bound on the levels. -/
abbrev lvlN : ℕ := 20

/-- The payment of one duty of device x.1's cell x.2. -/
def payOf (x : Dev nD × Nm) : Pay nD τ sig := (cell x.1 x.2, lvl x.1 x.2, amt x.2)

/-- The chunks that device c sends in direction d. -/
def relayDues (c : Dev nD) (k : Fin 7) (d : Fin 2) : List (Dev nD × Nm) := if snd d c then [(next d c, .cr d k)] else []
/-- All chunks that device c sends. -/
def chunkDues (c : Dev nD) : List (Dev nD × Nm) := (List.finRange 7).flatMap fun k => relayDues c k 0 ++ relayDues c k 1
/-- The units of the barrier that device c pays. -/
def barDues (c : Dev nD) : List (Dev nD × Nm) := [(partner 0 c, .bar), (partner 1 c, .bar), (partner 2 c, .bar), (next 0 c, .bar), (next 1 c, .bar)]
/-- The sums that device c sends in round r. -/
def roundDues (c : Dev nD) (r : Fin 3) : List (Dev nD × Nm) := [(partner r.val c, .xr r), (partner r.val c, .lr r)]
/-- What device c sends before the rounds: device 0's chunks. -/
def headDues (c : Dev nD) : List (Dev nD × Nm) := if c = 0 then chunkDues c else []
/-- What device c sends after the rounds: the chunks it passes on. -/
def tailDues (c : Dev nD) : List (Dev nD × Nm) := if c = 0 then [] else chunkDues c

/-- All that device c pays to others, in program order. -/
def duesP (c : Dev nD) : List (Dev nD × Nm) :=
  barDues c ++ (headDues c ++ (roundDues c 0 ++ (roundDues c 1 ++ (roundDues c 2 ++ tailDues c))))

/-- What a list of payments comes to. -/
abbrev owed (l : List (Dev nD × Nm)) : CellTallies nD τ sig ℕ := tallyL (l.map payOf)

/-- What device c owes at launch. -/
abbrev O₀ (c : Dev nD) : CellTallies nD τ sig ℕ := owed (duesP c)

theorem owed_cons (x : Dev nD × Nm) (l : List (Dev nD × Nm)) : owed (x :: l) = owed l + tallyAt (cell x.1 x.2) (lvl x.1 x.2) (amt x.2) := by
  show (payOf x).tally + tallyL _ = _
  rw [add_comm]; rfl

abbrev lvL : GSem nD τ sig → Finset ℕ := SiteBlocks.L lvlN
abbrev lv : GSem nD τ sig → ℕ → ℕ := SiteBlocks.lv

/-- A wait at level i is allowed while all that is still owed is at higher levels. -/
theorem mayWait {i : ℕ} (hi : i < lvlN) (c : Dev nD) (s : SemLoc sig) (l : List (Dev nD × Nm))
    (hl : ∀ x ∈ l, i < lvl x.1 x.2 ∧ lvl x.1 x.2 < lvlN) :
    (levAts lvL lv : sProp 𝕄) ⊢ MayWait (c : Thread nD τ) s i (owed l) :=
  SiteBlocks.mayWait_of hi c s _ fun g k h => by
    obtain ⟨x, hx, rfl, rfl⟩ := TalkSites.tallyL_pos h
    obtain ⟨y, hy, rfl⟩ := List.mem_map.mp hx
    exact ⟨SiteBlocks.mem_L' rfl (hl y hy).2, (hl y hy).1⟩

/-! ## The cells and tokens of the launch -/

/-- The kernel's own semaphores by number. -/
abbrev osem : Fin 40 → SemLoc sig := fun i => .dma ⟨4 + i.val, by have := i.isLt; show 4 + i.val < 44; omega⟩

/-- The duties that device c pays: cell, duty. -/
def toksL (c : Dev nD) : List ((Dev nD × Nm) × Fin 5) :=
  [((partner 0 c, .bar), 0), ((partner 1 c, .bar), 1), ((partner 2 c, .bar), 2), ((next 0 c, .bar), 3), ((next 1 c, .bar), 4)]
    ++ ((List.finRange 3).flatMap fun r => [((c, .xs r), 0), ((c, .ls r), 0), ((partner r.val c, .xr r), 0), ((partner r.val c, .lr r), 0)])
    ++ ((List.finRange 7).flatMap fun k => (List.finRange 2).flatMap fun d =>
        if snd d c then [((c, .cs d k), 0), ((next d c, .cr d k), 0)] else [])

/-- The device that pays a duty of device c's cell of a name. -/
def payer (c : Dev nD) (j : Fin 5) : Nm → Dev nD
  | .bar => if j = 0 then partner 0 c else if j = 1 then partner 1 c else if j = 2 then partner 2 c else if j = 3 then next 1 c else next 0 c
  | .xr r => partner r.val c
  | .lr r => partner r.val c
  | .cr d _ => prev d c
  | _ => c

theorem payer_toksL (c : Dev nD) : ∀ x ∈ toksL c, payer x.1.1 x.2 x.1.2 = c := by revert c; decide +kernel
theorem toksL_nodup (c : Dev nD) : (toksL c).Nodup := by revert c; decide +kernel

/-- A duty as the rounds library names it. -/
def tokOf : ((Dev nD × Nm) × Fin 5) ↪ (GSem nD τ sig × ℕ × Fin 5) :=
  ⟨fun x => (cell x.1.1 x.1.2, 0, x.2), fun x y h => by
    have h1 := congrArg Prod.fst h
    have h2 : x.2 = y.2 := congrArg (fun z : GSem nD τ sig × ℕ × Fin 5 => z.2.2) h
    have h3 : x.1.1 = y.1.1 := congrArg (fun z : GSem nD τ sig => z.1.1) h1
    have h4 : x.1.2 = y.1.2 := sem_inj (congrArg Prod.snd h1)
    exact Prod.ext (Prod.ext h3 h4) h2⟩

theorem osem_ne_bar : ∀ i, osem i ≠ Nm.bar.sem := fun i h => by cases h

/-- The launch's cells and tokens: one kernel launch. -/
def fam : Fam nD τ sig (Fin 5) 1 where
  bar := Nm.bar.sem
  dorm _ := Finset.univ.image osem
  toks c _ := (toksL c).toFinset.map tokOf
  semKey _ := 0
  hsem j _ _ := Subsingleton.elim _ _
  hbar j h := by
    obtain ⟨i, -, e⟩ := Finset.mem_image.mp h
    exact osem_ne_bar i e
  tokKey x := (match key x.1.2 with | some n => payer x.1.1.1 x.2.2 n | none => 0, 0)
  htok c j x h := by
    obtain ⟨y, hy, rfl⟩ := Finset.mem_map.mp h
    refine Prod.ext ?_ (Subsingleton.elim _ _)
    show (match key y.1.2.sem with | some n => payer y.1.1 y.2 n | none => 0) = c
    rw [key_sem]
    exact payer_toksL c y (List.mem_toFinset.mp hy)

theorem sem_mem_dorm : ∀ n : Nm, n ≠ .bar → n.sem ∈ fam.dorm 0 := by
  have h : ∀ n ∈ ownNm, n.sem ∈ Finset.univ.image osem := by decide +kernel
  intro n hn
  refine h n ?_
  have := mem_allNm n
  rw [allNm, List.mem_cons] at this
  exact this.resolve_left hn

section Inv

variable (va : Dev nD → FVec F S2048x1024 .f32) (vl : Dev nD → FVec F S2048x8 .f32)

/-- Every cell under its invariant, at the names κ. -/
abbrev invs (κ : GSem nD τ sig → ℕ) : sProp 𝕄 := fam.cellInvs ER (Rd va vl) κ

/-- The invariant of one cell. -/
theorem invs_cell (κ : GSem nD τ sig → ℕ) (c : Dev nD) (n : Nm) : invs va vl κ ⊢ (cellInv ER (Rd va vl) (κ (cell c n)) (cell c n) : sProp 𝕄) := by
  by_cases h : n = .bar
  · subst h; exact fam.cellInvs_bar ER (Rd va vl) κ c
  · exact fam.cellInvs_dorm ER (Rd va vl) κ c (j := 0) (sem_mem_dorm n h)

end Inv

end Cert.KernelIdeal.Talk

end
-- ==== Proof.Steps.lean ====
/-
  One rule for each kind of step of the kernel's body, at the protocol's names: a barrier signal, a wait, a remote
  copy, a load, a store.
-/
module

public import proofs.«01_k».proof.Proof.Proto

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.ValueIdx (ix2 eq_ix2 idx2_lt0 idx2_lt1)

variable {F : FTy → Type} [FloatOps F]

local notation "𝕄" => MT nD τ sig ℕ (Elt F) ℕ UU ℕ

abbrev 𝒱₀ : Variants := Variants.none

/-- The weakest precondition of a program on device c. -/
abbrev W (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device c owes the payments of a list. -/
def ow (c : Dev nD) (l : List (Dev nD × Nm)) : sProp 𝕄 := iprop(∃ Wd, owes (c : Thread nD τ) (owed l) Wd)

/-- Everything a step may look up: the invariants and the levels. -/
def look (va : Dev nD → FVec F S2048x1024 .f32) (vl : Dev nD → FVec F S2048x8 .f32) (κ : GSem nD τ sig → ℕ) : sProp 𝕄 :=
  iprop(invs va vl κ ∗ levAts lvL lv)

instance look_persistent (va : Dev nD → FVec F S2048x1024 .f32) (vl : Dev nD → FVec F S2048x8 .f32) (κ : GSem nD τ sig → ℕ) :
    BI.Persistent (look va vl κ) := by unfold look; infer_instance

/-- The token of a duty. -/
abbrev tok (c : Dev nD) (n : Nm) (j : Fin 5) : sProp 𝕄 := dutyTok ER (cell c n) 0 j
/-- Device c's position on its own cell of a name. -/
abbrev pos (c : Dev nD) (n : Nm) (r : ℕ) : sProp 𝕄 := atPos ER (cell c n) r ∅ 0
/-- A cell is at round 0. -/
abbrev rch (c : Dev nD) (n : Nm) : sProp 𝕄 := reached ER (cell c n) 0
/-- The credit of one duty of a name. -/
abbrev crd (c : Dev nD) (n : Nm) : sProp 𝕄 := cred (tallyAt (cell c n) (lvl c n) (amt n))

section Steps

variable (va : Dev nD → FVec F S2048x1024 .f32) (vl : Dev nD → FVec F S2048x8 .f32) (κ : GSem nD τ sig → ℕ) (c : Dev nD)

/-- A barrier signal to device p: it hands over what duty j of p's barrier cell brings. -/
theorem sig_step {α : Type} {Q : α → sProp (MT nD τ sig ℕ (Elt F) ℕ UU ℕ)} {p p' : Dev nD} (hp : p' = p) (j : Fin 5) {l : List (Dev nD × Nm)} {k : PUnit → Prog (TpuEff nD τ sig (Elt F) Λ₀ .tc) α} :
    iprop(look va vl κ ∗ ow c ((p, .bar) :: l) ∗ tok p .bar j ∗ barPay p j ∗ rch p .bar)
      ⊢ iprop((ow c l -∗ W c (k ⟨⟩) Q) -∗ W c (.op (.semSignal (p' : Thread nD τ) barS 1) k) Q) := by
  subst hp
  unfold look ow
  iintro ⟨⟨#HI, -⟩, ⟨%Wd, HO⟩, Htok, Hpay, #Hr⟩ Hk
  ihave #HIc := (invs_cell va vl κ p' .bar) $$ HI
  iapply (Rounds.wp_signal 𝒱₀ ER (Rd va vl) (c : Thread nD τ) none (dst := (p' : Thread nD τ)) (sem := barS) (r := 0) (d := j) (κ := κ (cell p' .bar))
      (by change j ∈ (Rd va vl).duties (cell p' .bar) 0; rw [duties_cell va vl p' .bar]; exact Finset.mem_univ _) (amount_cell va vl p' .bar j) (lvl p' .bar) (owed l) (owed_cons (p', .bar) l)) $$ [HO Htok Hpay]
  · isplitr; · iexact HIc
    isplitl [HO]; · iexact HO
    isplitl [Htok]; · iexact Htok
    isplitl [Hpay]
    · iapply (show barPay p' j ⊢ (Rd va vl).payload ((p' : Thread nD τ), SemLoc.reg barS) 0 j from Entails.of_eq (payload_cell va vl p' .bar j).symm) $$ Hpay
    · iexact Hr
  iintro HO
  iapply Hk
  iexists Wd
  iexact HO

/-- The wait for the five barrier units. -/
theorem barWait_step {α : Type} {Q : α → sProp (MT nD τ sig ℕ (Elt F) ℕ UU ℕ)} {l : List (Dev nD × Nm)} (hl : ∀ x ∈ l, 1 < lvl x.1 x.2 ∧ lvl x.1 x.2 < lvlN)
    {k : PUnit → Prog (TpuEff nD τ sig (Elt F) Λ₀ .tc) α} :
    iprop(look va vl κ ∗ cred (tallyAt (cell c .bar) 1 5) ∗ ow c l ∗ pos c .bar 0)
      ⊢ iprop(((ow c l ∗ pos c .bar 1 ∗ barPay c 0 ∗ barPay c 1 ∗ barPay c 2 ∗ barPay c 3 ∗ barPay c 4) -∗ W c (k ⟨⟩) Q)
        -∗ W c (.op (.semWait barS 5) k) Q) := by
  unfold look ow
  iintro ⟨⟨#HI, #Hlev⟩, Hc, ⟨%Wd, HO⟩, Hat⟩ Hk
  ihave #HIc := (invs_cell va vl κ c .bar) $$ HI
  iapply (Rounds.wp_wait_rest_token 𝒱₀ ER (Rd va vl) (c : Thread nD τ) none (κ := κ (cell c .bar))
      (wpE_semWait_eq 𝒱₀ (c : Thread nD τ) none Set.univ) (Set.mem_univ _) 1 (O := owed l) (W := Wd) (R := 0) (m := 0) (T := ∅)
      ((Nat.zero_add 5).trans (expect_bar va vl c).symm)) $$ [Hc HO Hat]
  · isplitr; · iexact HIc
    isplitl [Hc]; · iexact Hc
    isplitl [HO]; · iexact HO
    isplitr; · iapply (mayWait (by decide) c (.reg barS) l hl); iexact Hlev
    iexact Hat
  iintro ⟨HO, Hat, -, Hpay⟩
  ihave Hp := (show bigSep ((Rd va vl).duties ((c : Thread nD τ), SemLoc.reg barS) 0 \ ∅) (fun u => (Rd va vl).payload ((c : Thread nD τ), SemLoc.reg barS) 0 u) ⊢ _
    from Entails.of_eq (rest_bar va vl c)) $$ Hpay
  iapply Hk
  isplitl [HO]; · iexists _; iexact HO
  isplitl [Hat]; · iexact Hat
  iexact Hp

/-- The wait for the one duty of a transfer semaphore: what it pays comes with it. -/
theorem wait_step {α : Type} {Q : α → sProp (MT nD τ sig ℕ (Elt F) ℕ UU ℕ)} (n : Nm) (hn : dutiesOf c n = {0}) {s : DmaSem sig} (hs : SemLoc.dma s = n.sem)
    {l : List (Dev nD × Nm)} (hl : ∀ x ∈ l, lvl c n < lvl x.1 x.2 ∧ lvl x.1 x.2 < lvlN) (hi : lvl c n < lvlN)
    {sp sp' : Space} {S S' : Shape} {e e' : EltTy} {src : Memref sig .tc sp' S' e'} {dst : Memref sig .tc sp S e}
    {h1 : src.view.WordExact} {h2 : dst.view.WordExact} (ha : dst.view.dmaCredit = amt n) {k : PUnit → Prog (TpuEff nD τ sig (Elt F) Λ₀ .tc) α} :
    iprop(look va vl κ ∗ crd c n ∗ ow c l ∗ pos c n 0)
      ⊢ iprop(((ow c l ∗ pos c n 1 ∗ pay va vl c 0 n) -∗ W c (k ⟨⟩) Q) -∗ W c (.op (.waitDma2 s src dst h1 h2) k) Q) := by
  unfold look ow
  have hcell : ((c : Thread nD τ), SemLoc.dma s) = cell c n := by rw [hs]
  iintro ⟨⟨#HI, #Hlev⟩, Hc, ⟨%Wd, HO⟩, Hat⟩ Hk
  ihave #HIc := (invs_cell va vl κ c n) $$ HI
  have hexp : 0 + dst.view.dmaCredit = (Rd va vl).expect ((c : Thread nD τ), SemLoc.dma s) 0 := by
    rw [hcell, expect_one va vl c n hn, ha, Nat.zero_add]
  iapply (Rounds.wp_wait_rest_token 𝒱₀ ER (Rd va vl) (c : Thread nD τ) none (κ := κ (cell c n))
      (wpE_waitDma2_eq 𝒱₀ (c : Thread nD τ) none Set.univ) (Set.mem_univ _) (lvl c n) (O := owed l) (W := Wd) (R := 0) (m := 0) (T := ∅)
      hexp) $$ [Hc HO Hat]
  · rw [hcell, ha, hs]
    isplitr; · iexact HIc
    isplitl [Hc]; · iexact Hc
    isplitl [HO]; · iexact HO
    isplitr; · iapply (mayWait hi c n.sem l hl); iexact Hlev
    iexact Hat
  rw [hcell, rest_one va vl c n hn]
  iintro ⟨HO, Hat, -, Hpay⟩
  iapply Hk
  isplitl [HO]; · iexists _; iexact HO
  isplitl [Hat]; · iexact Hat
  iexact Hpay

/-- A remote copy to device p, from the cell of a name ns to p's cell of a name nr. -/
theorem send_step {α : Type} {Q : α → sProp (MT nD τ sig ℕ (Elt F) ℕ UU ℕ)} {p p' : Dev nD} (hp : p' = p) (ns nr : Nm) (hns : dutiesOf c ns = {0}) (hnr : dutiesOf p nr = {0}) {sS sR : SemLoc sig} (hS : sS = ns.sem) (hR : sR = nr.sem)
    {S : Shape} {e : EltTy} {src dst : Memref sig .tc .vmem S e} {hsc : dst.view.ref.isScScratch = false}
    {h1 : src.view.WordExact} {h2 : dst.view.WordExact} {h3 : DmaTarget.Typed .vmem sR (.remote (p' : Thread nD τ) dst sS hsc)}
    (has : dst.view.amount sR = amt ns) (har : amt ns = amt nr) (hlv : lvl c ns = 0)
    {l : List (Dev nD × Nm)} {q : PosShare TreeShare} {fs : Buf (Elt F) (src.view.loc (c : Thread nD τ))} {fd : Buf (Elt F) (dst.view.loc (p : Thread nD τ))}
    (hpay₁ : (src.view.loc (c : Thread nD τ) ↦[src.view.set]{q} fs : sProp 𝕄) ⊢ pay va vl c 0 ns)
    (hpay₂ : (dst.view.loc (p : Thread nD τ) ↦[dst.view.set]{fullShare} dst.view.write (Elt F) fd (src.view.read (Elt F) fs) Finset.univ : sProp 𝕄) ⊢ pay va vl p 0 nr)
    {k : PUnit → Prog (TpuEff nD τ sig (Elt F) Λ₀ .tc) α} :
    iprop(look va vl κ ∗ pts src c q fs ∗ pts dst p fullShare fd ∗ ow c ((p, nr) :: l) ∗ tok c ns 0 ∗ rch c ns ∗ tok p nr 0 ∗ rch p nr)
      ⊢ iprop(((crd c ns ∗ ow c l) -∗ W c (k ⟨⟩) Q) -∗ W c (.op (.enqueueDma src (.remote (p' : Thread nD τ) dst sS hsc) sR h1 h2 h3) k) Q) := by
  subst hp hS hR
  unfold look ow
  iintro ⟨⟨#HI, -⟩, Hs, Hd, ⟨%Wd, HO⟩, Ht1, #Hr1, Ht2, #Hr2⟩ Hk
  ihave #HI1 := (invs_cell va vl κ c ns) $$ HI
  ihave #HI2 := (invs_cell va vl κ p' nr) $$ HI
  have hO' : owed ((p', nr) :: l) = owed l + tallyAt ((p' : Thread nD τ), nr.sem) (lvl p' nr) (amt ns) := by rw [har]; exact owed_cons _ _
  iapply (Rounds.wp_send_pointsTo 𝒱₀ ER (Rd va vl) (c : Thread nD τ) none (c' := (p' : Thread nD τ)) (src := src) (dst := dst)
      (sS := ns.sem) (sem := nr.sem) (q := q) (fs := fs) (κ₁ := κ (cell c ns)) (κ₂ := κ (cell p' nr))
      (r₁ := 0) (r₂ := 0) (d₁ := 0) (d₂ := 0) (fd := fd)
      (by rw [duties_cell va vl c ns, hns]; exact Finset.mem_singleton_self _) (by rw [duties_cell va vl p' nr, hnr]; exact Finset.mem_singleton_self _)
      (lvl p' nr) (lvl c ns) (amt ns) has (amount_cell va vl c ns 0) ((amount_cell va vl p' nr 0).trans har.symm) (owed l) hO' (W := Wd)
      (by rw [payload_cell va vl c ns 0]; exact hpay₁)
      (by rw [payload_cell va vl p' nr 0]; exact hpay₂)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists Wd
  iexact HO

/-- A load through a memref held at contents f. -/
theorem ld {α : Type} {Q : α → sProp (MT nD τ sig ℕ (Elt F) ℕ UU ℕ)} {s : Shape} {e : EltTy} {m : Memref sig .tc .vmem s e} {r : LoadRect s} {hl : m.view.LoadsAt r} {q : PosShare TreeShare}
    {f : Buf (Elt F) (m.view.loc (c : Thread nD τ))} {k : (r.shape.Idx → Elt F e) → Prog (TpuEff nD τ sig (Elt F) Λ₀ .tc) α} :
    pts m c q f ⊢ iprop((pts m c q f -∗ W c (k (m.view.readAt (Elt F) r f)) Q) -∗ W c (.op (.load m r hl) k) Q) :=
  wp_load 𝒱₀ (c : Thread nD τ) none Set.univ (View.setOn_subset_set m.view r.set)

/-- A store through a memref held at contents f. -/
theorem st {α : Type} {Q : α → sProp (MT nD τ sig ℕ (Elt F) ℕ UU ℕ)} {s : Shape} {e : EltTy} {m : Memref sig .tc .vmem s e} {r : Rect s} {w : r.shape.Idx → Elt F e} {hx : (m.access r).Stores Finset.univ}
    {hm : (Finset.univ : Finset r.shape.Idx) = Finset.univ ∨ ∀ a, r.stride a = 1}
    {f : Buf (Elt F) (m.view.loc (c : Thread nD τ))} {k : PUnit → Prog (TpuEff nD τ sig (Elt F) Λ₀ .tc) α} :
    pts m c fullShare f ⊢ iprop((pts m c fullShare ((m.access r).write (Elt F) f w Finset.univ) -∗ W c (k ⟨⟩) Q) -∗ W c (.op (.store m r w Finset.univ hx hm) k) Q) := by
  have hS : (m.access r).setOn Finset.univ ⊆ m.view.set := by
    intro i hi
    obtain ⟨x, -, rfl⟩ := Finset.mem_map.mp hi
    exact m.view.emb_mem_set (r.emb x)
  have h := wp_store (defs := defs₀ (F := F)) 𝒱₀ (c : Thread nD τ) none Set.univ (Γ := PendingWaitsCtx.empty) (m := m) (r := r) (w := w) (Mk := Finset.univ) (hx := hx) (hm := hm) (k := k) (Q := Q) (S := m.view.set) (f := f) hS
  exact h

/-- The end of a program. -/
theorem ret_step {α : Type} {Q : α → sProp (MT nD τ sig ℕ (Elt F) ℕ UU ℕ)} {a : α} : Q a ⊢ W c (.ret a) Q := by
  show _ ⊢ wp _ _ _ _ _
  rw [wp_ret]
  exact fupd_intro

/-- One program after another. -/
theorem bind_step {α β : Type} {Q : β → sProp (MT nD τ sig ℕ (Elt F) ℕ UU ℕ)} {p : Prog (TpuEff nD τ sig (Elt F) Λ₀ .tc) α} {k : α → Prog (TpuEff nD τ sig (Elt F) Λ₀ .tc) β} :
    W c p (fun x => W c (k x) Q) ⊢ W c (p >>= k) Q := by
  show _ ⊢ wp _ _ _ _ _
  rw [wp_bind]

end Steps

/-! ## A memref that is being filled -/

/-- Device c's elements under the memref m, which read T at the indices of P. -/
def filled {s : Shape} {e : EltTy} (m : Memref sig .tc .vmem s e) (c : Dev nD) (T : s.Idx → Elt F e) (P : s.Idx → Prop) : sProp 𝕄 :=
  iprop(∃ f, pts m c fullShare f ∗ ⌜∀ x, P x → m.view.read (Elt F) f x = T x⌝)

section Filled

variable {s : Shape} {e : EltTy} {m : Memref sig .tc .vmem s e} {c : Dev nD} {T : s.Idx → Elt F e} {P : s.Idx → Prop}

/-- Any contents are filled at no index. -/
theorem filled_none (f : Buf (Elt F) (m.view.loc (c : Thread nD τ))) : pts m c fullShare f ⊢ filled m c T (fun _ => False) := by
  unfold filled
  iintro H
  iexists f
  isplitl [H]; · iexact H
  ipureintro
  exact fun x h => h.elim

/-- A load whose value is not used. -/
theorem filled_ld {α : Type} {Q : α → sProp (MT nD τ sig ℕ (Elt F) ℕ UU ℕ)} {r : LoadRect s} {hl : m.view.LoadsAt r} {k : (r.shape.Idx → Elt F e) → Prog (TpuEff nD τ sig (Elt F) Λ₀ .tc) α} :
    filled m c T P ⊢ iprop((∀ v, filled m c T P -∗ W c (k v) Q) -∗ W c (.op (.load m r hl) k) Q) := by
  unfold filled
  iintro ⟨%f, H, %hf⟩ Hk
  iapply (ld c) $$ H
  iintro H
  ispecialize Hk $$ %(m.view.readAt (Elt F) r f)
  iapply Hk
  iexists f
  isplitl [H]; · iexact H
  ipureintro
  exact hf

/-- A store of T's values at a rectangle fills the rectangle. -/
theorem filled_st {α : Type} {Q : α → sProp (MT nD τ sig ℕ (Elt F) ℕ UU ℕ)} {r : Rect s} {w : r.shape.Idx → Elt F e} {hx : (m.access r).Stores Finset.univ}
    {hm : (Finset.univ : Finset r.shape.Idx) = Finset.univ ∨ ∀ a, r.stride a = 1} (hw : ∀ j, w j = T (r.emb j))
    {k : PUnit → Prog (TpuEff nD τ sig (Elt F) Λ₀ .tc) α} :
    filled m c T P ⊢ iprop((filled m c T (fun x => P x ∨ ∃ j, r.emb j = x) -∗ W c (k ⟨⟩) Q) -∗ W c (.op (.store m r w Finset.univ hx hm) k) Q) := by
  unfold filled
  iintro ⟨%f, H, %hf⟩ Hk
  iapply (st c) $$ H
  iintro H
  iapply Hk
  iexists _
  isplitl [H]; · iexact H
  ipureintro
  intro x hx'
  by_cases hj : ∃ j, r.emb j = x
  · obtain ⟨j, rfl⟩ := hj
    rw [← hw j]
    exact congrFun ((m.access r).read_write_univ (Val := Elt F) f w) j
  · rw [View.read_apply, View.write_of_not_mem, ← View.read_apply]
    · exact hf x (hx'.resolve_right hj)
    · intro hmem
      obtain ⟨j, -, h⟩ := Finset.mem_map.mp hmem
      exact hj ⟨j, m.view.emb.injective h⟩

/-- A filled memref whose indices are all filled reads T. -/
theorem filled_all (h : ∀ x, P x) : filled m c T P ⊢ iprop(∃ f, pts m c fullShare f ∗ ⌜m.view.read (Elt F) f = T⌝) := by
  unfold filled
  iintro ⟨%f, H, %hf⟩
  iexists f
  isplitl [H]; · iexact H
  ipureintro
  exact funext fun x => hf x (h x)

end Filled

end Cert.KernelIdeal.Talk

end
-- ==== Proof.Relay.lean ====
/-
  The relay of the middle rows: device 0 starts it in both directions; every other device waits for each chunk on the one
  side and, unless it is the last of its direction, passes it on to the other. The kernel guards each of these steps by the
  device's number, so each rule here speaks of both cases.
-/
module

public import proofs.«01_k».proof.Proof.Steps

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-- Device c passes on, in direction d, the chunks that it received. -/
def fwd (d : Fin 2) (c : Dev nD) : Bool := snd d c && decide (c ≠ 0)

theorem rcv_of_fwd (d : Fin 2) (c : Dev nD) (h : fwd d c = true) : rcv d c = true := by revert d c; decide +kernel
theorem snd_of_fwd (d : Fin 2) (c : Dev nD) (h : fwd d c = true) : snd d c = true := by revert d c; decide +kernel
theorem lent_of_fwd (d : Fin 2) (c : Dev nD) (h : fwd d c = true) : lent d c = fullShare.left := by
  have h0 : c ≠ 0 := by revert d c; decide +kernel
  unfold lent; rw [if_neg h0]; exact ite_self _

/-- The payments for the chunks that device c passes on, for a list of chunks and directions. -/
def passed (c : Dev nD) : List (Fin 7 × Fin 2) → List (Dev nD × Nm)
  | [] => []
  | x :: l => (if fwd x.2 c then [(next x.2 c, .cr x.2 x.1)] else []) ++ passed c l

/-- All chunks, each in both directions. -/
abbrev allChunks : List (Fin 7 × Fin 2) :=
  [(0, 0), (0, 1), (1, 0), (1, 1), (2, 0), (2, 1), (3, 0), (3, 1), (4, 0), (4, 1), (5, 0), (5, 1), (6, 0), (6, 1)]

theorem tailDues_eq (c : Dev nD) : tailDues c = passed c allChunks := by revert c; decide +kernel

theorem lvl_passed (c : Dev nD) (d d' : Fin 2) (k k' : Fin 7) (h : rcv d c = true) (h' : fwd d' c = true) :
    lvl c (.cr d k) < lvl (next d' c) (.cr d' k') ∧ lvl (next d' c) (.cr d' k') < lvlN := by
  revert c d d'; show ∀ c d d', _ → _ → (if d = 0 then 10 + c.val else 18 - c.val) < (if d' = 0 then 10 + (next d' c).val else 18 - (next d' c).val) ∧ (if d' = 0 then 10 + (next d' c).val else 18 - (next d' c).val) < 20
  decide +kernel

theorem mem_passed (c : Dev nD) : ∀ (l : List (Fin 7 × Fin 2)) (x : Dev nD × Nm), x ∈ passed c l → ∃ k d, fwd d c = true ∧ x = (next d c, .cr d k)
  | [], x, h => by cases h
  | y :: l, x, h => by
    rcases List.mem_append.mp h with h | h
    · split at h
      · rename_i hf
        exact ⟨y.1, y.2, hf, List.mem_singleton.mp h⟩
      · cases h
    · exact mem_passed c l x h

theorem passed_above (c : Dev nD) (d : Fin 2) (k : Fin 7) (h : rcv d c = true) (l : List (Fin 7 × Fin 2)) :
    ∀ x ∈ passed c l, lvl c (.cr d k) < lvl x.1 x.2 ∧ lvl x.1 x.2 < lvlN := by
  intro x hx
  obtain ⟨k', d', hf, rfl⟩ := mem_passed c l x hx
  exact lvl_passed c d d' k k' h hf

/-- What device c waits for chunk k with, in direction d. -/
def inRes (c : Dev nD) (d : Fin 2) (k : Fin 7) : sProp 𝕄 :=
  if rcv d c then iprop(crd c (.cr d k) ∗ pos c (.cr d k) 0) else iprop(emp)
/-- What device c passes chunk k on with, in direction d. -/
def outRes (c : Dev nD) (d : Fin 2) (k : Fin 7) : sProp 𝕄 :=
  if fwd d c then iprop(tok c (.cs d k) 0 ∗ rch c (.cs d k) ∗ tok (next d c) (.cr d k) 0 ∗ rch (next d c) (.cr d k) ∗ ∃ f, pts (bcV k) (next d c) fullShare f)
  else iprop(emp)

section Guard

variable (va : Dev nD → FVec F S2048x1024 .f32) (vl : Dev nD → FVec F S2048x8 .f32) (κ : GSem nD τ sig → ℕ) (c : Dev nD)

/-- What device c has of chunk k once it came in direction d. -/
def gotRes (c : Dev nD) (d : Fin 2) (k : Fin 7) : sProp 𝕄 :=
  if rcv d c then iprop(pts (bcV k) c fullShare (mid va vl) ∗ pos c (.cr d k) 1) else iprop(emp)
/-- What device c keeps of chunk k once it passed it on in direction d. -/
def endRes (c : Dev nD) (d : Fin 2) (k : Fin 7) : sProp 𝕄 :=
  iprop((if rcv d c then iprop(pts (bcV k) c (if fwd d c then fullShare.right else fullShare) (mid va vl) ∗ pos c (.cr d k) 1) else iprop(emp))
    ∗ (if fwd d c then crd c (.cs d k) else iprop(emp)))

/-- What the receiver of a chunk has once the chunk was copied into it. -/
theorem chunk_landed (k : Fin 7) (p : Dev nD) (fd : Buf (Elt F) ((bcV k).view.loc (p : Thread nD τ))) :
    ((bcV k).view.loc (p : Thread nD τ) ↦[(bcV k).view.set]{fullShare} (bcV k).view.write (Elt F) fd ((bcV k).view.read (Elt F) (mid va vl)) Finset.univ : sProp 𝕄)
      ⊢ pts (bcV k) p fullShare (mid va vl) := by
  refine Entails.of_eq (pointsTo_congr fun i hi => ?_)
  obtain ⟨x, -, rfl⟩ := Finset.mem_map.mp hi
  have h := congrFun ((bcV k).view.read_write_univ (Val := Elt F) fd ((bcV k).view.read (Elt F) (mid va vl))) x
  exact h

/-- The guarded wait for chunk k in direction d. -/
theorem guard_wait {α : Type} {Q : α → sProp (MT nD τ sig ℕ (Elt F) ℕ UU ℕ)} (d : Fin 2) (k : Fin 7) (l : List (Fin 7 × Fin 2)) {p : Prop} [Decidable p] (hp : p ↔ rcv d c = true)
    {s : DmaSem sig} (hs : SemLoc.dma s = (Nm.cr d k).sem) {h1 : p → (bcV k).view.WordExact} {h2 : p → (bcV k).view.WordExact} {J : Prog (TpuEff nD τ sig (Elt F) Λ₀ .tc) α} :
    iprop(look va vl κ ∗ inRes c d k ∗ ow c (passed c l))
      ⊢ iprop(((ow c (passed c l) ∗ gotRes va vl c d k) -∗ W c J Q)
        -∗ W c (if h : p then .op (.waitDma2 s (bcV k) (bcV k) (h1 h) (h2 h)) (fun _ => J) else J) Q) := by
  unfold inRes gotRes
  by_cases h : rcv d c = true
  · rw [dif_pos (hp.mpr h), if_pos h, if_pos h]
    iintro ⟨#HL, ⟨Hc, Hp⟩, HO⟩ Hk
    iapply (wait_step va vl κ c (.cr d k) (by simp only [dutiesOf, h, if_true]) hs (passed_above c d k h l) (by show (if d = 0 then 10 + c.val else 18 - c.val) < 20; split <;> have := c.isLt <;> (show _ < 20; have : c.val < 8 := c.isLt; omega)) (src := bcV k) (dst := bcV k) (h1 := h1 (hp.mpr h)) (h2 := h2 (hp.mpr h)) rfl) $$ [Hc Hp HO]
    · isplitr; · iexact HL
      isplitl [Hc]; · iexact Hc
      isplitl [HO]; · iexact HO
      iexact Hp
    iintro ⟨HO, Hp, Hpay⟩
    iapply Hk
    isplitl [HO]; · iexact HO
    isplitl [Hpay]; · iapply (show pay va vl c 0 (.cr d k) ⊢ pts (bcV k) c fullShare (mid va vl) from Entails.refl _) $$ Hpay
    iexact Hp
  · rw [dif_neg (fun h' => h (hp.mp h')), if_neg h, if_neg h]
    iintro ⟨#HL, -, HO⟩ Hk
    iapply Hk
    isplitl [HO]; · iexact HO
    iempintro

/-- The guarded copy of chunk k to the next device in direction d. -/
theorem guard_send {α : Type} {Q : α → sProp (MT nD τ sig ℕ (Elt F) ℕ UU ℕ)} (d : Fin 2) (k : Fin 7) (l : List (Fin 7 × Fin 2)) {p : Prop} [Decidable p] (hp : p ↔ fwd d c = true)
    {p' : p → Dev nD} (hp' : ∀ h, p' h = next d c) {sS sR : SemLoc sig} (hS : sS = (Nm.cs d k).sem) (hR : sR = (Nm.cr d k).sem)
    {hsc : p → (bcV k).view.ref.isScScratch = false} {h1 : p → (bcV k).view.WordExact} {h2 : p → (bcV k).view.WordExact}
    {h3 : ∀ h, DmaTarget.Typed .vmem sR (.remote (p' h : Thread nD τ) (bcV k) sS (hsc h))} {J : Prog (TpuEff nD τ sig (Elt F) Λ₀ .tc) α} :
    iprop(look va vl κ ∗ gotRes va vl c d k ∗ outRes c d k ∗ ow c (passed c ((k, d) :: l)))
      ⊢ iprop(((ow c (passed c l) ∗ endRes va vl c d k) -∗ W c J Q)
        -∗ W c (if h : p then .op (.enqueueDma (bcV k) (.remote (p' h : Thread nD τ) (bcV k) sS (hsc h)) sR (h1 h) (h2 h) (h3 h)) (fun _ => J) else J) Q) := by
  unfold gotRes outRes endRes
  by_cases h : fwd d c = true
  · have hr := rcv_of_fwd d c h
    have hs := snd_of_fwd d c h
    have hown : passed c ((k, d) :: l) = (next d c, .cr d k) :: passed c l := by
      show (if fwd d c then [(next d c, Nm.cr d k)] else []) ++ passed c l = _
      rw [if_pos h]; rfl
    rw [dif_pos (hp.mpr h), if_pos hr, if_pos h, if_pos hr, if_pos h, if_pos h, hown]
    iintro ⟨#HL, ⟨Hb, Hp⟩, ⟨Ht1, #Hr1, Ht2, #Hr2, %f, Hd⟩, HO⟩ Hk
    icases (pointsTo_share (PosShare.mem_left_op_right fullShare)).1 $$ Hb with ⟨Hbl, Hbr⟩
    iapply (send_step va vl κ c (hp' (hp.mpr h)) (.cs d k) (.cr d k) (by simp only [dutiesOf, hs, if_true]) (by simp only [dutiesOf, rcv_next, hs, if_true]) hS hR
        (src := bcV k) (dst := bcV k) (q := fullShare.left) (fs := mid va vl) (fd := f) (l := passed c l) (by subst hR; rfl) rfl rfl
        (by show _ ⊢ pts (bcV k) c (lent d c) (mid va vl); rw [lent_of_fwd d c h]) (chunk_landed va vl k (next d c) f)) $$ [Hbl Hd HO Ht1 Ht2]
    · isplitr; · iexact HL
      isplitl [Hbl]; · iexact Hbl
      isplitl [Hd]; · iexact Hd
      isplitl [HO]; · iexact HO
      isplitl [Ht1]; · iexact Ht1
      isplitr; · iexact Hr1
      isplitl [Ht2]; · iexact Ht2
      iexact Hr2
    iintro ⟨Hc, HO⟩
    iapply Hk
    isplitl [HO]; · iexact HO
    isplitr [Hc]
    · isplitl [Hbr]; · iexact Hbr
      iexact Hp
    iexact Hc
  · have hown : passed c ((k, d) :: l) = passed c l := by
      show (if fwd d c then [(next d c, Nm.cr d k)] else []) ++ passed c l = _
      rw [if_neg h]; rfl
    rw [dif_neg (fun h' => h (hp.mp h')), if_neg h, if_neg h, if_neg h, hown]
    iintro ⟨#HL, Hg, -, HO⟩ Hk
    iapply Hk
    isplitl [HO]; · iexact HO
    isplitl [Hg]; · iexact Hg
    iempintro

end Guard

/-- Device c's number as the kernel computes it. -/
abbrev my (c : Dev nD) : BitVec 32 := Scalar.remsi (Scalar.divsi (Dev.word c) 1#32) 8#32

end Cert.KernelIdeal.Talk

end
-- ==== Proof.Values.lean ====
/-
  What the kernel's stores put where: the values of its payloads, blocks of a two-axis buffer, and the pieces of the
  receive buffers.
-/
module

public import proofs.«01_k».proof.Proof.Relay
public import Idealize.ShloMosaic.Lib.Ring

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.ValueIdx (ix2 eq_ix2 idx2_lt0 idx2_lt1)

variable {F : FTy → Type} [FloatOps F]

local notation "𝕄" => MT nD τ sig ℕ (Elt F) ℕ UU ℕ

/-! ## Blocks of a two-axis buffer -/

/-- An index lies in the block (first row, first column, rows, columns). -/
def blk {n m : ℕ} (b : ℕ × ℕ × ℕ × ℕ) (x : (⟨2, ![n, m]⟩ : Shape).Idx) : Prop :=
  b.1 ≤ (x 0).val ∧ (x 0).val < b.1 + b.2.2.1 ∧ b.2.1 ≤ (x 1).val ∧ (x 1).val < b.2.1 + b.2.2.2

/-- An index lies in one of the blocks. -/
def has {n m : ℕ} (L : List (ℕ × ℕ × ℕ × ℕ)) (x : (⟨2, ![n, m]⟩ : Shape).Idx) : Prop := ∃ b ∈ L, blk b x

theorem blk_emb {n m ro co nr nc : ℕ} {inb} (x : (⟨2, ![n, m]⟩ : Shape).Idx) (h : blk (ro, co, nr, nc) x) :
    ∃ j, (Rect.unit (s := ⟨2, ![n, m]⟩) ![ro, co] ![nr, nc] inb).emb j = x := by
  have hm : x ∈ (Rect.unit (s := ⟨2, ![n, m]⟩) ![ro, co] ![nr, nc] inb).set := by
    rw [Rect.mem_set_unit]
    intro a
    match a with
    | ⟨0, _⟩ => exact ⟨h.1, h.2.1⟩
    | ⟨1, _⟩ => exact ⟨h.2.2.1, h.2.2.2⟩
  rw [← Rect.map_emb_univ] at hm
  obtain ⟨j, -, hj⟩ := Finset.mem_map.mp hm
  exact ⟨j, hj⟩

theorem filled_mono {s : Shape} {e : EltTy} {m : Memref sig .tc .vmem s e} {c : Dev nD} {T : s.Idx → Elt F e} {P P' : s.Idx → Prop} (h : ∀ x, P' x → P x) :
    filled m c T P ⊢ filled m c T P' := by
  unfold filled
  iintro ⟨%f, H, %hf⟩
  iexists f
  isplitl [H]; · iexact H
  ipureintro
  exact fun x hx => hf x (h x hx)

/-- A store of T's values at a block fills the block. -/
theorem filled_blk {α : Type} {Q : α → sProp (MT nD τ sig ℕ (Elt F) ℕ UU ℕ)} {n mm ro co nr nc : ℕ} {e : EltTy} {m : Memref sig .tc .vmem ⟨2, ![n, mm]⟩ e} {c : Dev nD}
    {T : (⟨2, ![n, mm]⟩ : Shape).Idx → Elt F e} {L : List (ℕ × ℕ × ℕ × ℕ)} {inb}
    {w : (Rect.unit (s := ⟨2, ![n, mm]⟩) ![ro, co] ![nr, nc] inb).shape.Idx → Elt F e} {hx} {hm}
    (hw : ∀ j, w j = T ((Rect.unit (s := ⟨2, ![n, mm]⟩) ![ro, co] ![nr, nc] inb).emb j)) {k : PUnit → Prog (TpuEff nD τ sig (Elt F) Λ₀ .tc) α} :
    filled m c T (has L) ⊢ iprop((filled m c T (has ((ro, co, nr, nc) :: L)) -∗ W c (k ⟨⟩) Q)
      -∗ W c (.op (.store m (Rect.unit (s := ⟨2, ![n, mm]⟩) ![ro, co] ![nr, nc] inb) w Finset.univ hx hm) k) Q) := by
  iintro H Hk
  iapply (filled_st hw) $$ H
  iintro H
  iapply Hk
  iapply (filled_mono (fun x hx => ?_)) $$ H
  obtain ⟨b, hb, hx⟩ := hx
  rcases List.mem_cons.mp hb with rfl | hb
  · exact Or.inr (blk_emb x hx)
  · exact Or.inl ⟨b, hb, hx⟩

theorem filled_empty {n mm : ℕ} {e : EltTy} {m : Memref sig .tc .vmem ⟨2, ![n, mm]⟩ e} {c : Dev nD} {T : (⟨2, ![n, mm]⟩ : Shape).Idx → Elt F e}
    (f : Buf (Elt F) (m.view.loc (c : Thread nD τ))) : pts m c fullShare f ⊢ filled m c T (has []) := by
  iintro H
  iapply (filled_mono (P := fun _ => False) (fun x hx => by obtain ⟨b, hb, -⟩ := hx; cases hb))
  iapply (filled_none f) $$ H

/-! ## The payloads -/

theorem col_apply {n m : ℕ} (y : (⟨2, ![n, 1]⟩ : Shape).Idx → F .f32) (h : (⟨2, ![n, 1]⟩ : Shape).Broadcasts ⟨2, ![n, m]⟩) (j : (⟨2, ![n, m]⟩ : Shape).Idx) :
    broadcastTo ⟨2, ![n, m]⟩ y h j = y (ix2 ⟨(j 0).val, idx2_lt0 j⟩ ⟨0, Nat.one_pos⟩) := by
  refine broadcastTo_apply y h j _ fun a => ?_
  match a with
  | ⟨0, _⟩ =>
    show (j 0).val = if n = 1 then 0 else (j 0).val
    split
    · have := idx2_lt0 j; omega
    · rfl
  | ⟨1, _⟩ => exact (if_pos rfl).symm

/-- The head of an entry. -/
abbrev hd {n m : ℕ} (j : (⟨2, ![n, m]⟩ : Shape).Idx) : (⟨2, ![n, 1]⟩ : Shape).Idx := ix2 ⟨(j 0).val, idx2_lt0 j⟩ ⟨0, Nat.one_pos⟩

theorem pay25_apply (x : Vec F S128x128 .f32) (y : Vec F S128x1 .f32) (j : S128x128.Idx) : k0_pay25 x y j = FloatOps.divf (x j) (y (hd j)) := by
  unfold k0_pay25; simp only [shapeCast_self, divf]; rw [col_apply]
theorem pay26_apply (x : Vec F S128x128 .f32) (y : Vec F S128x1 .f32) (j : S128x128.Idx) : k0_pay26 x y j = FloatOps.divf (x j) (y (hd j)) := by
  unfold k0_pay26; simp only [shapeCast_self, divf]; rw [col_apply]
theorem pay27_apply (x : Vec F S128x128 .f32) (y : Vec F S128x1 .f32) (j : S128x128.Idx) : k0_pay27 x y j = FloatOps.divf (x j) (y (hd j)) := by
  unfold k0_pay27; simp only [shapeCast_self, divf]; rw [col_apply]
theorem pay28_apply (x : Vec F S128x128 .f32) (y : Vec F S128x1 .f32) (j : S128x128.Idx) : k0_pay28 x y j = FloatOps.divf (x j) (y (hd j)) := by
  unfold k0_pay28; simp only [shapeCast_self, divf]; rw [col_apply]
theorem pay29_apply (x : Vec F S128x128 .f32) (y : Vec F S128x1 .f32) (j : S128x128.Idx) : k0_pay29 x y j = FloatOps.divf (x j) (y (hd j)) := by
  unfold k0_pay29; simp only [shapeCast_self, divf]; rw [col_apply]
theorem pay30_apply (x : Vec F S128x128 .f32) (y : Vec F S128x1 .f32) (j : S128x128.Idx) : k0_pay30 x y j = FloatOps.divf (x j) (y (hd j)) := by
  unfold k0_pay30; simp only [shapeCast_self, divf]; rw [col_apply]
theorem pay31_apply (x : Vec F S128x128 .f32) (y : Vec F S128x1 .f32) (j : S128x128.Idx) : k0_pay31 x y j = FloatOps.divf (x j) (y (hd j)) := by
  unfold k0_pay31; simp only [shapeCast_self, divf]; rw [col_apply]
theorem pay32_apply (x : Vec F S128x128 .f32) (y : Vec F S128x1 .f32) (j : S128x128.Idx) : k0_pay32 x y j = FloatOps.divf (x j) (y (hd j)) := by
  unfold k0_pay32; simp only [divf]; rw [col_apply]
theorem pay34_apply (x : Vec F S128x128 .f32) (y : Vec F S128x1 .f32) (j : S128x128.Idx) : k0_pay34 x y j = FloatOps.divf (x j) (y (hd j)) := by
  unfold k0_pay34; simp only [shapeCast_self, divf]; rw [col_apply]
theorem pay35_apply (x : Vec F S128x128 .f32) (y : Vec F S128x1 .f32) (j : S128x128.Idx) : k0_pay35 x y j = FloatOps.divf (x j) (y (hd j)) := by
  unfold k0_pay35; simp only [shapeCast_self, divf]; rw [col_apply]
theorem pay36_apply (x : Vec F S128x128 .f32) (y : Vec F S128x1 .f32) (j : S128x128.Idx) : k0_pay36 x y j = FloatOps.divf (x j) (y (hd j)) := by
  unfold k0_pay36; simp only [shapeCast_self, divf]; rw [col_apply]
theorem pay37_apply (x : Vec F S128x128 .f32) (y : Vec F S128x1 .f32) (j : S128x128.Idx) : k0_pay37 x y j = FloatOps.divf (x j) (y (hd j)) := by
  unfold k0_pay37; simp only [divf]; rw [col_apply]
theorem pay39_apply (x : Vec F S128x128 .f32) (y : Vec F S128x1 .f32) (j : S128x128.Idx) : k0_pay39 x y j = FloatOps.divf (x j) (y (hd j)) := by
  unfold k0_pay39; simp only [shapeCast_self, divf]; rw [col_apply]
theorem pay40_apply (x : Vec F S128x128 .f32) (y : Vec F S128x1 .f32) (j : S128x128.Idx) : k0_pay40 x y j = FloatOps.divf (x j) (y (hd j)) := by
  unfold k0_pay40; simp only [shapeCast_self, divf]; rw [col_apply]
theorem pay41_apply (x : Vec F S128x128 .f32) (y : Vec F S128x1 .f32) (j : S128x128.Idx) : k0_pay41 x y j = FloatOps.divf (x j) (y (hd j)) := by
  unfold k0_pay41; simp only [shapeCast_self, divf]; rw [col_apply]
theorem pay42_apply (x : Vec F S128x128 .f32) (y : Vec F S128x1 .f32) (j : S128x128.Idx) : k0_pay42 x y j = FloatOps.divf (x j) (y (hd j)) := by
  unfold k0_pay42; simp only [shapeCast_self, divf]; rw [col_apply]
theorem pay33_eq (x : FVec F S128x128 .f32) : k0_pay33 x = x := by unfold k0_pay33; exact shapeCast_self _ _
theorem pay38_eq (x : FVec F S128x128 .f32) : k0_pay38 x = x := by unfold k0_pay38; exact shapeCast_self _ _
theorem pay3_apply (x : Vec F S1792x128 .f32) (y : Vec F S1792x1 .f32) (j : S1792x128.Idx) : k0_pay3 x y j = FloatOps.truncf .bf16 bitsLt_bf16_f32 (FloatOps.divf (x j) (y (hd j))) := by
  unfold k0_pay3; simp only [shapeCast_self, truncf, divf]; rw [col_apply]
theorem pay4_apply (x : Vec F S1792x128 .f32) (y : Vec F S1792x1 .f32) (j : S1792x128.Idx) : k0_pay4 x y j = FloatOps.truncf .bf16 bitsLt_bf16_f32 (FloatOps.divf (x j) (y (hd j))) := by
  unfold k0_pay4; simp only [shapeCast_self, truncf, divf]; rw [col_apply]
theorem pay5_apply (x : Vec F S1792x128 .f32) (y : Vec F S1792x1 .f32) (j : S1792x128.Idx) : k0_pay5 x y j = FloatOps.truncf .bf16 bitsLt_bf16_f32 (FloatOps.divf (x j) (y (hd j))) := by
  unfold k0_pay5; simp only [shapeCast_self, truncf, divf]; rw [col_apply]
theorem pay9_apply (x : Vec F S1792x128 .f32) (y : Vec F S1792x1 .f32) (j : S1792x128.Idx) : k0_pay9 x y j = FloatOps.truncf .bf16 bitsLt_bf16_f32 (FloatOps.divf (x j) (y (hd j))) := by
  unfold k0_pay9; simp only [shapeCast_self, truncf, divf]; rw [col_apply]
theorem pay10_apply (x : Vec F S1792x128 .f32) (y : Vec F S1792x1 .f32) (j : S1792x128.Idx) : k0_pay10 x y j = FloatOps.truncf .bf16 bitsLt_bf16_f32 (FloatOps.divf (x j) (y (hd j))) := by
  unfold k0_pay10; simp only [shapeCast_self, truncf, divf]; rw [col_apply]
theorem pay11_apply (x : Vec F S1792x128 .f32) (y : Vec F S1792x1 .f32) (j : S1792x128.Idx) : k0_pay11 x y j = FloatOps.truncf .bf16 bitsLt_bf16_f32 (FloatOps.divf (x j) (y (hd j))) := by
  unfold k0_pay11; simp only [shapeCast_self, truncf, divf]; rw [col_apply]
theorem pay12_apply (x : Vec F S1792x128 .f32) (y : Vec F S1792x1 .f32) (j : S1792x128.Idx) : k0_pay12 x y j = FloatOps.truncf .bf16 bitsLt_bf16_f32 (FloatOps.divf (x j) (y (hd j))) := by
  unfold k0_pay12; simp only [shapeCast_self, truncf, divf]; rw [col_apply]
theorem pay8_apply (x : Vec F S1792x128 .f32) (y : Vec F S1792x1 .f32) (j : S1792x128.Idx) : k0_pay8 (k0_pay6 x) (k0_pay7 y) j = FloatOps.truncf .bf16 bitsLt_bf16_f32 (FloatOps.divf (x j) (y (hd j))) := by
  unfold k0_pay8 k0_pay7 k0_pay6; simp only [shapeCast_self, truncf, divf]; rw [col_apply]
theorem pay13_eq (x : Vec F S128x1024 .f32) : k0_pay13 x = x := by unfold k0_pay13; simp only [shapeCast_self]
theorem pay14_eq (x : Vec F S128x1024 .f32) : k0_pay14 x = x := by unfold k0_pay14; simp only [shapeCast_self]
theorem pay15_eq (x : Vec F S128x8 .f32) : k0_pay15 x = x := by unfold k0_pay15; simp only [shapeCast_self]
theorem pay17_eq (x : Vec F S128x8 .f32) : k0_pay17 (k0_pay16 x) = x := by unfold k0_pay17 k0_pay16; simp only [shapeCast_self]
theorem pay1_apply (x : Vec F S1792x1024 .bf16) (j : S1792x1024.Idx) : k0_pay1 x j = FloatOps.extf .f32 bitsLt_bf16_f32 (x j) := by
  unfold k0_pay1; simp only [shapeCast_self, extf]

section Values

variable (va : Dev nD → FVec F S2048x1024 .f32) (vl : Dev nD → FVec F S2048x8 .f32) (c : Dev nD)

/-- A block of a head's quotients: row block 0 goes to the first rows of the context, row block 128 to the last. -/
theorem head_value (ro rd h : ℕ) (hr : ro = 0 ∧ rd = 0 ∨ ro = 128 ∧ rd = 1920) {i1 i2 i3} (j : S128x128.Idx) :
    (FloatOps.divf (xaM.view.readAt (Elt F) (Rect.unit (s := S256x1024) ![ro, 128 * h] S128x128.size i1).toLoadRect (sums va 3 c) j)
      (xlM.view.readAt (Elt F) (Rect.unit (s := S256x8) ![ro, h] S128x1.size i2).toLoadRect (dens vl 3 c) (hd j)) : F .f32)
    = ctx va vl c ((Rect.unit (s := S2048x1024) ![rd, 128 * h] S128x128.size i3).emb j) := by
  have h0 := idx2_lt0 j
  have h1 := idx2_lt1 j
  have e0 : (((Rect.unit (s := S2048x1024) ![rd, 128 * h] S128x128.size i3).emb j) 0).val = rd + (j 0).val := by rw [Rect.emb_apply]; show rd + 1 * _ = _; omega
  have e1 : (((Rect.unit (s := S2048x1024) ![rd, 128 * h] S128x128.size i3).emb j) 1).val = 128 * h + (j 1).val := by rw [Rect.emb_apply]; show 128 * h + 1 * _ = _; omega
  have ha : ∀ (p : ℕ) (hp : p < 256), p = ro + (j 0).val → xaM.view.readAt (Elt F) (Rect.unit (s := S256x1024) ![ro, 128 * h] S128x128.size i1).toLoadRect (sums va 3 c) j
      = sums va 3 c (ix2 ⟨p, hp⟩ (((Rect.unit (s := S2048x1024) ![rd, 128 * h] S128x128.size i3).emb j) 1)) := by
    intro p hp e
    show sums va 3 c ((Rect.unit (s := S256x1024) ![ro, 128 * h] S128x128.size i1).emb j) = _
    refine congrArg (sums va 3 c) (funext fun a => Fin.ext ?_)
    match a with
    | ⟨0, _⟩ => rw [Rect.emb_apply]; show ro + 1 * (j 0).val = p; omega
    | ⟨1, _⟩ => rw [Rect.emb_apply]; show 128 * h + 1 * (j 1).val = (((Rect.unit (s := S2048x1024) ![rd, 128 * h] S128x128.size i3).emb j) 1).val; omega
  have hb : ∀ (p : ℕ) (hp : p < 256), p = ro + (j 0).val → xlM.view.readAt (Elt F) (Rect.unit (s := S256x8) ![ro, h] S128x1.size i2).toLoadRect (dens vl 3 c) (hd j)
      = dens vl 3 c (ix2 ⟨p, hp⟩ (headOf (((Rect.unit (s := S2048x1024) ![rd, 128 * h] S128x128.size i3).emb j) 1))) := by
    intro p hp e
    show dens vl 3 c ((Rect.unit (s := S256x8) ![ro, h] S128x1.size i2).emb (hd j)) = _
    refine congrArg (dens vl 3 c) (funext fun a => Fin.ext ?_)
    match a with
    | ⟨0, _⟩ => rw [Rect.emb_apply]; show ro + 1 * (j 0).val = p; omega
    | ⟨1, _⟩ => rw [Rect.emb_apply]; show h + 1 * 0 = (((Rect.unit (s := S2048x1024) ![rd, 128 * h] S128x128.size i3).emb j) 1).val / 128; omega
  generalize (Rect.unit (s := S2048x1024) ![rd, 128 * h] S128x128.size i3).emb j = i at *
  unfold ctx
  rcases hr with ⟨rfl, rfl⟩ | ⟨rfl, rfl⟩
  · rw [dif_pos (by omega)]
    rw [ha (i 0).val (by omega) (by omega), hb (i 0).val (by omega) (by omega)]
  · rw [dif_neg (by omega), dif_neg (by omega)]
    rw [ha ((i 0).val - 1792) (by omega) (by omega), hb ((i 0).val - 1792) (by omega) (by omega)]

/-- A head's quotients of the middle rows, on device 0. -/
theorem mid_value (h : ℕ) (hc : c = 0) {i1 i2 i3} (j : S1792x128.Idx) :
    (FloatOps.truncf .bf16 bitsLt_bf16_f32 (FloatOps.divf (accM.view.readAt (Elt F) (Rect.unit (s := S2048x1024) ![128, 128 * h] S1792x128.size i1).toLoadRect (va c) j)
      (lM.view.readAt (Elt F) (Rect.unit (s := S2048x8) ![128, h] S1792x1.size i2).toLoadRect (vl c) (hd j))) : F .bf16)
    = mid va vl ((Rect.unit (s := S1792x1024) ![0, 128 * h] S1792x128.size i3).emb j) := by
  subst hc
  have h0 := idx2_lt0 j
  have h1 := idx2_lt1 j
  have e0 : (((Rect.unit (s := S1792x1024) ![0, 128 * h] S1792x128.size i3).emb j) 0).val = (j 0).val := by rw [Rect.emb_apply]; show 0 + 1 * _ = _; omega
  have e1 : (((Rect.unit (s := S1792x1024) ![0, 128 * h] S1792x128.size i3).emb j) 1).val = 128 * h + (j 1).val := by rw [Rect.emb_apply]; show 128 * h + 1 * _ = _; omega
  unfold mid
  congr 2
  · show va 0 ((Rect.unit (s := S2048x1024) ![128, 128 * h] S1792x128.size i1).emb j) = _
    refine congrArg (va 0) (funext fun a => Fin.ext ?_)
    match a with
    | ⟨0, _⟩ => rw [Rect.emb_apply]; show 128 + 1 * (j 0).val = (((Rect.unit (s := S1792x1024) ![0, 128 * h] S1792x128.size i3).emb j) 0).val + 128; omega
    | ⟨1, _⟩ => rw [Rect.emb_apply]; show 128 * h + 1 * (j 1).val = (((Rect.unit (s := S1792x1024) ![0, 128 * h] S1792x128.size i3).emb j) 1).val; omega
  · show vl 0 ((Rect.unit (s := S2048x8) ![128, h] S1792x1.size i2).emb (hd j)) = _
    refine congrArg (vl 0) (funext fun a => Fin.ext ?_)
    match a with
    | ⟨0, _⟩ => rw [Rect.emb_apply]; show 128 + 1 * (j 0).val = (((Rect.unit (s := S1792x1024) ![0, 128 * h] S1792x128.size i3).emb j) 0).val + 128; omega
    | ⟨1, _⟩ => rw [Rect.emb_apply]; show h + 1 * 0 = (((Rect.unit (s := S1792x1024) ![0, 128 * h] S1792x128.size i3).emb j) 1).val / 128; omega

/-- The rows of a block that are the edge rows. -/
theorem edge_value {n : ℕ} (f : FVec F ⟨2, ![2048, n]⟩ .f32) (rs rd : ℕ) (hr : rs = 0 ∧ rd = 0 ∨ rs = 1920 ∧ rd = 128) {i1 i2} (j : (⟨2, ![128, n]⟩ : Shape).Idx) :
    f ((Rect.unit (s := ⟨2, ![2048, n]⟩) ![rs, 0] ![128, n] i1).emb j) = edge f ((Rect.unit (s := ⟨2, ![256, n]⟩) ![rd, 0] ![128, n] i2).emb j) := by
  have h0 := idx2_lt0 j
  have h1 := idx2_lt1 j
  have e0 : (((Rect.unit (s := ⟨2, ![256, n]⟩) ![rd, 0] ![128, n] i2).emb j) 0).val = rd + (j 0).val := by rw [Rect.emb_apply]; show rd + 1 * _ = _; omega
  have e1 : (((Rect.unit (s := ⟨2, ![256, n]⟩) ![rd, 0] ![128, n] i2).emb j) 1).val = (j 1).val := by rw [Rect.emb_apply]; show 0 + 1 * _ = _; omega
  unfold edge
  rcases hr with ⟨rfl, rfl⟩ | ⟨rfl, rfl⟩
  · rw [if_pos (by omega)]
    refine congrArg f (funext fun a => Fin.ext ?_)
    match a with
    | ⟨0, _⟩ => rw [Rect.emb_apply]; show 0 + 1 * (j 0).val = (((Rect.unit (s := ⟨2, ![256, n]⟩) ![0, 0] ![128, n] i2).emb j) 0).val; omega
    | ⟨1, _⟩ => rw [Rect.emb_apply]; show 0 + 1 * (j 1).val = (((Rect.unit (s := ⟨2, ![256, n]⟩) ![0, 0] ![128, n] i2).emb j) 1).val; omega
  · rw [if_neg (by omega)]
    refine congrArg f (funext fun a => Fin.ext ?_)
    match a with
    | ⟨0, _⟩ => rw [Rect.emb_apply]; show 1920 + 1 * (j 0).val = (((Rect.unit (s := ⟨2, ![256, n]⟩) ![128, 0] ![128, n] i2).emb j) 0).val + 1792; omega
    | ⟨1, _⟩ => rw [Rect.emb_apply]; show 0 + 1 * (j 1).val = (((Rect.unit (s := ⟨2, ![256, n]⟩) ![128, 0] ![128, n] i2).emb j) 1).val; omega

/-- The middle rows of the context. -/
theorem middle_value {i1 i2} (j : S1792x1024.Idx) :
    (FloatOps.extf .f32 bitsLt_bf16_f32 (bcM.view.readAt (Elt F) (Rect.unit (s := S1792x1024) ![0, 0] S1792x1024.size i1).toLoadRect (mid va vl) j) : F .f32)
    = ctx va vl c ((Rect.unit (s := S2048x1024) ![128, 0] S1792x1024.size i2).emb j) := by
  have h0 := idx2_lt0 j
  have h1 := idx2_lt1 j
  have e0 : (((Rect.unit (s := S2048x1024) ![128, 0] S1792x1024.size i2).emb j) 0).val = 128 + (j 0).val := by rw [Rect.emb_apply]; show 128 + 1 * _ = _; omega
  have e1 : (((Rect.unit (s := S2048x1024) ![128, 0] S1792x1024.size i2).emb j) 1).val = (j 1).val := by rw [Rect.emb_apply]; show 0 + 1 * _ = _; omega
  unfold ctx
  rw [dif_neg (by omega), dif_pos (by omega)]
  congr 1
  show mid va vl ((Rect.unit (s := S1792x1024) ![0, 0] S1792x1024.size i1).emb j) = _
  refine congrArg (mid va vl) (funext fun a => Fin.ext ?_)
  match a with
  | ⟨0, _⟩ => rw [Rect.emb_apply]; show 0 + 1 * (j 0).val = (((Rect.unit (s := S2048x1024) ![128, 0] S1792x1024.size i2).emb j) 0).val - 128; omega
  | ⟨1, _⟩ => rw [Rect.emb_apply]; show 0 + 1 * (j 1).val = (((Rect.unit (s := S2048x1024) ![128, 0] S1792x1024.size i2).emb j) 1).val; omega

end Values

/-! ## The pieces of the receive buffers -/

theorem raV_mem (r : Fin 3) (i : S3x256x1024.Idx) : i ∈ (raV r).view.set ↔ (i 0).val = r.val := by
  have e : (raV r).view.set = (Rect.unit (s := S3x256x1024) ![r.val, 0, 0] S1x256x1024.size (inb_ra r)).set :=
    (View.set_reshape _ _).trans (View.set_slice_whole _ _)
  rw [e, Rect.mem_set_unit]
  constructor
  · intro h
    have h : r.val ≤ (i 0).val ∧ (i 0).val < r.val + 1 := h 0
    omega
  · intro h a
    match a with
    | ⟨0, _⟩ => show r.val ≤ (i 0).val ∧ (i 0).val < r.val + 1; omega
    | ⟨1, _⟩ => exact ⟨Nat.zero_le _, (by have : (i 1).val < 256 := (i 1).isLt; show (i 1).val < 0 + 256; omega)⟩
    | ⟨2, _⟩ => exact ⟨Nat.zero_le _, (by have : (i 2).val < 1024 := (i 2).isLt; show (i 2).val < 0 + 1024; omega)⟩

theorem rlV_mem (r : Fin 3) (i : S3x256x8.Idx) : i ∈ (rlV r).view.set ↔ (i 0).val = r.val := by
  have e : (rlV r).view.set = (Rect.unit (s := S3x256x8) ![r.val, 0, 0] S1x256x8.size (inb_rl r)).set :=
    (View.set_reshape _ _).trans (View.set_slice_whole _ _)
  rw [e, Rect.mem_set_unit]
  constructor
  · intro h
    have h : r.val ≤ (i 0).val ∧ (i 0).val < r.val + 1 := h 0
    omega
  · intro h a
    match a with
    | ⟨0, _⟩ => show r.val ≤ (i 0).val ∧ (i 0).val < r.val + 1; omega
    | ⟨1, _⟩ => exact ⟨Nat.zero_le _, (by have : (i 1).val < 256 := (i 1).isLt; show (i 1).val < 0 + 256; omega)⟩
    | ⟨2, _⟩ => exact ⟨Nat.zero_le _, (by have : (i 2).val < 8 := (i 2).isLt; show (i 2).val < 0 + 8; omega)⟩

theorem bcV_mem (k : Fin 7) (i : S1792x1024.Idx) : i ∈ (bcV k).view.set ↔ 256 * k.val ≤ (i 0).val ∧ (i 0).val < 256 * k.val + 256 := by
  have e : (bcV k).view.set = (Rect.unit (s := S1792x1024) ![256 * k.val, 0] S256x1024.size (inb_bc k)).set := View.set_slice_whole _ _
  rw [e, Rect.mem_set_unit]
  constructor
  · intro h
    exact h 0
  · intro h a
    match a with
    | ⟨0, _⟩ => exact h
    | ⟨1, _⟩ => exact ⟨Nat.zero_le _, (by have : (i 1).val < 1024 := (i 1).isLt; show (i 1).val < 0 + 1024; omega)⟩

theorem ra_cover (i : S3x256x1024.Idx) : i ∈ (raM.view.set : Finset S3x256x1024.Idx) ↔ ∃ r : Fin 3, r ∈ Finset.univ ∧ i ∈ (raV r).view.set := by
  constructor
  · intro _
    exact ⟨⟨(i 0).val, (i 0).isLt⟩, Finset.mem_univ _, (raV_mem _ i).mpr rfl⟩
  · intro _; rw [View.set_whole]; exact Finset.mem_univ _
theorem rl_cover (i : S3x256x8.Idx) : i ∈ (rlM.view.set : Finset S3x256x8.Idx) ↔ ∃ r : Fin 3, r ∈ Finset.univ ∧ i ∈ (rlV r).view.set := by
  constructor
  · intro _
    exact ⟨⟨(i 0).val, (i 0).isLt⟩, Finset.mem_univ _, (rlV_mem _ i).mpr rfl⟩
  · intro _; rw [View.set_whole]; exact Finset.mem_univ _
theorem bc_cover (i : S1792x1024.Idx) : i ∈ (bcM.view.set : Finset S1792x1024.Idx) ↔ ∃ r : Fin 7, r ∈ Finset.univ ∧ i ∈ (bcV r).view.set := by
  constructor
  · intro _
    have h : (i 0).val < 1792 := (i 0).isLt
    obtain ⟨k, hk⟩ : ∃ k : Fin 7, 256 * k.val ≤ (i 0).val ∧ (i 0).val < 256 * k.val + 256 := by
      refine ⟨⟨(i 0).val / 256, by omega⟩, ?_⟩
      dsimp only
      omega
    exact ⟨k, Finset.mem_univ _, (bcV_mem k i).mpr hk⟩
  · intro _; rw [View.set_whole]; exact Finset.mem_univ _
theorem ra_disj (r r' : Fin 3) (h : r ≠ r') : Disjoint ((raV r).view.set : Finset S3x256x1024.Idx) (raV r').view.set :=
  Finset.disjoint_left.mpr fun i hi hi' => h (Fin.ext (((raV_mem r i).mp hi).symm.trans ((raV_mem r' i).mp hi')))
theorem rl_disj (r r' : Fin 3) (h : r ≠ r') : Disjoint ((rlV r).view.set : Finset S3x256x8.Idx) (rlV r').view.set :=
  Finset.disjoint_left.mpr fun i hi hi' => h (Fin.ext (((rlV_mem r i).mp hi).symm.trans ((rlV_mem r' i).mp hi')))
theorem bc_disj (r r' : Fin 7) (h : r ≠ r') : Disjoint ((bcV r).view.set : Finset S1792x1024.Idx) (bcV r').view.set :=
  Finset.disjoint_left.mpr fun i hi hi' => h (Fin.ext (by
    have h1 := (bcV_mem r i).mp hi
    have h2 := (bcV_mem r' i).mp hi'
    omega))

/-- The receive buffer of the sums is its three slots. -/
theorem ra_split (c : Dev nD) (q : PosShare TreeShare) (f : Buf (Elt F) (raM.view.loc (c : Thread nD τ))) :
    pts raM c q f = iprop(pts (raV 0) c q f ∗ pts (raV 1) c q f ∗ pts (raV 2) c q f) := by
  exact (Ring.pointsTo_sub_blocks (ℓ := raM.view.loc (c : Thread nD τ)) (fun r : Fin 3 => (raV r).view.set) ra_disj raM.view.set
    (Finset.ext fun i => Finset.mem_biUnion.trans (ra_cover i).symm) f).trans (bigSep_univ_eq_bigSepL [(0 : Fin 3), 1, 2] (by decide) (by decide) _)
theorem rl_split (c : Dev nD) (q : PosShare TreeShare) (f : Buf (Elt F) (rlM.view.loc (c : Thread nD τ))) :
    pts rlM c q f = iprop(pts (rlV 0) c q f ∗ pts (rlV 1) c q f ∗ pts (rlV 2) c q f) := by
  exact (Ring.pointsTo_sub_blocks (ℓ := rlM.view.loc (c : Thread nD τ)) (fun r : Fin 3 => (rlV r).view.set) rl_disj rlM.view.set
    (Finset.ext fun i => Finset.mem_biUnion.trans (rl_cover i).symm) f).trans (bigSep_univ_eq_bigSepL [(0 : Fin 3), 1, 2] (by decide) (by decide) _)
/-- The buffer of the middle rows is its seven chunks. -/
theorem bc_split (c : Dev nD) (q : PosShare TreeShare) (f : Buf (Elt F) (bcM.view.loc (c : Thread nD τ))) :
    pts bcM c q f = seven fun k => pts (bcV k) c q f := by
  exact (Ring.pointsTo_sub_blocks (ℓ := bcM.view.loc (c : Thread nD τ)) (fun r : Fin 7 => (bcV r).view.set) bc_disj bcM.view.set
    (Finset.ext fun i => Finset.mem_biUnion.trans (bc_cover i).symm) f).trans (bigSep_univ_eq_bigSepL [(0 : Fin 7), 1, 2, 3, 4, 5, 6] (by decide) (by decide) _)

theorem ra_join (c : Dev nD) (f0 f1 f2 : Buf (Elt F) (raM.view.loc (c : Thread nD τ))) :
    iprop(pts (raV 0) c fullShare f0 ∗ pts (raV 1) c fullShare f1 ∗ pts (raV 2) c fullShare f2) ⊢ (iprop(∃ f, pts raM c fullShare f) : sProp 𝕄) := by
  have h := Ring.pointsTo_sub_blocks_join_exists (ℓ := raM.view.loc (c : Thread nD τ)) (q := fullShare) (Ix := ℕ) (Val := Elt F) (Name := ℕ) (U := UU) (Lvl := ℕ) (fun r : Fin 3 => (raV r).view.set) ra_disj raM.view.set
    (Finset.ext fun i => Finset.mem_biUnion.trans (ra_cover i).symm) f0
  iintro ⟨H0, H1, H2⟩
  iapply (show _ ⊢ _ from h)
  iapply (show iprop((∃ f, pts (raV 0) c fullShare f) ∗ (∃ f, pts (raV 1) c fullShare f) ∗ (∃ f, pts (raV 2) c fullShare f)) ⊢ _ from Entails.of_eq (bigSep_univ_eq_bigSepL [(0 : Fin 3), 1, 2] (by decide) (by decide) (fun r => iprop(∃ f, pts (raV r) c fullShare f))).symm)
  isplitl [H0]; · iexists f0; iexact H0
  isplitl [H1]; · iexists f1; iexact H1
  iexists f2; iexact H2
theorem rl_join (c : Dev nD) (f0 f1 f2 : Buf (Elt F) (rlM.view.loc (c : Thread nD τ))) :
    iprop(pts (rlV 0) c fullShare f0 ∗ pts (rlV 1) c fullShare f1 ∗ pts (rlV 2) c fullShare f2) ⊢ (iprop(∃ f, pts rlM c fullShare f) : sProp 𝕄) := by
  have h := Ring.pointsTo_sub_blocks_join_exists (ℓ := rlM.view.loc (c : Thread nD τ)) (q := fullShare) (Ix := ℕ) (Val := Elt F) (Name := ℕ) (U := UU) (Lvl := ℕ) (fun r : Fin 3 => (rlV r).view.set) rl_disj rlM.view.set
    (Finset.ext fun i => Finset.mem_biUnion.trans (rl_cover i).symm) f0
  iintro ⟨H0, H1, H2⟩
  iapply (show _ ⊢ _ from h)
  iapply (show iprop((∃ f, pts (rlV 0) c fullShare f) ∗ (∃ f, pts (rlV 1) c fullShare f) ∗ (∃ f, pts (rlV 2) c fullShare f)) ⊢ _ from Entails.of_eq (bigSep_univ_eq_bigSepL [(0 : Fin 3), 1, 2] (by decide) (by decide) (fun r => iprop(∃ f, pts (rlV r) c fullShare f))).symm)
  isplitl [H0]; · iexists f0; iexact H0
  isplitl [H1]; · iexists f1; iexact H1
  iexists f2; iexact H2

/-- A load of a received slot of the sums. -/
theorem ld_ra (c : Dev nD) (r : Fin 3) {α : Type} {Q : α → sProp (MT nD τ sig ℕ (Elt F) ℕ UU ℕ)} {inb} {hl : raM.view.LoadsAt (Rect.unit (s := S3x256x1024) ![r.val, 0, 0] S1x256x1024.size inb).toLoadRect} {q : PosShare TreeShare}
    {f : Buf (Elt F) (raM.view.loc (c : Thread nD τ))} {k : (S1x256x1024.Idx → Elt F .f32) → Prog (TpuEff nD τ sig (Elt F) Λ₀ .tc) α} :
    pts (raV r) c q f ⊢ iprop((∀ v, ⌜shapeCast S256x1024 v shapeCasts_S1x256x1024_S256x1024 = (raV r).view.read (Elt F) f⌝ -∗ pts (raV r) c q f -∗ W c (k v) Q)
      -∗ W c (.op (.load raM (Rect.unit (s := S3x256x1024) ![r.val, 0, 0] S1x256x1024.size inb).toLoadRect hl) k) Q) := by
  iintro H Hk
  iapply (wp_load (defs := defs₀ (F := F)) 𝒱₀ (c : Thread nD τ) none Set.univ (m := raM) (r := (Rect.unit (s := S3x256x1024) ![r.val, 0, 0] S1x256x1024.size inb).toLoadRect) (S := ((raV r).view.set : Finset S3x256x1024.Idx))
    (by rw [show ((raV r).view.set : Finset S3x256x1024.Idx) = (Rect.unit (s := S3x256x1024) ![r.val, 0, 0] S1x256x1024.size (inb_ra r)).set from (View.set_reshape _ _).trans (View.set_slice_whole _ _)]
        intro i hi; obtain ⟨x, hx, rfl⟩ := Finset.mem_map.mp hi; exact hx)) $$ H
  iintro H
  ispecialize Hk $$ %(raM.view.readAt (Elt F) (Rect.unit (s := S3x256x1024) ![r.val, 0, 0] S1x256x1024.size inb).toLoadRect f)
  iapply Hk
  · ipureintro; rfl
  iexact H
theorem ld_rl (c : Dev nD) (r : Fin 3) {α : Type} {Q : α → sProp (MT nD τ sig ℕ (Elt F) ℕ UU ℕ)} {inb} {hl : rlM.view.LoadsAt (Rect.unit (s := S3x256x8) ![r.val, 0, 0] S1x256x8.size inb).toLoadRect} {q : PosShare TreeShare}
    {f : Buf (Elt F) (rlM.view.loc (c : Thread nD τ))} {k : (S1x256x8.Idx → Elt F .f32) → Prog (TpuEff nD τ sig (Elt F) Λ₀ .tc) α} :
    pts (rlV r) c q f ⊢ iprop((∀ v, ⌜shapeCast S256x8 v shapeCasts_S1x256x8_S256x8 = (rlV r).view.read (Elt F) f⌝ -∗ pts (rlV r) c q f -∗ W c (k v) Q)
      -∗ W c (.op (.load rlM (Rect.unit (s := S3x256x8) ![r.val, 0, 0] S1x256x8.size inb).toLoadRect hl) k) Q) := by
  iintro H Hk
  iapply (wp_load (defs := defs₀ (F := F)) 𝒱₀ (c : Thread nD τ) none Set.univ (m := rlM) (r := (Rect.unit (s := S3x256x8) ![r.val, 0, 0] S1x256x8.size inb).toLoadRect) (S := ((rlV r).view.set : Finset S3x256x8.Idx))
    (by rw [show ((rlV r).view.set : Finset S3x256x8.Idx) = (Rect.unit (s := S3x256x8) ![r.val, 0, 0] S1x256x8.size (inb_rl r)).set from (View.set_reshape _ _).trans (View.set_slice_whole _ _)]
        intro i hi; obtain ⟨x, hx, rfl⟩ := Finset.mem_map.mp hi; exact hx)) $$ H
  iintro H
  ispecialize Hk $$ %(rlM.view.readAt (Elt F) (Rect.unit (s := S3x256x8) ![r.val, 0, 0] S1x256x8.size inb).toLoadRect f)
  iapply Hk
  · ipureintro; rfl
  iexact H

end Cert.KernelIdeal.Talk

end
-- ==== Proof.Rounds.lean ====
/-
  The all-reduce of the edge rows: the rules for one round's copies, waits and additions, and the parts of the body that
  run the three rounds.
-/
module

public import proofs.«01_k».proof.Proof.Values

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.ValueIdx (ix2 eq_ix2 idx2_lt0 idx2_lt1)

variable {F : FTy → Type} [FloatOps F]

local notation "𝕄" => MT nD τ sig ℕ (Elt F) ℕ UU ℕ

/-! ## Loads and stores of a whole buffer -/

section Whole

variable {c : Dev nD} {q : PosShare TreeShare}

theorem unit2_emb {n p : ℕ} (h : ∀ a, (![0, 0] : Fin 2 → Nat) a + (![n, p] : Fin 2 → Nat) a ≤ (⟨2, ![n, p]⟩ : Shape).size a) (j : (⟨2, ![n, p]⟩ : Shape).Idx) :
    (Rect.unit (s := ⟨2, ![n, p]⟩) ![0, 0] ![n, p] h).emb j = j := by
  funext a
  refine Fin.ext ?_
  rw [Rect.emb_apply]
  show (![0, 0] : Fin 2 → Nat) a + 1 * (j a).val = (j a).val
  fin_cases a <;> (show 0 + 1 * _ = _; omega)

/-- A load of all of a memref. -/
theorem ld_all {α : Type} {Q : α → sProp (MT nD τ sig ℕ (Elt F) ℕ UU ℕ)} {n p : ℕ} {e : EltTy} {m : Memref sig .tc .vmem ⟨2, ![n, p]⟩ e}
    {h : ∀ a, (![0, 0] : Fin 2 → Nat) a + (![n, p] : Fin 2 → Nat) a ≤ (⟨2, ![n, p]⟩ : Shape).size a}
    {hl : m.view.LoadsAt (Rect.unit (s := ⟨2, ![n, p]⟩) ![0, 0] ![n, p] h).toLoadRect} {f : Buf (Elt F) (m.view.loc (c : Thread nD τ))}
    {k : ((⟨2, ![n, p]⟩ : Shape).Idx → Elt F e) → Prog (TpuEff nD τ sig (Elt F) Λ₀ .tc) α} :
    pts m c q f ⊢ iprop((pts m c q f -∗ W c (k (m.view.read (Elt F) f)) Q)
      -∗ W c (.op (.load m (Rect.unit (s := ⟨2, ![n, p]⟩) ![0, 0] ![n, p] h).toLoadRect hl) k) Q) := by
  have e1 : m.view.readAt (Elt F) (Rect.unit (s := ⟨2, ![n, p]⟩) ![0, 0] ![n, p] h).toLoadRect f = m.view.read (Elt F) f := by
    funext j
    show m.view.read (Elt F) f ((Rect.unit (s := ⟨2, ![n, p]⟩) ![0, 0] ![n, p] h).emb j) = _
    rw [unit2_emb]
  have h1 := ld c (Q := Q) (hl := hl) (q := q) (f := f) (k := k)
  rw [e1] at h1
  exact h1

/-- A store over all of a memref. -/
theorem st_all {α : Type} {Q : α → sProp (MT nD τ sig ℕ (Elt F) ℕ UU ℕ)} {n p : ℕ} {e : EltTy} {m : Memref sig .tc .vmem ⟨2, ![n, p]⟩ e}
    {h : ∀ a, (![0, 0] : Fin 2 → Nat) a + (![n, p] : Fin 2 → Nat) a ≤ (⟨2, ![n, p]⟩ : Shape).size a} {w : (⟨2, ![n, p]⟩ : Shape).Idx → Elt F e}
    {hx : (m.access (Rect.unit (s := ⟨2, ![n, p]⟩) ![0, 0] ![n, p] h)).Stores Finset.univ} {hm}
    {f : Buf (Elt F) (m.view.loc (c : Thread nD τ))} {k : PUnit → Prog (TpuEff nD τ sig (Elt F) Λ₀ .tc) α} :
    pts m c fullShare f ⊢ iprop((∀ g, ⌜m.view.read (Elt F) g = w⌝ -∗ pts m c fullShare g -∗ W c (k ⟨⟩) Q)
      -∗ W c (.op (.store m (Rect.unit (s := ⟨2, ![n, p]⟩) ![0, 0] ![n, p] h) w Finset.univ hx hm) k) Q) := by
  iintro H Hk
  iapply (st c (m := m) (r := Rect.unit (s := ⟨2, ![n, p]⟩) ![0, 0] ![n, p] h) (w := w) (hx := hx) (hm := hm)) $$ H
  iintro H
  ispecialize Hk $$ %((m.access (Rect.unit (s := ⟨2, ![n, p]⟩) ![0, 0] ![n, p] h)).write (Elt F) f w Finset.univ)
  iapply Hk $$ [] H
  ipureintro
  funext j
  have h1 := congrFun ((m.access (Rect.unit (s := ⟨2, ![n, p]⟩) ![0, 0] ![n, p] h)).read_write_univ (Val := Elt F) f w) j
  rw [← h1]
  show _ = m.view.read (Elt F) _ ((Rect.unit (s := ⟨2, ![n, p]⟩) ![0, 0] ![n, p] h).emb j)
  rw [unit2_emb]

end Whole

/-! ## The sums that the stores write -/

theorem pay18_eq (x : Vec F S256x1024 .f32) (v : Vec F S1x256x1024 .f32) : k0_pay18 x v = addf x (shapeCast S256x1024 v shapeCasts_S1x256x1024_S256x1024) := shapeCast_self _ _
theorem pay21_eq (x : Vec F S256x1024 .f32) (v : Vec F S1x256x1024 .f32) : k0_pay21 x v = addf x (shapeCast S256x1024 v shapeCasts_S1x256x1024_S256x1024) := shapeCast_self _ _
theorem pay23_eq (x : Vec F S256x1024 .f32) (v : Vec F S1x256x1024 .f32) : k0_pay23 x v = addf x (shapeCast S256x1024 v shapeCasts_S1x256x1024_S256x1024) := shapeCast_self _ _
theorem pay22_eq (x : Vec F S256x8 .f32) (v : Vec F S1x256x8 .f32) : k0_pay22 x v = addf x (shapeCast S256x8 v shapeCasts_S1x256x8_S256x8) := shapeCast_self _ _
theorem pay24_eq (x : Vec F S256x8 .f32) (v : Vec F S1x256x8 .f32) : k0_pay24 x v = addf x (shapeCast S256x8 v shapeCasts_S1x256x8_S256x8) := shapeCast_self _ _
theorem pay19_eq (x : Vec F S256x8 .f32) (v : Vec F S1x256x8 .f32) : k0_pay19 x v = addf x (shapeCast S256x8 v shapeCasts_S1x256x8_S256x8) := rfl
theorem pay20_eq (x : FVec F S256x8 .f32) : k0_pay20 x = x := shapeCast_self _ _

section Round

variable (va : Dev nD → FVec F S2048x1024 .f32) (vl : Dev nD → FVec F S2048x8 .f32) (κ : GSem nD τ sig → ℕ) (c : Dev nD)

/-- What device c sends its partial sums of round r with: the tokens, and its partner's slots. -/
def sendRes (r : Fin 3) : sProp 𝕄 :=
  iprop(tok c (.xs r) 0 ∗ rch c (.xs r) ∗ tok c (.ls r) 0 ∗ rch c (.ls r) ∗ tok (partner r.val c) (.xr r) 0 ∗ tok (partner r.val c) (.lr r) 0 ∗ slotPay (partner r.val c) r)
/-- What device c waits with in round r. -/
def waitRes (r : Fin 3) : sProp 𝕄 :=
  iprop(pos c (.xs r) 0 ∗ (crd c (.xr r) ∗ pos c (.xr r) 0) ∗ pos c (.ls r) 0 ∗ (crd c (.lr r) ∗ pos c (.lr r) 0))
/-- What device c has when round r is over: its slots, and that the round's cells are done with. -/
def doneRes (r : Fin 3) : sProp 𝕄 :=
  iprop(pos c (.xs r) 1 ∗ pos c (.xr r) 1 ∗ pos c (.ls r) 1 ∗ pos c (.lr r) 1 ∗ (∃ f, pts (raV r) c fullShare f) ∗ ∃ f, pts (rlV r) c fullShare f)
/-- Device c's partial sums and denominators before round r. -/
abbrev part (r : ℕ) : sProp 𝕄 := iprop(pts xaM c fullShare (sums va r c) ∗ pts xlM c fullShare (dens vl r c))

/-- The copy of the partial sums to the partner of round r. -/
theorem xa_send {α : Type} {Q : α → sProp (MT nD τ sig ℕ (Elt F) ℕ UU ℕ)} (r : Fin 3) {p' : Dev nD} (hp : p' = partner r.val c) {sS sR : SemLoc sig} (hS : sS = (Nm.xs r).sem) (hR : sR = (Nm.xr r).sem)
    {hsc : (raV r).view.ref.isScScratch = false} {h1 : xaM.view.WordExact} {h2 : (raV r).view.WordExact} {h3 : DmaTarget.Typed .vmem sR (.remote (p' : Thread nD τ) (raV r) sS hsc)}
    {l : List (Dev nD × Nm)} {k : PUnit → Prog (TpuEff nD τ sig (Elt F) Λ₀ .tc) α} :
    iprop(look va vl κ ∗ pts xaM c fullShare (sums va r.val c) ∗ (∃ f, pts (raV r) (partner r.val c) fullShare f) ∗ ow c ((partner r.val c, .xr r) :: l)
        ∗ tok c (.xs r) 0 ∗ rch c (.xs r) ∗ tok (partner r.val c) (.xr r) 0 ∗ rch (partner r.val c) (.xr r))
      ⊢ iprop(((crd c (.xs r) ∗ ow c l) -∗ W c (k ⟨⟩) Q) -∗ W c (.op (.enqueueDma xaM (.remote (p' : Thread nD τ) (raV r) sS hsc) sR h1 h2 h3) k) Q) := by
  iintro ⟨#HL, Hs, ⟨%f, Hd⟩, HO, Ht1, #Hr1, Ht2, #Hr2⟩ Hk
  iapply (send_step va vl κ c hp (.xs r) (.xr r) rfl rfl hS hR (src := xaM) (dst := raV r) (q := fullShare) (fs := sums va r.val c) (fd := f) (l := l)
      (by subst hR; rfl) rfl rfl (Entails.refl _) ?_) $$ [Hs Hd HO Ht1 Ht2]
  rotate_left
  · isplitr; · iexact HL
    isplitl [Hs]; · iexact Hs
    isplitl [Hd]; · iexact Hd
    isplitl [HO]; · iexact HO
    isplitl [Ht1]; · iexact Ht1
    isplitr; · iexact Hr1
    isplitl [Ht2]; · iexact Ht2
    iexact Hr2
  · iintro H
    iapply Hk $$ H
  · show _ ⊢ iprop(∃ f, pts (raV r) (partner r.val c) fullShare f ∗ ⌜(raV r).view.read (Elt F) f = sums va r.val (partner r.val (partner r.val c))⌝)
    iintro H
    iexists _
    isplitl [H]; · iexact H
    ipureintro
    rw [partner_partner]
    exact (raV r).view.read_write_univ (Val := Elt F) f _

/-- The copy of the partial denominators to the partner of round r. -/
theorem xl_send {α : Type} {Q : α → sProp (MT nD τ sig ℕ (Elt F) ℕ UU ℕ)} (r : Fin 3) {p' : Dev nD} (hp : p' = partner r.val c) {sS sR : SemLoc sig} (hS : sS = (Nm.ls r).sem) (hR : sR = (Nm.lr r).sem)
    {hsc : (rlV r).view.ref.isScScratch = false} {h1 : xlM.view.WordExact} {h2 : (rlV r).view.WordExact} {h3 : DmaTarget.Typed .vmem sR (.remote (p' : Thread nD τ) (rlV r) sS hsc)}
    {l : List (Dev nD × Nm)} {k : PUnit → Prog (TpuEff nD τ sig (Elt F) Λ₀ .tc) α} :
    iprop(look va vl κ ∗ pts xlM c fullShare (dens vl r.val c) ∗ (∃ f, pts (rlV r) (partner r.val c) fullShare f) ∗ ow c ((partner r.val c, .lr r) :: l)
        ∗ tok c (.ls r) 0 ∗ rch c (.ls r) ∗ tok (partner r.val c) (.lr r) 0 ∗ rch (partner r.val c) (.lr r))
      ⊢ iprop(((crd c (.ls r) ∗ ow c l) -∗ W c (k ⟨⟩) Q) -∗ W c (.op (.enqueueDma xlM (.remote (p' : Thread nD τ) (rlV r) sS hsc) sR h1 h2 h3) k) Q) := by
  iintro ⟨#HL, Hs, ⟨%f, Hd⟩, HO, Ht1, #Hr1, Ht2, #Hr2⟩ Hk
  iapply (send_step va vl κ c hp (.ls r) (.lr r) rfl rfl hS hR (src := xlM) (dst := rlV r) (q := fullShare) (fs := dens vl r.val c) (fd := f) (l := l)
      (by subst hR; rfl) rfl rfl (Entails.refl _) ?_) $$ [Hs Hd HO Ht1 Ht2]
  rotate_left
  · isplitr; · iexact HL
    isplitl [Hs]; · iexact Hs
    isplitl [Hd]; · iexact Hd
    isplitl [HO]; · iexact HO
    isplitl [Ht1]; · iexact Ht1
    isplitr; · iexact Hr1
    isplitl [Ht2]; · iexact Ht2
    iexact Hr2
  · iintro H
    iapply Hk $$ H
  · show _ ⊢ iprop(∃ f, pts (rlV r) (partner r.val c) fullShare f ∗ ⌜(rlV r).view.read (Elt F) f = dens vl r.val (partner r.val (partner r.val c))⌝)
    iintro H
    iexists _
    isplitl [H]; · iexact H
    ipureintro
    rw [partner_partner]
    exact (rlV r).view.read_write_univ (Val := Elt F) f _

/-- Both copies of round r. -/
theorem both_send {α : Type} {Q : α → sProp (MT nD τ sig ℕ (Elt F) ℕ UU ℕ)} (r : Fin 3) {p' p'' : Dev nD} (hp : p' = partner r.val c) (hp' : p'' = partner r.val c)
    {sS sR sS' sR' : SemLoc sig} (hS : sS = (Nm.xs r).sem) (hR : sR = (Nm.xr r).sem) (hS' : sS' = (Nm.ls r).sem) (hR' : sR' = (Nm.lr r).sem)
    {hsc : (raV r).view.ref.isScScratch = false} {h1 : xaM.view.WordExact} {h2 : (raV r).view.WordExact} {h3 : DmaTarget.Typed .vmem sR (.remote (p' : Thread nD τ) (raV r) sS hsc)}
    {hsc' : (rlV r).view.ref.isScScratch = false} {h1' : xlM.view.WordExact} {h2' : (rlV r).view.WordExact} {h3' : DmaTarget.Typed .vmem sR' (.remote (p'' : Thread nD τ) (rlV r) sS' hsc')}
    {l : List (Dev nD × Nm)} {k : PUnit → Prog (TpuEff nD τ sig (Elt F) Λ₀ .tc) α} :
    iprop(look va vl κ ∗ part va vl c r.val ∗ sendRes c r ∗ ow c (roundDues c r ++ l))
      ⊢ iprop(((crd c (.xs r) ∗ crd c (.ls r) ∗ ow c l) -∗ W c (k ⟨⟩) Q)
        -∗ W c (.op (.enqueueDma xaM (.remote (p' : Thread nD τ) (raV r) sS hsc) sR h1 h2 h3)
          fun _ => .op (.enqueueDma xlM (.remote (p'' : Thread nD τ) (rlV r) sS' hsc') sR' h1' h2' h3') k) Q) := by
  unfold sendRes slotPay
  iintro ⟨#HL, ⟨Hxa, Hxl⟩, ⟨Ht1, #Hr1, Ht2, #Hr2, Ht3, Ht4, Hd1, Hd2, #Hr3, #Hr4⟩, HO⟩ Hk
  iapply (xa_send va vl κ c r hp hS hR (l := (partner r.val c, .lr r) :: l)) $$ [Hxa Hd1 HO Ht1 Ht3]
  · isplitr; · iexact HL
    isplitl [Hxa]; · iexact Hxa
    isplitl [Hd1]; · iexact Hd1
    isplitl [HO]; · iexact HO
    isplitl [Ht1]; · iexact Ht1
    isplitr; · iexact Hr1
    isplitl [Ht3]; · iexact Ht3
    iexact Hr3
  iintro ⟨Hc1, HO⟩
  iapply (xl_send va vl κ c r hp' hS' hR' (l := l)) $$ [Hxl Hd2 HO Ht2 Ht4]
  · isplitr; · iexact HL
    isplitl [Hxl]; · iexact Hxl
    isplitl [Hd2]; · iexact Hd2
    isplitl [HO]; · iexact HO
    isplitl [Ht2]; · iexact Ht2
    isplitr; · iexact Hr2
    isplitl [Ht4]; · iexact Ht4
    iexact Hr4
  iintro ⟨Hc2, HO⟩
  iapply Hk
  isplitl [Hc1]; · iexact Hc1
  isplitl [Hc2]; · iexact Hc2
  iexact HO

/-- The levels of what is owed after the copies of round r. -/
def above (r : ℕ) (l : List (Dev nD × Nm)) : Prop := ∀ x ∈ l, 2 + r < lvl x.1 x.2 ∧ lvl x.1 x.2 < lvlN

/-- The wait for the partial sums to have been sent. -/
theorem xs_wait {α : Type} {Q : α → sProp (MT nD τ sig ℕ (Elt F) ℕ UU ℕ)} (r : Fin 3) {s : DmaSem sig} (hs : SemLoc.dma s = (Nm.xs r).sem)
    {l : List (Dev nD × Nm)} (hl : above r.val l) {h1 : (raV r).view.WordExact} {h2 : xaM.view.WordExact} {k : PUnit → Prog (TpuEff nD τ sig (Elt F) Λ₀ .tc) α} :
    iprop(look va vl κ ∗ crd c (.xs r) ∗ ow c l ∗ pos c (.xs r) 0)
      ⊢ iprop(((ow c l ∗ pos c (.xs r) 1 ∗ pts xaM c fullShare (sums va r.val c)) -∗ W c (k ⟨⟩) Q) -∗ W c (.op (.waitDma2 s (raV r) xaM h1 h2) k) Q) :=
  wait_step va vl κ c (.xs r) rfl hs (fun x hx => ⟨by have h := (hl x hx).1; show 0 < lvl x.1 x.2; omega, (hl x hx).2⟩) (by show 0 < 20; have := r.isLt; omega) (src := (raV r)) (dst := xaM) rfl

/-- The wait for the partner's partial sums. -/
theorem xr_wait {α : Type} {Q : α → sProp (MT nD τ sig ℕ (Elt F) ℕ UU ℕ)} (r : Fin 3) {s : DmaSem sig} (hs : SemLoc.dma s = (Nm.xr r).sem)
    {l : List (Dev nD × Nm)} (hl : above r.val l) {h1 : xaM.view.WordExact} {h2 : (raV r).view.WordExact} {k : PUnit → Prog (TpuEff nD τ sig (Elt F) Λ₀ .tc) α} :
    iprop(look va vl κ ∗ crd c (.xr r) ∗ ow c l ∗ pos c (.xr r) 0)
      ⊢ iprop(((ow c l ∗ pos c (.xr r) 1 ∗ ∃ f, pts (raV r) c fullShare f ∗ ⌜(raV r).view.read (Elt F) f = sums va r.val (partner r.val c)⌝) -∗ W c (k ⟨⟩) Q) -∗ W c (.op (.waitDma2 s xaM (raV r) h1 h2) k) Q) :=
  wait_step va vl κ c (.xr r) rfl hs (fun x hx => hl x hx) (by show 2 + r.val < 20; have := r.isLt; omega) (src := xaM) (dst := (raV r)) rfl

/-- The wait for the partial denominators to have been sent. -/
theorem ls_wait {α : Type} {Q : α → sProp (MT nD τ sig ℕ (Elt F) ℕ UU ℕ)} (r : Fin 3) {s : DmaSem sig} (hs : SemLoc.dma s = (Nm.ls r).sem)
    {l : List (Dev nD × Nm)} (hl : above r.val l) {h1 : (rlV r).view.WordExact} {h2 : xlM.view.WordExact} {k : PUnit → Prog (TpuEff nD τ sig (Elt F) Λ₀ .tc) α} :
    iprop(look va vl κ ∗ crd c (.ls r) ∗ ow c l ∗ pos c (.ls r) 0)
      ⊢ iprop(((ow c l ∗ pos c (.ls r) 1 ∗ pts xlM c fullShare (dens vl r.val c)) -∗ W c (k ⟨⟩) Q) -∗ W c (.op (.waitDma2 s (rlV r) xlM h1 h2) k) Q) :=
  wait_step va vl κ c (.ls r) rfl hs (fun x hx => ⟨by have h := (hl x hx).1; show 0 < lvl x.1 x.2; omega, (hl x hx).2⟩) (by show 0 < 20; have := r.isLt; omega) (src := (rlV r)) (dst := xlM) rfl

/-- The wait for the partner's partial denominators. -/
theorem lr_wait {α : Type} {Q : α → sProp (MT nD τ sig ℕ (Elt F) ℕ UU ℕ)} (r : Fin 3) {s : DmaSem sig} (hs : SemLoc.dma s = (Nm.lr r).sem)
    {l : List (Dev nD × Nm)} (hl : above r.val l) {h1 : xlM.view.WordExact} {h2 : (rlV r).view.WordExact} {k : PUnit → Prog (TpuEff nD τ sig (Elt F) Λ₀ .tc) α} :
    iprop(look va vl κ ∗ crd c (.lr r) ∗ ow c l ∗ pos c (.lr r) 0)
      ⊢ iprop(((ow c l ∗ pos c (.lr r) 1 ∗ ∃ f, pts (rlV r) c fullShare f ∗ ⌜(rlV r).view.read (Elt F) f = dens vl r.val (partner r.val c)⌝) -∗ W c (k ⟨⟩) Q) -∗ W c (.op (.waitDma2 s xlM (rlV r) h1 h2) k) Q) :=
  wait_step va vl κ c (.lr r) rfl hs (fun x hx => hl x hx) (by show 2 + r.val < 20; have := r.isLt; omega) (src := xlM) (dst := (rlV r)) rfl

/-- The addition of the partner's partial sums. -/
theorem xa_add {α : Type} {Q : α → sProp (MT nD τ sig ℕ (Elt F) ℕ UU ℕ)} (r : Fin 3) {P : Vec F S256x1024 .f32 → Vec F S1x256x1024 .f32 → FVec F S256x1024 .f32}
    (hP : ∀ x v, P x v = addf x (shapeCast S256x1024 v shapeCasts_S1x256x1024_S256x1024))
    {hl1 : xaM.view.LoadsAt (Rect.unit (s := S256x1024) ![0, 0] S256x1024.size inb_S256x1024_S256x1024_0_0).toLoadRect}
    {hl2 : raM.view.LoadsAt (Rect.unit (s := S3x256x1024) ![r.val, 0, 0] S1x256x1024.size (inb_ra r)).toLoadRect}
    {hl3 : xaM.view.LoadsAt (Rect.unit (s := S256x1024) ![0, 0] S256x1024.size inb_S256x1024_S256x1024_0_0).toLoadRect}
    {hx : (xaM.access (Rect.unit (s := S256x1024) ![0, 0] S256x1024.size inb_S256x1024_S256x1024_0_0)).Stores Finset.univ} {hm}
    {k : PUnit → Prog (TpuEff nD τ sig (Elt F) Λ₀ .tc) α} :
    iprop(pts xaM c fullShare (sums va r.val c) ∗ (∃ f, pts (raV r) c fullShare f ∗ ⌜(raV r).view.read (Elt F) f = sums va r.val (partner r.val c)⌝))
      ⊢ iprop(((pts xaM c fullShare (sums va (r.val + 1) c) ∗ ∃ f, pts (raV r) c fullShare f) -∗ W c (k ⟨⟩) Q)
        -∗ W c (.op (.load xaM (Rect.unit (s := S256x1024) ![0, 0] S256x1024.size inb_S256x1024_S256x1024_0_0).toLoadRect hl1) fun x =>
          .op (.load raM (Rect.unit (s := S3x256x1024) ![r.val, 0, 0] S1x256x1024.size (inb_ra r)).toLoadRect hl2) fun v =>
          .op (.load xaM (Rect.unit (s := S256x1024) ![0, 0] S256x1024.size inb_S256x1024_S256x1024_0_0).toLoadRect hl3) fun _ =>
          .op (.store xaM (Rect.unit (s := S256x1024) ![0, 0] S256x1024.size inb_S256x1024_S256x1024_0_0) (P x v) Finset.univ hx hm) k) Q) := by
  iintro ⟨Hx, %f, Hs, %hf⟩ Hk
  iapply ld_all $$ Hx
  iintro Hx
  iapply (ld_ra c r) $$ Hs
  iintro %v %hv Hs
  iapply ld_all $$ Hx
  iintro Hx
  iapply st_all $$ Hx
  iintro %g %hg Hx
  iapply Hk
  have hg' : g = sums va (r.val + 1) c := by
    have h1 : g = P (sums va r.val c) v := hg
    rw [h1, hP, hv, hf]; rfl
  rw [hg']
  isplitl [Hx]; · iexact Hx
  iexists f
  iexact Hs

/-- The addition of the partner's partial denominators. -/
theorem xl_add {α : Type} {Q : α → sProp (MT nD τ sig ℕ (Elt F) ℕ UU ℕ)} (r : Fin 3) {P : Vec F S256x8 .f32 → Vec F S1x256x8 .f32 → FVec F S256x8 .f32}
    (hP : ∀ x v, P x v = addf x (shapeCast S256x8 v shapeCasts_S1x256x8_S256x8))
    {hl1 : xlM.view.LoadsAt (Rect.unit (s := S256x8) ![0, 0] S256x8.size inb_S256x8_S256x8_0_0).toLoadRect}
    {hl2 : rlM.view.LoadsAt (Rect.unit (s := S3x256x8) ![r.val, 0, 0] S1x256x8.size (inb_rl r)).toLoadRect}
    {hl3 : xlM.view.LoadsAt (Rect.unit (s := S256x8) ![0, 0] S256x8.size inb_S256x8_S256x8_0_0).toLoadRect}
    {hx : (xlM.access (Rect.unit (s := S256x8) ![0, 0] S256x8.size inb_S256x8_S256x8_0_0)).Stores Finset.univ} {hm}
    {k : PUnit → Prog (TpuEff nD τ sig (Elt F) Λ₀ .tc) α} :
    iprop(pts xlM c fullShare (dens vl r.val c) ∗ (∃ f, pts (rlV r) c fullShare f ∗ ⌜(rlV r).view.read (Elt F) f = dens vl r.val (partner r.val c)⌝))
      ⊢ iprop(((pts xlM c fullShare (dens vl (r.val + 1) c) ∗ ∃ f, pts (rlV r) c fullShare f) -∗ W c (k ⟨⟩) Q)
        -∗ W c (.op (.load xlM (Rect.unit (s := S256x8) ![0, 0] S256x8.size inb_S256x8_S256x8_0_0).toLoadRect hl1) fun x =>
          .op (.load rlM (Rect.unit (s := S3x256x8) ![r.val, 0, 0] S1x256x8.size (inb_rl r)).toLoadRect hl2) fun v =>
          .op (.load xlM (Rect.unit (s := S256x8) ![0, 0] S256x8.size inb_S256x8_S256x8_0_0).toLoadRect hl3) fun _ =>
          .op (.store xlM (Rect.unit (s := S256x8) ![0, 0] S256x8.size inb_S256x8_S256x8_0_0) (P x v) Finset.univ hx hm) k) Q) := by
  iintro ⟨Hx, %f, Hs, %hf⟩ Hk
  iapply ld_all $$ Hx
  iintro Hx
  iapply (ld_rl c r) $$ Hs
  iintro %v %hv Hs
  iapply ld_all $$ Hx
  iintro Hx
  iapply st_all $$ Hx
  iintro %g %hg Hx
  iapply Hk
  have hg' : g = dens vl (r.val + 1) c := by
    have h1 : g = P (dens vl r.val c) v := hg
    rw [h1, hP, hv, hf]; rfl
  rw [hg']
  isplitl [Hx]; · iexact Hx
  iexists f
  iexact Hs

theorem dev1_eq : (⟨k0_dev1 c, k0_dev1_lt c⟩ : Dev nD) = partner 0 c := by revert c; decide +kernel
theorem dev2_eq : (⟨k0_dev2 c, k0_dev2_lt c⟩ : Dev nD) = partner 1 c := by revert c; decide +kernel
theorem dev3_eq : (⟨k0_dev3 c, k0_dev3_lt c⟩ : Dev nD) = partner 2 c := by revert c; decide +kernel
theorem dev4_eq : (⟨k0_dev4 c, k0_dev4_lt c⟩ : Dev nD) = next 0 c := by revert c; decide +kernel
theorem dev5_eq : (⟨k0_dev5 c, k0_dev5_lt c⟩ : Dev nD) = next 1 c := by revert c; decide +kernel
theorem dev20_eq : (⟨k0_dev20 c, k0_dev20_lt c⟩ : Dev nD) = partner 0 c := by revert c; decide +kernel
theorem dev21_eq : (⟨k0_dev21 c, k0_dev21_lt c⟩ : Dev nD) = partner 0 c := by revert c; decide +kernel
theorem dev22_eq : (⟨k0_dev22 c, k0_dev22_lt c⟩ : Dev nD) = partner 1 c := by revert c; decide +kernel
theorem dev23_eq : (⟨k0_dev23 c, k0_dev23_lt c⟩ : Dev nD) = partner 1 c := by revert c; decide +kernel
theorem dev24_eq : (⟨k0_dev24 c, k0_dev24_lt c⟩ : Dev nD) = partner 2 c := by revert c; decide +kernel
theorem dev25_eq : (⟨k0_dev25 c, k0_dev25_lt c⟩ : Dev nD) = partner 2 c := by revert c; decide +kernel
theorem above0 : above 0 (roundDues c 1 ++ (roundDues c 2 ++ tailDues c)) := by unfold above; revert c; decide +kernel
theorem above1 : above 1 (roundDues c 2 ++ tailDues c) := by unfold above; revert c; decide +kernel
theorem above2 : above 2 (tailDues c) := by unfold above; revert c; decide +kernel

/-- Part 12 of the body: round 0 of the all-reduce up to the sum of the denominators. -/
theorem part12_run (v63 v84 : BitVec 32) {Q : FVec F S256x8 .f32 → sProp (MT nD τ sig ℕ (Elt F) ℕ UU ℕ)} :
    iprop(look va vl κ ∗ ow c (roundDues c 1 ++ (roundDues c 2 ++ tailDues c)) ∗ pts xaM c fullShare (sums va 0 c) ∗ crd c (.xr 0) ∗ pos c (.xr 0) 0 ∗ crd c (.ls 0) ∗ pos c (.ls 0) 0 ∗ crd c (.lr 0) ∗ pos c (.lr 0) 0)
      ⊢ iprop(((ow c (roundDues c 1 ++ (roundDues c 2 ++ tailDues c)) ∗ pos c (.xr 0) 1 ∗ pos c (.ls 0) 1 ∗ pos c (.lr 0) 1 ∗ pts xaM c fullShare (sums va 1 c) ∗ pts xlM c fullShare (dens vl 0 c) ∗ (∃ f, pts (raV 0) c fullShare f) ∗ (∃ f, pts (rlV 0) c fullShare f)) -∗ Q (dens vl 1 c))
        -∗ W c (k0_part12 (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11 v63 v84) Q) := by
  rw [k0_part12_eq_skeleton]
  unfold k0_part12_skel
  simp only [semSignalWord, semWaitWord, Prog.lift, Prog.bind_op, Prog.bind_ret, Prog.pure_eq_ret]
  iintro ⟨#HL, HO, Hxa, Hcxr, Hpxr, Hcls, Hpls, Hclr, Hplr⟩ Hk
  iapply (xr_wait va vl κ c 0 (by rfl) (above0 c)) $$ [Hcxr HO Hpxr]
  · isplitr; · iexact HL
    isplitl [Hcxr]; · iexact Hcxr
    isplitl [HO]; · iexact HO
    iexact Hpxr
  iintro ⟨HO, Hpxr, Hra⟩
  iapply (ls_wait va vl κ c 0 (by rfl) (above0 c)) $$ [Hcls HO Hpls]
  · isplitr; · iexact HL
    isplitl [Hcls]; · iexact Hcls
    isplitl [HO]; · iexact HO
    iexact Hpls
  iintro ⟨HO, Hpls, Hxl⟩
  iapply (lr_wait va vl κ c 0 (by rfl) (above0 c)) $$ [Hclr HO Hplr]
  · isplitr; · iexact HL
    isplitl [Hclr]; · iexact Hclr
    isplitl [HO]; · iexact HO
    iexact Hplr
  iintro ⟨HO, Hplr, Hrl⟩
  iapply (xa_add va c 0 (P := k0_pay18) pay18_eq) $$ [Hxa Hra]
  · isplitl [Hxa]; · iexact Hxa
    iexact Hra
  iintro ⟨Hxa, Hra⟩
  icases Hrl with ⟨%fl, Hrl, %hfl⟩
  iapply ld_all $$ Hxl
  iintro Hxl
  iapply (ld_rl c 0) $$ Hrl
  iintro %v %hv Hrl
  have hd : k0_pay19 (xlM.view.read (Elt F) (dens vl (0 : Fin 3).val c)) v = dens vl 1 c := by rw [pay19_eq, hv, hfl]; rfl
  rw [hd]
  iapply (ret_step c)
  iapply Hk
  isplitl [HO]; · iexact HO
  isplitl [Hpxr]; · iexact Hpxr
  isplitl [Hpls]; · iexact Hpls
  isplitl [Hplr]; · iexact Hplr
  isplitl [Hxa]; · iexact Hxa
  isplitl [Hxl]; · iexact Hxl
  isplitl [Hra]; · iexact Hra
  iexists fl
  iexact Hrl

/-- Part 13 of the body: the copies of round 1. -/
theorem part13_run  {Q : BitVec 32 → sProp (MT nD τ sig ℕ (Elt F) ℕ UU ℕ)} :
    iprop(look va vl κ ∗ ow c (roundDues c 1 ++ (roundDues c 2 ++ tailDues c)) ∗ pts xaM c fullShare (sums va 1 c) ∗ pts xlM c fullShare (dens vl 0 c) ∗ sendRes c 1 ∗ pos c (.xs 1) 0)
      ⊢ iprop(((ow c (roundDues c 2 ++ tailDues c) ∗ pos c (.xs 1) 1 ∗ pts xaM c fullShare (sums va 1 c) ∗ crd c (.ls 1)) -∗ ∀ v, Q v)
        -∗ W c (k0_part13 (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11 c (my c) (dens vl 1 c)) Q) := by
  rw [k0_part13_eq_skeleton]
  unfold k0_part13_skel
  simp only [semSignalWord, semWaitWord, Prog.lift, Prog.bind_op, Prog.bind_ret, Prog.pure_eq_ret]
  iintro ⟨#HL, HO, Hxa, Hxl, Hsr, Hpxs⟩ Hk
  iapply ld_all $$ Hxl
  iintro Hxl
  iapply st_all $$ Hxl
  iintro %g %hg Hxl
  have hg' : g = dens vl 1 c := by have h1 : g = k0_pay20 (dens vl 1 c) := hg; rw [h1, pay20_eq]
  rw [hg']
  iapply (both_send va vl κ c 1 (p' := (⟨k0_dev22 c, k0_dev22_lt c⟩ : Dev nD)) (p'' := (⟨k0_dev23 c, k0_dev23_lt c⟩ : Dev nD)) (dev22_eq c) (dev23_eq c) (by rfl) (by rfl) (by rfl) (by rfl) (l := roundDues c 2 ++ tailDues c)) $$ [Hxa Hxl Hsr HO]
  · isplitr; · iexact HL
    isplitl [Hxa Hxl]
    · isplitl [Hxa]; · iexact Hxa
      iexact Hxl
    isplitl [Hsr]; · iexact Hsr
    iexact HO
  iintro ⟨Hcxs, Hcls, HO⟩
  iapply (xs_wait va vl κ c 1 (by rfl) (above1 c)) $$ [Hcxs HO Hpxs]
  · isplitr; · iexact HL
    isplitl [Hcxs]; · iexact Hcxs
    isplitl [HO]; · iexact HO
    iexact Hpxs
  iintro ⟨HO, Hpxs, Hxa⟩
  iapply (ret_step c)
  ispecialize Hk $$ [HO Hpxs Hxa Hcls]
  · isplitl [HO]; · iexact HO
    isplitl [Hpxs]; · iexact Hpxs
    isplitl [Hxa]; · iexact Hxa
    iexact Hcls
  ispecialize Hk $$ %(Scalar.xori (my c) 3#32)
  iexact Hk

/-- Part 14 of the body: the waits and additions of round 1. -/
theorem part14_run (v114 : BitVec 32) {Q : BitVec 32 → sProp (MT nD τ sig ℕ (Elt F) ℕ UU ℕ)} :
    iprop(look va vl κ ∗ ow c (roundDues c 2 ++ tailDues c) ∗ pts xaM c fullShare (sums va 1 c) ∗ crd c (.xr 1) ∗ pos c (.xr 1) 0 ∗ crd c (.ls 1) ∗ pos c (.ls 1) 0 ∗ crd c (.lr 1) ∗ pos c (.lr 1) 0)
      ⊢ iprop(((ow c (roundDues c 2 ++ tailDues c) ∗ pos c (.xr 1) 1 ∗ pos c (.ls 1) 1 ∗ pos c (.lr 1) 1 ∗ pts xaM c fullShare (sums va 2 c) ∗ pts xlM c fullShare (dens vl 2 c) ∗ (∃ f, pts (raV 1) c fullShare f) ∗ (∃ f, pts (rlV 1) c fullShare f)) -∗ ∀ v, Q v)
        -∗ W c (k0_part14 (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11 (my c) v114) Q) := by
  rw [k0_part14_eq_skeleton]
  unfold k0_part14_skel
  simp only [semSignalWord, semWaitWord, Prog.lift, Prog.bind_op, Prog.bind_ret, Prog.pure_eq_ret]
  iintro ⟨#HL, HO, Hxa, Hcxr, Hpxr, Hcls, Hpls, Hclr, Hplr⟩ Hk
  iapply (xr_wait va vl κ c 1 (by rfl) (above1 c)) $$ [Hcxr HO Hpxr]
  · isplitr; · iexact HL
    isplitl [Hcxr]; · iexact Hcxr
    isplitl [HO]; · iexact HO
    iexact Hpxr
  iintro ⟨HO, Hpxr, Hra⟩
  iapply (ls_wait va vl κ c 1 (by rfl) (above1 c)) $$ [Hcls HO Hpls]
  · isplitr; · iexact HL
    isplitl [Hcls]; · iexact Hcls
    isplitl [HO]; · iexact HO
    iexact Hpls
  iintro ⟨HO, Hpls, Hxl⟩
  iapply (lr_wait va vl κ c 1 (by rfl) (above1 c)) $$ [Hclr HO Hplr]
  · isplitr; · iexact HL
    isplitl [Hclr]; · iexact Hclr
    isplitl [HO]; · iexact HO
    iexact Hplr
  iintro ⟨HO, Hplr, Hrl⟩
  iapply (xa_add va c 1 (P := k0_pay21) pay21_eq) $$ [Hxa Hra]
  · isplitl [Hxa]; · iexact Hxa
    iexact Hra
  iintro ⟨Hxa, Hra⟩
  iapply (xl_add vl c 1 (P := k0_pay22) pay22_eq) $$ [Hxl Hrl]
  · isplitl [Hxl]; · iexact Hxl
    iexact Hrl
  iintro ⟨Hxl, Hrl⟩
  iapply (ret_step c)
  ispecialize Hk $$ [HO Hpxr Hpls Hplr Hxa Hxl Hra Hrl]
  · isplitl [HO]; · iexact HO
    isplitl [Hpxr]; · iexact Hpxr
    isplitl [Hpls]; · iexact Hpls
    isplitl [Hplr]; · iexact Hplr
    isplitl [Hxa]; · iexact Hxa
    isplitl [Hxl]; · iexact Hxl
    isplitl [Hra]; · iexact Hra
    iexact Hrl
  ispecialize Hk $$ %(Scalar.xori (my c) 4#32)
  iexact Hk

/-- Part 15 of the body: the copies of round 2. -/
theorem part15_run (v165 : BitVec 32) {Q : PUnit → sProp (MT nD τ sig ℕ (Elt F) ℕ UU ℕ)} :
    iprop(look va vl κ ∗ ow c (roundDues c 2 ++ tailDues c) ∗ pts xaM c fullShare (sums va 2 c) ∗ pts xlM c fullShare (dens vl 2 c) ∗ sendRes c 2 ∗ pos c (.xs 2) 0 ∗ crd c (.xr 2) ∗ pos c (.xr 2) 0)
      ⊢ iprop(((ow c (tailDues c) ∗ pos c (.xs 2) 1 ∗ pos c (.xr 2) 1 ∗ pts xaM c fullShare (sums va 2 c) ∗ (∃ f, pts (raV 2) c fullShare f ∗ ⌜(raV 2).view.read (Elt F) f = sums va 2 (partner 2 c)⌝) ∗ crd c (.ls 2)) -∗ Q ⟨⟩)
        -∗ W c (k0_part15 (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11 c v165) Q) := by
  rw [k0_part15_eq_skeleton]
  unfold k0_part15_skel
  simp only [semSignalWord, semWaitWord, Prog.lift, Prog.bind_op, Prog.bind_ret, Prog.pure_eq_ret]
  iintro ⟨#HL, HO, Hxa, Hxl, Hsr, Hpxs, Hcxr, Hpxr⟩ Hk
  iapply (both_send va vl κ c 2 (p' := (⟨k0_dev24 c, k0_dev24_lt c⟩ : Dev nD)) (p'' := (⟨k0_dev25 c, k0_dev25_lt c⟩ : Dev nD)) (dev24_eq c) (dev25_eq c) (by rfl) (by rfl) (by rfl) (by rfl) (l := tailDues c)) $$ [Hxa Hxl Hsr HO]
  · isplitr; · iexact HL
    isplitl [Hxa Hxl]
    · isplitl [Hxa]; · iexact Hxa
      iexact Hxl
    isplitl [Hsr]; · iexact Hsr
    iexact HO
  iintro ⟨Hcxs, Hcls, HO⟩
  iapply (xs_wait va vl κ c 2 (by rfl) (above2 c)) $$ [Hcxs HO Hpxs]
  · isplitr; · iexact HL
    isplitl [Hcxs]; · iexact Hcxs
    isplitl [HO]; · iexact HO
    iexact Hpxs
  iintro ⟨HO, Hpxs, Hxa⟩
  iapply (xr_wait va vl κ c 2 (by rfl) (above2 c)) $$ [Hcxr HO Hpxr]
  · isplitr; · iexact HL
    isplitl [Hcxr]; · iexact Hcxr
    isplitl [HO]; · iexact HO
    iexact Hpxr
  iintro ⟨HO, Hpxr, Hra⟩
  iapply (ret_step c)
  iapply Hk
  isplitl [HO]; · iexact HO
  isplitl [Hpxs]; · iexact Hpxs
  isplitl [Hpxr]; · iexact Hpxr
  isplitl [Hxa]; · iexact Hxa
  isplitl [Hra]; · iexact Hra
  iexact Hcls

/-- Part 16 of the body: the waits and additions of round 2. -/
theorem part16_run (v165 : BitVec 32) {Q : BitVec 32 → sProp (MT nD τ sig ℕ (Elt F) ℕ UU ℕ)} :
    iprop(look va vl κ ∗ ow c (tailDues c) ∗ pts xaM c fullShare (sums va 2 c) ∗ (∃ f, pts (raV 2) c fullShare f ∗ ⌜(raV 2).view.read (Elt F) f = sums va 2 (partner 2 c)⌝) ∗ crd c (.ls 2) ∗ pos c (.ls 2) 0 ∗ crd c (.lr 2) ∗ pos c (.lr 2) 0)
      ⊢ iprop(((ow c (tailDues c) ∗ pos c (.ls 2) 1 ∗ pos c (.lr 2) 1 ∗ pts xaM c fullShare (sums va 3 c) ∗ pts xlM c fullShare (dens vl 3 c) ∗ (∃ f, pts (raV 2) c fullShare f) ∗ (∃ f, pts (rlV 2) c fullShare f)) -∗ Q (Scalar.extui (Scalar.andi (Scalar.cmpi .sge (my c) 1#32) (Scalar.cmpi .sle (my c) 4#32))))
        -∗ W c (k0_part16 (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11 (my c) v165) Q) := by
  rw [k0_part16_eq_skeleton]
  unfold k0_part16_skel
  simp only [semSignalWord, semWaitWord, Prog.lift, Prog.bind_op, Prog.bind_ret, Prog.pure_eq_ret]
  iintro ⟨#HL, HO, Hxa, Hra, Hcls, Hpls, Hclr, Hplr⟩ Hk
  iapply (ls_wait va vl κ c 2 (by rfl) (above2 c)) $$ [Hcls HO Hpls]
  · isplitr; · iexact HL
    isplitl [Hcls]; · iexact Hcls
    isplitl [HO]; · iexact HO
    iexact Hpls
  iintro ⟨HO, Hpls, Hxl⟩
  iapply (lr_wait va vl κ c 2 (by rfl) (above2 c)) $$ [Hclr HO Hplr]
  · isplitr; · iexact HL
    isplitl [Hclr]; · iexact Hclr
    isplitl [HO]; · iexact HO
    iexact Hplr
  iintro ⟨HO, Hplr, Hrl⟩
  iapply (xa_add va c 2 (P := k0_pay23) pay23_eq) $$ [Hxa Hra]
  · isplitl [Hxa]; · iexact Hxa
    iexact Hra
  iintro ⟨Hxa, Hra⟩
  iapply (xl_add vl c 2 (P := k0_pay24) pay24_eq) $$ [Hxl Hrl]
  · isplitl [Hxl]; · iexact Hxl
    iexact Hrl
  iintro ⟨Hxl, Hrl⟩
  iapply (ret_step c)
  iapply Hk
  isplitl [HO]; · iexact HO
  isplitl [Hpls]; · iexact Hpls
  isplitl [Hplr]; · iexact Hplr
  isplitl [Hxa]; · iexact Hxa
  isplitl [Hxl]; · iexact Hxl
  isplitl [Hra]; · iexact Hra
  iexact Hrl

end Round

end Cert.KernelIdeal.Talk

end
-- ==== Proof.Barrier.lean ====
/-
  The barrier, and the copy of the edge rows into the buffers that the all-reduce adds up in.
-/
module

public import proofs.«01_k».proof.Proof.Rounds

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.ValueIdx (ix2 eq_ix2 idx2_lt0 idx2_lt1)

variable {F : FTy → Type} [FloatOps F]

local notation "𝕄" => MT nD τ sig ℕ (Elt F) ℕ UU ℕ

section Barrier

variable (va : Dev nD → FVec F S2048x1024 .f32) (vl : Dev nD → FVec F S2048x8 .f32) (κ : GSem nD τ sig → ℕ) (c : Dev nD)

/-- The number of the device to the right, as the body computes it. -/
abbrev rgt (c : Dev nD) : BitVec 32 := Scalar.select (Scalar.andi (Scalar.xori (Scalar.cmpi .slt (Scalar.remsi (Scalar.addi (my c) 1#32) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (Scalar.addi (my c) 1#32) (Scalar.select (Scalar.cmpi .eq 8#32 0#32) 1#32 8#32)) 0#32)) (Scalar.addi (Scalar.remsi (Scalar.addi (my c) 1#32) (Scalar.select (Scalar.cmpi .eq 8#32 0#32) 1#32 8#32)) (Scalar.select (Scalar.cmpi .eq 8#32 0#32) 1#32 8#32)) (Scalar.remsi (Scalar.addi (my c) 1#32) (Scalar.select (Scalar.cmpi .eq 8#32 0#32) 1#32 8#32))
/-- The number of the device to the left, as the body computes it. -/
abbrev lft (c : Dev nD) : BitVec 32 := Scalar.select (Scalar.andi (Scalar.xori (Scalar.cmpi .slt (Scalar.remsi (Scalar.subi (Scalar.addi (my c) 8#32) 1#32) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (Scalar.subi (Scalar.addi (my c) 8#32) 1#32) (Scalar.select (Scalar.cmpi .eq 8#32 0#32) 1#32 8#32)) 0#32)) (Scalar.addi (Scalar.remsi (Scalar.subi (Scalar.addi (my c) 8#32) 1#32) (Scalar.select (Scalar.cmpi .eq 8#32 0#32) 1#32 8#32)) (Scalar.select (Scalar.cmpi .eq 8#32 0#32) 1#32 8#32)) (Scalar.remsi (Scalar.subi (Scalar.addi (my c) 8#32) 1#32) (Scalar.select (Scalar.cmpi .eq 8#32 0#32) 1#32 8#32))

/-- A device reads its own number. -/
theorem dev_step {α : Type} {Q : α → sProp (MT nD τ sig ℕ (Elt F) ℕ UU ℕ)} {k : Dev nD → Prog (TpuEff nD τ sig (Elt F) Λ₀ .tc) α} :
    W c (k c) Q ⊢ W c (.op .deviceId k) Q := by
  show _ ⊢ wp _ _ _ _ _
  rw [wp_deviceId]

/-- Part 9 of the body: the device's number, and the barrier signal to the partner of round 0. -/
theorem part9_run {l : List (Dev nD × Nm)} {Q : (Σ' (d0 : Dev nD) (v2 : BitVec 32) (v13 : BitVec 32) (v25 : BitVec 32) (v26 : Sems sig S_) (v29 : BitVec 32), BitVec 32) → sProp (MT nD τ sig ℕ (Elt F) ℕ UU ℕ)} :
    iprop(look va vl κ ∗ ow c ((partner 0 c, .bar) :: l) ∗ tok (partner 0 c) .bar 0 ∗ barPay (partner 0 c) 0 ∗ rch (partner 0 c) .bar)
      ⊢ iprop(((ow c l) -∗ Q ⟨c, my c, rgt c, lft c, SemArray.scalar (sig.barrier 0 rfl), Scalar.xori (my c) 4#32, Scalar.muli (Scalar.xori (my c) 3#32) 1#32⟩)
        -∗ W c (k0_part9 (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11 ) Q) := by
  rw [k0_part9_eq_skeleton]
  unfold k0_part9_skel
  simp only [semSignalWord, semWaitWord, Prog.lift, Prog.bind_op, Prog.bind_ret, Prog.pure_eq_ret]
  iintro ⟨#HL, HO, Ht, Hb, #Hr⟩ Hk
  iapply (dev_step c)
  iapply (sig_step va vl κ c (p := partner 0 c) (p' := (⟨k0_dev1 c, k0_dev1_lt c⟩ : Dev nD)) (dev1_eq c) 0) $$ [HO Ht Hb]
  · isplitr; · iexact HL
    isplitl [HO]; · iexact HO
    isplitl [Ht]; · iexact Ht
    isplitl [Hb]; · iexact Hb
    iexact Hr
  iintro HO
  iapply (ret_step c)
  ispecialize Hk $$ HO
  iapply Hk

theorem pay13_apply (x : Vec F S128x1024 .f32) (j : S128x1024.Idx) : k0_pay13 x j = x j := congrFun (pay13_eq x) j
theorem pay14_apply (x : Vec F S128x1024 .f32) (j : S128x1024.Idx) : k0_pay14 x j = x j := congrFun (pay14_eq x) j
theorem pay15_apply (x : Vec F S128x8 .f32) (j : S128x8.Idx) : k0_pay15 x j = x j := congrFun (pay15_eq x) j

/-- The two stores of edge rows cover them all. -/
theorem edge_cover {n : ℕ} : ∀ x : (⟨2, ![256, n]⟩ : Shape).Idx, has [(128, 0, 128, n), (0, 0, 128, n)] x := by
  intro x
  have h0 := idx2_lt0 x
  have h1 := idx2_lt1 x
  by_cases h : (x 0).val < 128
  · exact ⟨(0, 0, 128, n), by simp, Nat.zero_le _, by show _ < 0 + 128; omega, Nat.zero_le _, by show _ < 0 + n; omega⟩
  · exact ⟨(128, 0, 128, n), by simp, by show 128 ≤ _; omega, by show _ < 128 + 128; omega, Nat.zero_le _, by show _ < 0 + n; omega⟩

set_option maxHeartbeats 1000000 in
/-- Part 10 of the body: the other barrier signals, the barrier's wait, and the copy of the edge rows. -/
theorem part10_run {l : List (Dev nD × Nm)} (hl : ∀ x ∈ l, 1 < lvl x.1 x.2 ∧ lvl x.1 x.2 < lvlN) (v13 v25 v29 v32 : BitVec 32) {Q : FVec F S128x8 .f32 → sProp (MT nD τ sig ℕ (Elt F) ℕ UU ℕ)} :
    iprop(look va vl κ ∗ ow c ((partner 1 c, .bar) :: (partner 2 c, .bar) :: (next 0 c, .bar) :: (next 1 c, .bar) :: l) ∗ tok (partner 1 c) .bar 1 ∗ barPay (partner 1 c) 1 ∗ rch (partner 1 c) .bar ∗ tok (partner 2 c) .bar 2 ∗ barPay (partner 2 c) 2 ∗ rch (partner 2 c) .bar ∗ tok (next 0 c) .bar 3 ∗ barPay (next 0 c) 3 ∗ rch (next 0 c) .bar ∗ tok (next 1 c) .bar 4 ∗ barPay (next 1 c) 4 ∗ rch (next 1 c) .bar ∗ cred (tallyAt (cell c .bar) 1 5) ∗ pos c .bar 0 ∗ pts accM c fullShare (va c) ∗ pts lM c fullShare (vl c) ∗ (∃ f, pts xaM c fullShare f) ∗ (∃ f, pts xlM c fullShare f))
      ⊢ iprop(((ow c l ∗ pos c .bar 1 ∗ barPay c 0 ∗ barPay c 1 ∗ barPay c 2 ∗ barPay c 3 ∗ barPay c 4 ∗ pts accM c fullShare (va c) ∗ pts lM c fullShare (vl c) ∗ pts xaM c fullShare (sums va 0 c) ∗ filled xlM c (dens vl 0 c) (has [(0, 0, 128, 8)])) -∗ Q (k0_pay16 (lM.view.readAt (Elt F) (Rect.unit (s := S2048x8) ![1920, 0] S128x8.size inb_S2048x8_S128x8_1920_0).toLoadRect (vl c))))
        -∗ W c (k0_part10 (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11 c v13 v25 (SemArray.scalar (sig.barrier 0 rfl)) v29 v32) Q) := by
  rw [k0_part10_eq_skeleton]
  unfold k0_part10_skel
  simp only [semSignalWord, semWaitWord, Prog.lift, Prog.bind_op, Prog.bind_ret, Prog.pure_eq_ret]
  iintro ⟨#HL, HO, Ht1, Hb1, #Hr1, Ht2, Hb2, #Hr2, Ht3, Hb3, #Hr3, Ht4, Hb4, #Hr4, Hcb, Hpb, Hacc, Hl, ⟨%f1, Hxa⟩, ⟨%f2, Hxl⟩⟩ Hk
  iapply (sig_step va vl κ c (p := partner 1 c) (p' := (⟨k0_dev2 c, k0_dev2_lt c⟩ : Dev nD)) (dev2_eq c) 1) $$ [HO Ht1 Hb1]
  · isplitr; · iexact HL
    isplitl [HO]; · iexact HO
    isplitl [Ht1]; · iexact Ht1
    isplitl [Hb1]; · iexact Hb1
    iexact Hr1
  iintro HO
  iapply (sig_step va vl κ c (p := partner 2 c) (p' := (⟨k0_dev3 c, k0_dev3_lt c⟩ : Dev nD)) (dev3_eq c) 2) $$ [HO Ht2 Hb2]
  · isplitr; · iexact HL
    isplitl [HO]; · iexact HO
    isplitl [Ht2]; · iexact Ht2
    isplitl [Hb2]; · iexact Hb2
    iexact Hr2
  iintro HO
  iapply (sig_step va vl κ c (p := next 0 c) (p' := (⟨k0_dev4 c, k0_dev4_lt c⟩ : Dev nD)) (dev4_eq c) 3) $$ [HO Ht3 Hb3]
  · isplitr; · iexact HL
    isplitl [HO]; · iexact HO
    isplitl [Ht3]; · iexact Ht3
    isplitl [Hb3]; · iexact Hb3
    iexact Hr3
  iintro HO
  iapply (sig_step va vl κ c (p := next 1 c) (p' := (⟨k0_dev5 c, k0_dev5_lt c⟩ : Dev nD)) (dev5_eq c) 4) $$ [HO Ht4 Hb4]
  · isplitr; · iexact HL
    isplitl [HO]; · iexact HO
    isplitl [Ht4]; · iexact Ht4
    isplitl [Hb4]; · iexact Hb4
    iexact Hr4
  iintro HO
  iapply (barWait_step va vl κ c hl) $$ [Hcb HO Hpb]
  · isplitr; · iexact HL
    isplitl [Hcb]; · iexact Hcb
    isplitl [HO]; · iexact HO
    iexact Hpb
  iintro ⟨HO, Hpb, Hw0, Hw1, Hw2, Hw3, Hw4⟩
  ihave Hxa := (filled_empty (T := sums va 0 c) f1) $$ Hxa
  ihave Hxl := (filled_empty (T := dens vl 0 c) f2) $$ Hxl
  iapply (ld c) $$ Hacc
  iintro Hacc
  iapply filled_ld $$ Hxa
  iintro %d1 Hxa
  iapply (filled_blk (w := k0_pay13 (accM.view.readAt (Elt F) (Rect.unit (s := S2048x1024) ![0, 0] S128x1024.size inb_S2048x1024_S128x1024_0_0).toLoadRect (va c))) (fun j => (pay13_apply _ j).trans (edge_value (va c) 0 0 (Or.inl ⟨rfl, rfl⟩) j))) $$ Hxa
  iintro Hxa
  iapply (ld c) $$ Hacc
  iintro Hacc
  iapply filled_ld $$ Hxa
  iintro %d2 Hxa
  iapply (filled_blk (w := k0_pay14 (accM.view.readAt (Elt F) (Rect.unit (s := S2048x1024) ![1920, 0] S128x1024.size inb_S2048x1024_S128x1024_1920_0).toLoadRect (va c))) (fun j => (pay14_apply _ j).trans (edge_value (va c) 1920 128 (Or.inr ⟨rfl, rfl⟩) j))) $$ Hxa
  iintro Hxa
  iapply (ld c) $$ Hl
  iintro Hl
  iapply filled_ld $$ Hxl
  iintro %d3 Hxl
  iapply (filled_blk (w := k0_pay15 (lM.view.readAt (Elt F) (Rect.unit (s := S2048x8) ![0, 0] S128x8.size inb_S2048x8_S128x8_0_0).toLoadRect (vl c))) (fun j => (pay15_apply _ j).trans (edge_value (vl c) 0 0 (Or.inl ⟨rfl, rfl⟩) j))) $$ Hxl
  iintro Hxl
  iapply (ld c) $$ Hl
  iintro Hl
  ihave Hf := (filled_all (m := xaM) (T := sums va 0 c) edge_cover) $$ Hxa
  icases Hf with ⟨%g, Hxa, %hg⟩
  have hg' : g = sums va 0 c := hg
  rw [hg']
  iapply (ret_step c)
  iapply Hk
  isplitl [HO]; · iexact HO
  isplitl [Hpb]; · iexact Hpb
  isplitl [Hw0]; · iexact Hw0
  isplitl [Hw1]; · iexact Hw1
  isplitl [Hw2]; · iexact Hw2
  isplitl [Hw3]; · iexact Hw3
  isplitl [Hw4]; · iexact Hw4
  isplitl [Hacc]; · iexact Hacc
  isplitl [Hl]; · iexact Hl
  isplitl [Hxa]; · iexact Hxa
  iexact Hxl

end Barrier

end Cert.KernelIdeal.Talk

end
-- ==== Proof.Head.lean ====
/-
  The start of the relay on device 0: it divides the middle rows, rounds them, and sends the seven chunks both ways.
-/
module

public import proofs.«01_k».proof.Proof.Barrier

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.ValueIdx (ix2 eq_ix2 idx2_lt0 idx2_lt1)

variable {F : FTy → Type} [FloatOps F]

local notation "𝕄" => MT nD τ sig ℕ (Elt F) ℕ UU ℕ

section Head

variable (va : Dev nD → FVec F S2048x1024 .f32) (vl : Dev nD → FVec F S2048x8 .f32) (κ : GSem nD τ sig → ℕ) (c : Dev nD)

/-- What device c sends chunk k with, in direction d: the tokens, and the receiver's buffer. -/
def sendTok (d : Fin 2) (k : Fin 7) : sProp 𝕄 :=
  iprop(tok c (.cs d k) 0 ∗ rch c (.cs d k) ∗ tok (next d c) (.cr d k) 0 ∗ rch (next d c) (.cr d k) ∗ ∃ f, pts (bcV k) (next d c) fullShare f)

/-- The payments for a list of chunks and directions. -/
def started (l : List (Fin 7 × Fin 2)) : List (Dev nD × Nm) := l.map fun x => (next x.2 c, .cr x.2 x.1)

theorem headDues_eq (hc : c = 0) : headDues c = started c allChunks := by subst hc; decide +kernel
theorem headDues_ne (hc : ¬ c = 0) : headDues c = [] := if_neg hc
theorem cond1_iff : k0_cond1 c = 1#1 ↔ c = 0 := by revert c; decide +kernel

/-- What device c, if it is device 0, starts the relay with. -/
def headIn : sProp 𝕄 :=
  if c = 0 then iprop((∃ f, pts bcM c fullShare f) ∗ (seven fun k => sendTok c 0 k) ∗ seven fun k => sendTok c 1 k) else iprop(emp)
/-- What device c, if it is device 0, has once the relay is started. -/
def headOut : sProp 𝕄 :=
  if c = 0 then iprop((seven fun k => pts (bcV k) c fullShare.right.right (mid va vl)) ∗ (seven fun k => crd c (.cs 0 k)) ∗ seven fun k => crd c (.cs 1 k)) else iprop(emp)

/-- Device 0's copy of chunk k in direction d. -/
theorem head_send (hc : c = 0) {α : Type} {Q : α → sProp (MT nD τ sig ℕ (Elt F) ℕ UU ℕ)} (d : Fin 2) (k : Fin 7) (l : List (Fin 7 × Fin 2)) (l' : List (Dev nD × Nm))
    {p' : Dev nD} (hp' : p' = next d c) {sS sR : SemLoc sig} (hS : sS = (Nm.cs d k).sem) (hR : sR = (Nm.cr d k).sem)
    {hsc : (bcV k).view.ref.isScScratch = false} {h1 : (bcV k).view.WordExact} {h2 : (bcV k).view.WordExact}
    {h3 : DmaTarget.Typed .vmem sR (.remote (p' : Thread nD τ) (bcV k) sS hsc)} {J : PUnit → Prog (TpuEff nD τ sig (Elt F) Λ₀ .tc) α} :
    iprop(look va vl κ ∗ pts (bcV k) c (lent d c) (mid va vl) ∗ sendTok c d k ∗ ow c (started c ((k, d) :: l) ++ l'))
      ⊢ iprop(((crd c (.cs d k) ∗ ow c (started c l ++ l')) -∗ W c (J ⟨⟩) Q)
        -∗ W c (.op (.enqueueDma (bcV k) (.remote (p' : Thread nD τ) (bcV k) sS hsc) sR h1 h2 h3) J) Q) := by
  have hs : snd d c = true := by subst hc; exact (by decide +kernel : ∀ d, snd d (0 : Dev nD) = true) d
  unfold sendTok
  iintro ⟨#HL, Hb, ⟨Ht1, #Hr1, Ht2, #Hr2, %f, Hd⟩, HO⟩ Hk
  iapply (send_step va vl κ c hp' (.cs d k) (.cr d k) (by simp only [dutiesOf, hs, if_true]) (by simp only [dutiesOf, rcv_next, hs, if_true]) hS hR
      (src := bcV k) (dst := bcV k) (q := lent d c) (fs := mid va vl) (fd := f) (l := started c l ++ l') (by subst hR; rfl) rfl rfl
      (Entails.refl _) (chunk_landed va vl k (next d c) f)) $$ [Hb Hd HO Ht1 Ht2]
  · isplitr; · iexact HL
    isplitl [Hb]; · iexact Hb
    isplitl [Hd]; · iexact Hd
    isplitl [HO]; · iexact HO
    isplitl [Ht1]; · iexact Ht1
    isplitr; · iexact Hr1
    isplitl [Ht2]; · iexact Ht2
    iexact Hr2
  iintro H
  iapply Hk $$ H

theorem lent_one (hc : c = 0) : lent 1 c = fullShare.right.left := by unfold lent; rw [if_neg (by decide), if_pos hc]

/-- The middle rows, once complete, are split by chunk and by share: two shares to lend and one to keep. -/
theorem bc_ready (hc : c = 0) : filled bcM c (mid va vl) (has [(0, 896, 1792, 128), (0, 768, 1792, 128), (0, 640, 1792, 128), (0, 512, 1792, 128), (0, 384, 1792, 128), (0, 256, 1792, 128), (0, 128, 1792, 128), (0, 0, 1792, 128)])
    ⊢ iprop((seven fun k => pts (bcV k) c (lent 0 c) (mid va vl)) ∗ (seven fun k => pts (bcV k) c (lent 1 c) (mid va vl)) ∗ seven fun k => pts (bcV k) c fullShare.right.right (mid va vl)) := by
  have hcov : ∀ x : S1792x1024.Idx, has [(0, 896, 1792, 128), (0, 768, 1792, 128), (0, 640, 1792, 128), (0, 512, 1792, 128), (0, 384, 1792, 128), (0, 256, 1792, 128), (0, 128, 1792, 128), (0, 0, 1792, 128)] x := by
    intro x
    have h0 := idx2_lt0 x
    have h1 := idx2_lt1 x
    have hm : (x 1).val / 128 < 8 := by omega
    have hb : blk (0, 128 * ((x 1).val / 128), 1792, 128) x := by
      refine ⟨Nat.zero_le _, ?_, ?_, ?_⟩
      · show _ < 0 + 1792; omega
      · show 128 * _ ≤ _; omega
      · show _ < 128 * _ + 128; omega
    refine ⟨_, ?_, hb⟩
    generalize (x 1).val / 128 = n at hm
    interval_cases n <;> simp
  iintro H
  ihave H := (filled_all (m := bcM) (T := mid va vl) hcov) $$ H
  icases H with ⟨%g, Hb, %hg⟩
  have hg' : g = mid va vl := hg
  subst hg'
  rw [lent_one c hc, show lent 0 c = fullShare.left from rfl, ← bc_split, ← bc_split, ← bc_split]
  icases (pointsTo_share (PosShare.mem_left_op_right fullShare)).1 $$ Hb with ⟨Hbl, Hbr⟩
  icases (pointsTo_share (PosShare.mem_left_op_right fullShare.right)).1 $$ Hbr with ⟨Hbrl, Hbrr⟩
  isplitl [Hbl]; · iexact Hbl
  isplitl [Hbrl]; · iexact Hbrl
  iexact Hbrr

/-- Part 1 of the body: heads 0 to 2 of the middle rows. -/
theorem part1_run (hc : c = 0) {Q : (Σ' (v491 : FVec F S1792x128 .f32), FVec F S1792x128 .f32) → sProp (MT nD τ sig ℕ (Elt F) ℕ UU ℕ)} :
    iprop(pts accM c fullShare (va c) ∗ pts lM c fullShare (vl c) ∗ filled bcM c (mid va vl) (has []))
      ⊢ iprop(((pts accM c fullShare (va c) ∗ pts lM c fullShare (vl c) ∗ filled bcM c (mid va vl) (has [(0, 256, 1792, 128), (0, 128, 1792, 128), (0, 0, 1792, 128)])) -∗ Q ⟨k0_pay6 (accM.view.readAt (Elt F) (Rect.unit (s := S2048x1024) ![128, 384] S1792x128.size inb_S2048x1024_S1792x128_128_384).toLoadRect (va c)), k0_pay7 (lM.view.readAt (Elt F) (Rect.unit (s := S2048x8) ![128, 3] S1792x1.size inb_S2048x8_S1792x1_128_3).toLoadRect (vl c))⟩)
        -∗ W c (k0_part1 (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11 ) Q) := by
  rw [k0_part1_eq_skeleton]
  unfold k0_part1_skel
  simp only [semSignalWord, semWaitWord, Prog.lift, Prog.bind_op, Prog.bind_ret, Prog.pure_eq_ret]
  iintro ⟨Hacc, Hl, Hbc⟩ Hk
  iapply (ld c) $$ Hacc
  iintro Hacc
  iapply (ld c) $$ Hl
  iintro Hl
  iapply filled_ld $$ Hbc
  iintro %d0 Hbc
  iapply (filled_blk (fun j => (pay3_apply _ _ j).trans (mid_value va vl c 0 hc j))) $$ Hbc
  iintro Hbc
  iapply (ld c) $$ Hacc
  iintro Hacc
  iapply (ld c) $$ Hl
  iintro Hl
  iapply filled_ld $$ Hbc
  iintro %d1 Hbc
  iapply (filled_blk (fun j => (pay4_apply _ _ j).trans (mid_value va vl c 1 hc j))) $$ Hbc
  iintro Hbc
  iapply (ld c) $$ Hacc
  iintro Hacc
  iapply (ld c) $$ Hl
  iintro Hl
  iapply filled_ld $$ Hbc
  iintro %d2 Hbc
  iapply (filled_blk (fun j => (pay5_apply _ _ j).trans (mid_value va vl c 2 hc j))) $$ Hbc
  iintro Hbc
  iapply (ld c) $$ Hacc
  iintro Hacc
  iapply (ld c) $$ Hl
  iintro Hl
  iapply (ret_step c)
  iapply Hk
  isplitl [Hacc]; · iexact Hacc
  isplitl [Hl]; · iexact Hl
  iexact Hbc

/-- Part 2 of the body: heads 3 to 6 of the middle rows. -/
theorem part2_run (hc : c = 0) {Q : PUnit → sProp (MT nD τ sig ℕ (Elt F) ℕ UU ℕ)} :
    iprop(pts accM c fullShare (va c) ∗ pts lM c fullShare (vl c) ∗ filled bcM c (mid va vl) (has [(0, 256, 1792, 128), (0, 128, 1792, 128), (0, 0, 1792, 128)]))
      ⊢ iprop(((pts accM c fullShare (va c) ∗ pts lM c fullShare (vl c) ∗ filled bcM c (mid va vl) (has [(0, 768, 1792, 128), (0, 640, 1792, 128), (0, 512, 1792, 128), (0, 384, 1792, 128), (0, 256, 1792, 128), (0, 128, 1792, 128), (0, 0, 1792, 128)])) -∗ Q ⟨⟩)
        -∗ W c (k0_part2 (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11 (k0_pay6 (accM.view.readAt (Elt F) (Rect.unit (s := S2048x1024) ![128, 384] S1792x128.size inb_S2048x1024_S1792x128_128_384).toLoadRect (va c))) (k0_pay7 (lM.view.readAt (Elt F) (Rect.unit (s := S2048x8) ![128, 3] S1792x1.size inb_S2048x8_S1792x1_128_3).toLoadRect (vl c)))) Q) := by
  rw [k0_part2_eq_skeleton]
  unfold k0_part2_skel
  simp only [semSignalWord, semWaitWord, Prog.lift, Prog.bind_op, Prog.bind_ret, Prog.pure_eq_ret]
  iintro ⟨Hacc, Hl, Hbc⟩ Hk
  iapply filled_ld $$ Hbc
  iintro %d3 Hbc
  iapply (filled_blk (fun j => (pay8_apply _ _ j).trans (mid_value va vl c 3 hc j))) $$ Hbc
  iintro Hbc
  iapply (ld c) $$ Hacc
  iintro Hacc
  iapply (ld c) $$ Hl
  iintro Hl
  iapply filled_ld $$ Hbc
  iintro %d4 Hbc
  iapply (filled_blk (fun j => (pay9_apply _ _ j).trans (mid_value va vl c 4 hc j))) $$ Hbc
  iintro Hbc
  iapply (ld c) $$ Hacc
  iintro Hacc
  iapply (ld c) $$ Hl
  iintro Hl
  iapply filled_ld $$ Hbc
  iintro %d5 Hbc
  iapply (filled_blk (fun j => (pay10_apply _ _ j).trans (mid_value va vl c 5 hc j))) $$ Hbc
  iintro Hbc
  iapply (ld c) $$ Hacc
  iintro Hacc
  iapply (ld c) $$ Hl
  iintro Hl
  iapply filled_ld $$ Hbc
  iintro %d6 Hbc
  iapply (filled_blk (fun j => (pay11_apply _ _ j).trans (mid_value va vl c 6 hc j))) $$ Hbc
  iintro Hbc
  iapply (ret_step c)
  iapply Hk
  isplitl [Hacc]; · iexact Hacc
  isplitl [Hl]; · iexact Hl
  iexact Hbc

theorem hdev6 (hc : c = 0) (hh : k0_cond1 c = 1#1) : (⟨k0_dev6 c, k0_dev6_lt c hh⟩ : Dev nD) = next 0 c := by subst hc; revert hh; decide +kernel
theorem hdev7 (hc : c = 0) (hh : k0_cond1 c = 1#1) : (⟨k0_dev7 c, k0_dev7_lt c hh⟩ : Dev nD) = next 1 c := by subst hc; revert hh; decide +kernel
theorem hdev8 (hc : c = 0) (hh : k0_cond1 c = 1#1) : (⟨k0_dev8 c, k0_dev8_lt c hh⟩ : Dev nD) = next 0 c := by subst hc; revert hh; decide +kernel
theorem hdev9 (hc : c = 0) (hh : k0_cond1 c = 1#1) : (⟨k0_dev9 c, k0_dev9_lt c hh⟩ : Dev nD) = next 1 c := by subst hc; revert hh; decide +kernel
theorem hdev10 (hc : c = 0) (hh : k0_cond1 c = 1#1) : (⟨k0_dev10 c, k0_dev10_lt c hh⟩ : Dev nD) = next 0 c := by subst hc; revert hh; decide +kernel
theorem hdev11 (hc : c = 0) (hh : k0_cond1 c = 1#1) : (⟨k0_dev11 c, k0_dev11_lt c hh⟩ : Dev nD) = next 1 c := by subst hc; revert hh; decide +kernel
theorem hdev12 (hc : c = 0) (hh : k0_cond1 c = 1#1) : (⟨k0_dev12 c, k0_dev12_lt c hh⟩ : Dev nD) = next 0 c := by subst hc; revert hh; decide +kernel
theorem hdev13 (hc : c = 0) (hh : k0_cond1 c = 1#1) : (⟨k0_dev13 c, k0_dev13_lt c hh⟩ : Dev nD) = next 1 c := by subst hc; revert hh; decide +kernel
theorem hdev14 (hc : c = 0) (hh : k0_cond1 c = 1#1) : (⟨k0_dev14 c, k0_dev14_lt c hh⟩ : Dev nD) = next 0 c := by subst hc; revert hh; decide +kernel
theorem hdev15 (hc : c = 0) (hh : k0_cond1 c = 1#1) : (⟨k0_dev15 c, k0_dev15_lt c hh⟩ : Dev nD) = next 1 c := by subst hc; revert hh; decide +kernel
theorem hdev16 (hc : c = 0) (hh : k0_cond1 c = 1#1) : (⟨k0_dev16 c, k0_dev16_lt c hh⟩ : Dev nD) = next 0 c := by subst hc; revert hh; decide +kernel
theorem hdev17 (hc : c = 0) (hh : k0_cond1 c = 1#1) : (⟨k0_dev17 c, k0_dev17_lt c hh⟩ : Dev nD) = next 1 c := by subst hc; revert hh; decide +kernel
theorem hdev18 (hc : c = 0) (hh : k0_cond1 c = 1#1) : (⟨k0_dev18 c, k0_dev18_lt c hh⟩ : Dev nD) = next 0 c := by subst hc; revert hh; decide +kernel
theorem hdev19 (hc : c = 0) (hh : k0_cond1 c = 1#1) : (⟨k0_dev19 c, k0_dev19_lt c hh⟩ : Dev nD) = next 1 c := by subst hc; revert hh; decide +kernel

/-- Part 3 of the body: head 7 of the middle rows, and the copies of chunk 0. -/
theorem part3_run (hc : c = 0) (l : List (Dev nD × Nm)) (v13 v25 : BitVec 32) (hh : k0_cond1 c = 1#1) {Q : BitVec 32 → sProp (MT nD τ sig ℕ (Elt F) ℕ UU ℕ)} :
    iprop(look va vl κ ∗ ow c (started c [(0, 0), (0, 1), (1, 0), (1, 1), (2, 0), (2, 1), (3, 0), (3, 1), (4, 0), (4, 1), (5, 0), (5, 1), (6, 0), (6, 1)] ++ l) ∗ pts accM c fullShare (va c) ∗ pts lM c fullShare (vl c) ∗ filled bcM c (mid va vl) (has [(0, 768, 1792, 128), (0, 640, 1792, 128), (0, 512, 1792, 128), (0, 384, 1792, 128), (0, 256, 1792, 128), (0, 128, 1792, 128), (0, 0, 1792, 128)]) ∗ sendTok c 0 0 ∗ sendTok c 1 0)
      ⊢ iprop(((ow c (started c [(1, 0), (1, 1), (2, 0), (2, 1), (3, 0), (3, 1), (4, 0), (4, 1), (5, 0), (5, 1), (6, 0), (6, 1)] ++ l) ∗ pts accM c fullShare (va c) ∗ pts lM c fullShare (vl c) ∗ crd c (.cs 0 0) ∗ crd c (.cs 1 0) ∗ pts (bcV 1) c (lent 0 c) (mid va vl) ∗ pts (bcV 1) c (lent 1 c) (mid va vl) ∗ pts (bcV 2) c (lent 0 c) (mid va vl) ∗ pts (bcV 2) c (lent 1 c) (mid va vl) ∗ pts (bcV 3) c (lent 0 c) (mid va vl) ∗ pts (bcV 3) c (lent 1 c) (mid va vl) ∗ pts (bcV 4) c (lent 0 c) (mid va vl) ∗ pts (bcV 4) c (lent 1 c) (mid va vl) ∗ pts (bcV 5) c (lent 0 c) (mid va vl) ∗ pts (bcV 5) c (lent 1 c) (mid va vl) ∗ pts (bcV 6) c (lent 0 c) (mid va vl) ∗ pts (bcV 6) c (lent 1 c) (mid va vl) ∗ seven fun k => pts (bcV k) c fullShare.right.right (mid va vl)) -∗ ∀ v, Q v)
        -∗ W c (k0_part3 (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11 c v13 v25 hh) Q) := by
  rw [k0_part3_eq_skeleton]
  unfold k0_part3_skel
  simp only [semSignalWord, semWaitWord, Prog.lift, Prog.bind_op, Prog.bind_ret, Prog.pure_eq_ret]
  iintro ⟨#HL, HO, Hacc, Hl, Hbc, Hs00, Hs10⟩ Hk
  iapply (ld c) $$ Hacc
  iintro Hacc
  iapply (ld c) $$ Hl
  iintro Hl
  iapply filled_ld $$ Hbc
  iintro %d7 Hbc
  iapply (filled_blk (fun j => (pay12_apply _ _ j).trans (mid_value va vl c 7 hc j))) $$ Hbc
  iintro Hbc
  ihave Hbc := (bc_ready va vl c hc) $$ Hbc
  icases Hbc with ⟨⟨Hb00, Hb01, Hb02, Hb03, Hb04, Hb05, Hb06⟩, ⟨Hb10, Hb11, Hb12, Hb13, Hb14, Hb15, Hb16⟩, Hkept⟩
  iapply (head_send va vl κ c hc 0 0 [(0, 1), (1, 0), (1, 1), (2, 0), (2, 1), (3, 0), (3, 1), (4, 0), (4, 1), (5, 0), (5, 1), (6, 0), (6, 1)] l (p' := (⟨k0_dev6 c, k0_dev6_lt c hh⟩ : Dev nD)) (hdev6 c hc hh) (by rfl) (by rfl)) $$ [Hb00 Hs00 HO]
  · isplitr; · iexact HL
    isplitl [Hb00]; · iexact Hb00
    isplitl [Hs00]; · iexact Hs00
    iexact HO
  iintro ⟨Hc00, HO⟩
  iapply (head_send va vl κ c hc 1 0 [(1, 0), (1, 1), (2, 0), (2, 1), (3, 0), (3, 1), (4, 0), (4, 1), (5, 0), (5, 1), (6, 0), (6, 1)] l (p' := (⟨k0_dev7 c, k0_dev7_lt c hh⟩ : Dev nD)) (hdev7 c hc hh) (by rfl) (by rfl)) $$ [Hb10 Hs10 HO]
  · isplitr; · iexact HL
    isplitl [Hb10]; · iexact Hb10
    isplitl [Hs10]; · iexact Hs10
    iexact HO
  iintro ⟨Hc10, HO⟩
  iapply (ret_step c)
  ispecialize Hk $$ [HO Hacc Hl Hc00 Hc10 Hb01 Hb11 Hb02 Hb12 Hb03 Hb13 Hb04 Hb14 Hb05 Hb15 Hb06 Hb16 Hkept]
  · isplitl [HO]; · iexact HO
    isplitl [Hacc]; · iexact Hacc
    isplitl [Hl]; · iexact Hl
    isplitl [Hc00]; · iexact Hc00
    isplitl [Hc10]; · iexact Hc10
    isplitl [Hb01]; · iexact Hb01
    isplitl [Hb11]; · iexact Hb11
    isplitl [Hb02]; · iexact Hb02
    isplitl [Hb12]; · iexact Hb12
    isplitl [Hb03]; · iexact Hb03
    isplitl [Hb13]; · iexact Hb13
    isplitl [Hb04]; · iexact Hb04
    isplitl [Hb14]; · iexact Hb14
    isplitl [Hb05]; · iexact Hb05
    isplitl [Hb15]; · iexact Hb15
    isplitl [Hb06]; · iexact Hb06
    isplitl [Hb16]; · iexact Hb16
    iexact Hkept
  ispecialize Hk $$ %(Scalar.muli v13 1#32)
  iexact Hk

/-- Part 4 of the body: the copies of chunk 1, and of chunk 2 to the right. -/
theorem part4_run (hc : c = 0) (l : List (Dev nD × Nm)) (v13 v25 : BitVec 32) (hh : k0_cond1 c = 1#1) (v556 : BitVec 32) {Q : PUnit → sProp (MT nD τ sig ℕ (Elt F) ℕ UU ℕ)} :
    iprop(look va vl κ ∗ ow c (started c [(1, 0), (1, 1), (2, 0), (2, 1), (3, 0), (3, 1), (4, 0), (4, 1), (5, 0), (5, 1), (6, 0), (6, 1)] ++ l) ∗ pts (bcV 1) c (lent 0 c) (mid va vl) ∗ sendTok c 0 1 ∗ pts (bcV 1) c (lent 1 c) (mid va vl) ∗ sendTok c 1 1 ∗ pts (bcV 2) c (lent 0 c) (mid va vl) ∗ sendTok c 0 2)
      ⊢ iprop(((ow c (started c [(2, 1), (3, 0), (3, 1), (4, 0), (4, 1), (5, 0), (5, 1), (6, 0), (6, 1)] ++ l) ∗ crd c (.cs 0 1) ∗ crd c (.cs 1 1) ∗ crd c (.cs 0 2)) -∗ Q ⟨⟩)
        -∗ W c (k0_part4 (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11 c v13 v25 hh v556) Q) := by
  rw [k0_part4_eq_skeleton]
  unfold k0_part4_skel
  simp only [semSignalWord, semWaitWord, Prog.lift, Prog.bind_op, Prog.bind_ret, Prog.pure_eq_ret]
  iintro ⟨#HL, HO, Hb01, Hs01, Hb11, Hs11, Hb02, Hs02⟩ Hk
  iapply (head_send va vl κ c hc 0 1 [(1, 1), (2, 0), (2, 1), (3, 0), (3, 1), (4, 0), (4, 1), (5, 0), (5, 1), (6, 0), (6, 1)] l (p' := (⟨k0_dev8 c, k0_dev8_lt c hh⟩ : Dev nD)) (hdev8 c hc hh) (by rfl) (by rfl)) $$ [Hb01 Hs01 HO]
  · isplitr; · iexact HL
    isplitl [Hb01]; · iexact Hb01
    isplitl [Hs01]; · iexact Hs01
    iexact HO
  iintro ⟨Hc01, HO⟩
  iapply (head_send va vl κ c hc 1 1 [(2, 0), (2, 1), (3, 0), (3, 1), (4, 0), (4, 1), (5, 0), (5, 1), (6, 0), (6, 1)] l (p' := (⟨k0_dev9 c, k0_dev9_lt c hh⟩ : Dev nD)) (hdev9 c hc hh) (by rfl) (by rfl)) $$ [Hb11 Hs11 HO]
  · isplitr; · iexact HL
    isplitl [Hb11]; · iexact Hb11
    isplitl [Hs11]; · iexact Hs11
    iexact HO
  iintro ⟨Hc11, HO⟩
  iapply (head_send va vl κ c hc 0 2 [(2, 1), (3, 0), (3, 1), (4, 0), (4, 1), (5, 0), (5, 1), (6, 0), (6, 1)] l (p' := (⟨k0_dev10 c, k0_dev10_lt c hh⟩ : Dev nD)) (hdev10 c hc hh) (by rfl) (by rfl)) $$ [Hb02 Hs02 HO]
  · isplitr; · iexact HL
    isplitl [Hb02]; · iexact Hb02
    isplitl [Hs02]; · iexact Hs02
    iexact HO
  iintro ⟨Hc02, HO⟩
  iapply (ret_step c)
  iapply Hk
  isplitl [HO]; · iexact HO
  isplitl [Hc01]; · iexact Hc01
  isplitl [Hc11]; · iexact Hc11
  iexact Hc02

/-- Part 5 of the body: the copies of chunk 2 to the left and of chunk 3. -/
theorem part5_run (hc : c = 0) (l : List (Dev nD × Nm)) (v13 v25 : BitVec 32) (hh : k0_cond1 c = 1#1) {Q : PUnit → sProp (MT nD τ sig ℕ (Elt F) ℕ UU ℕ)} :
    iprop(look va vl κ ∗ ow c (started c [(2, 1), (3, 0), (3, 1), (4, 0), (4, 1), (5, 0), (5, 1), (6, 0), (6, 1)] ++ l) ∗ pts (bcV 2) c (lent 1 c) (mid va vl) ∗ sendTok c 1 2 ∗ pts (bcV 3) c (lent 0 c) (mid va vl) ∗ sendTok c 0 3 ∗ pts (bcV 3) c (lent 1 c) (mid va vl) ∗ sendTok c 1 3)
      ⊢ iprop(((ow c (started c [(4, 0), (4, 1), (5, 0), (5, 1), (6, 0), (6, 1)] ++ l) ∗ crd c (.cs 1 2) ∗ crd c (.cs 0 3) ∗ crd c (.cs 1 3)) -∗ Q ⟨⟩)
        -∗ W c (k0_part5 (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11 c v13 v25 hh) Q) := by
  rw [k0_part5_eq_skeleton]
  unfold k0_part5_skel
  simp only [semSignalWord, semWaitWord, Prog.lift, Prog.bind_op, Prog.bind_ret, Prog.pure_eq_ret]
  iintro ⟨#HL, HO, Hb12, Hs12, Hb03, Hs03, Hb13, Hs13⟩ Hk
  iapply (head_send va vl κ c hc 1 2 [(3, 0), (3, 1), (4, 0), (4, 1), (5, 0), (5, 1), (6, 0), (6, 1)] l (p' := (⟨k0_dev11 c, k0_dev11_lt c hh⟩ : Dev nD)) (hdev11 c hc hh) (by rfl) (by rfl)) $$ [Hb12 Hs12 HO]
  · isplitr; · iexact HL
    isplitl [Hb12]; · iexact Hb12
    isplitl [Hs12]; · iexact Hs12
    iexact HO
  iintro ⟨Hc12, HO⟩
  iapply (head_send va vl κ c hc 0 3 [(3, 1), (4, 0), (4, 1), (5, 0), (5, 1), (6, 0), (6, 1)] l (p' := (⟨k0_dev12 c, k0_dev12_lt c hh⟩ : Dev nD)) (hdev12 c hc hh) (by rfl) (by rfl)) $$ [Hb03 Hs03 HO]
  · isplitr; · iexact HL
    isplitl [Hb03]; · iexact Hb03
    isplitl [Hs03]; · iexact Hs03
    iexact HO
  iintro ⟨Hc03, HO⟩
  iapply (head_send va vl κ c hc 1 3 [(4, 0), (4, 1), (5, 0), (5, 1), (6, 0), (6, 1)] l (p' := (⟨k0_dev13 c, k0_dev13_lt c hh⟩ : Dev nD)) (hdev13 c hc hh) (by rfl) (by rfl)) $$ [Hb13 Hs13 HO]
  · isplitr; · iexact HL
    isplitl [Hb13]; · iexact Hb13
    isplitl [Hs13]; · iexact Hs13
    iexact HO
  iintro ⟨Hc13, HO⟩
  iapply (ret_step c)
  iapply Hk
  isplitl [HO]; · iexact HO
  isplitl [Hc12]; · iexact Hc12
  isplitl [Hc03]; · iexact Hc03
  iexact Hc13

/-- Part 6 of the body: the copies of chunk 4, and of chunk 5 to the right. -/
theorem part6_run (hc : c = 0) (l : List (Dev nD × Nm)) (v13 v25 : BitVec 32) (hh : k0_cond1 c = 1#1) {Q : PUnit → sProp (MT nD τ sig ℕ (Elt F) ℕ UU ℕ)} :
    iprop(look va vl κ ∗ ow c (started c [(4, 0), (4, 1), (5, 0), (5, 1), (6, 0), (6, 1)] ++ l) ∗ pts (bcV 4) c (lent 0 c) (mid va vl) ∗ sendTok c 0 4 ∗ pts (bcV 4) c (lent 1 c) (mid va vl) ∗ sendTok c 1 4 ∗ pts (bcV 5) c (lent 0 c) (mid va vl) ∗ sendTok c 0 5)
      ⊢ iprop(((ow c (started c [(5, 1), (6, 0), (6, 1)] ++ l) ∗ crd c (.cs 0 4) ∗ crd c (.cs 1 4) ∗ crd c (.cs 0 5)) -∗ Q ⟨⟩)
        -∗ W c (k0_part6 (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11 c v13 v25 hh) Q) := by
  rw [k0_part6_eq_skeleton]
  unfold k0_part6_skel
  simp only [semSignalWord, semWaitWord, Prog.lift, Prog.bind_op, Prog.bind_ret, Prog.pure_eq_ret]
  iintro ⟨#HL, HO, Hb04, Hs04, Hb14, Hs14, Hb05, Hs05⟩ Hk
  iapply (head_send va vl κ c hc 0 4 [(4, 1), (5, 0), (5, 1), (6, 0), (6, 1)] l (p' := (⟨k0_dev14 c, k0_dev14_lt c hh⟩ : Dev nD)) (hdev14 c hc hh) (by rfl) (by rfl)) $$ [Hb04 Hs04 HO]
  · isplitr; · iexact HL
    isplitl [Hb04]; · iexact Hb04
    isplitl [Hs04]; · iexact Hs04
    iexact HO
  iintro ⟨Hc04, HO⟩
  iapply (head_send va vl κ c hc 1 4 [(5, 0), (5, 1), (6, 0), (6, 1)] l (p' := (⟨k0_dev15 c, k0_dev15_lt c hh⟩ : Dev nD)) (hdev15 c hc hh) (by rfl) (by rfl)) $$ [Hb14 Hs14 HO]
  · isplitr; · iexact HL
    isplitl [Hb14]; · iexact Hb14
    isplitl [Hs14]; · iexact Hs14
    iexact HO
  iintro ⟨Hc14, HO⟩
  iapply (head_send va vl κ c hc 0 5 [(5, 1), (6, 0), (6, 1)] l (p' := (⟨k0_dev16 c, k0_dev16_lt c hh⟩ : Dev nD)) (hdev16 c hc hh) (by rfl) (by rfl)) $$ [Hb05 Hs05 HO]
  · isplitr; · iexact HL
    isplitl [Hb05]; · iexact Hb05
    isplitl [Hs05]; · iexact Hs05
    iexact HO
  iintro ⟨Hc05, HO⟩
  iapply (ret_step c)
  iapply Hk
  isplitl [HO]; · iexact HO
  isplitl [Hc04]; · iexact Hc04
  isplitl [Hc14]; · iexact Hc14
  iexact Hc05

/-- Part 11 of the body: the last edge rows, device 0's start of the relay, and the copies of round 0. -/
theorem part11_run {Q : (Σ' (v63 : BitVec 32), BitVec 32) → sProp (MT nD τ sig ℕ (Elt F) ℕ UU ℕ)} :
    iprop(look va vl κ ∗ ow c (headDues c ++ (roundDues c 0 ++ (roundDues c 1 ++ (roundDues c 2 ++ tailDues c)))) ∗ pts accM c fullShare (va c) ∗ pts lM c fullShare (vl c) ∗ pts xaM c fullShare (sums va 0 c) ∗ filled xlM c (dens vl 0 c) (has [(0, 0, 128, 8)]) ∗ headIn c ∗ sendRes c 0 ∗ pos c (.xs 0) 0)
      ⊢ iprop(((ow c (roundDues c 1 ++ (roundDues c 2 ++ tailDues c)) ∗ pts accM c fullShare (va c) ∗ pts lM c fullShare (vl c) ∗ pts xaM c fullShare (sums va 0 c) ∗ crd c (.ls 0) ∗ pos c (.xs 0) 1 ∗ headOut va vl c) -∗ Q ⟨Scalar.xori (my c) 1#32, Scalar.muli (Scalar.xori (my c) 1#32) 1#32⟩)
        -∗ W c (k0_part11 (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11 c (my c) (rgt c) (lft c) (k0_pay16 (lM.view.readAt (Elt F) (Rect.unit (s := S2048x8) ![1920, 0] S128x8.size inb_S2048x8_S128x8_1920_0).toLoadRect (vl c)))) Q) := by
  rw [k0_part11_eq_skeleton]
  unfold k0_part11_skel
  simp only [Prog.lift, Prog.bind_op, Prog.bind_ret, Prog.pure_eq_ret]
  iintro ⟨#HL, HO, Hacc, Hl, Hxa, Hxl, Hin, Hsr, Hpxs⟩ Hk
  iapply filled_ld $$ Hxl
  iintro %d1 Hxl
  iapply (filled_blk (w := k0_pay17 (k0_pay16 (lM.view.readAt (Elt F) (Rect.unit (s := S2048x8) ![1920, 0] S128x8.size inb_S2048x8_S128x8_1920_0).toLoadRect (vl c)))) (fun j => (congrFun (pay17_eq _) j).trans (edge_value (vl c) 1920 128 (Or.inr ⟨rfl, rfl⟩) j))) $$ Hxl
  iintro Hxl
  ihave Hf := (filled_all (m := xlM) (T := dens vl 0 c) edge_cover) $$ Hxl
  icases Hf with ⟨%g, Hxl, %hg⟩
  have hg' : g = dens vl 0 c := hg
  rw [hg']
  by_cases h : k0_cond1 c = 1#1
  · have hc : c = 0 := (cond1_iff c).mp h
    rw [dif_pos h, headDues_eq c hc]
    rw [show headOut va vl c = _ from if_pos hc]
    ihave Hin := (Entails.of_eq (show headIn (F := F) c = _ from if_pos hc)) $$ Hin
    icases Hin with ⟨⟨%fb, Hbc⟩, ⟨Hs00, Hs01, Hs02, Hs03, Hs04, Hs05, Hs06⟩, ⟨Hs10, Hs11, Hs12, Hs13, Hs14, Hs15, Hs16⟩⟩
    ihave Hbc := (filled_empty (T := mid va vl) fb) $$ Hbc
    iapply (bind_step c)
    iapply (part1_run va vl c hc) $$ [Hacc Hl Hbc]
    · isplitl [Hacc]; · iexact Hacc
      isplitl [Hl]; · iexact Hl
      iexact Hbc
    iintro ⟨Hacc, Hl, Hbc⟩
    iapply (bind_step c)
    iapply (part2_run va vl c hc) $$ [Hacc Hl Hbc]
    · isplitl [Hacc]; · iexact Hacc
      isplitl [Hl]; · iexact Hl
      iexact Hbc
    iintro ⟨Hacc, Hl, Hbc⟩
    iapply (bind_step c)
    iapply (part3_run va vl κ c hc (roundDues c 0 ++ (roundDues c 1 ++ (roundDues c 2 ++ tailDues c))) (rgt c) (lft c) h) $$ [HO Hacc Hl Hbc Hs00 Hs10]
    · isplitr; · iexact HL
      isplitl [HO]; · iexact HO
      isplitl [Hacc]; · iexact Hacc
      isplitl [Hl]; · iexact Hl
      isplitl [Hbc]; · iexact Hbc
      isplitl [Hs00]; · iexact Hs00
      iexact Hs10
    iintro ⟨HO, Hacc, Hl, Hc00, Hc10, Hb01, Hb11, Hb02, Hb12, Hb03, Hb13, Hb04, Hb14, Hb05, Hb15, Hb06, Hb16, Hkept⟩ %v556
    iapply (bind_step c)
    iapply (part4_run va vl κ c hc (roundDues c 0 ++ (roundDues c 1 ++ (roundDues c 2 ++ tailDues c))) (rgt c) (lft c) h v556) $$ [HO Hb01 Hs01 Hb11 Hs11 Hb02 Hs02]
    · isplitr; · iexact HL
      isplitl [HO]; · iexact HO
      isplitl [Hb01]; · iexact Hb01
      isplitl [Hs01]; · iexact Hs01
      isplitl [Hb11]; · iexact Hb11
      isplitl [Hs11]; · iexact Hs11
      isplitl [Hb02]; · iexact Hb02
      iexact Hs02
    iintro ⟨HO, Hc01, Hc11, Hc02⟩
    iapply (bind_step c)
    iapply (part5_run va vl κ c hc (roundDues c 0 ++ (roundDues c 1 ++ (roundDues c 2 ++ tailDues c))) (rgt c) (lft c) h) $$ [HO Hb12 Hs12 Hb03 Hs03 Hb13 Hs13]
    · isplitr; · iexact HL
      isplitl [HO]; · iexact HO
      isplitl [Hb12]; · iexact Hb12
      isplitl [Hs12]; · iexact Hs12
      isplitl [Hb03]; · iexact Hb03
      isplitl [Hs03]; · iexact Hs03
      isplitl [Hb13]; · iexact Hb13
      iexact Hs13
    iintro ⟨HO, Hc12, Hc03, Hc13⟩
    iapply (bind_step c)
    iapply (part6_run va vl κ c hc (roundDues c 0 ++ (roundDues c 1 ++ (roundDues c 2 ++ tailDues c))) (rgt c) (lft c) h) $$ [HO Hb04 Hs04 Hb14 Hs14 Hb05 Hs05]
    · isplitr; · iexact HL
      isplitl [HO]; · iexact HO
      isplitl [Hb04]; · iexact Hb04
      isplitl [Hs04]; · iexact Hs04
      isplitl [Hb14]; · iexact Hb14
      isplitl [Hs14]; · iexact Hs14
      isplitl [Hb05]; · iexact Hb05
      iexact Hs05
    iintro ⟨HO, Hc04, Hc14, Hc05⟩
    iapply (head_send va vl κ c hc 1 5 [(6, 0), (6, 1)] (roundDues c 0 ++ (roundDues c 1 ++ (roundDues c 2 ++ tailDues c))) (p' := (⟨k0_dev17 c, k0_dev17_lt c h⟩ : Dev nD)) (hdev17 c hc h) (by rfl) (by rfl)) $$ [Hb15 Hs15 HO]
    · isplitr; · iexact HL
      isplitl [Hb15]; · iexact Hb15
      isplitl [Hs15]; · iexact Hs15
      iexact HO
    iintro ⟨Hc15, HO⟩
    iapply (head_send va vl κ c hc 0 6 [(6, 1)] (roundDues c 0 ++ (roundDues c 1 ++ (roundDues c 2 ++ tailDues c))) (p' := (⟨k0_dev18 c, k0_dev18_lt c h⟩ : Dev nD)) (hdev18 c hc h) (by rfl) (by rfl)) $$ [Hb06 Hs06 HO]
    · isplitr; · iexact HL
      isplitl [Hb06]; · iexact Hb06
      isplitl [Hs06]; · iexact Hs06
      iexact HO
    iintro ⟨Hc06, HO⟩
    iapply (head_send va vl κ c hc 1 6 [] (roundDues c 0 ++ (roundDues c 1 ++ (roundDues c 2 ++ tailDues c))) (p' := (⟨k0_dev19 c, k0_dev19_lt c h⟩ : Dev nD)) (hdev19 c hc h) (by rfl) (by rfl)) $$ [Hb16 Hs16 HO]
    · isplitr; · iexact HL
      isplitl [Hb16]; · iexact Hb16
      isplitl [Hs16]; · iexact Hs16
      iexact HO
    iintro ⟨Hc16, HO⟩
    iapply (both_send va vl κ c 0 (p' := (⟨k0_dev20 c, k0_dev20_lt c⟩ : Dev nD)) (p'' := (⟨k0_dev21 c, k0_dev21_lt c⟩ : Dev nD)) (dev20_eq c) (dev21_eq c) (by rfl) (by rfl) (by rfl) (by rfl) (l := roundDues c 1 ++ (roundDues c 2 ++ tailDues c))) $$ [Hxa Hxl Hsr HO]
    · isplitr; · iexact HL
      isplitl [Hxa Hxl]
      · isplitl [Hxa]; · iexact Hxa
        iexact Hxl
      isplitl [Hsr]; · iexact Hsr
      iexact HO
    iintro ⟨Hcxs, Hcls, HO⟩
    iapply (xs_wait va vl κ c 0 (by rfl) (above0 c)) $$ [Hcxs HO Hpxs]
    · isplitr; · iexact HL
      isplitl [Hcxs]; · iexact Hcxs
      isplitl [HO]; · iexact HO
      iexact Hpxs
    iintro ⟨HO, Hpxs, Hxa⟩
    iapply (ret_step c)
    iapply Hk
    isplitl [HO]; · iexact HO
    isplitl [Hacc]; · iexact Hacc
    isplitl [Hl]; · iexact Hl
    isplitl [Hxa]; · iexact Hxa
    isplitl [Hcls]; · iexact Hcls
    isplitl [Hpxs]; · iexact Hpxs
    isplitl [Hkept]; · iexact Hkept
    isplitl [Hc00 Hc01 Hc02 Hc03 Hc04 Hc05 Hc06]
    · isplitl [Hc00]; · iexact Hc00
      isplitl [Hc01]; · iexact Hc01
      isplitl [Hc02]; · iexact Hc02
      isplitl [Hc03]; · iexact Hc03
      isplitl [Hc04]; · iexact Hc04
      isplitl [Hc05]; · iexact Hc05
      iexact Hc06
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    iexact Hc16
  · have hc : ¬ c = 0 := fun hc => h ((cond1_iff c).mpr hc)
    rw [dif_neg h, headDues_ne c hc, List.nil_append]
    rw [show headOut va vl c = _ from if_neg hc]
    iapply (both_send va vl κ c 0 (p' := (⟨k0_dev20 c, k0_dev20_lt c⟩ : Dev nD)) (p'' := (⟨k0_dev21 c, k0_dev21_lt c⟩ : Dev nD)) (dev20_eq c) (dev21_eq c) (by rfl) (by rfl) (by rfl) (by rfl) (l := roundDues c 1 ++ (roundDues c 2 ++ tailDues c))) $$ [Hxa Hxl Hsr HO]
    · isplitr; · iexact HL
      isplitl [Hxa Hxl]
      · isplitl [Hxa]; · iexact Hxa
        iexact Hxl
      isplitl [Hsr]; · iexact Hsr
      iexact HO
    iintro ⟨Hcxs, Hcls, HO⟩
    iapply (xs_wait va vl κ c 0 (by rfl) (above0 c)) $$ [Hcxs HO Hpxs]
    · isplitr; · iexact HL
      isplitl [Hcxs]; · iexact Hcxs
      isplitl [HO]; · iexact HO
      iexact Hpxs
    iintro ⟨HO, Hpxs, Hxa⟩
    iapply (ret_step c)
    iapply Hk
    isplitl [HO]; · iexact HO
    isplitl [Hacc]; · iexact Hacc
    isplitl [Hl]; · iexact Hl
    isplitl [Hxa]; · iexact Hxa
    isplitl [Hcls]; · iexact Hcls
    isplitl [Hpxs]; · iexact Hpxs
    iempintro

end Head

end Cert.KernelIdeal.Talk

end
-- ==== Proof.CtxParts.lean ====
/-
  The parts of the body that divide the edge rows, head by head, into the context.
-/
module

public import proofs.«01_k».proof.Proof.Values

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.ValueIdx (ix2 eq_ix2 idx2_lt0 idx2_lt1)

variable {F : FTy → Type} [FloatOps F]

local notation "𝕄" => MT nD τ sig ℕ (Elt F) ℕ UU ℕ

section Parts

variable (va : Dev nD → FVec F S2048x1024 .f32) (vl : Dev nD → FVec F S2048x8 .f32) (κ : GSem nD τ sig → ℕ) (c : Dev nD)

/-- Part 22 of the body: the last two steps of the relay; head 0, and the first rows of head 1. -/
theorem part22_run (v25 : BitVec 32) {Q : Vec F S128x128 .f32 → sProp (MT nD τ sig ℕ (Elt F) ℕ UU ℕ)} :
    iprop(look va vl κ ∗ ow c (passed c [(6, 1)]) ∗ inRes c 1 6 ∗ outRes c 1 6 ∗ pts xaM c fullShare (sums va 3 c) ∗ pts xlM c fullShare (dens vl 3 c) ∗ filled cxM c (ctx va vl c) (has []))
      ⊢ iprop(((ow c (passed c []) ∗ endRes va vl c 1 6 ∗ pts xaM c fullShare (sums va 3 c) ∗ pts xlM c fullShare (dens vl 3 c) ∗ filled cxM c (ctx va vl c) (has [(0, 128, 128, 128), (1920, 0, 128, 128), (0, 0, 128, 128)])) -∗ Q (xaM.view.readAt (Elt F) (Rect.unit (s := S256x1024) ![128, 128] S128x128.size inb_S256x1024_S128x128_128_128).toLoadRect (sums va 3 c)))
        -∗ W c (k0_part22 (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11 c (my c) v25 (Scalar.extui (Scalar.cmpi .sge (my c) 5#32))) Q) := by
  rw [k0_part22_eq_skeleton]
  unfold k0_part22_skel
  simp only [Prog.lift, Prog.bind_op, Prog.bind_ret, Prog.pure_eq_ret]
  iintro ⟨#HL, HO, Hin16, Hout16, Hxa, Hxl, Hcx⟩ Hk
  iapply (guard_wait va vl κ c 1 6 [(6, 1)] (by revert c; decide +kernel) (by rfl)) $$ [Hin16 HO]
  · isplitr; · iexact HL
    isplitl [Hin16]; · iexact Hin16
    iexact HO
  iintro ⟨HO, Hgot16⟩
  iapply (guard_send va vl κ c 1 6 [] (p := k0_cond29 c = 1#1) (by revert c; decide +kernel) (p' := fun h => (⟨k0_dev39 c, k0_dev39_lt c h⟩ : Dev nD)) (by revert c; decide +kernel) (by rfl) (by rfl)) $$ [Hgot16 Hout16 HO]
  · isplitr; · iexact HL
    isplitl [Hgot16]; · iexact Hgot16
    isplitl [Hout16]; · iexact Hout16
    iexact HO
  iintro ⟨HO, Hend16⟩
  iapply (ld c) $$ Hxa
  iintro Hxa
  iapply (ld c) $$ Hxl
  iintro Hxl
  iapply filled_ld $$ Hcx
  iintro %d1 Hcx
  iapply (filled_blk (fun j => (pay25_apply _ _ j).trans (head_value va vl c 0 0 0 (Or.inl ⟨rfl, rfl⟩) j))) $$ Hcx
  iintro Hcx
  iapply (ld c) $$ Hxa
  iintro Hxa
  iapply (ld c) $$ Hxl
  iintro Hxl
  iapply filled_ld $$ Hcx
  iintro %d2 Hcx
  iapply (filled_blk (fun j => (pay26_apply _ _ j).trans (head_value va vl c 128 1920 0 (Or.inr ⟨rfl, rfl⟩) j))) $$ Hcx
  iintro Hcx
  iapply (ld c) $$ Hxa
  iintro Hxa
  iapply (ld c) $$ Hxl
  iintro Hxl
  iapply filled_ld $$ Hcx
  iintro %d3 Hcx
  iapply (filled_blk (fun j => (pay27_apply _ _ j).trans (head_value va vl c 0 0 1 (Or.inl ⟨rfl, rfl⟩) j))) $$ Hcx
  iintro Hcx
  iapply (ld c) $$ Hxa
  iintro Hxa
  iapply (ret_step c)
  iapply Hk
  isplitl [HO]; · iexact HO
  isplitl [Hend16]; · iexact Hend16
  isplitl [Hxa]; · iexact Hxa
  isplitl [Hxl]; · iexact Hxl
  iexact Hcx
/-- Part 23 of the body: up to the first rows of head 3. -/
theorem part23_run  {Q : FVec F S128x128 .f32 → sProp (MT nD τ sig ℕ (Elt F) ℕ UU ℕ)} :
    iprop(pts xaM c fullShare (sums va 3 c) ∗ pts xlM c fullShare (dens vl 3 c) ∗ filled cxM c (ctx va vl c) (has [(0, 128, 128, 128), (1920, 0, 128, 128), (0, 0, 128, 128)]))
      ⊢ iprop(((pts xaM c fullShare (sums va 3 c) ∗ pts xlM c fullShare (dens vl 3 c) ∗ filled cxM c (ctx va vl c) (has [(0, 384, 128, 128), (1920, 256, 128, 128), (0, 256, 128, 128), (1920, 128, 128, 128), (0, 128, 128, 128), (1920, 0, 128, 128), (0, 0, 128, 128)])) -∗ Q (k0_pay32 (xaM.view.readAt (Elt F) (Rect.unit (s := S256x1024) ![128, 384] S128x128.size inb_S256x1024_S128x128_128_384).toLoadRect (sums va 3 c)) (xlM.view.readAt (Elt F) (Rect.unit (s := S256x8) ![128, 3] S128x1.size inb_S256x8_S128x1_128_3).toLoadRect (dens vl 3 c))))
        -∗ W c (k0_part23 (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11 (xaM.view.readAt (Elt F) (Rect.unit (s := S256x1024) ![128, 128] S128x128.size inb_S256x1024_S128x128_128_128).toLoadRect (sums va 3 c))) Q) := by
  rw [k0_part23_eq_skeleton]
  unfold k0_part23_skel
  simp only [Prog.lift, Prog.bind_op, Prog.bind_ret, Prog.pure_eq_ret]
  iintro ⟨Hxa, Hxl, Hcx⟩ Hk
  iapply (ld c) $$ Hxl
  iintro Hxl
  iapply filled_ld $$ Hcx
  iintro %d1 Hcx
  iapply (filled_blk (fun j => (pay28_apply _ _ j).trans (head_value va vl c 128 1920 1 (Or.inr ⟨rfl, rfl⟩) j))) $$ Hcx
  iintro Hcx
  iapply (ld c) $$ Hxa
  iintro Hxa
  iapply (ld c) $$ Hxl
  iintro Hxl
  iapply filled_ld $$ Hcx
  iintro %d2 Hcx
  iapply (filled_blk (fun j => (pay29_apply _ _ j).trans (head_value va vl c 0 0 2 (Or.inl ⟨rfl, rfl⟩) j))) $$ Hcx
  iintro Hcx
  iapply (ld c) $$ Hxa
  iintro Hxa
  iapply (ld c) $$ Hxl
  iintro Hxl
  iapply filled_ld $$ Hcx
  iintro %d3 Hcx
  iapply (filled_blk (fun j => (pay30_apply _ _ j).trans (head_value va vl c 128 1920 2 (Or.inr ⟨rfl, rfl⟩) j))) $$ Hcx
  iintro Hcx
  iapply (ld c) $$ Hxa
  iintro Hxa
  iapply (ld c) $$ Hxl
  iintro Hxl
  iapply filled_ld $$ Hcx
  iintro %d4 Hcx
  iapply (filled_blk (fun j => (pay31_apply _ _ j).trans (head_value va vl c 0 0 3 (Or.inl ⟨rfl, rfl⟩) j))) $$ Hcx
  iintro Hcx
  iapply (ld c) $$ Hxa
  iintro Hxa
  iapply (ld c) $$ Hxl
  iintro Hxl
  iapply (ret_step c)
  iapply Hk
  isplitl [Hxa]; · iexact Hxa
  isplitl [Hxl]; · iexact Hxl
  iexact Hcx
/-- Part 24 of the body: up to the first rows of head 5. -/
theorem part24_run  {Q : FVec F S128x128 .f32 → sProp (MT nD τ sig ℕ (Elt F) ℕ UU ℕ)} :
    iprop(pts xaM c fullShare (sums va 3 c) ∗ pts xlM c fullShare (dens vl 3 c) ∗ filled cxM c (ctx va vl c) (has [(0, 384, 128, 128), (1920, 256, 128, 128), (0, 256, 128, 128), (1920, 128, 128, 128), (0, 128, 128, 128), (1920, 0, 128, 128), (0, 0, 128, 128)]))
      ⊢ iprop(((pts xaM c fullShare (sums va 3 c) ∗ pts xlM c fullShare (dens vl 3 c) ∗ filled cxM c (ctx va vl c) (has [(0, 640, 128, 128), (1920, 512, 128, 128), (0, 512, 128, 128), (1920, 384, 128, 128), (0, 384, 128, 128), (1920, 256, 128, 128), (0, 256, 128, 128), (1920, 128, 128, 128), (0, 128, 128, 128), (1920, 0, 128, 128), (0, 0, 128, 128)])) -∗ Q (k0_pay37 (xaM.view.readAt (Elt F) (Rect.unit (s := S256x1024) ![128, 640] S128x128.size inb_S256x1024_S128x128_128_640).toLoadRect (sums va 3 c)) (xlM.view.readAt (Elt F) (Rect.unit (s := S256x8) ![128, 5] S128x1.size inb_S256x8_S128x1_128_5).toLoadRect (dens vl 3 c))))
        -∗ W c (k0_part24 (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11 (k0_pay32 (xaM.view.readAt (Elt F) (Rect.unit (s := S256x1024) ![128, 384] S128x128.size inb_S256x1024_S128x128_128_384).toLoadRect (sums va 3 c)) (xlM.view.readAt (Elt F) (Rect.unit (s := S256x8) ![128, 3] S128x1.size inb_S256x8_S128x1_128_3).toLoadRect (dens vl 3 c)))) Q) := by
  rw [k0_part24_eq_skeleton]
  unfold k0_part24_skel
  simp only [Prog.lift, Prog.bind_op, Prog.bind_ret, Prog.pure_eq_ret]
  iintro ⟨Hxa, Hxl, Hcx⟩ Hk
  iapply filled_ld $$ Hcx
  iintro %d1 Hcx
  iapply (filled_blk (fun j => ((congrFun (pay33_eq _) j).trans (pay32_apply _ _ j)).trans (head_value va vl c 128 1920 3 (Or.inr ⟨rfl, rfl⟩) j))) $$ Hcx
  iintro Hcx
  iapply (ld c) $$ Hxa
  iintro Hxa
  iapply (ld c) $$ Hxl
  iintro Hxl
  iapply filled_ld $$ Hcx
  iintro %d2 Hcx
  iapply (filled_blk (fun j => (pay34_apply _ _ j).trans (head_value va vl c 0 0 4 (Or.inl ⟨rfl, rfl⟩) j))) $$ Hcx
  iintro Hcx
  iapply (ld c) $$ Hxa
  iintro Hxa
  iapply (ld c) $$ Hxl
  iintro Hxl
  iapply filled_ld $$ Hcx
  iintro %d3 Hcx
  iapply (filled_blk (fun j => (pay35_apply _ _ j).trans (head_value va vl c 128 1920 4 (Or.inr ⟨rfl, rfl⟩) j))) $$ Hcx
  iintro Hcx
  iapply (ld c) $$ Hxa
  iintro Hxa
  iapply (ld c) $$ Hxl
  iintro Hxl
  iapply filled_ld $$ Hcx
  iintro %d4 Hcx
  iapply (filled_blk (fun j => (pay36_apply _ _ j).trans (head_value va vl c 0 0 5 (Or.inl ⟨rfl, rfl⟩) j))) $$ Hcx
  iintro Hcx
  iapply (ld c) $$ Hxa
  iintro Hxa
  iapply (ld c) $$ Hxl
  iintro Hxl
  iapply filled_ld $$ Hcx
  iintro %d5 Hcx
  iapply (ret_step c)
  iapply Hk
  isplitl [Hxa]; · iexact Hxa
  isplitl [Hxl]; · iexact Hxl
  iexact Hcx
/-- Part 25 of the body: up to the last rows of head 7. -/
theorem part25_run  {Q : PUnit → sProp (MT nD τ sig ℕ (Elt F) ℕ UU ℕ)} :
    iprop(pts xaM c fullShare (sums va 3 c) ∗ pts xlM c fullShare (dens vl 3 c) ∗ filled cxM c (ctx va vl c) (has [(0, 640, 128, 128), (1920, 512, 128, 128), (0, 512, 128, 128), (1920, 384, 128, 128), (0, 384, 128, 128), (1920, 256, 128, 128), (0, 256, 128, 128), (1920, 128, 128, 128), (0, 128, 128, 128), (1920, 0, 128, 128), (0, 0, 128, 128)]))
      ⊢ iprop(((pts xaM c fullShare (sums va 3 c) ∗ pts xlM c fullShare (dens vl 3 c) ∗ filled cxM c (ctx va vl c) (has [(1920, 896, 128, 128), (0, 896, 128, 128), (1920, 768, 128, 128), (0, 768, 128, 128), (1920, 640, 128, 128), (0, 640, 128, 128), (1920, 512, 128, 128), (0, 512, 128, 128), (1920, 384, 128, 128), (0, 384, 128, 128), (1920, 256, 128, 128), (0, 256, 128, 128), (1920, 128, 128, 128), (0, 128, 128, 128), (1920, 0, 128, 128), (0, 0, 128, 128)])) -∗ Q ⟨⟩)
        -∗ W c (k0_part25 (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11 (k0_pay37 (xaM.view.readAt (Elt F) (Rect.unit (s := S256x1024) ![128, 640] S128x128.size inb_S256x1024_S128x128_128_640).toLoadRect (sums va 3 c)) (xlM.view.readAt (Elt F) (Rect.unit (s := S256x8) ![128, 5] S128x1.size inb_S256x8_S128x1_128_5).toLoadRect (dens vl 3 c)))) Q) := by
  rw [k0_part25_eq_skeleton]
  unfold k0_part25_skel
  simp only [Prog.lift, Prog.bind_op, Prog.bind_ret, Prog.pure_eq_ret]
  iintro ⟨Hxa, Hxl, Hcx⟩ Hk
  iapply (filled_blk (fun j => ((congrFun (pay38_eq _) j).trans (pay37_apply _ _ j)).trans (head_value va vl c 128 1920 5 (Or.inr ⟨rfl, rfl⟩) j))) $$ Hcx
  iintro Hcx
  iapply (ld c) $$ Hxa
  iintro Hxa
  iapply (ld c) $$ Hxl
  iintro Hxl
  iapply filled_ld $$ Hcx
  iintro %d2 Hcx
  iapply (filled_blk (fun j => (pay39_apply _ _ j).trans (head_value va vl c 0 0 6 (Or.inl ⟨rfl, rfl⟩) j))) $$ Hcx
  iintro Hcx
  iapply (ld c) $$ Hxa
  iintro Hxa
  iapply (ld c) $$ Hxl
  iintro Hxl
  iapply filled_ld $$ Hcx
  iintro %d3 Hcx
  iapply (filled_blk (fun j => (pay40_apply _ _ j).trans (head_value va vl c 128 1920 6 (Or.inr ⟨rfl, rfl⟩) j))) $$ Hcx
  iintro Hcx
  iapply (ld c) $$ Hxa
  iintro Hxa
  iapply (ld c) $$ Hxl
  iintro Hxl
  iapply filled_ld $$ Hcx
  iintro %d4 Hcx
  iapply (filled_blk (fun j => (pay41_apply _ _ j).trans (head_value va vl c 0 0 7 (Or.inl ⟨rfl, rfl⟩) j))) $$ Hcx
  iintro Hcx
  iapply (ld c) $$ Hxa
  iintro Hxa
  iapply (ld c) $$ Hxl
  iintro Hxl
  iapply filled_ld $$ Hcx
  iintro %d5 Hcx
  iapply (filled_blk (fun j => (pay42_apply _ _ j).trans (head_value va vl c 128 1920 7 (Or.inr ⟨rfl, rfl⟩) j))) $$ Hcx
  iintro Hcx
  iapply (ret_step c)
  iapply Hk
  isplitl [Hxa]; · iexact Hxa
  isplitl [Hxl]; · iexact Hxl
  iexact Hcx
end Parts

end Cert.KernelIdeal.Talk

end
-- ==== Proof.RelayParts.lean ====
/-
  The relay's parts of the body.
-/
module

public import proofs.«01_k».proof.Proof.Relay

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.ValueIdx (ix2 eq_ix2 idx2_lt0 idx2_lt1)

variable {F : FTy → Type} [FloatOps F]

local notation "𝕄" => MT nD τ sig ℕ (Elt F) ℕ UU ℕ

section Parts

variable (va : Dev nD → FVec F S2048x1024 .f32) (vl : Dev nD → FVec F S2048x8 .f32) (κ : GSem nD τ sig → ℕ) (c : Dev nD)

/-- Part 17 of the body: the relay, steps 1 to 5 of 28. -/
theorem part17_run (v13 v25 : BitVec 32) {Q : BitVec 32 → sProp (MT nD τ sig ℕ (Elt F) ℕ UU ℕ)} :
    iprop(look va vl κ ∗ ow c (passed c [(0, 0), (0, 1), (1, 0), (1, 1), (2, 0), (2, 1), (3, 0), (3, 1), (4, 0), (4, 1), (5, 0), (5, 1), (6, 0), (6, 1)]) ∗ inRes c 0 0 ∗ outRes c 0 0 ∗ inRes c 1 0 ∗ outRes c 1 0 ∗ inRes c 0 1)
      ⊢ iprop(((ow c (passed c [(1, 0), (1, 1), (2, 0), (2, 1), (3, 0), (3, 1), (4, 0), (4, 1), (5, 0), (5, 1), (6, 0), (6, 1)]) ∗ endRes va vl c 0 0 ∗ endRes va vl c 1 0 ∗ gotRes va vl c 0 1) -∗ ∀ v, Q v)
        -∗ W c (k0_part17 (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11 c (my c) v13 v25 (Scalar.extui (Scalar.andi (Scalar.cmpi .sge (my c) 1#32) (Scalar.cmpi .sle (my c) 4#32)))) Q) := by
  rw [k0_part17_eq_skeleton]
  unfold k0_part17_skel
  simp only [Prog.lift, Prog.bind_op, Prog.bind_ret, Prog.pure_eq_ret]
  iintro ⟨#HL, HO, Hin00, Hout00, Hin10, Hout10, Hin01⟩ Hk
  iapply (guard_wait va vl κ c 0 0 [(0, 0), (0, 1), (1, 0), (1, 1), (2, 0), (2, 1), (3, 0), (3, 1), (4, 0), (4, 1), (5, 0), (5, 1), (6, 0), (6, 1)] (by revert c; decide +kernel) (by rfl)) $$ [Hin00 HO]
  · isplitr; · iexact HL
    isplitl [Hin00]; · iexact Hin00
    iexact HO
  iintro ⟨HO, Hgot00⟩
  iapply (guard_send va vl κ c 0 0 [(0, 1), (1, 0), (1, 1), (2, 0), (2, 1), (3, 0), (3, 1), (4, 0), (4, 1), (5, 0), (5, 1), (6, 0), (6, 1)] (p := k0_cond3 c = 1#1) (by revert c; decide +kernel) (p' := fun h => (⟨k0_dev26 c, k0_dev26_lt c h⟩ : Dev nD)) (by revert c; decide +kernel) (by rfl) (by rfl)) $$ [Hgot00 Hout00 HO]
  · isplitr; · iexact HL
    isplitl [Hgot00]; · iexact Hgot00
    isplitl [Hout00]; · iexact Hout00
    iexact HO
  iintro ⟨HO, Hend00⟩
  iapply (guard_wait va vl κ c 1 0 [(0, 1), (1, 0), (1, 1), (2, 0), (2, 1), (3, 0), (3, 1), (4, 0), (4, 1), (5, 0), (5, 1), (6, 0), (6, 1)] (by revert c; decide +kernel) (by rfl)) $$ [Hin10 HO]
  · isplitr; · iexact HL
    isplitl [Hin10]; · iexact Hin10
    iexact HO
  iintro ⟨HO, Hgot10⟩
  iapply (guard_send va vl κ c 1 0 [(1, 0), (1, 1), (2, 0), (2, 1), (3, 0), (3, 1), (4, 0), (4, 1), (5, 0), (5, 1), (6, 0), (6, 1)] (p := k0_cond5 c = 1#1) (by revert c; decide +kernel) (p' := fun h => (⟨k0_dev27 c, k0_dev27_lt c h⟩ : Dev nD)) (by revert c; decide +kernel) (by rfl) (by rfl)) $$ [Hgot10 Hout10 HO]
  · isplitr; · iexact HL
    isplitl [Hgot10]; · iexact Hgot10
    isplitl [Hout10]; · iexact Hout10
    iexact HO
  iintro ⟨HO, Hend10⟩
  iapply (guard_wait va vl κ c 0 1 [(1, 0), (1, 1), (2, 0), (2, 1), (3, 0), (3, 1), (4, 0), (4, 1), (5, 0), (5, 1), (6, 0), (6, 1)] (by revert c; decide +kernel) (by rfl)) $$ [Hin01 HO]
  · isplitr; · iexact HL
    isplitl [Hin01]; · iexact Hin01
    iexact HO
  iintro ⟨HO, Hgot01⟩
  iapply (ret_step c)
  ispecialize Hk $$ [HO Hend00 Hend10 Hgot01]
  · isplitl [HO]; · iexact HO
    isplitl [Hend00]; · iexact Hend00
    isplitl [Hend10]; · iexact Hend10
    iexact Hgot01
  iapply Hk

/-- Part 18 of the body: the relay, steps 6 to 11 of 28. -/
theorem part18_run (v13 v25 v240 : BitVec 32) {Q : PUnit → sProp (MT nD τ sig ℕ (Elt F) ℕ UU ℕ)} :
    iprop(look va vl κ ∗ ow c (passed c [(1, 0), (1, 1), (2, 0), (2, 1), (3, 0), (3, 1), (4, 0), (4, 1), (5, 0), (5, 1), (6, 0), (6, 1)]) ∗ outRes c 0 1 ∗ gotRes va vl c 0 1 ∗ inRes c 1 1 ∗ outRes c 1 1 ∗ inRes c 0 2 ∗ outRes c 0 2 ∗ inRes c 1 2)
      ⊢ iprop(((ow c (passed c [(2, 1), (3, 0), (3, 1), (4, 0), (4, 1), (5, 0), (5, 1), (6, 0), (6, 1)]) ∗ endRes va vl c 0 1 ∗ endRes va vl c 1 1 ∗ endRes va vl c 0 2 ∗ gotRes va vl c 1 2) -∗ Q ⟨⟩)
        -∗ W c (k0_part18 (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11 c (my c) v13 v25 v240) Q) := by
  rw [k0_part18_eq_skeleton]
  unfold k0_part18_skel
  simp only [Prog.lift, Prog.bind_op, Prog.bind_ret, Prog.pure_eq_ret]
  iintro ⟨#HL, HO, Hout01, Hgot01, Hin11, Hout11, Hin02, Hout02, Hin12⟩ Hk
  iapply (guard_send va vl κ c 0 1 [(1, 1), (2, 0), (2, 1), (3, 0), (3, 1), (4, 0), (4, 1), (5, 0), (5, 1), (6, 0), (6, 1)] (p := k0_cond7 c = 1#1) (by revert c; decide +kernel) (p' := fun h => (⟨k0_dev28 c, k0_dev28_lt c h⟩ : Dev nD)) (by revert c; decide +kernel) (by rfl) (by rfl)) $$ [Hgot01 Hout01 HO]
  · isplitr; · iexact HL
    isplitl [Hgot01]; · iexact Hgot01
    isplitl [Hout01]; · iexact Hout01
    iexact HO
  iintro ⟨HO, Hend01⟩
  iapply (guard_wait va vl κ c 1 1 [(1, 1), (2, 0), (2, 1), (3, 0), (3, 1), (4, 0), (4, 1), (5, 0), (5, 1), (6, 0), (6, 1)] (by revert c; decide +kernel) (by rfl)) $$ [Hin11 HO]
  · isplitr; · iexact HL
    isplitl [Hin11]; · iexact Hin11
    iexact HO
  iintro ⟨HO, Hgot11⟩
  iapply (guard_send va vl κ c 1 1 [(2, 0), (2, 1), (3, 0), (3, 1), (4, 0), (4, 1), (5, 0), (5, 1), (6, 0), (6, 1)] (p := k0_cond9 c = 1#1) (by revert c; decide +kernel) (p' := fun h => (⟨k0_dev29 c, k0_dev29_lt c h⟩ : Dev nD)) (by revert c; decide +kernel) (by rfl) (by rfl)) $$ [Hgot11 Hout11 HO]
  · isplitr; · iexact HL
    isplitl [Hgot11]; · iexact Hgot11
    isplitl [Hout11]; · iexact Hout11
    iexact HO
  iintro ⟨HO, Hend11⟩
  iapply (guard_wait va vl κ c 0 2 [(2, 0), (2, 1), (3, 0), (3, 1), (4, 0), (4, 1), (5, 0), (5, 1), (6, 0), (6, 1)] (by revert c; decide +kernel) (by rfl)) $$ [Hin02 HO]
  · isplitr; · iexact HL
    isplitl [Hin02]; · iexact Hin02
    iexact HO
  iintro ⟨HO, Hgot02⟩
  iapply (guard_send va vl κ c 0 2 [(2, 1), (3, 0), (3, 1), (4, 0), (4, 1), (5, 0), (5, 1), (6, 0), (6, 1)] (p := k0_cond11 c = 1#1) (by revert c; decide +kernel) (p' := fun h => (⟨k0_dev30 c, k0_dev30_lt c h⟩ : Dev nD)) (by revert c; decide +kernel) (by rfl) (by rfl)) $$ [Hgot02 Hout02 HO]
  · isplitr; · iexact HL
    isplitl [Hgot02]; · iexact Hgot02
    isplitl [Hout02]; · iexact Hout02
    iexact HO
  iintro ⟨HO, Hend02⟩
  iapply (guard_wait va vl κ c 1 2 [(2, 1), (3, 0), (3, 1), (4, 0), (4, 1), (5, 0), (5, 1), (6, 0), (6, 1)] (by revert c; decide +kernel) (by rfl)) $$ [Hin12 HO]
  · isplitr; · iexact HL
    isplitl [Hin12]; · iexact Hin12
    iexact HO
  iintro ⟨HO, Hgot12⟩
  iapply (ret_step c)
  iapply Hk
  isplitl [HO]; · iexact HO
  isplitl [Hend01]; · iexact Hend01
  isplitl [Hend11]; · iexact Hend11
  isplitl [Hend02]; · iexact Hend02
  iexact Hgot12

/-- Part 19 of the body: the relay, steps 12 to 16 of 28. -/
theorem part19_run (v13 v25 : BitVec 32) {Q : (Σ' (v280 : BitVec 1), BitVec 1) → sProp (MT nD τ sig ℕ (Elt F) ℕ UU ℕ)} :
    iprop(look va vl κ ∗ ow c (passed c [(2, 1), (3, 0), (3, 1), (4, 0), (4, 1), (5, 0), (5, 1), (6, 0), (6, 1)]) ∗ outRes c 1 2 ∗ gotRes va vl c 1 2 ∗ inRes c 0 3 ∗ outRes c 0 3 ∗ inRes c 1 3 ∗ outRes c 1 3)
      ⊢ iprop(((ow c (passed c [(4, 0), (4, 1), (5, 0), (5, 1), (6, 0), (6, 1)]) ∗ endRes va vl c 1 2 ∗ endRes va vl c 0 3 ∗ endRes va vl c 1 3) -∗ Q ⟨Scalar.cmpi .sge (my c) 1#32, Scalar.cmpi .sle (my c) 4#32⟩)
        -∗ W c (k0_part19 (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11 c (my c) v13 v25) Q) := by
  rw [k0_part19_eq_skeleton]
  unfold k0_part19_skel
  simp only [Prog.lift, Prog.bind_op, Prog.bind_ret, Prog.pure_eq_ret]
  iintro ⟨#HL, HO, Hout12, Hgot12, Hin03, Hout03, Hin13, Hout13⟩ Hk
  iapply (guard_send va vl κ c 1 2 [(3, 0), (3, 1), (4, 0), (4, 1), (5, 0), (5, 1), (6, 0), (6, 1)] (p := k0_cond13 c = 1#1) (by revert c; decide +kernel) (p' := fun h => (⟨k0_dev31 c, k0_dev31_lt c h⟩ : Dev nD)) (by revert c; decide +kernel) (by rfl) (by rfl)) $$ [Hgot12 Hout12 HO]
  · isplitr; · iexact HL
    isplitl [Hgot12]; · iexact Hgot12
    isplitl [Hout12]; · iexact Hout12
    iexact HO
  iintro ⟨HO, Hend12⟩
  iapply (guard_wait va vl κ c 0 3 [(3, 0), (3, 1), (4, 0), (4, 1), (5, 0), (5, 1), (6, 0), (6, 1)] (by revert c; decide +kernel) (by rfl)) $$ [Hin03 HO]
  · isplitr; · iexact HL
    isplitl [Hin03]; · iexact Hin03
    iexact HO
  iintro ⟨HO, Hgot03⟩
  iapply (guard_send va vl κ c 0 3 [(3, 1), (4, 0), (4, 1), (5, 0), (5, 1), (6, 0), (6, 1)] (p := k0_cond15 c = 1#1) (by revert c; decide +kernel) (p' := fun h => (⟨k0_dev32 c, k0_dev32_lt c h⟩ : Dev nD)) (by revert c; decide +kernel) (by rfl) (by rfl)) $$ [Hgot03 Hout03 HO]
  · isplitr; · iexact HL
    isplitl [Hgot03]; · iexact Hgot03
    isplitl [Hout03]; · iexact Hout03
    iexact HO
  iintro ⟨HO, Hend03⟩
  iapply (guard_wait va vl κ c 1 3 [(3, 1), (4, 0), (4, 1), (5, 0), (5, 1), (6, 0), (6, 1)] (by revert c; decide +kernel) (by rfl)) $$ [Hin13 HO]
  · isplitr; · iexact HL
    isplitl [Hin13]; · iexact Hin13
    iexact HO
  iintro ⟨HO, Hgot13⟩
  iapply (guard_send va vl κ c 1 3 [(4, 0), (4, 1), (5, 0), (5, 1), (6, 0), (6, 1)] (p := k0_cond17 c = 1#1) (by revert c; decide +kernel) (p' := fun h => (⟨k0_dev33 c, k0_dev33_lt c h⟩ : Dev nD)) (by revert c; decide +kernel) (by rfl) (by rfl)) $$ [Hgot13 Hout13 HO]
  · isplitr; · iexact HL
    isplitl [Hgot13]; · iexact Hgot13
    isplitl [Hout13]; · iexact Hout13
    iexact HO
  iintro ⟨HO, Hend13⟩
  iapply (ret_step c)
  iapply Hk
  isplitl [HO]; · iexact HO
  isplitl [Hend12]; · iexact Hend12
  isplitl [Hend03]; · iexact Hend03
  iexact Hend13

/-- Part 20 of the body: the relay, steps 17 to 21 of 28. -/
theorem part20_run (v13 v25 : BitVec 32) {Q : BitVec 1 → sProp (MT nD τ sig ℕ (Elt F) ℕ UU ℕ)} :
    iprop(look va vl κ ∗ ow c (passed c [(4, 0), (4, 1), (5, 0), (5, 1), (6, 0), (6, 1)]) ∗ inRes c 0 4 ∗ outRes c 0 4 ∗ inRes c 1 4 ∗ outRes c 1 4 ∗ inRes c 0 5)
      ⊢ iprop(((ow c (passed c [(5, 0), (5, 1), (6, 0), (6, 1)]) ∗ endRes va vl c 0 4 ∗ endRes va vl c 1 4 ∗ gotRes va vl c 0 5) -∗ ∀ v, Q v)
        -∗ W c (k0_part20 (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11 c (my c) v13 v25 (Scalar.cmpi .sge (my c) 1#32) (Scalar.cmpi .sle (my c) 4#32)) Q) := by
  rw [k0_part20_eq_skeleton]
  unfold k0_part20_skel
  simp only [Prog.lift, Prog.bind_op, Prog.bind_ret, Prog.pure_eq_ret]
  iintro ⟨#HL, HO, Hin04, Hout04, Hin14, Hout14, Hin05⟩ Hk
  iapply (guard_wait va vl κ c 0 4 [(4, 0), (4, 1), (5, 0), (5, 1), (6, 0), (6, 1)] (by revert c; decide +kernel) (by rfl)) $$ [Hin04 HO]
  · isplitr; · iexact HL
    isplitl [Hin04]; · iexact Hin04
    iexact HO
  iintro ⟨HO, Hgot04⟩
  iapply (guard_send va vl κ c 0 4 [(4, 1), (5, 0), (5, 1), (6, 0), (6, 1)] (p := k0_cond19 c = 1#1) (by revert c; decide +kernel) (p' := fun h => (⟨k0_dev34 c, k0_dev34_lt c h⟩ : Dev nD)) (by revert c; decide +kernel) (by rfl) (by rfl)) $$ [Hgot04 Hout04 HO]
  · isplitr; · iexact HL
    isplitl [Hgot04]; · iexact Hgot04
    isplitl [Hout04]; · iexact Hout04
    iexact HO
  iintro ⟨HO, Hend04⟩
  iapply (guard_wait va vl κ c 1 4 [(4, 1), (5, 0), (5, 1), (6, 0), (6, 1)] (by revert c; decide +kernel) (by rfl)) $$ [Hin14 HO]
  · isplitr; · iexact HL
    isplitl [Hin14]; · iexact Hin14
    iexact HO
  iintro ⟨HO, Hgot14⟩
  iapply (guard_send va vl κ c 1 4 [(5, 0), (5, 1), (6, 0), (6, 1)] (p := k0_cond21 c = 1#1) (by revert c; decide +kernel) (p' := fun h => (⟨k0_dev35 c, k0_dev35_lt c h⟩ : Dev nD)) (by revert c; decide +kernel) (by rfl) (by rfl)) $$ [Hgot14 Hout14 HO]
  · isplitr; · iexact HL
    isplitl [Hgot14]; · iexact Hgot14
    isplitl [Hout14]; · iexact Hout14
    iexact HO
  iintro ⟨HO, Hend14⟩
  iapply (guard_wait va vl κ c 0 5 [(5, 0), (5, 1), (6, 0), (6, 1)] (by revert c; decide +kernel) (by rfl)) $$ [Hin05 HO]
  · isplitr; · iexact HL
    isplitl [Hin05]; · iexact Hin05
    iexact HO
  iintro ⟨HO, Hgot05⟩
  iapply (ret_step c)
  ispecialize Hk $$ [HO Hend04 Hend14 Hgot05]
  · isplitl [HO]; · iexact HO
    isplitl [Hend04]; · iexact Hend04
    isplitl [Hend14]; · iexact Hend14
    iexact Hgot05
  iapply Hk

/-- Part 21 of the body: the relay, steps 22 to 26 of 28. -/
theorem part21_run (v13 v25 : BitVec 32) (v303 : BitVec 1) {Q : BitVec 32 → sProp (MT nD τ sig ℕ (Elt F) ℕ UU ℕ)} :
    iprop(look va vl κ ∗ ow c (passed c [(5, 0), (5, 1), (6, 0), (6, 1)]) ∗ outRes c 0 5 ∗ gotRes va vl c 0 5 ∗ inRes c 1 5 ∗ outRes c 1 5 ∗ inRes c 0 6 ∗ outRes c 0 6)
      ⊢ iprop(((ow c (passed c [(6, 1)]) ∗ endRes va vl c 0 5 ∗ endRes va vl c 1 5 ∗ endRes va vl c 0 6) -∗ Q (Scalar.extui (Scalar.cmpi .sge (my c) 5#32)))
        -∗ W c (k0_part21 (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11 c (my c) v13 v25 v303) Q) := by
  rw [k0_part21_eq_skeleton]
  unfold k0_part21_skel
  simp only [Prog.lift, Prog.bind_op, Prog.bind_ret, Prog.pure_eq_ret]
  iintro ⟨#HL, HO, Hout05, Hgot05, Hin15, Hout15, Hin06, Hout06⟩ Hk
  iapply (guard_send va vl κ c 0 5 [(5, 1), (6, 0), (6, 1)] (p := k0_cond23 c = 1#1) (by revert c; decide +kernel) (p' := fun h => (⟨k0_dev36 c, k0_dev36_lt c h⟩ : Dev nD)) (by revert c; decide +kernel) (by rfl) (by rfl)) $$ [Hgot05 Hout05 HO]
  · isplitr; · iexact HL
    isplitl [Hgot05]; · iexact Hgot05
    isplitl [Hout05]; · iexact Hout05
    iexact HO
  iintro ⟨HO, Hend05⟩
  iapply (guard_wait va vl κ c 1 5 [(5, 1), (6, 0), (6, 1)] (by revert c; decide +kernel) (by rfl)) $$ [Hin15 HO]
  · isplitr; · iexact HL
    isplitl [Hin15]; · iexact Hin15
    iexact HO
  iintro ⟨HO, Hgot15⟩
  iapply (guard_send va vl κ c 1 5 [(6, 0), (6, 1)] (p := k0_cond25 c = 1#1) (by revert c; decide +kernel) (p' := fun h => (⟨k0_dev37 c, k0_dev37_lt c h⟩ : Dev nD)) (by revert c; decide +kernel) (by rfl) (by rfl)) $$ [Hgot15 Hout15 HO]
  · isplitr; · iexact HL
    isplitl [Hgot15]; · iexact Hgot15
    isplitl [Hout15]; · iexact Hout15
    iexact HO
  iintro ⟨HO, Hend15⟩
  iapply (guard_wait va vl κ c 0 6 [(6, 0), (6, 1)] (by revert c; decide +kernel) (by rfl)) $$ [Hin06 HO]
  · isplitr; · iexact HL
    isplitl [Hin06]; · iexact Hin06
    iexact HO
  iintro ⟨HO, Hgot06⟩
  iapply (guard_send va vl κ c 0 6 [(6, 1)] (p := k0_cond27 c = 1#1) (by revert c; decide +kernel) (p' := fun h => (⟨k0_dev38 c, k0_dev38_lt c h⟩ : Dev nD)) (by revert c; decide +kernel) (by rfl) (by rfl)) $$ [Hgot06 Hout06 HO]
  · isplitr; · iexact HL
    isplitl [Hgot06]; · iexact Hgot06
    isplitl [Hout06]; · iexact Hout06
    iexact HO
  iintro ⟨HO, Hend06⟩
  iapply (ret_step c)
  iapply Hk
  isplitl [HO]; · iexact HO
  isplitl [Hend05]; · iexact Hend05
  isplitl [Hend15]; · iexact Hend15
  iexact Hend06

end Parts

end Cert.KernelIdeal.Talk

end
-- ==== Proof.Tail.lean ====
/-
  The end of the body: the chunks that were lent come back, and what the receiver of the middle rows keeps.
-/
module

public import proofs.«01_k».proof.Proof.Head
public import proofs.«01_k».proof.Proof.CtxParts
public import proofs.«01_k».proof.Proof.RelayParts

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.ValueIdx (ix2 eq_ix2 idx2_lt0 idx2_lt1)

variable {F : FTy → Type} [FloatOps F]

local notation "𝕄" => MT nD τ sig ℕ (Elt F) ℕ UU ℕ

/-! ## Seven at a time -/

theorem seven_eq (Φ : Fin 7 → sProp (MT nD τ sig ℕ (Elt F) ℕ UU ℕ)) : (seven Φ : sProp 𝕄) = bigSep Finset.univ Φ :=
  (bigSep_univ_eq_bigSepL [(0 : Fin 7), 1, 2, 3, 4, 5, 6] (by decide) (by decide) Φ).symm

theorem seven_mono {Φ Ψ : Fin 7 → sProp (MT nD τ sig ℕ (Elt F) ℕ UU ℕ)} (h : ∀ k, Φ k ⊢ Ψ k) : (seven Φ : sProp 𝕄) ⊢ seven Ψ := by
  rw [seven_eq, seven_eq]
  exact bigSep_mono fun k _ => h k

theorem seven_sep (Φ Ψ : Fin 7 → sProp (MT nD τ sig ℕ (Elt F) ℕ UU ℕ)) : (seven fun k => iprop(Φ k ∗ Ψ k) : sProp 𝕄) = iprop((seven Φ) ∗ seven Ψ) := by
  rw [seven_eq, seven_eq, seven_eq]
  exact bigSep_sep' _ _ _

section Tail

variable (va : Dev nD → FVec F S2048x1024 .f32) (vl : Dev nD → FVec F S2048x8 .f32) (κ : GSem nD τ sig → ℕ) (c : Dev nD)

/-- The share of the middle rows that device c keeps to itself while its copies run. -/
def keep : PosShare TreeShare := if c = 0 then fullShare.right.right else if fwd 0 c || fwd 1 c then fullShare.right else fullShare

/-- Device c's claim on the end of the copy of chunk k in direction d. -/
def cs0 (d : Fin 2) (k : Fin 7) : sProp 𝕄 := if snd d c then crd c (.cs d k) else iprop(emp)
/-- Where device c stands at its receive cell of chunk k in direction d, once a chunk came if one comes. -/
def cr1 (d : Fin 2) (k : Fin 7) : sProp 𝕄 := if rcv d c then pos c (.cr d k) 1 else iprop(emp)
/-- What device 0 has of chunk k once the relay is started. -/
def headK (k : Fin 7) : sProp 𝕄 := if c = 0 then iprop(pts (bcV k) c fullShare.right.right (mid va vl) ∗ crd c (.cs 0 k) ∗ crd c (.cs 1 k)) else iprop(emp)

theorem headOut_eq : headOut va vl c ⊢ seven fun k => headK va vl c k := by
  unfold headOut headK
  by_cases h : c = 0
  · simp only [if_pos h]
    rw [seven_sep, seven_sep]
  · simp only [if_neg h]
    iintro -
    isplitr; · iempintro
    isplitr; · iempintro
    isplitr; · iempintro
    isplitr; · iempintro
    isplitr; · iempintro
    isplitr; · iempintro
    iempintro

theorem roles : (c = 0 ∧ rcv 0 c = false ∧ rcv 1 c = false ∧ snd 0 c = true ∧ snd 1 c = true ∧ fwd 0 c = false ∧ fwd 1 c = false)
    ∨ (c ≠ 0 ∧ rcv 0 c = true ∧ rcv 1 c = false ∧ snd 0 c = true ∧ snd 1 c = false ∧ fwd 0 c = true ∧ fwd 1 c = false)
    ∨ (c ≠ 0 ∧ rcv 0 c = true ∧ rcv 1 c = false ∧ snd 0 c = false ∧ snd 1 c = false ∧ fwd 0 c = false ∧ fwd 1 c = false)
    ∨ (c ≠ 0 ∧ rcv 0 c = false ∧ rcv 1 c = true ∧ snd 0 c = false ∧ snd 1 c = true ∧ fwd 0 c = false ∧ fwd 1 c = true)
    ∨ (c ≠ 0 ∧ rcv 0 c = false ∧ rcv 1 c = true ∧ snd 0 c = false ∧ snd 1 c = false ∧ fwd 0 c = false ∧ fwd 1 c = false) := by
  revert c; decide +kernel

/-- What device c has of chunk k after the relay, whatever its part in the relay was. -/
theorem chunk_in (k : Fin 7) : iprop(headK va vl c k ∗ endRes va vl c 0 k ∗ endRes va vl c 1 k)
    ⊢ iprop(pts (bcV k) c (keep c) (mid va vl) ∗ cs0 c 0 k ∗ cs0 c 1 k ∗ cr1 c 0 k ∗ cr1 c 1 k) := by
  unfold headK endRes keep cs0 cr1
  rcases roles c with h | h | h | h | h <;> obtain ⟨h1, h2, h3, h4, h5, h6, h7⟩ := h
  rotate_left
  all_goals try simp only [if_neg h1, h2, h3, h4, h5, h6, h7, if_true, if_false, Bool.false_eq_true, Bool.or_true, Bool.or_false, Bool.true_or, Bool.false_or]
  all_goals try simp only [if_pos h1, h2, h3, h4, h5, h6, h7, if_true, if_false, Bool.false_eq_true, Bool.or_true, Bool.or_false, Bool.true_or, Bool.false_or]
  rotate_right
  · iintro ⟨⟨H, Ha, Hb⟩, -, -⟩
    isplitl [H]; · iexact H
    isplitl [Ha]; · iexact Ha
    isplitl [Hb]; · iexact Hb
    isplitr <;> iempintro
  · iintro ⟨-, ⟨⟨H, Hp⟩, Ha⟩, -⟩
    isplitl [H]; · iexact H
    isplitl [Ha]; · iexact Ha
    isplitr; · iempintro
    isplitl [Hp]; · iexact Hp
    iempintro
  · iintro ⟨-, ⟨⟨H, Hp⟩, -⟩, -⟩
    isplitl [H]; · iexact H
    isplitr; · iempintro
    isplitr; · iempintro
    isplitl [Hp]; · iexact Hp
    iempintro
  · iintro ⟨-, -, ⟨⟨H, Hp⟩, Ha⟩⟩
    isplitl [H]; · iexact H
    isplitr; · iempintro
    isplitl [Ha]; · iexact Ha
    isplitr; · iempintro
    iexact Hp
  · iintro ⟨-, -, ⟨⟨H, Hp⟩, -⟩⟩
    isplitl [H]; · iexact H
    isplitr; · iempintro
    isplitr; · iempintro
    isplitr; · iempintro
    iexact Hp

/-- What comes back to device c of chunk k from the copy in direction d. -/
def back (d : Fin 2) (k : Fin 7) : sProp 𝕄 := if snd d c then pts (bcV k) c (lent d c) (mid va vl) else iprop(emp)

/-- The shares of chunk k add up to all of it. -/
theorem chunk_out (k : Fin 7) : iprop(pts (bcV k) c (keep c) (mid va vl) ∗ back va vl c 0 k ∗ back va vl c 1 k) ⊢ pts (bcV k) c fullShare (mid va vl) := by
  unfold back keep lent
  rcases roles c with h | h | h | h | h <;> obtain ⟨h1, h2, h3, h4, h5, h6, h7⟩ := h
  rotate_left
  all_goals try simp only [if_neg h1, h2, h3, h4, h5, h6, h7, if_true, if_false, Bool.false_eq_true, Bool.or_true, Bool.or_false, Bool.true_or, Bool.false_or, one_ne_zero]
  all_goals try simp only [if_pos h1, h2, h3, h4, h5, h6, h7, if_true, if_false, Bool.false_eq_true, Bool.or_true, Bool.or_false, Bool.true_or, Bool.false_or, one_ne_zero]
  rotate_right
  · iintro ⟨H, Ha, Hb⟩
    iapply (pointsTo_share (PosShare.mem_left_op_right fullShare)).2
    isplitl [Ha]; · iexact Ha
    iapply (pointsTo_share (PosShare.mem_left_op_right fullShare.right)).2
    isplitl [Hb]; · iexact Hb
    iexact H
  · iintro ⟨H, Ha, -⟩
    iapply (pointsTo_share (PosShare.mem_left_op_right fullShare)).2
    isplitl [Ha]; · iexact Ha
    iexact H
  · iintro ⟨H, -, -⟩
    iexact H
  · iintro ⟨H, -, Ha⟩
    iapply (pointsTo_share (PosShare.mem_left_op_right fullShare)).2
    isplitl [Ha]; · iexact Ha
    iexact H
  · iintro ⟨H, -, -⟩
    iexact H

/-- The wait for the end of the copy of chunk k in direction d. -/
theorem cs_wait {α : Type} {Q : α → sProp (MT nD τ sig ℕ (Elt F) ℕ UU ℕ)} (d : Fin 2) (k : Fin 7) (hs : snd d c = true) {s : DmaSem sig} (hsm : SemLoc.dma s = (Nm.cs d k).sem)
    {h1 : (bcV k).view.WordExact} {h2 : (bcV k).view.WordExact} {J : PUnit → Prog (TpuEff nD τ sig (Elt F) Λ₀ .tc) α} :
    iprop(look va vl κ ∗ crd c (.cs d k) ∗ ow c [] ∗ pos c (.cs d k) 0)
      ⊢ iprop(((ow c [] ∗ pos c (.cs d k) 1 ∗ pts (bcV k) c (lent d c) (mid va vl)) -∗ W c (J ⟨⟩) Q) -∗ W c (.op (.waitDma2 s (bcV k) (bcV k) h1 h2) J) Q) :=
  wait_step va vl κ c (.cs d k) (by simp only [dutiesOf, hs, if_true]) hsm (fun x hx => by cases hx) (by show 0 < 20; omega) (src := bcV k) (dst := bcV k) rfl

/-- Part 7 of the body: the first four waits for the copies to the right. -/
theorem part7_run (hs : snd 0 c = true) {Q : PUnit → sProp (MT nD τ sig ℕ (Elt F) ℕ UU ℕ)} :
    iprop(look va vl κ ∗ ow c [] ∗ crd c (.cs 0 0) ∗ pos c (.cs 0 0) 0 ∗ crd c (.cs 0 1) ∗ pos c (.cs 0 1) 0 ∗ crd c (.cs 0 2) ∗ pos c (.cs 0 2) 0 ∗ crd c (.cs 0 3) ∗ pos c (.cs 0 3) 0)
      ⊢ iprop(((ow c [] ∗ pos c (.cs 0 0) 1 ∗ pts (bcV 0) c (lent 0 c) (mid va vl) ∗ pos c (.cs 0 1) 1 ∗ pts (bcV 1) c (lent 0 c) (mid va vl) ∗ pos c (.cs 0 2) 1 ∗ pts (bcV 2) c (lent 0 c) (mid va vl) ∗ pos c (.cs 0 3) 1 ∗ pts (bcV 3) c (lent 0 c) (mid va vl)) -∗ Q ⟨⟩)
        -∗ W c (k0_part7 (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11 ) Q) := by
  rw [k0_part7_eq_skeleton]
  unfold k0_part7_skel
  simp only [semSignalWord, semWaitWord, Prog.lift, Prog.bind_op, Prog.bind_ret, Prog.pure_eq_ret]
  iintro ⟨#HL, HO, Hc0, Hp0, Hc1, Hp1, Hc2, Hp2, Hc3, Hp3⟩ Hk
  iapply (cs_wait va vl κ c 0 0 hs (by rfl)) $$ [Hc0 HO Hp0]
  · isplitr; · iexact HL
    isplitl [Hc0]; · iexact Hc0
    isplitl [HO]; · iexact HO
    iexact Hp0
  iintro ⟨HO, Hp0, Hb0⟩
  iapply (cs_wait va vl κ c 0 1 hs (by rfl)) $$ [Hc1 HO Hp1]
  · isplitr; · iexact HL
    isplitl [Hc1]; · iexact Hc1
    isplitl [HO]; · iexact HO
    iexact Hp1
  iintro ⟨HO, Hp1, Hb1⟩
  iapply (cs_wait va vl κ c 0 2 hs (by rfl)) $$ [Hc2 HO Hp2]
  · isplitr; · iexact HL
    isplitl [Hc2]; · iexact Hc2
    isplitl [HO]; · iexact HO
    iexact Hp2
  iintro ⟨HO, Hp2, Hb2⟩
  iapply (cs_wait va vl κ c 0 3 hs (by rfl)) $$ [Hc3 HO Hp3]
  · isplitr; · iexact HL
    isplitl [Hc3]; · iexact Hc3
    isplitl [HO]; · iexact HO
    iexact Hp3
  iintro ⟨HO, Hp3, Hb3⟩
  iapply (ret_step c)
  iapply Hk
  isplitl [HO]; · iexact HO
  isplitl [Hp0]; · iexact Hp0
  isplitl [Hb0]; · iexact Hb0
  isplitl [Hp1]; · iexact Hp1
  isplitl [Hb1]; · iexact Hb1
  isplitl [Hp2]; · iexact Hp2
  isplitl [Hb2]; · iexact Hb2
  isplitl [Hp3]; · iexact Hp3
  iexact Hb3

/-- Part 8 of the body: the first four waits for the copies to the left. -/
theorem part8_run (hs : snd 1 c = true) {Q : PUnit → sProp (MT nD τ sig ℕ (Elt F) ℕ UU ℕ)} :
    iprop(look va vl κ ∗ ow c [] ∗ crd c (.cs 1 0) ∗ pos c (.cs 1 0) 0 ∗ crd c (.cs 1 1) ∗ pos c (.cs 1 1) 0 ∗ crd c (.cs 1 2) ∗ pos c (.cs 1 2) 0 ∗ crd c (.cs 1 3) ∗ pos c (.cs 1 3) 0)
      ⊢ iprop(((ow c [] ∗ pos c (.cs 1 0) 1 ∗ pts (bcV 0) c (lent 1 c) (mid va vl) ∗ pos c (.cs 1 1) 1 ∗ pts (bcV 1) c (lent 1 c) (mid va vl) ∗ pos c (.cs 1 2) 1 ∗ pts (bcV 2) c (lent 1 c) (mid va vl) ∗ pos c (.cs 1 3) 1 ∗ pts (bcV 3) c (lent 1 c) (mid va vl)) -∗ Q ⟨⟩)
        -∗ W c (k0_part8 (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11 ) Q) := by
  rw [k0_part8_eq_skeleton]
  unfold k0_part8_skel
  simp only [semSignalWord, semWaitWord, Prog.lift, Prog.bind_op, Prog.bind_ret, Prog.pure_eq_ret]
  iintro ⟨#HL, HO, Hc0, Hp0, Hc1, Hp1, Hc2, Hp2, Hc3, Hp3⟩ Hk
  iapply (cs_wait va vl κ c 1 0 hs (by rfl)) $$ [Hc0 HO Hp0]
  · isplitr; · iexact HL
    isplitl [Hc0]; · iexact Hc0
    isplitl [HO]; · iexact HO
    iexact Hp0
  iintro ⟨HO, Hp0, Hb0⟩
  iapply (cs_wait va vl κ c 1 1 hs (by rfl)) $$ [Hc1 HO Hp1]
  · isplitr; · iexact HL
    isplitl [Hc1]; · iexact Hc1
    isplitl [HO]; · iexact HO
    iexact Hp1
  iintro ⟨HO, Hp1, Hb1⟩
  iapply (cs_wait va vl κ c 1 2 hs (by rfl)) $$ [Hc2 HO Hp2]
  · isplitr; · iexact HL
    isplitl [Hc2]; · iexact Hc2
    isplitl [HO]; · iexact HO
    iexact Hp2
  iintro ⟨HO, Hp2, Hb2⟩
  iapply (cs_wait va vl κ c 1 3 hs (by rfl)) $$ [Hc3 HO Hp3]
  · isplitr; · iexact HL
    isplitl [Hc3]; · iexact Hc3
    isplitl [HO]; · iexact HO
    iexact Hp3
  iintro ⟨HO, Hp3, Hb3⟩
  iapply (ret_step c)
  iapply Hk
  isplitl [HO]; · iexact HO
  isplitl [Hp0]; · iexact Hp0
  isplitl [Hb0]; · iexact Hb0
  isplitl [Hp1]; · iexact Hp1
  isplitl [Hb1]; · iexact Hb1
  isplitl [Hp2]; · iexact Hp2
  isplitl [Hb2]; · iexact Hb2
  isplitl [Hp3]; · iexact Hp3
  iexact Hb3

end Tail

end Cert.KernelIdeal.Talk

end
-- ==== Proof.Prep.lean ====
/-
  What a device enters the body with and leaves it with, and how the body's parts are supplied from it.
-/
module

public import proofs.«01_k».proof.Proof.Tail

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.ValueIdx (ix2 eq_ix2 idx2_lt0 idx2_lt1)

variable {F : FTy → Type} [FloatOps F]

local notation "𝕄" => MT nD τ sig ℕ (Elt F) ℕ UU ℕ

/-- A statement for each of the kernel's own semaphores. -/
def names (Φ : Nm → sProp (MT nD τ sig ℕ (Elt F) ℕ UU ℕ)) : sProp 𝕄 :=
  iprop((Φ (.xs 0) ∗ Φ (.xs 1) ∗ Φ (.xs 2)) ∗ (Φ (.xr 0) ∗ Φ (.xr 1) ∗ Φ (.xr 2)) ∗ (Φ (.ls 0) ∗ Φ (.ls 1) ∗ Φ (.ls 2)) ∗ (Φ (.lr 0) ∗ Φ (.lr 1) ∗ Φ (.lr 2))
    ∗ (seven fun k => Φ (.cs 0 k)) ∗ (seven fun k => Φ (.cs 1 k)) ∗ (seven fun k => Φ (.cr 0 k)) ∗ (seven fun k => Φ (.cr 1 k)))

section Prep

variable (va : Dev nD → FVec F S2048x1024 .f32) (vl : Dev nD → FVec F S2048x8 .f32) (κ : GSem nD τ sig → ℕ) (c : Dev nD)

/-- All of device c's own cells are at round 0. -/
def rchAll : sProp 𝕄 := names fun n => rch c n

set_option synthInstance.maxHeartbeats 400000 in
instance rchAll_persistent : BI.Persistent (rchAll (F := F) c) := by unfold rchAll names; infer_instance

/-- The tokens of round r. -/
def rTok (r : Fin 3) : sProp 𝕄 := iprop(tok c (.xs r) 0 ∗ tok c (.ls r) 0 ∗ tok (partner r.val c) (.xr r) 0 ∗ tok (partner r.val c) (.lr r) 0)
/-- The tokens for chunk k in direction d. -/
def kTok (d : Fin 2) (k : Fin 7) : sProp 𝕄 := if snd d c then iprop(tok c (.cs d k) 0 ∗ tok (next d c) (.cr d k) 0) else iprop(emp)
/-- The claim on chunk k coming in direction d. -/
def kCrd (d : Fin 2) (k : Fin 7) : sProp 𝕄 := if rcv d c then crd c (.cr d k) else iprop(emp)
/-- Where device c stands at the end at its own cell of a name: after the one round if the cell has one. -/
def endR : Nm → ℕ
  | .cs d _ => if snd d c then 1 else 0
  | .cr d _ => if rcv d c then 1 else 0
  | _ => 1

/-! ### The barrier's units -/

theorem barPay_0 : barPay (F := F) (partner 0 c) 0 = slotPay c 0 := by
  unfold barPay; rw [if_pos rfl, show partner 0 (partner 0 c) = c from partner_partner 0 c]
theorem barPay_1 : barPay (F := F) (partner 1 c) 1 = slotPay c 1 := by
  unfold barPay; rw [if_neg (by decide), if_pos rfl, show partner 1 (partner 1 c) = c from partner_partner 1 c]
theorem barPay_2 : barPay (F := F) (partner 2 c) 2 = slotPay c 2 := by
  unfold barPay; rw [if_neg (by decide), if_neg (by decide), if_pos rfl, show partner 2 (partner 2 c) = c from partner_partner 2 c]
theorem barPay_3 : barPay (F := F) (next 0 c) 3 = if rcv 1 c then relayPay c 1 else iprop(emp) := by
  unfold barPay
  rw [if_neg (by decide), if_neg (by decide), if_neg (by decide), if_pos rfl, show snd 1 (next 0 c) = rcv 1 c by revert c; decide +kernel, show next 1 (next 0 c) = c by revert c; decide +kernel]
theorem barPay_4 : barPay (F := F) (next 1 c) 4 = if rcv 0 c then relayPay c 0 else iprop(emp) := by
  unfold barPay
  rw [if_neg (by decide), if_neg (by decide), if_neg (by decide), if_neg (by decide), show snd 0 (next 1 c) = rcv 0 c by revert c; decide +kernel, show next 0 (next 1 c) = c by revert c; decide +kernel]
theorem barPay_c3 : barPay (F := F) c 3 = if snd 1 c then relayPay (next 1 c) 1 else iprop(emp) := by
  unfold barPay; rw [if_neg (by decide), if_neg (by decide), if_neg (by decide), if_pos rfl]
theorem barPay_c4 : barPay (F := F) c 4 = if snd 0 c then relayPay (next 0 c) 0 else iprop(emp) := by
  unfold barPay; rw [if_neg (by decide), if_neg (by decide), if_neg (by decide), if_neg (by decide)]

/-- Device c hands its slots over. -/
theorem slots_give : iprop(rchAll c ∗ (∃ f, pts raM c fullShare f) ∗ (∃ f, pts rlM c fullShare f)) ⊢ (iprop(slotPay c 0 ∗ slotPay c 1 ∗ slotPay c 2) : sProp 𝕄) := by
  unfold rchAll names slotPay
  iintro ⟨⟨-, ⟨#Hx0, #Hx1, #Hx2⟩, -, ⟨#Hl0, #Hl1, #Hl2⟩, -⟩, ⟨%f, Ha⟩, ⟨%g, Hl⟩⟩
  ihave Ha := (Entails.of_eq (ra_split c fullShare f)) $$ Ha
  ihave Hl := (Entails.of_eq (rl_split c fullShare g)) $$ Hl
  icases Ha with ⟨Ha0, Ha1, Ha2⟩
  icases Hl with ⟨Hl0', Hl1', Hl2'⟩
  isplitl [Ha0 Hl0']
  · isplitl [Ha0]; · iexists f; iexact Ha0
    isplitl [Hl0']; · iexists g; iexact Hl0'
    isplitr; · iexact Hx0
    iexact Hl0
  isplitl [Ha1 Hl1']
  · isplitl [Ha1]; · iexists f; iexact Ha1
    isplitl [Hl1']; · iexists g; iexact Hl1'
    isplitr; · iexact Hx1
    iexact Hl1
  isplitl [Ha2]; · iexists f; iexact Ha2
  isplitl [Hl2']; · iexists g; iexact Hl2'
  isplitr; · iexact Hx2
  iexact Hl2

/-- Device c hands its chunks over, if it receives any; device 0 keeps them. -/
theorem chunks_give : iprop(rchAll c ∗ ∃ f, pts bcM c fullShare f)
    ⊢ (iprop((if c = 0 then iprop(∃ f, pts bcM c fullShare f) else iprop(emp)) ∗ (if rcv 1 c then relayPay c 1 else iprop(emp)) ∗ (if rcv 0 c then relayPay c 0 else iprop(emp))) : sProp 𝕄) := by
  have hg : ∀ (d : Fin 2) (f : Buf (Elt F) (bcM.view.loc (c : Thread nD τ))), iprop((seven fun k => rch c (.cr d k)) ∗ pts bcM c fullShare f) ⊢ (relayPay c d : sProp 𝕄) := by
    intro d f
    unfold relayPay
    rw [bc_split, ← seven_sep]
    refine seven_mono fun k => ?_
    iintro ⟨#Hr, H⟩
    isplitl [H]
    · iexists f; iexact H
    · iexact Hr
  unfold rchAll names
  iintro ⟨⟨-, -, -, -, -, -, #H0, #H1⟩, %f, H⟩
  rcases roles c with h | h | h | h | h <;> obtain ⟨h1, h2, h3, h4, h5, h6, h7⟩ := h
  rotate_left
  all_goals try simp only [if_neg h1, h2, h3, h4, h5, h6, h7, if_true, if_false, Bool.false_eq_true]
  all_goals try simp only [if_pos h1, h2, h3, h4, h5, h6, h7, if_true, if_false, Bool.false_eq_true]
  rotate_right
  · isplitl [H]; · iexists f; iexact H
    isplitr <;> iempintro
  · isplitr; · iempintro
    isplitr; · iempintro
    iapply (hg 0 f)
    isplitr; · iexact H0
    iexact H
  · isplitr; · iempintro
    isplitr; · iempintro
    iapply (hg 0 f)
    isplitr; · iexact H0
    iexact H
  · isplitr; · iempintro
    isplitl [H]
    · iapply (hg 1 f)
      isplitr; · iexact H1
      iexact H
    · iempintro
  · isplitr; · iempintro
    isplitl [H]
    · iapply (hg 1 f)
      isplitr; · iexact H1
      iexact H
    · iempintro

/-! ### Supplying the rounds and the relay -/

/-- The copies of round r are supplied from the tokens and the partner's slots. -/
theorem send_in (r : Fin 3) : iprop(rch c (.xs r) ∗ rch c (.ls r) ∗ rTok c r ∗ slotPay (partner r.val c) r) ⊢ (sendRes c r : sProp 𝕄) := by
  unfold rTok sendRes
  iintro ⟨#H1, #H2, ⟨Ht1, Ht2, Ht3, Ht4⟩, Hs⟩
  isplitl [Ht1]; · iexact Ht1
  isplitr; · iexact H1
  isplitl [Ht2]; · iexact Ht2
  isplitr; · iexact H2
  isplitl [Ht3]; · iexact Ht3
  isplitl [Ht4]; · iexact Ht4
  iexact Hs

/-- The receiver's side of chunk k in direction d, as the barrier brought it. -/
def kPay (d : Fin 2) (k : Fin 7) : sProp 𝕄 := if snd d c then iprop((∃ f, pts (bcV k) (next d c) fullShare f) ∗ rch (next d c) (.cr d k)) else iprop(emp)

theorem emp_seven : (iprop(emp) : sProp 𝕄) ⊢ seven fun _ => iprop(emp) := by
  iintro -
  isplitr; · iempintro
  isplitr; · iempintro
  isplitr; · iempintro
  isplitr; · iempintro
  isplitr; · iempintro
  isplitr; · iempintro
  iempintro

theorem kPay_eq (d : Fin 2) : (if snd d c then relayPay (F := F) (next d c) d else iprop(emp)) ⊢ (seven fun k => kPay c d k) := by
  unfold kPay relayPay
  by_cases h : snd d c = true
  · simp only [if_pos h]; exact Entails.refl _
  · simp only [if_neg h]; exact emp_seven

/-- What device 0 starts chunk k with in direction d. -/
def hTok (d : Fin 2) (k : Fin 7) : sProp 𝕄 := if c = 0 then sendTok c d k else iprop(emp)

/-- The copies of chunk k in direction d are supplied from the tokens and the receiver's buffer. -/
theorem chunk_send_in (d : Fin 2) (k : Fin 7) : iprop(rch c (.cs d k) ∗ kTok c d k ∗ kPay c d k) ⊢ (iprop(hTok c d k ∗ outRes c d k) : sProp 𝕄) := by
  unfold kTok kPay hTok outRes
  by_cases hs : snd d c = true
  · by_cases h0 : c = 0
    · have hf : ¬ fwd d c = true := by subst h0; exact (by decide +kernel : ∀ d, ¬ fwd d (0 : Dev nD) = true) d
      rw [if_pos hs, if_pos hs, if_pos h0, if_neg hf]
      unfold sendTok
      iintro ⟨#H, ⟨H1, H2⟩, Hb, #Hr⟩
      isplitl [H1 H2 Hb]
      · isplitl [H1]; · iexact H1
        isplitr; · iexact H
        isplitl [H2]; · iexact H2
        isplitr; · iexact Hr
        iexact Hb
      · iempintro
    · have hf : fwd d c = true := by unfold fwd; rw [hs, decide_eq_true h0]; rfl
      rw [if_pos hs, if_pos hs, if_neg h0, if_pos hf]
      iintro ⟨#H, ⟨H1, H2⟩, Hb, #Hr⟩
      isplitr; · iempintro
      isplitl [H1]; · iexact H1
      isplitr; · iexact H
      isplitl [H2]; · iexact H2
      isplitr; · iexact Hr
      iexact Hb
  · have h0 : ¬ c = 0 := by
      intro h; subst h; exact hs ((by decide +kernel : ∀ d, snd d (0 : Dev nD) = true) d)
    have hf : ¬ fwd d c = true := fun h => hs (snd_of_fwd d c h)
    rw [if_neg hs, if_neg hs, if_neg h0, if_neg hf]
    iintro ⟨-, -, -⟩
    isplitr <;> iempintro

/-- Where device c stands at a receive cell that it does not use. -/
def cr0 (d : Fin 2) (k : Fin 7) : sProp 𝕄 := if rcv d c then iprop(emp) else pos c (.cr d k) 0

theorem chunk_recv_in (d : Fin 2) (k : Fin 7) : iprop(pos c (.cr d k) 0 ∗ kCrd c d k) ⊢ (iprop(inRes c d k ∗ cr0 c d k) : sProp 𝕄) := by
  unfold kCrd inRes cr0
  by_cases h : rcv d c = true
  · rw [if_pos h, if_pos h, if_pos h]
    iintro ⟨H1, H2⟩
    isplitl [H1 H2]
    · isplitl [H2]; · iexact H2
      iexact H1
    · iempintro
  · rw [if_neg h, if_neg h, if_neg h]
    iintro ⟨H1, -⟩
    isplitr; · iempintro
    iexact H1

theorem cr_end (d : Fin 2) (k : Fin 7) : iprop(cr0 c d k ∗ cr1 c d k) ⊢ (pos c (.cr d k) (endR c (.cr d k)) : sProp 𝕄) := by
  unfold cr0 cr1 endR
  by_cases h : rcv d c = true
  · simp only [if_pos h]; iintro ⟨-, H⟩; iexact H
  · simp only [if_neg h]; iintro ⟨H, -⟩; iexact H

/-- The end of the copies in direction 0: device c waits for all of them if it made them. -/
theorem back0_run {α : Type} {Q : α → sProp (MT nD τ sig ℕ (Elt F) ℕ UU ℕ)} {p : Prop} [Decidable p] (hp : p ↔ snd 0 c = true) {s4 s5 s6 : DmaSem sig}
    (h4 : SemLoc.dma s4 = (Nm.cs 0 4).sem) (h5 : SemLoc.dma s5 = (Nm.cs 0 5).sem) (h6 : SemLoc.dma s6 = (Nm.cs 0 6).sem)
    {a4 b4 : p → (bcV 4).view.WordExact} {a5 b5 : p → (bcV 5).view.WordExact} {a6 b6 : p → (bcV 6).view.WordExact} {J : Prog (TpuEff nD τ sig (Elt F) Λ₀ .tc) α} :
    iprop(look va vl κ ∗ ow c [] ∗ (seven fun k => cs0 c 0 k) ∗ (seven fun k => pos c (.cs 0 k) 0))
      ⊢ iprop(((ow c [] ∗ (seven fun k => pos c (.cs 0 k) (endR c (.cs 0 k))) ∗ (seven fun k => back va vl c 0 k)) -∗ W c J Q)
        -∗ W c (if h : p then (k0_part7 (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11 >>= fun _ => .op (.waitDma2 s4 (bcV 4) (bcV 4) (a4 h) (b4 h)) fun _ =>
          .op (.waitDma2 s5 (bcV 5) (bcV 5) (a5 h) (b5 h)) fun _ => .op (.waitDma2 s6 (bcV 6) (bcV 6) (a6 h) (b6 h)) fun _ => J) else J) Q) := by
  unfold cs0 back endR
  by_cases hs : snd 0 c = true
  · rw [dif_pos (hp.mpr hs)]
    simp only [if_pos hs]
    iintro ⟨#HL, HO, ⟨Hc0, Hc1, Hc2, Hc3, Hc4, Hc5, Hc6⟩, ⟨Hp0, Hp1, Hp2, Hp3, Hp4, Hp5, Hp6⟩⟩ Hk
    iapply (bind_step c)
    iapply (part7_run va vl κ c hs) $$ [HO Hc0 Hp0 Hc1 Hp1 Hc2 Hp2 Hc3 Hp3]
    · isplitr; · iexact HL
      isplitl [HO]; · iexact HO
      isplitl [Hc0]; · iexact Hc0
      isplitl [Hp0]; · iexact Hp0
      isplitl [Hc1]; · iexact Hc1
      isplitl [Hp1]; · iexact Hp1
      isplitl [Hc2]; · iexact Hc2
      isplitl [Hp2]; · iexact Hp2
      isplitl [Hc3]; · iexact Hc3
      iexact Hp3
    iintro ⟨HO, Hp0, Hb0, Hp1, Hb1, Hp2, Hb2, Hp3, Hb3⟩
    iapply (cs_wait va vl κ c 0 4 hs h4 (h1 := a4 (hp.mpr hs)) (h2 := b4 (hp.mpr hs))) $$ [Hc4 HO Hp4]
    · isplitr; · iexact HL
      isplitl [Hc4]; · iexact Hc4
      isplitl [HO]; · iexact HO
      iexact Hp4
    iintro ⟨HO, Hp4, Hb4⟩
    iapply (cs_wait va vl κ c 0 5 hs h5 (h1 := a5 (hp.mpr hs)) (h2 := b5 (hp.mpr hs))) $$ [Hc5 HO Hp5]
    · isplitr; · iexact HL
      isplitl [Hc5]; · iexact Hc5
      isplitl [HO]; · iexact HO
      iexact Hp5
    iintro ⟨HO, Hp5, Hb5⟩
    iapply (cs_wait va vl κ c 0 6 hs h6 (h1 := a6 (hp.mpr hs)) (h2 := b6 (hp.mpr hs))) $$ [Hc6 HO Hp6]
    · isplitr; · iexact HL
      isplitl [Hc6]; · iexact Hc6
      isplitl [HO]; · iexact HO
      iexact Hp6
    iintro ⟨HO, Hp6, Hb6⟩
    iapply Hk
    isplitl [HO]; · iexact HO
    isplitl [Hp0 Hp1 Hp2 Hp3 Hp4 Hp5 Hp6]
    · isplitl [Hp0]; · iexact Hp0
      isplitl [Hp1]; · iexact Hp1
      isplitl [Hp2]; · iexact Hp2
      isplitl [Hp3]; · iexact Hp3
      isplitl [Hp4]; · iexact Hp4
      isplitl [Hp5]; · iexact Hp5
      iexact Hp6
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    iexact Hb6
  · rw [dif_neg (fun h => hs (hp.mp h))]
    simp only [if_neg hs]
    iintro ⟨#HL, HO, -, Hp⟩ Hk
    iapply Hk
    isplitl [HO]; · iexact HO
    isplitl [Hp]; · iexact Hp
    iapply emp_seven
    iempintro

/-- The end of the copies in direction 1: device c waits for all of them if it made them. -/
theorem back1_run {α : Type} {Q : α → sProp (MT nD τ sig ℕ (Elt F) ℕ UU ℕ)} {p : Prop} [Decidable p] (hp : p ↔ snd 1 c = true) {s4 s5 s6 : DmaSem sig}
    (h4 : SemLoc.dma s4 = (Nm.cs 1 4).sem) (h5 : SemLoc.dma s5 = (Nm.cs 1 5).sem) (h6 : SemLoc.dma s6 = (Nm.cs 1 6).sem)
    {a4 b4 : p → (bcV 4).view.WordExact} {a5 b5 : p → (bcV 5).view.WordExact} {a6 b6 : p → (bcV 6).view.WordExact} {J : Prog (TpuEff nD τ sig (Elt F) Λ₀ .tc) α} :
    iprop(look va vl κ ∗ ow c [] ∗ (seven fun k => cs0 c 1 k) ∗ (seven fun k => pos c (.cs 1 k) 0))
      ⊢ iprop(((ow c [] ∗ (seven fun k => pos c (.cs 1 k) (endR c (.cs 1 k))) ∗ (seven fun k => back va vl c 1 k)) -∗ W c J Q)
        -∗ W c (if h : p then (k0_part8 (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11 >>= fun _ => .op (.waitDma2 s4 (bcV 4) (bcV 4) (a4 h) (b4 h)) fun _ =>
          .op (.waitDma2 s5 (bcV 5) (bcV 5) (a5 h) (b5 h)) fun _ => .op (.waitDma2 s6 (bcV 6) (bcV 6) (a6 h) (b6 h)) fun _ => J) else J) Q) := by
  unfold cs0 back endR
  by_cases hs : snd 1 c = true
  · rw [dif_pos (hp.mpr hs)]
    simp only [if_pos hs]
    iintro ⟨#HL, HO, ⟨Hc0, Hc1, Hc2, Hc3, Hc4, Hc5, Hc6⟩, ⟨Hp0, Hp1, Hp2, Hp3, Hp4, Hp5, Hp6⟩⟩ Hk
    iapply (bind_step c)
    iapply (part8_run va vl κ c hs) $$ [HO Hc0 Hp0 Hc1 Hp1 Hc2 Hp2 Hc3 Hp3]
    · isplitr; · iexact HL
      isplitl [HO]; · iexact HO
      isplitl [Hc0]; · iexact Hc0
      isplitl [Hp0]; · iexact Hp0
      isplitl [Hc1]; · iexact Hc1
      isplitl [Hp1]; · iexact Hp1
      isplitl [Hc2]; · iexact Hc2
      isplitl [Hp2]; · iexact Hp2
      isplitl [Hc3]; · iexact Hc3
      iexact Hp3
    iintro ⟨HO, Hp0, Hb0, Hp1, Hb1, Hp2, Hb2, Hp3, Hb3⟩
    iapply (cs_wait va vl κ c 1 4 hs h4 (h1 := a4 (hp.mpr hs)) (h2 := b4 (hp.mpr hs))) $$ [Hc4 HO Hp4]
    · isplitr; · iexact HL
      isplitl [Hc4]; · iexact Hc4
      isplitl [HO]; · iexact HO
      iexact Hp4
    iintro ⟨HO, Hp4, Hb4⟩
    iapply (cs_wait va vl κ c 1 5 hs h5 (h1 := a5 (hp.mpr hs)) (h2 := b5 (hp.mpr hs))) $$ [Hc5 HO Hp5]
    · isplitr; · iexact HL
      isplitl [Hc5]; · iexact Hc5
      isplitl [HO]; · iexact HO
      iexact Hp5
    iintro ⟨HO, Hp5, Hb5⟩
    iapply (cs_wait va vl κ c 1 6 hs h6 (h1 := a6 (hp.mpr hs)) (h2 := b6 (hp.mpr hs))) $$ [Hc6 HO Hp6]
    · isplitr; · iexact HL
      isplitl [Hc6]; · iexact Hc6
      isplitl [HO]; · iexact HO
      iexact Hp6
    iintro ⟨HO, Hp6, Hb6⟩
    iapply Hk
    isplitl [HO]; · iexact HO
    isplitl [Hp0 Hp1 Hp2 Hp3 Hp4 Hp5 Hp6]
    · isplitl [Hp0]; · iexact Hp0
      isplitl [Hp1]; · iexact Hp1
      isplitl [Hp2]; · iexact Hp2
      isplitl [Hp3]; · iexact Hp3
      isplitl [Hp4]; · iexact Hp4
      isplitl [Hp5]; · iexact Hp5
      iexact Hp6
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    iexact Hb6
  · rw [dif_neg (fun h => hs (hp.mp h))]
    simp only [if_neg hs]
    iintro ⟨#HL, HO, -, Hp⟩ Hk
    iapply Hk
    isplitl [HO]; · iexact HO
    isplitl [Hp]; · iexact Hp
    iapply emp_seven
    iempintro

/-- Device 0 starts the relay with its own chunk buffer. -/
theorem head_in : iprop((if c = 0 then iprop(∃ f, pts bcM c fullShare f) else iprop(emp)) ∗ (seven fun k => hTok c 0 k) ∗ (seven fun k => hTok c 1 k)) ⊢ (headIn c : sProp 𝕄) := by
  unfold headIn hTok
  by_cases h : c = 0
  · simp only [if_pos h]; exact Entails.refl _
  · simp only [if_neg h]; iintro -; iempintro

end Prep

end Cert.KernelIdeal.Talk

end
-- ==== Proof.Body.lean ====
/-
  The whole body on a device: its parts one after the other.
-/
module

public import proofs.«01_k».proof.Proof.Prep

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.ValueIdx (ix2 eq_ix2 idx2_lt0 idx2_lt1)

variable {F : FTy → Type} [FloatOps F]

local notation "𝕄" => MT nD τ sig ℕ (Elt F) ℕ UU ℕ

section Body

variable (va : Dev nD → FVec F S2048x1024 .f32) (vl : Dev nD → FVec F S2048x8 .f32) (vw : Dev nD → FVec F S1024x1024 .f32) (κ : GSem nD τ sig → ℕ) (c : Dev nD)

/-- What device c computes. -/
def outV : FVec F S1x2048x1024 .f32 := k0_pay2 (ctx va vl c) (vw c)

/-- What device c enters the body with. -/
def bodyIn : sProp 𝕄 :=
  iprop(look va vl κ ∗ ow c (duesP c)
    ∗ (tok (partner 0 c) .bar 0 ∗ tok (partner 1 c) .bar 1 ∗ tok (partner 2 c) .bar 2 ∗ tok (next 0 c) .bar 3 ∗ tok (next 1 c) .bar 4)
    ∗ (rch (partner 0 c) .bar ∗ rch (partner 1 c) .bar ∗ rch (partner 2 c) .bar ∗ rch (next 0 c) .bar ∗ rch (next 1 c) .bar)
    ∗ cred (tallyAt (cell c .bar) 1 5) ∗ pos c .bar 0
    ∗ (rTok c 0 ∗ rTok c 1 ∗ rTok c 2) ∗ (seven fun k => kTok c 0 k) ∗ (seven fun k => kTok c 1 k)
    ∗ (names fun n => pos c n 0) ∗ rchAll c
    ∗ (crd c (.xr 0) ∗ crd c (.xr 1) ∗ crd c (.xr 2)) ∗ (crd c (.lr 0) ∗ crd c (.lr 1) ∗ crd c (.lr 2)) ∗ (seven fun k => kCrd c 0 k) ∗ (seven fun k => kCrd c 1 k)
    ∗ pts accM c fullShare (va c) ∗ pts lM c fullShare (vl c) ∗ pts woM c fullShare (vw c) ∗ (∃ f, pts outM c fullShare f)
    ∗ (∃ f, pts xaM c fullShare f) ∗ (∃ f, pts xlM c fullShare f) ∗ (∃ f, pts raM c fullShare f) ∗ (∃ f, pts rlM c fullShare f) ∗ (∃ f, pts bcM c fullShare f) ∗ (∃ f, pts cxM c fullShare f))

/-- What device c leaves the body with. -/
def bodyOut : sProp 𝕄 :=
  iprop(ow c [] ∗ pos c .bar 1 ∗ (names fun n => pos c n (endR c n))
    ∗ pts accM c fullShare (va c) ∗ pts lM c fullShare (vl c) ∗ pts woM c fullShare (vw c) ∗ pts outM c fullShare (outV va vl vw c)
    ∗ (∃ f, pts xaM c fullShare f) ∗ (∃ f, pts xlM c fullShare f) ∗ (∃ f, pts raM c fullShare f) ∗ (∃ f, pts rlM c fullShare f) ∗ (∃ f, pts bcM c fullShare f) ∗ (∃ f, pts cxM c fullShare f))

theorem aboveBar : ∀ x ∈ headDues c ++ (roundDues c 0 ++ (roundDues c 1 ++ (roundDues c 2 ++ tailDues c))), 1 < lvl x.1 x.2 ∧ lvl x.1 x.2 < lvlN := by
  revert c; decide +kernel

theorem back0_iff : Iff (Scalar.cmpi .ne (Scalar.extui (Scalar.cmpi .sle (my c) 3#32) : BitVec 32) 0#32 = 1#1) (snd 0 c = true) := by revert c; decide +kernel
theorem back1_iff : Iff (Scalar.cmpi .ne (Scalar.extui (Scalar.ori (Scalar.cmpi .eq (my c) 0#32) (Scalar.cmpi .sge (my c) 6#32)) : BitVec 32) 0#32 = 1#1) (snd 1 c = true) := by
  revert c; decide +kernel

/-- The blocks of the edge rows and of the middle rows are all of the context. -/
theorem ctx_cover (x : S2048x1024.Idx) : has [(128, 0, 1792, 1024), (1920, 896, 128, 128), (0, 896, 128, 128), (1920, 768, 128, 128), (0, 768, 128, 128), (1920, 640, 128, 128), (0, 640, 128, 128), (1920, 512, 128, 128), (0, 512, 128, 128), (1920, 384, 128, 128), (0, 384, 128, 128), (1920, 256, 128, 128), (0, 256, 128, 128), (1920, 128, 128, 128), (0, 128, 128, 128), (1920, 0, 128, 128), (0, 0, 128, 128)] x := by
  have h0 := idx2_lt0 x
  have h1 := idx2_lt1 x
  have hm : (x 1).val / 128 < 8 := by omega
  by_cases ha : (x 0).val < 128
  · have hb : blk (0, 128 * ((x 1).val / 128), 128, 128) x := by
      refine ⟨Nat.zero_le _, ?_, ?_, ?_⟩
      · show _ < 0 + 128; omega
      · show 128 * _ ≤ _; omega
      · show _ < 128 * _ + 128; omega
    refine ⟨_, ?_, hb⟩
    generalize (x 1).val / 128 = n at hm
    interval_cases n <;> simp
  · by_cases hc : (x 0).val < 1920
    · have hb : blk (128, 0, 1792, 1024) x := by
        refine ⟨?_, ?_, Nat.zero_le _, ?_⟩
        · show 128 ≤ _; omega
        · show _ < 128 + 1792; omega
        · show _ < 0 + 1024; omega
      exact ⟨_, by simp, hb⟩
    · have hb : blk (1920, 128 * ((x 1).val / 128), 128, 128) x := by
        refine ⟨?_, ?_, ?_, ?_⟩
        · show 1920 ≤ _; omega
        · show _ < 1920 + 128; omega
        · show 128 * _ ≤ _; omega
        · show _ < 128 * _ + 128; omega
      refine ⟨_, ?_, hb⟩
      generalize (x 1).val / 128 = n at hm
      interval_cases n <;> simp

theorem unit3_emb {n p q : ℕ} (h : ∀ a, (![0, 0, 0] : Fin 3 → Nat) a + (![n, p, q] : Fin 3 → Nat) a ≤ (⟨3, ![n, p, q]⟩ : Shape).size a) (j : (⟨3, ![n, p, q]⟩ : Shape).Idx) :
    (Rect.unit (s := ⟨3, ![n, p, q]⟩) ![0, 0, 0] ![n, p, q] h).emb j = j := by
  funext a
  refine Fin.ext ?_
  rw [Rect.emb_apply]
  show (![0, 0, 0] : Fin 3 → Nat) a + 1 * (j a).val = (j a).val
  fin_cases a <;> (show 0 + 1 * _ = _; omega)

/-- A store over all of a memref of rank 3. -/
theorem st_all3 {α : Type} {Q : α → sProp (MT nD τ sig ℕ (Elt F) ℕ UU ℕ)} {n p q : ℕ} {e : EltTy} {m : Memref sig .tc .vmem ⟨3, ![n, p, q]⟩ e}
    {h : ∀ a, (![0, 0, 0] : Fin 3 → Nat) a + (![n, p, q] : Fin 3 → Nat) a ≤ (⟨3, ![n, p, q]⟩ : Shape).size a} {w : (⟨3, ![n, p, q]⟩ : Shape).Idx → Elt F e}
    {hx : (m.access (Rect.unit (s := ⟨3, ![n, p, q]⟩) ![0, 0, 0] ![n, p, q] h)).Stores Finset.univ} {hm}
    {f : Buf (Elt F) (m.view.loc (c : Thread nD τ))} {k : PUnit → Prog (TpuEff nD τ sig (Elt F) Λ₀ .tc) α} :
    pts m c fullShare f ⊢ iprop((∀ g, ⌜m.view.read (Elt F) g = w⌝ -∗ pts m c fullShare g -∗ W c (k ⟨⟩) Q)
      -∗ W c (.op (.store m (Rect.unit (s := ⟨3, ![n, p, q]⟩) ![0, 0, 0] ![n, p, q] h) w Finset.univ hx hm) k) Q) := by
  iintro H Hk
  iapply (st c (m := m) (r := Rect.unit (s := ⟨3, ![n, p, q]⟩) ![0, 0, 0] ![n, p, q] h) (w := w) (hx := hx) (hm := hm)) $$ H
  iintro H
  ispecialize Hk $$ %((m.access (Rect.unit (s := ⟨3, ![n, p, q]⟩) ![0, 0, 0] ![n, p, q] h)).write (Elt F) f w Finset.univ)
  iapply Hk $$ [] H
  ipureintro
  funext j
  have h1 := congrFun ((m.access (Rect.unit (s := ⟨3, ![n, p, q]⟩) ![0, 0, 0] ![n, p, q] h)).read_write_univ (Val := Elt F) f w) j
  rw [← h1]
  show _ = m.view.read (Elt F) _ ((Rect.unit (s := ⟨3, ![n, p, q]⟩) ![0, 0, 0] ![n, p, q] h).emb j)
  rw [unit3_emb]

set_option maxHeartbeats 4000000 in
/-- The body takes device c from what it enters with to what it leaves with. -/
theorem body_run {Q : PUnit → sProp (MT nD τ sig ℕ (Elt F) ℕ UU ℕ)} :
    bodyIn va vl vw κ c ⊢ iprop((bodyOut va vl vw c -∗ Q ⟨⟩) -∗ W c (cc0__ring_body (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11) Q) := by
  rw [cc0__ring_body_eq_skeleton]
  unfold cc0__ring_body_skel
  simp only [Prog.lift, Prog.bind_op, Prog.bind_ret, Prog.pure_eq_ret]
  unfold bodyIn
  iintro ⟨#HL, HO, ⟨Hbt0, Hbt1, Hbt2, Hbt3, Hbt4⟩, ⟨#Hbr0, #Hbr1, #Hbr2, #Hbr3, #Hbr4⟩, Hcb, Hpb, ⟨HT0, HT1, HT2⟩, Hk0, Hk1, HP, #HR, ⟨Hcxr0, Hcxr1, Hcxr2⟩, ⟨Hclr0, Hclr1, Hclr2⟩, HC0, HC1, Hacc, Hl, Hwo, ⟨%fo, Hout⟩, Hxa, Hxl, Hra, Hrl, Hbc, ⟨%fc, Hcx⟩⟩ Hk
  ihave HP := (Entails.of_eq (show (names fun n => pos (F := F) c n 0) = _ from rfl)) $$ HP
  unfold names
  icases HP with ⟨⟨Hpxs0, Hpxs1, Hpxs2⟩, ⟨Hpxr0, Hpxr1, Hpxr2⟩, ⟨Hpls0, Hpls1, Hpls2⟩, ⟨Hplr0, Hplr1, Hplr2⟩, Hpcs0, Hpcs1, Hpcr0, Hpcr1⟩
  ihave HR' := (Entails.of_eq (show rchAll (F := F) c = names fun n => rch c n from rfl)) $$ HR
  unfold names
  icases HR' with ⟨⟨#Rxs0, #Rxs1, #Rxs2⟩, ⟨#Rxr0, #Rxr1, #Rxr2⟩, ⟨#Rls0, #Rls1, #Rls2⟩, ⟨#Rlr0, #Rlr1, #Rlr2⟩, ⟨#Rcs00, #Rcs01, #Rcs02, #Rcs03, #Rcs04, #Rcs05, #Rcs06⟩, ⟨#Rcs10, #Rcs11, #Rcs12, #Rcs13, #Rcs14, #Rcs15, #Rcs16⟩, ⟨#Rcr00, #Rcr01, #Rcr02, #Rcr03, #Rcr04, #Rcr05, #Rcr06⟩, ⟨#Rcr10, #Rcr11, #Rcr12, #Rcr13, #Rcr14, #Rcr15, #Rcr16⟩⟩
  ihave Hs := (slots_give c) $$ [Hra Hrl]
  · isplitr; · iexact HR
    isplitl [Hra]; · iexact Hra
    iexact Hrl
  icases Hs with ⟨Hs0, Hs1, Hs2⟩
  ihave Hg := (chunks_give c) $$ [Hbc]
  · isplitr; · iexact HR
    iexact Hbc
  icases Hg with ⟨Hbc, Hg1, Hg0⟩
  ihave Hs0 := (Entails.of_eq (barPay_0 c).symm) $$ Hs0
  ihave Hs1 := (Entails.of_eq (barPay_1 c).symm) $$ Hs1
  ihave Hs2 := (Entails.of_eq (barPay_2 c).symm) $$ Hs2
  ihave Hg1 := (Entails.of_eq (barPay_3 c).symm) $$ Hg1
  ihave Hg0 := (Entails.of_eq (barPay_4 c).symm) $$ Hg0
  ihave HO := (Entails.of_eq (show ow (F := F) c (duesP c) = ow c ((partner 0 c, Nm.bar) :: (partner 1 c, Nm.bar) :: (partner 2 c, Nm.bar) :: (next 0 c, Nm.bar) :: (next 1 c, Nm.bar) :: (headDues c ++ (roundDues c 0 ++ (roundDues c 1 ++ (roundDues c 2 ++ tailDues c))))) from rfl)) $$ HO
  iapply (bind_step c)
  iapply (part9_run va vl κ c) $$ [HO Hbt0 Hs0]
  · isplitr; · iexact HL
    isplitl [HO]; · iexact HO
    isplitl [Hbt0]; · iexact Hbt0
    isplitl [Hs0]; · iexact Hs0
    iexact Hbr0
  iintro HO
  iapply (bind_step c)
  iapply (part10_run va vl κ c (aboveBar c) _ _ _ _) $$ [HO Hbt1 Hs1 Hbt2 Hs2 Hbt3 Hg1 Hbt4 Hg0 Hcb Hpb Hacc Hl Hxa Hxl]
  · isplitr; · iexact HL
    isplitl [HO]; · iexact HO
    isplitl [Hbt1]; · iexact Hbt1
    isplitl [Hs1]; · iexact Hs1
    isplitr; · iexact Hbr1
    isplitl [Hbt2]; · iexact Hbt2
    isplitl [Hs2]; · iexact Hs2
    isplitr; · iexact Hbr2
    isplitl [Hbt3]; · iexact Hbt3
    isplitl [Hg1]; · iexact Hg1
    isplitr; · iexact Hbr3
    isplitl [Hbt4]; · iexact Hbt4
    isplitl [Hg0]; · iexact Hg0
    isplitr; · iexact Hbr4
    isplitl [Hcb]; · iexact Hcb
    isplitl [Hpb]; · iexact Hpb
    isplitl [Hacc]; · iexact Hacc
    isplitl [Hl]; · iexact Hl
    isplitl [Hxa]; · iexact Hxa
    iexact Hxl
  iintro ⟨HO, Hpb, Hs0, Hs1, Hs2, Hq1, Hq0, Hacc, Hl, Hxa, Hxl⟩
  ihave Hq1 := (Entails.of_eq (barPay_c3 c)) $$ Hq1
  ihave Hq1 := (kPay_eq c 1) $$ Hq1
  ihave Hq0 := (Entails.of_eq (barPay_c4 c)) $$ Hq0
  ihave Hq0 := (kPay_eq c 0) $$ Hq0
  icases Hq0 with ⟨Hq00, Hq01, Hq02, Hq03, Hq04, Hq05, Hq06⟩
  icases Hk0 with ⟨Hk00, Hk01, Hk02, Hk03, Hk04, Hk05, Hk06⟩
  icases HC0 with ⟨HC00, HC01, HC02, HC03, HC04, HC05, HC06⟩
  icases Hpcr0 with ⟨Hpcr00, Hpcr01, Hpcr02, Hpcr03, Hpcr04, Hpcr05, Hpcr06⟩
  ihave Hx := (chunk_send_in c 0 0) $$ [Hk00 Hq00]
  · isplitr; · iexact Rcs00
    isplitl [Hk00]; · iexact Hk00
    iexact Hq00
  icases Hx with ⟨Hh00, Hou00⟩
  ihave Hx := (chunk_recv_in c 0 0) $$ [Hpcr00 HC00]
  · isplitl [Hpcr00]; · iexact Hpcr00
    iexact HC00
  icases Hx with ⟨Hin00, Hz00⟩
  ihave Hx := (chunk_send_in c 0 1) $$ [Hk01 Hq01]
  · isplitr; · iexact Rcs01
    isplitl [Hk01]; · iexact Hk01
    iexact Hq01
  icases Hx with ⟨Hh01, Hou01⟩
  ihave Hx := (chunk_recv_in c 0 1) $$ [Hpcr01 HC01]
  · isplitl [Hpcr01]; · iexact Hpcr01
    iexact HC01
  icases Hx with ⟨Hin01, Hz01⟩
  ihave Hx := (chunk_send_in c 0 2) $$ [Hk02 Hq02]
  · isplitr; · iexact Rcs02
    isplitl [Hk02]; · iexact Hk02
    iexact Hq02
  icases Hx with ⟨Hh02, Hou02⟩
  ihave Hx := (chunk_recv_in c 0 2) $$ [Hpcr02 HC02]
  · isplitl [Hpcr02]; · iexact Hpcr02
    iexact HC02
  icases Hx with ⟨Hin02, Hz02⟩
  ihave Hx := (chunk_send_in c 0 3) $$ [Hk03 Hq03]
  · isplitr; · iexact Rcs03
    isplitl [Hk03]; · iexact Hk03
    iexact Hq03
  icases Hx with ⟨Hh03, Hou03⟩
  ihave Hx := (chunk_recv_in c 0 3) $$ [Hpcr03 HC03]
  · isplitl [Hpcr03]; · iexact Hpcr03
    iexact HC03
  icases Hx with ⟨Hin03, Hz03⟩
  ihave Hx := (chunk_send_in c 0 4) $$ [Hk04 Hq04]
  · isplitr; · iexact Rcs04
    isplitl [Hk04]; · iexact Hk04
    iexact Hq04
  icases Hx with ⟨Hh04, Hou04⟩
  ihave Hx := (chunk_recv_in c 0 4) $$ [Hpcr04 HC04]
  · isplitl [Hpcr04]; · iexact Hpcr04
    iexact HC04
  icases Hx with ⟨Hin04, Hz04⟩
  ihave Hx := (chunk_send_in c 0 5) $$ [Hk05 Hq05]
  · isplitr; · iexact Rcs05
    isplitl [Hk05]; · iexact Hk05
    iexact Hq05
  icases Hx with ⟨Hh05, Hou05⟩
  ihave Hx := (chunk_recv_in c 0 5) $$ [Hpcr05 HC05]
  · isplitl [Hpcr05]; · iexact Hpcr05
    iexact HC05
  icases Hx with ⟨Hin05, Hz05⟩
  ihave Hx := (chunk_send_in c 0 6) $$ [Hk06 Hq06]
  · isplitr; · iexact Rcs06
    isplitl [Hk06]; · iexact Hk06
    iexact Hq06
  icases Hx with ⟨Hh06, Hou06⟩
  ihave Hx := (chunk_recv_in c 0 6) $$ [Hpcr06 HC06]
  · isplitl [Hpcr06]; · iexact Hpcr06
    iexact HC06
  icases Hx with ⟨Hin06, Hz06⟩
  icases Hq1 with ⟨Hq10, Hq11, Hq12, Hq13, Hq14, Hq15, Hq16⟩
  icases Hk1 with ⟨Hk10, Hk11, Hk12, Hk13, Hk14, Hk15, Hk16⟩
  icases HC1 with ⟨HC10, HC11, HC12, HC13, HC14, HC15, HC16⟩
  icases Hpcr1 with ⟨Hpcr10, Hpcr11, Hpcr12, Hpcr13, Hpcr14, Hpcr15, Hpcr16⟩
  ihave Hx := (chunk_send_in c 1 0) $$ [Hk10 Hq10]
  · isplitr; · iexact Rcs10
    isplitl [Hk10]; · iexact Hk10
    iexact Hq10
  icases Hx with ⟨Hh10, Hou10⟩
  ihave Hx := (chunk_recv_in c 1 0) $$ [Hpcr10 HC10]
  · isplitl [Hpcr10]; · iexact Hpcr10
    iexact HC10
  icases Hx with ⟨Hin10, Hz10⟩
  ihave Hx := (chunk_send_in c 1 1) $$ [Hk11 Hq11]
  · isplitr; · iexact Rcs11
    isplitl [Hk11]; · iexact Hk11
    iexact Hq11
  icases Hx with ⟨Hh11, Hou11⟩
  ihave Hx := (chunk_recv_in c 1 1) $$ [Hpcr11 HC11]
  · isplitl [Hpcr11]; · iexact Hpcr11
    iexact HC11
  icases Hx with ⟨Hin11, Hz11⟩
  ihave Hx := (chunk_send_in c 1 2) $$ [Hk12 Hq12]
  · isplitr; · iexact Rcs12
    isplitl [Hk12]; · iexact Hk12
    iexact Hq12
  icases Hx with ⟨Hh12, Hou12⟩
  ihave Hx := (chunk_recv_in c 1 2) $$ [Hpcr12 HC12]
  · isplitl [Hpcr12]; · iexact Hpcr12
    iexact HC12
  icases Hx with ⟨Hin12, Hz12⟩
  ihave Hx := (chunk_send_in c 1 3) $$ [Hk13 Hq13]
  · isplitr; · iexact Rcs13
    isplitl [Hk13]; · iexact Hk13
    iexact Hq13
  icases Hx with ⟨Hh13, Hou13⟩
  ihave Hx := (chunk_recv_in c 1 3) $$ [Hpcr13 HC13]
  · isplitl [Hpcr13]; · iexact Hpcr13
    iexact HC13
  icases Hx with ⟨Hin13, Hz13⟩
  ihave Hx := (chunk_send_in c 1 4) $$ [Hk14 Hq14]
  · isplitr; · iexact Rcs14
    isplitl [Hk14]; · iexact Hk14
    iexact Hq14
  icases Hx with ⟨Hh14, Hou14⟩
  ihave Hx := (chunk_recv_in c 1 4) $$ [Hpcr14 HC14]
  · isplitl [Hpcr14]; · iexact Hpcr14
    iexact HC14
  icases Hx with ⟨Hin14, Hz14⟩
  ihave Hx := (chunk_send_in c 1 5) $$ [Hk15 Hq15]
  · isplitr; · iexact Rcs15
    isplitl [Hk15]; · iexact Hk15
    iexact Hq15
  icases Hx with ⟨Hh15, Hou15⟩
  ihave Hx := (chunk_recv_in c 1 5) $$ [Hpcr15 HC15]
  · isplitl [Hpcr15]; · iexact Hpcr15
    iexact HC15
  icases Hx with ⟨Hin15, Hz15⟩
  ihave Hx := (chunk_send_in c 1 6) $$ [Hk16 Hq16]
  · isplitr; · iexact Rcs16
    isplitl [Hk16]; · iexact Hk16
    iexact Hq16
  icases Hx with ⟨Hh16, Hou16⟩
  ihave Hx := (chunk_recv_in c 1 6) $$ [Hpcr16 HC16]
  · isplitl [Hpcr16]; · iexact Hpcr16
    iexact HC16
  icases Hx with ⟨Hin16, Hz16⟩
  ihave Hs0 := (Entails.of_eq (show barPay (F := F) c 0 = slotPay (partner 0 c) 0 from rfl)) $$ Hs0
  ihave Hs0 := (send_in c 0) $$ [HT0 Hs0]
  · isplitr; · iexact Rxs0
    isplitr; · iexact Rls0
    isplitl [HT0]; · iexact HT0
    iexact Hs0
  ihave Hs1 := (Entails.of_eq (show barPay (F := F) c 1 = slotPay (partner 1 c) 1 from rfl)) $$ Hs1
  ihave Hs1 := (send_in c 1) $$ [HT1 Hs1]
  · isplitr; · iexact Rxs1
    isplitr; · iexact Rls1
    isplitl [HT1]; · iexact HT1
    iexact Hs1
  ihave Hs2 := (Entails.of_eq (show barPay (F := F) c 2 = slotPay (partner 2 c) 2 from rfl)) $$ Hs2
  ihave Hs2 := (send_in c 2) $$ [HT2 Hs2]
  · isplitr; · iexact Rxs2
    isplitr; · iexact Rls2
    isplitl [HT2]; · iexact HT2
    iexact Hs2
  ihave Hhin := (head_in c) $$ [Hbc Hh00 Hh01 Hh02 Hh03 Hh04 Hh05 Hh06 Hh10 Hh11 Hh12 Hh13 Hh14 Hh15 Hh16]
  · isplitl [Hbc]; · iexact Hbc
    isplitl [Hh00 Hh01 Hh02 Hh03 Hh04 Hh05 Hh06]
    · isplitl [Hh00]; · iexact Hh00
      isplitl [Hh01]; · iexact Hh01
      isplitl [Hh02]; · iexact Hh02
      isplitl [Hh03]; · iexact Hh03
      isplitl [Hh04]; · iexact Hh04
      isplitl [Hh05]; · iexact Hh05
      iexact Hh06
    isplitl [Hh10]; · iexact Hh10
    isplitl [Hh11]; · iexact Hh11
    isplitl [Hh12]; · iexact Hh12
    isplitl [Hh13]; · iexact Hh13
    isplitl [Hh14]; · iexact Hh14
    isplitl [Hh15]; · iexact Hh15
    iexact Hh16
  iapply (bind_step c)
  iapply (part11_run va vl κ c) $$ [HO Hacc Hl Hxa Hxl Hhin Hs0 Hpxs0]
  · isplitr; · iexact HL
    isplitl [HO]; · iexact HO
    isplitl [Hacc]; · iexact Hacc
    isplitl [Hl]; · iexact Hl
    isplitl [Hxa]; · iexact Hxa
    isplitl [Hxl]; · iexact Hxl
    isplitl [Hhin]; · iexact Hhin
    isplitl [Hs0]; · iexact Hs0
    iexact Hpxs0
  iintro ⟨HO, Hacc, Hl, Hxa, Hcls0, Hpxs0, Hho⟩
  iapply (bind_step c)
  iapply (part12_run va vl κ c _ _) $$ [HO Hxa Hcxr0 Hpxr0 Hcls0 Hpls0 Hclr0 Hplr0]
  · isplitr; · iexact HL
    isplitl [HO]; · iexact HO
    isplitl [Hxa]; · iexact Hxa
    isplitl [Hcxr0]; · iexact Hcxr0
    isplitl [Hpxr0]; · iexact Hpxr0
    isplitl [Hcls0]; · iexact Hcls0
    isplitl [Hpls0]; · iexact Hpls0
    isplitl [Hclr0]; · iexact Hclr0
    iexact Hplr0
  iintro ⟨HO, Hpxr0, Hpls0, Hplr0, Hxa, Hxl, ⟨%fa0, Ha0⟩, ⟨%fl0, Hl0⟩⟩
  iapply (bind_step c)
  iapply (part13_run va vl κ c) $$ [HO Hxa Hxl Hs1 Hpxs1]
  · isplitr; · iexact HL
    isplitl [HO]; · iexact HO
    isplitl [Hxa]; · iexact Hxa
    isplitl [Hxl]; · iexact Hxl
    isplitl [Hs1]; · iexact Hs1
    iexact Hpxs1
  iintro ⟨HO, Hpxs1, Hxa, Hcls1⟩ %v114
  iapply (bind_step c)
  iapply (part14_run va vl κ c _) $$ [HO Hxa Hcxr1 Hpxr1 Hcls1 Hpls1 Hclr1 Hplr1]
  · isplitr; · iexact HL
    isplitl [HO]; · iexact HO
    isplitl [Hxa]; · iexact Hxa
    isplitl [Hcxr1]; · iexact Hcxr1
    isplitl [Hpxr1]; · iexact Hpxr1
    isplitl [Hcls1]; · iexact Hcls1
    isplitl [Hpls1]; · iexact Hpls1
    isplitl [Hclr1]; · iexact Hclr1
    iexact Hplr1
  iintro ⟨HO, Hpxr1, Hpls1, Hplr1, Hxa, Hxl, ⟨%fa1, Ha1⟩, ⟨%fl1, Hl1⟩⟩ %v165
  iapply (bind_step c)
  iapply (part15_run va vl κ c _) $$ [HO Hxa Hxl Hs2 Hpxs2 Hcxr2 Hpxr2]
  · isplitr; · iexact HL
    isplitl [HO]; · iexact HO
    isplitl [Hxa]; · iexact Hxa
    isplitl [Hxl]; · iexact Hxl
    isplitl [Hs2]; · iexact Hs2
    isplitl [Hpxs2]; · iexact Hpxs2
    isplitl [Hcxr2]; · iexact Hcxr2
    iexact Hpxr2
  iintro ⟨HO, Hpxs2, Hpxr2, Hxa, Ha2, Hcls2⟩
  iapply (bind_step c)
  iapply (part16_run va vl κ c _) $$ [HO Hxa Ha2 Hcls2 Hpls2 Hclr2 Hplr2]
  · isplitr; · iexact HL
    isplitl [HO]; · iexact HO
    isplitl [Hxa]; · iexact Hxa
    isplitl [Ha2]; · iexact Ha2
    isplitl [Hcls2]; · iexact Hcls2
    isplitl [Hpls2]; · iexact Hpls2
    isplitl [Hclr2]; · iexact Hclr2
    iexact Hplr2
  iintro ⟨HO, Hpls2, Hplr2, Hxa, Hxl, ⟨%fa2, Ha2⟩, ⟨%fl2, Hl2⟩⟩
  ihave HO := (Entails.of_eq (show ow (F := F) c (tailDues c) = ow c (passed c allChunks) from by rw [tailDues_eq])) $$ HO
  iapply (bind_step c)
  iapply (part17_run va vl κ c _ _) $$ [HO Hin00 Hou00 Hin10 Hou10 Hin01]
  · isplitr; · iexact HL
    isplitl [HO]; · iexact HO
    isplitl [Hin00]; · iexact Hin00
    isplitl [Hou00]; · iexact Hou00
    isplitl [Hin10]; · iexact Hin10
    isplitl [Hou10]; · iexact Hou10
    iexact Hin01
  iintro ⟨HO, He00, He10, Hgo⟩ %v240
  iapply (bind_step c)
  iapply (part18_run va vl κ c _ _ _) $$ [HO Hou01 Hgo Hin11 Hou11 Hin02 Hou02 Hin12]
  · isplitr; · iexact HL
    isplitl [HO]; · iexact HO
    isplitl [Hou01]; · iexact Hou01
    isplitl [Hgo]; · iexact Hgo
    isplitl [Hin11]; · iexact Hin11
    isplitl [Hou11]; · iexact Hou11
    isplitl [Hin02]; · iexact Hin02
    isplitl [Hou02]; · iexact Hou02
    iexact Hin12
  iintro ⟨HO, He01, He11, He02, Hgo⟩
  iapply (bind_step c)
  iapply (part19_run va vl κ c _ _) $$ [HO Hou12 Hgo Hin03 Hou03 Hin13 Hou13]
  · isplitr; · iexact HL
    isplitl [HO]; · iexact HO
    isplitl [Hou12]; · iexact Hou12
    isplitl [Hgo]; · iexact Hgo
    isplitl [Hin03]; · iexact Hin03
    isplitl [Hou03]; · iexact Hou03
    isplitl [Hin13]; · iexact Hin13
    iexact Hou13
  iintro ⟨HO, He12, He03, He13⟩
  iapply (bind_step c)
  iapply (part20_run va vl κ c _ _) $$ [HO Hin04 Hou04 Hin14 Hou14 Hin05]
  · isplitr; · iexact HL
    isplitl [HO]; · iexact HO
    isplitl [Hin04]; · iexact Hin04
    isplitl [Hou04]; · iexact Hou04
    isplitl [Hin14]; · iexact Hin14
    isplitl [Hou14]; · iexact Hou14
    iexact Hin05
  iintro ⟨HO, He04, He14, Hgo⟩ %v303
  iapply (bind_step c)
  iapply (part21_run va vl κ c _ _ _) $$ [HO Hou05 Hgo Hin15 Hou15 Hin06 Hou06]
  · isplitr; · iexact HL
    isplitl [HO]; · iexact HO
    isplitl [Hou05]; · iexact Hou05
    isplitl [Hgo]; · iexact Hgo
    isplitl [Hin15]; · iexact Hin15
    isplitl [Hou15]; · iexact Hou15
    isplitl [Hin06]; · iexact Hin06
    iexact Hou06
  iintro ⟨HO, He05, He15, He06⟩
  ihave Hcx := (filled_empty (T := ctx va vl c) fc) $$ Hcx
  iapply (bind_step c)
  iapply (part22_run va vl κ c _) $$ [HO Hin16 Hou16 Hxa Hxl Hcx]
  · isplitr; · iexact HL
    isplitl [HO]; · iexact HO
    isplitl [Hin16]; · iexact Hin16
    isplitl [Hou16]; · iexact Hou16
    isplitl [Hxa]; · iexact Hxa
    isplitl [Hxl]; · iexact Hxl
    iexact Hcx
  iintro ⟨HO, He16, Hxa, Hxl, Hcx⟩
  iapply (bind_step c)
  iapply (part23_run va vl c) $$ [Hxa Hxl Hcx]
  · isplitl [Hxa]; · iexact Hxa
    isplitl [Hxl]; · iexact Hxl
    iexact Hcx
  iintro ⟨Hxa, Hxl, Hcx⟩
  iapply (bind_step c)
  iapply (part24_run va vl c) $$ [Hxa Hxl Hcx]
  · isplitl [Hxa]; · iexact Hxa
    isplitl [Hxl]; · iexact Hxl
    iexact Hcx
  iintro ⟨Hxa, Hxl, Hcx⟩
  iapply (bind_step c)
  iapply (part25_run va vl c) $$ [Hxa Hxl Hcx]
  · isplitl [Hxa]; · iexact Hxa
    isplitl [Hxl]; · iexact Hxl
    iexact Hcx
  iintro ⟨Hxa, Hxl, Hcx⟩
  ihave Hho := (headOut_eq va vl c) $$ Hho
  icases Hho with ⟨Hhk0, Hhk1, Hhk2, Hhk3, Hhk4, Hhk5, Hhk6⟩
  ihave Hx := (chunk_in va vl c 0) $$ [Hhk0 He00 He10]
  · isplitl [Hhk0]; · iexact Hhk0
    isplitl [He00]; · iexact He00
    iexact He10
  icases Hx with ⟨Hb0, Hcs00, Hcs10, Hcr00, Hcr10⟩
  ihave Hx := (chunk_in va vl c 1) $$ [Hhk1 He01 He11]
  · isplitl [Hhk1]; · iexact Hhk1
    isplitl [He01]; · iexact He01
    iexact He11
  icases Hx with ⟨Hb1, Hcs01, Hcs11, Hcr01, Hcr11⟩
  ihave Hx := (chunk_in va vl c 2) $$ [Hhk2 He02 He12]
  · isplitl [Hhk2]; · iexact Hhk2
    isplitl [He02]; · iexact He02
    iexact He12
  icases Hx with ⟨Hb2, Hcs02, Hcs12, Hcr02, Hcr12⟩
  ihave Hx := (chunk_in va vl c 3) $$ [Hhk3 He03 He13]
  · isplitl [Hhk3]; · iexact Hhk3
    isplitl [He03]; · iexact He03
    iexact He13
  icases Hx with ⟨Hb3, Hcs03, Hcs13, Hcr03, Hcr13⟩
  ihave Hx := (chunk_in va vl c 4) $$ [Hhk4 He04 He14]
  · isplitl [Hhk4]; · iexact Hhk4
    isplitl [He04]; · iexact He04
    iexact He14
  icases Hx with ⟨Hb4, Hcs04, Hcs14, Hcr04, Hcr14⟩
  ihave Hx := (chunk_in va vl c 5) $$ [Hhk5 He05 He15]
  · isplitl [Hhk5]; · iexact Hhk5
    isplitl [He05]; · iexact He05
    iexact He15
  icases Hx with ⟨Hb5, Hcs05, Hcs15, Hcr05, Hcr15⟩
  ihave Hx := (chunk_in va vl c 6) $$ [Hhk6 He06 He16]
  · isplitl [Hhk6]; · iexact Hhk6
    isplitl [He06]; · iexact He06
    iexact He16
  icases Hx with ⟨Hb6, Hcs06, Hcs16, Hcr06, Hcr16⟩
  ihave Hbc := (Entails.of_eq (bc_split c (keep c) (mid va vl)).symm) $$ [Hb0 Hb1 Hb2 Hb3 Hb4 Hb5 Hb6]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    iexact Hb6
  iapply (ld c) $$ Hbc
  iintro Hbc
  iapply filled_ld $$ Hcx
  iintro %d0 Hcx
  iapply (filled_blk (fun j => (pay1_apply _ j).trans (middle_value va vl c j))) $$ Hcx
  iintro Hcx
  ihave Hf := (filled_all (m := cxM) (T := ctx va vl c) ctx_cover) $$ Hcx
  icases Hf with ⟨%g, Hcx, %hg⟩
  have hg' : g = ctx va vl c := hg
  rw [hg']
  iapply (ld_all) $$ Hcx
  iintro Hcx
  iapply (ld_all) $$ Hwo
  iintro Hwo
  iapply (ld c) $$ Hout
  iintro Hout
  iapply (st_all3 (m := outM)) $$ Hout
  iintro %go %hgo Hout
  have hgo' : go = outV va vl vw c := hgo
  rw [hgo']
  iapply (back0_run va vl κ c (back0_iff c) (by rfl) (by rfl) (by rfl)) $$ [HO Hcs00 Hcs01 Hcs02 Hcs03 Hcs04 Hcs05 Hcs06 Hpcs0]
  · isplitr; · iexact HL
    isplitl [HO]; · iexact HO
    isplitl [Hcs00 Hcs01 Hcs02 Hcs03 Hcs04 Hcs05 Hcs06]
    · isplitl [Hcs00]; · iexact Hcs00
      isplitl [Hcs01]; · iexact Hcs01
      isplitl [Hcs02]; · iexact Hcs02
      isplitl [Hcs03]; · iexact Hcs03
      isplitl [Hcs04]; · iexact Hcs04
      isplitl [Hcs05]; · iexact Hcs05
      iexact Hcs06
    iexact Hpcs0
  iintro ⟨HO, Hpcs0, Hbk0⟩
  icases Hbk0 with ⟨Hbk00, Hbk01, Hbk02, Hbk03, Hbk04, Hbk05, Hbk06⟩
  iapply (back1_run va vl κ c (back1_iff c) (by rfl) (by rfl) (by rfl)) $$ [HO Hcs10 Hcs11 Hcs12 Hcs13 Hcs14 Hcs15 Hcs16 Hpcs1]
  · isplitr; · iexact HL
    isplitl [HO]; · iexact HO
    isplitl [Hcs10 Hcs11 Hcs12 Hcs13 Hcs14 Hcs15 Hcs16]
    · isplitl [Hcs10]; · iexact Hcs10
      isplitl [Hcs11]; · iexact Hcs11
      isplitl [Hcs12]; · iexact Hcs12
      isplitl [Hcs13]; · iexact Hcs13
      isplitl [Hcs14]; · iexact Hcs14
      isplitl [Hcs15]; · iexact Hcs15
      iexact Hcs16
    iexact Hpcs1
  iintro ⟨HO, Hpcs1, Hbk1⟩
  icases Hbk1 with ⟨Hbk10, Hbk11, Hbk12, Hbk13, Hbk14, Hbk15, Hbk16⟩
  ihave Hbc := (Entails.of_eq (bc_split c (keep c) (mid va vl))) $$ Hbc
  icases Hbc with ⟨Hb0, Hb1, Hb2, Hb3, Hb4, Hb5, Hb6⟩
  ihave Hb0 := (chunk_out va vl c 0) $$ [Hb0 Hbk00 Hbk10]
  · isplitl [Hb0]; · iexact Hb0
    isplitl [Hbk00]; · iexact Hbk00
    iexact Hbk10
  ihave Hb1 := (chunk_out va vl c 1) $$ [Hb1 Hbk01 Hbk11]
  · isplitl [Hb1]; · iexact Hb1
    isplitl [Hbk01]; · iexact Hbk01
    iexact Hbk11
  ihave Hb2 := (chunk_out va vl c 2) $$ [Hb2 Hbk02 Hbk12]
  · isplitl [Hb2]; · iexact Hb2
    isplitl [Hbk02]; · iexact Hbk02
    iexact Hbk12
  ihave Hb3 := (chunk_out va vl c 3) $$ [Hb3 Hbk03 Hbk13]
  · isplitl [Hb3]; · iexact Hb3
    isplitl [Hbk03]; · iexact Hbk03
    iexact Hbk13
  ihave Hb4 := (chunk_out va vl c 4) $$ [Hb4 Hbk04 Hbk14]
  · isplitl [Hb4]; · iexact Hb4
    isplitl [Hbk04]; · iexact Hbk04
    iexact Hbk14
  ihave Hb5 := (chunk_out va vl c 5) $$ [Hb5 Hbk05 Hbk15]
  · isplitl [Hb5]; · iexact Hb5
    isplitl [Hbk05]; · iexact Hbk05
    iexact Hbk15
  ihave Hb6 := (chunk_out va vl c 6) $$ [Hb6 Hbk06 Hbk16]
  · isplitl [Hb6]; · iexact Hb6
    isplitl [Hbk06]; · iexact Hbk06
    iexact Hbk16
  ihave Hbc := (Entails.of_eq (bc_split c fullShare (mid va vl)).symm) $$ [Hb0 Hb1 Hb2 Hb3 Hb4 Hb5 Hb6]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    iexact Hb6
  ihave Hz00 := (cr_end c 0 0) $$ [Hz00 Hcr00]
  · isplitl [Hz00]; · iexact Hz00
    iexact Hcr00
  ihave Hz01 := (cr_end c 0 1) $$ [Hz01 Hcr01]
  · isplitl [Hz01]; · iexact Hz01
    iexact Hcr01
  ihave Hz02 := (cr_end c 0 2) $$ [Hz02 Hcr02]
  · isplitl [Hz02]; · iexact Hz02
    iexact Hcr02
  ihave Hz03 := (cr_end c 0 3) $$ [Hz03 Hcr03]
  · isplitl [Hz03]; · iexact Hz03
    iexact Hcr03
  ihave Hz04 := (cr_end c 0 4) $$ [Hz04 Hcr04]
  · isplitl [Hz04]; · iexact Hz04
    iexact Hcr04
  ihave Hz05 := (cr_end c 0 5) $$ [Hz05 Hcr05]
  · isplitl [Hz05]; · iexact Hz05
    iexact Hcr05
  ihave Hz06 := (cr_end c 0 6) $$ [Hz06 Hcr06]
  · isplitl [Hz06]; · iexact Hz06
    iexact Hcr06
  ihave Hz10 := (cr_end c 1 0) $$ [Hz10 Hcr10]
  · isplitl [Hz10]; · iexact Hz10
    iexact Hcr10
  ihave Hz11 := (cr_end c 1 1) $$ [Hz11 Hcr11]
  · isplitl [Hz11]; · iexact Hz11
    iexact Hcr11
  ihave Hz12 := (cr_end c 1 2) $$ [Hz12 Hcr12]
  · isplitl [Hz12]; · iexact Hz12
    iexact Hcr12
  ihave Hz13 := (cr_end c 1 3) $$ [Hz13 Hcr13]
  · isplitl [Hz13]; · iexact Hz13
    iexact Hcr13
  ihave Hz14 := (cr_end c 1 4) $$ [Hz14 Hcr14]
  · isplitl [Hz14]; · iexact Hz14
    iexact Hcr14
  ihave Hz15 := (cr_end c 1 5) $$ [Hz15 Hcr15]
  · isplitl [Hz15]; · iexact Hz15
    iexact Hcr15
  ihave Hz16 := (cr_end c 1 6) $$ [Hz16 Hcr16]
  · isplitl [Hz16]; · iexact Hz16
    iexact Hcr16
  ihave Hra := (ra_join c fa0 fa1 fa2) $$ [Ha0 Ha1 Ha2]
  · isplitl [Ha0]; · iexact Ha0
    isplitl [Ha1]; · iexact Ha1
    iexact Ha2
  ihave Hrl := (rl_join c fl0 fl1 fl2) $$ [Hl0 Hl1 Hl2]
  · isplitl [Hl0]; · iexact Hl0
    isplitl [Hl1]; · iexact Hl1
    iexact Hl2
  iapply (ret_step c)
  iapply Hk
  unfold bodyOut names
  isplitl [HO]; · iexact HO
  isplitl [Hpb]; · iexact Hpb
  isplitl [Hpxs0 Hpxs1 Hpxs2 Hpxr0 Hpxr1 Hpxr2 Hpls0 Hpls1 Hpls2 Hplr0 Hplr1 Hplr2 Hpcs0 Hpcs1 Hz00 Hz01 Hz02 Hz03 Hz04 Hz05 Hz06 Hz10 Hz11 Hz12 Hz13 Hz14 Hz15 Hz16]
  · isplitl [Hpxs0 Hpxs1 Hpxs2]
    · isplitl [Hpxs0]; · iexact Hpxs0
      isplitl [Hpxs1]; · iexact Hpxs1
      iexact Hpxs2
    isplitl [Hpxr0 Hpxr1 Hpxr2]
    · isplitl [Hpxr0]; · iexact Hpxr0
      isplitl [Hpxr1]; · iexact Hpxr1
      iexact Hpxr2
    isplitl [Hpls0 Hpls1 Hpls2]
    · isplitl [Hpls0]; · iexact Hpls0
      isplitl [Hpls1]; · iexact Hpls1
      iexact Hpls2
    isplitl [Hplr0 Hplr1 Hplr2]
    · isplitl [Hplr0]; · iexact Hplr0
      isplitl [Hplr1]; · iexact Hplr1
      iexact Hplr2
    isplitl [Hpcs0]; · iexact Hpcs0
    isplitl [Hpcs1]; · iexact Hpcs1
    isplitl [Hz00 Hz01 Hz02 Hz03 Hz04 Hz05 Hz06]
    · isplitl [Hz00]; · iexact Hz00
      isplitl [Hz01]; · iexact Hz01
      isplitl [Hz02]; · iexact Hz02
      isplitl [Hz03]; · iexact Hz03
      isplitl [Hz04]; · iexact Hz04
      isplitl [Hz05]; · iexact Hz05
      iexact Hz06
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    iexact Hz16
  isplitl [Hacc]; · iexact Hacc
  isplitl [Hl]; · iexact Hl
  isplitl [Hwo]; · iexact Hwo
  isplitl [Hout]; · iexact Hout
  isplitl [Hxa]; · iexists _; iexact Hxa
  isplitl [Hxl]; · iexists _; iexact Hxl
  isplitl [Hra]; · iexact Hra
  isplitl [Hrl]; · iexact Hrl
  isplitl [Hbc]; · iexists _; iexact Hbc
  iexists _; iexact Hcx

end Body

end Cert.KernelIdeal.Talk

end
-- ==== Proof.Ghost.lean ====
/-
  The ghost state of the launch, brought into the form the body takes: the kernel's own semaphore cells opened before
  the body and closed after it, the tokens a device pays with, the credits it waits with.
-/
module

public import proofs.«01_k».proof.Proof.Body
public import Idealize.ShloMosaic.Lib.Pipeline.BigSepL

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL Fam)
open Cert.KernelIdeal.Gen
open Idealize.ShloMosaic.ValueIdx (ix2 eq_ix2 idx2_lt0 idx2_lt1)

variable {F : FTy → Type} [FloatOps F]

local notation "𝕄" => MT nD τ sig ℕ (Elt F) ℕ UU ℕ

/-! ## All own semaphores at once -/

/-- The own names, in the groups of `names`. -/
theorem ownNm_groups : ownNm = (([(.xs 0), (.xs 1), (.xs 2)] ++ ([(.xr 0), (.xr 1), (.xr 2)] ++ ([(.ls 0), (.ls 1), (.ls 2)] ++ ([(.lr 0), (.lr 1), (.lr 2)] ++ ([(.cs 0 0), (.cs 0 1), (.cs 0 2), (.cs 0 3), (.cs 0 4), (.cs 0 5), (.cs 0 6)] ++ ([(.cs 1 0), (.cs 1 1), (.cs 1 2), (.cs 1 3), (.cs 1 4), (.cs 1 5), (.cs 1 6)] ++ ([(.cr 0 0), (.cr 0 1), (.cr 0 2), (.cr 0 3), (.cr 0 4), (.cr 0 5), (.cr 0 6)] ++ ([(.cr 1 0), (.cr 1 1), (.cr 1 2), (.cr 1 3), (.cr 1 4), (.cr 1 5), (.cr 1 6)]))))))) : List Nm)) := by decide +kernel

theorem names_eq (Φ : Nm → sProp (MT nD τ sig ℕ (Elt F) ℕ UU ℕ)) : names Φ = bigSepL ownNm Φ := by
  rw [ownNm_groups]
  rw [bigSepL_append, bigSepL_append, bigSepL_append, bigSepL_append, bigSepL_append, bigSepL_append, bigSepL_append]
  rfl

theorem ownNm_nodup : ownNm.Nodup := by decide +kernel

theorem names_set (Φ : Nm → sProp (MT nD τ sig ℕ (Elt F) ℕ UU ℕ)) : names Φ = bigSep ownNm.toFinset Φ := by
  rw [names_eq, bigSep_eq_bigSepL _ ownNm_nodup]

/-- An update at every member of a set, with something that stays. -/
theorem set_fupd (s : Finset Nm) {P : sProp (MT nD τ sig ℕ (Elt F) ℕ UU ℕ)} [BI.Persistent P] {Φ Ψ : Nm → sProp (MT nD τ sig ℕ (Elt F) ℕ UU ℕ)}
    (h : ∀ n ∈ s, iprop(P ∗ Φ n) ⊢ iprop(|={Set.univ}=> Ψ n)) : iprop(P ∗ bigSep s Φ) ⊢ iprop(|={Set.univ}=> bigSep s Ψ) := by
  iintro ⟨#HP, H⟩
  iapply (bigSep_fupd s Ψ)
  iapply (bigSep_with_persistent (R := P) (Φ := Φ) fun n hn => h n hn)
  isplitr; · iexact HP
  iexact H

/-- An update at every own semaphore, with something that stays. -/
theorem names_fupd {P : sProp (MT nD τ sig ℕ (Elt F) ℕ UU ℕ)} [BI.Persistent P] {Φ Ψ : Nm → sProp (MT nD τ sig ℕ (Elt F) ℕ UU ℕ)}
    (h : ∀ n ∈ ownNm, iprop(P ∗ Φ n) ⊢ iprop(|={Set.univ}=> Ψ n)) : iprop(P ∗ names Φ) ⊢ iprop(|={Set.univ}=> names Ψ) := by
  rw [names_set, names_set]
  exact set_fupd _ fun n hn => h n (List.mem_toFinset.mp hn)

theorem names_sep (Φ Ψ : Nm → sProp (MT nD τ sig ℕ (Elt F) ℕ UU ℕ)) : names (fun n => iprop(Φ n ∗ Ψ n)) = iprop(names Φ ∗ names Ψ) := by
  rw [names_set, names_set, names_set]; exact bigSep_sep' _ _ _

/-- The names' semaphores are the own semaphores. -/
theorem osem_names : Finset.univ.image osem = ownNm.toFinset.image Nm.sem := by decide +kernel
theorem osem_inj : Function.Injective osem := by decide +kernel

theorem dorm_names (f : SemLoc sig → sProp (MT nD τ sig ℕ (Elt F) ℕ UU ℕ)) : bigSep (Finset.univ.image osem) f = names fun n => f n.sem := by
  rw [osem_names, bigSep_image_of_injOn fun a _ b _ h => sem_inj h, names_set]

theorem ownSems_names (c : Dev nD) : (Pipeline.ownSems0 osem c : sProp 𝕄) = names fun n => semVal (cell c n) 0 := by
  rw [← dorm_names fun s => semVal ((c : Thread nD τ), s) 0, bigSep_image_of_injOn fun a _ b _ h => osem_inj h]
  rfl

section Cells

variable (va : Dev nD → FVec F S2048x1024 .f32) (vl : Dev nD → FVec F S2048x8 .f32) (κ : GSem nD τ sig → ℕ) (c : Dev nD)

/-- The own cells are opened: their counters, at zero, become positions at round 0. -/
theorem open_own : iprop(invs va vl κ ∗ (names fun n => openTok ER (cell c n)) ∗ Pipeline.ownSems0 osem c)
    ⊢ iprop(|={Set.univ}=> ((names fun n => pos c n 0) ∗ rchAll c) : sProp 𝕄) := by
  rw [ownSems_names]
  unfold rchAll
  rw [← names_sep, ← names_sep]
  exact names_fupd fun n _ => by
    iintro ⟨#HI, Ho, Hs⟩
    ihave #HIc := (invs_cell va vl κ c n) $$ HI
    iapply (Rounds.cell_open ER (Rd va vl) (g := cell c n) (Set.mem_univ (κ (cell c n))))
    isplitr; · iexact HIc
    isplitl [Ho] <;> iassumption

theorem later_end (n : Nm) (hn : n ∈ ownNm) : ∀ r, endR c n ≤ r → (Rd va vl).duties (cell c n) r = ∅ := fun r hr => by
  rcases Nat.eq_zero_or_pos r with h0 | h1
  · subst h0
    rw [duties_cell]
    have hr := Nat.le_zero.mp hr
    cases n with
    | cs d k =>
      change (if snd d c then 1 else 0) = 0 at hr
      show (if snd d c then {0} else ∅) = ∅
      cases hs : snd d c
      · rfl
      · rw [hs] at hr; exact absurd hr (by decide)
    | cr d k =>
      change (if rcv d c then 1 else 0) = 0 at hr
      show (if rcv d c then {0} else ∅) = ∅
      cases hs : rcv d c
      · rfl
      · rw [hs] at hr; exact absurd hr (by decide)
    | bar => exact absurd hr Nat.one_ne_zero
    | xs r => exact absurd hr Nat.one_ne_zero
    | xr r => exact absurd hr Nat.one_ne_zero
    | ls r => exact absurd hr Nat.one_ne_zero
    | lr r => exact absurd hr Nat.one_ne_zero
  · exact duties_later va vl c n r h1

/-- The own cells are closed: their counters are back, at zero. -/
theorem close_own : iprop(invs va vl κ ∗ (names fun n => pos c n (endR c n))) ⊢ iprop(|={Set.univ}=> Pipeline.ownSems0 osem c : sProp 𝕄) := by
  rw [ownSems_names]
  exact names_fupd fun n hn => by
    iintro ⟨#HI, Hp⟩
    ihave #HIc := (invs_cell va vl κ c n) $$ HI
    iapply (Rounds.cell_close ER (Rd va vl) (Set.mem_univ (κ (cell c n))) id (later_end va vl c n hn))
    isplitr; · iexact HIc
    iexact Hp

/-- The barrier cell is closed. -/
theorem close_bar : iprop(invs va vl κ ∗ pos c .bar 1) ⊢ iprop(|={Set.univ}=> semVal (cell c .bar) 0 : sProp 𝕄) := by
  iintro ⟨#HI, Hp⟩
  ihave #HIc := (invs_cell va vl κ c .bar) $$ HI
  iapply (Rounds.cell_close ER (Rd va vl) (Set.mem_univ (κ (cell c .bar))) id (duties_later va vl c .bar))
  isplitr; · iexact HIc
  iexact Hp

end Cells

/-! ## The tokens -/

section Toks

variable (c : Dev nD)

/-- The tokens of the barrier units that device c pays. -/
def bTok : sProp 𝕄 := iprop(tok (partner 0 c) .bar 0 ∗ tok (partner 1 c) .bar 1 ∗ tok (partner 2 c) .bar 2 ∗ tok (next 0 c) .bar 3 ∗ tok (next 1 c) .bar 4)

/-- The tokens of chunk k. -/
theorem kTok_list (d : Fin 2) (k : Fin 7) : bigSepL (if snd d c then [((c, Nm.cs d k), (0 : Fin 5)), ((next d c, Nm.cr d k), 0)] else [])
    (fun x => (tok x.1.1 x.1.2 x.2 : sProp 𝕄)) = kTok c d k := by
  unfold kTok
  cases snd d c <;> rfl

theorem flat7 {α : Type} (f : Fin 7 → List α) : (List.finRange 7).flatMap f = f 0 ++ (f 1 ++ (f 2 ++ (f 3 ++ (f 4 ++ (f 5 ++ f 6))))) := by
  rw [show List.finRange 7 = [0, 1, 2, 3, 4, 5, 6] from by decide]
  simp only [List.flatMap_cons, List.flatMap_nil, List.append_nil]
theorem flat2 {α : Type} (f : Fin 2 → List α) : (List.finRange 2).flatMap f = f 0 ++ f 1 := by
  rw [show List.finRange 2 = [0, 1] from by decide]
  simp only [List.flatMap_cons, List.flatMap_nil, List.append_nil]
theorem flat3 {α : Type} (f : Fin 3 → List α) : (List.finRange 3).flatMap f = f 0 ++ (f 1 ++ f 2) := by
  rw [show List.finRange 3 = [0, 1, 2] from by decide]
  simp only [List.flatMap_cons, List.flatMap_nil, List.append_nil]

theorem rTok_list (r : Fin 3) : bigSepL [((c, Nm.xs r), (0 : Fin 5)), ((c, Nm.ls r), 0), ((partner r.val c, Nm.xr r), 0), ((partner r.val c, Nm.lr r), 0)]
    (fun x => (tok x.1.1 x.1.2 x.2 : sProp 𝕄)) = rTok c r := rfl

theorem bTok_list : bigSepL [((partner 0 c, Nm.bar), (0 : Fin 5)), ((partner 1 c, Nm.bar), 1), ((partner 2 c, Nm.bar), 2), ((next 0 c, Nm.bar), 3), ((next 1 c, Nm.bar), 4)]
    (fun x => (tok x.1.1 x.1.2 x.2 : sProp 𝕄)) = bTok c := rfl

/-- The tokens that ride with device c are those its body takes. -/
theorem toks_body : (bigSep (fam.toks c 0) fun x => (dutyTok ER x.1 x.2.1 x.2.2 : sProp 𝕄))
    ⊢ iprop(bTok c ∗ (rTok c 0 ∗ rTok c 1 ∗ rTok c 2) ∗ (seven fun k => kTok c 0 k) ∗ (seven fun k => kTok c 1 k)) := by
  have e : (bigSep (fam.toks c 0) fun x => (dutyTok ER x.1 x.2.1 x.2.2 : sProp 𝕄)) = bigSepL (toksL c) (fun x => tok x.1.1 x.1.2 x.2) := by
    show bigSep ((toksL c).toFinset.map tokOf) _ = _
    rw [bigSep_map, bigSep_eq_bigSepL _ (toksL_nodup c)]
    rfl
  rw [e]
  unfold toksL
  rw [bigSepL_append, bigSepL_append, flat3, flat7]
  simp only [flat2, bigSepL_append, kTok_list, rTok_list]
  iintro ⟨⟨Hb, Hr⟩, ⟨H00, H10⟩, ⟨H01, H11⟩, ⟨H02, H12⟩, ⟨H03, H13⟩, ⟨H04, H14⟩, ⟨H05, H15⟩, H06, H16⟩
  isplitl [Hb]
  · iapply (Entails.of_eq (bTok_list c)) $$ Hb
  isplitl [Hr]
  · iexact Hr
  isplitl [H00 H01 H02 H03 H04 H05 H06]
  · isplitl [H00]; · iexact H00
    isplitl [H01]; · iexact H01
    isplitl [H02]; · iexact H02
    isplitl [H03]; · iexact H03
    isplitl [H04]; · iexact H04
    isplitl [H05]; · iexact H05
    iexact H06
  · isplitl [H10]; · iexact H10
    isplitl [H11]; · iexact H11
    isplitl [H12]; · iexact H12
    isplitl [H13]; · iexact H13
    isplitl [H14]; · iexact H14
    isplitl [H15]; · iexact H15
    iexact H16

end Toks

/-! ## The credits -/

/-- All payments to device c's cells. -/
def need (c : Dev nD) : List (Dev nD × Nm) :=
  List.replicate 5 (c, .bar) ++ ([(c, .xr 0), (c, .xr 1), (c, .xr 2)] ++ ([(c, .lr 0), (c, .lr 1), (c, .lr 2)]
    ++ ((List.finRange 7).flatMap (fun k => if rcv 0 c then [(c, .cr 0 k)] else []) ++ (List.finRange 7).flatMap (fun k => if rcv 1 c then [(c, .cr 1 k)] else []))))

theorem need_perm (c : Dev nD) : (((List.finRange nD).flatMap duesP).filter fun x => x.1 = c).Perm (need c) := by
  revert c; decide +kernel

theorem tallyL_perm {l l' : List (Pay nD τ sig)} (h : l.Perm l') : tallyL l = tallyL l' := by
  induction h with
  | nil => rfl
  | cons x _ ih => rw [tallyL, tallyL, ih]
  | swap x y l => rw [tallyL, tallyL, tallyL, tallyL, ← add_assoc, ← add_assoc, add_comm y.tally]
  | trans _ _ h1 h2 => exact h1.trans h2

theorem credOf_need (c : Dev nD) : tallyL (TalkSites.credOf (fun d => (duesP d).map payOf) c) = owed (need c) := by
  have e : TalkSites.credOf (fun d => (duesP d).map payOf) c = (((List.finRange nD).flatMap duesP).filter fun x => x.1 = c).map payOf := by
    unfold TalkSites.credOf TalkSites.allPays
    rw [← List.map_flatMap, List.filter_map]
    refine congrArg _ (List.filter_congr fun x _ => ?_)
    show decide ((x.1 : Thread nD τ) = (c : Thread nD τ)) = decide (x.1 = c)
    exact decide_eq_decide.mpr ⟨fun h => congrArg Prod.fst h, fun h => by rw [h]⟩
  rw [e]
  exact tallyL_perm ((need_perm c).map payOf)

theorem kCrd_list (c : Dev nD) (d : Fin 2) (k : Fin 7) : bigSepL (if rcv d c then [(c, Nm.cr d k)] else []) (fun x => (cred (payOf x).tally : sProp 𝕄)) = kCrd c d k := by
  unfold kCrd
  cases rcv d c <;> rfl

/-- Five units of the barrier are one claim on five. -/
theorem bar_five (c : Dev nD) : bigSepL (List.replicate 5 (c, Nm.bar)) (fun x => (cred (payOf x).tally : sProp 𝕄)) = cred (tallyAt (cell c .bar) 1 5) := by
  have h : (cred (tallyL ((List.replicate 5 (c, Nm.bar)).map payOf)) : sProp 𝕄) = cred (tallyAt (cell c .bar) 1 5) := by
    have e : tallyL ((List.replicate 5 (c, Nm.bar)).map payOf) = (tallyAt (cell c .bar) 1 5 : CellTallies nD τ sig ℕ) := by
      show tallyAt (cell c .bar) 1 1 + (tallyAt (cell c .bar) 1 1 + (tallyAt (cell c .bar) 1 1 + (tallyAt (cell c .bar) 1 1 + (tallyAt (cell c .bar) 1 1 + 0)))) = _
      rw [add_zero, tallyAt_add, tallyAt_add, tallyAt_add, tallyAt_add]
    rw [e]
  rw [← h, TalkSites.cred_tallyL, bigSepL_map]

/-- The launch's credit of device c is what its body waits with. -/
theorem creds_body (c : Dev nD) : (Pipeline.launchCred O₀ c : sProp 𝕄)
    ⊢ iprop(cred (tallyAt (cell c .bar) 1 5) ∗ (crd c (.xr 0) ∗ crd c (.xr 1) ∗ crd c (.xr 2)) ∗ (crd c (.lr 0) ∗ crd c (.lr 1) ∗ crd c (.lr 2))
      ∗ (seven fun k => kCrd c 0 k) ∗ (seven fun k => kCrd c 1 k)) := by
  have e : (Pipeline.launchCred O₀ c : sProp 𝕄) = cred (owed (need c)) := by
    rw [← credOf_need]
    refine TalkSites.launchCred_tallyL (fun d => (duesP d).map payOf) (fun d x hx => ?_) c
    obtain ⟨y, -, rfl⟩ := List.mem_map.mp hx
    rfl
  rw [e, TalkSites.cred_tallyL, bigSepL_map]
  unfold need
  rw [bigSepL_append, bigSepL_append, bigSepL_append, bigSepL_append, bar_five, flat7, flat7]
  simp only [bigSepL_append, kCrd_list]
  exact Entails.of_eq rfl

end Cert.KernelIdeal.Talk

end
-- ==== Proof.Launch.lean ====
/-
  The run of the whole program from any memory: what the kernel's one region enters and leaves with, the launch that
  deals the protocol's ghost state, and the contents of every buffer after the run.
-/
module

public import proofs.«01_k».proof.Proof.Ghost
public import Idealize.ShloMosaic.Harness.Basic

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL Fam)
open Idealize.ShloMosaic.SiteBlocks (Funds)
open Idealize.ShloMosaic.Smoke (bigSep_pair bigSep_unpair)
open Idealize.ShloMosaic.Pipeline (Dat BodyObligation)
open Cert.KernelIdeal.Gen
open Idealize.ShloMosaic.ValueIdx (ix2 eq_ix2 idx2_lt0 idx2_lt1)

variable {F : FTy → Type} [FloatOps F]

local notation "𝕄" => MT nD τ sig ℕ (Elt F) ℕ UU ℕ

variable (m : (ℓ : Loc nD τ sig) → Buf (Elt F) ℓ) (ρ : Dev nD → PrngReg)

/-! ## The region's data -/

/-- Device c's first argument, as fetched. -/
def va : Dev nD → FVec F S2048x1024 .f32 := fun c => ((cfg0.win 0).blk t0_0).view.read (Elt F) (m ((cfg0.win 0).arr.view.loc (c : Thread nD τ)))
/-- Device c's second argument, as fetched. -/
def vl : Dev nD → FVec F S2048x8 .f32 := fun c => ((cfg0.win 1).blk t0_0).view.read (Elt F) (m ((cfg0.win 1).arr.view.loc (c : Thread nD τ)))
/-- Device c's third argument, as fetched. -/
def vw : Dev nD → FVec F S1024x1024 .f32 := fun c => ((cfg0.win 2).blk t0_0).view.read (Elt F) (m ((cfg0.win 2).arr.view.loc (c : Thread nD τ)))

/-- Every own cell's invariant at some names. -/
def someInvs : sProp 𝕄 := iprop(∃ κ, invs (va m) (vl m) κ)

instance someInvs_persistent : BI.Persistent (someInvs m) := by unfold someInvs; infer_instance

/-- The five neighbours' barrier cells are at round 0. -/
def nbrs (c : Dev nD) : sProp 𝕄 := iprop(rch (partner 0 c) .bar ∗ rch (partner 1 c) .bar ∗ rch (partner 2 c) .bar ∗ rch (next 0 c) .bar ∗ rch (next 1 c) .bar)

set_option synthInstance.maxHeartbeats 400000 in
instance nbrs_persistent (c : Dev nD) : BI.Persistent (nbrs (F := F) c) := by unfold nbrs; infer_instance

/-- The tokens, the barrier position and the credits that ride from the launch to the body. -/
def ride (c : Dev nD) : sProp 𝕄 :=
  iprop(bTok c ∗ nbrs c ∗ cred (tallyAt (cell c .bar) 1 5) ∗ pos c .bar 0
    ∗ (rTok c 0 ∗ rTok c 1 ∗ rTok c 2) ∗ (seven fun k => kTok c 0 k) ∗ (seven fun k => kTok c 1 k)
    ∗ (crd c (.xr 0) ∗ crd c (.xr 1) ∗ crd c (.xr 2)) ∗ (crd c (.lr 0) ∗ crd c (.lr 1) ∗ crd c (.lr 2)) ∗ (seven fun k => kCrd c 0 k) ∗ (seven fun k => kCrd c 1 k))

/-- What rides to the region; what enters its body's invariant; what the body leaves. -/
def Tk (c : Dev nD) : sProp 𝕄 := iprop(someInvs m ∗ (names fun n => openTok ER (cell c n)) ∗ ride c)
def Xk (c : Dev nD) : sProp 𝕄 := iprop(someInvs m ∗ levAts lvL lv ∗ (names fun n => pos c n 0) ∗ rchAll c ∗ ride c)
def Yk (c : Dev nD) : sProp 𝕄 := semVal (cell c .bar) 0

/-- The six scratch buffers at some contents. -/
def scr (c : Dev nD) : sProp 𝕄 := iprop((∃ f, pts xaM c fullShare f) ∗ (∃ f, pts xlM c fullShare f) ∗ (∃ f, pts raM c fullShare f) ∗ (∃ f, pts rlM c fullShare f) ∗ (∃ f, pts bcM c fullShare f) ∗ (∃ f, pts cxM c fullShare f))

/-- The proof data of the region. -/
def dat0 (c : Dev nD) : Dat τ (Elt F) ℕ ℕ UU ℕ cfg0 c where
  A w := m ((cfg0.win w).arr.view.loc (c : Thread nD τ))
  after w _ := match w with
    | ⟨0, _⟩ => va m c
    | ⟨1, _⟩ => vl m c
    | ⟨2, _⟩ => vw m c
    | ⟨3, _⟩ => outV (va m) (vl m) (vw m) c
  Φ t := if t.val = 0 then iprop(Xk m c ∗ scr c ∗ ∃ r, prngReg c r) else iprop(Yk c ∗ Pipeline.ownSems0 osem c ∗ scr c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat0 m

theorem owed_zero (c : Dev nD) : (pdats (F := F) m 0 c).owed 0 = O₀ c := by
  show (if ((0 : Fin (cfg0.N + 1)).val = 0) then O₀ c else 0) = O₀ c; exact if_pos rfl
theorem owed_first (c : Dev nD) : (dat0 (F := F) m c).owed t0_0.castSucc = O₀ c := by
  show (if (t0_0.castSucc : Fin (cfg0.N + 1)).val = 0 then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

theorem owes_in {c : Dev nD} (dat : Dat τ (Elt F) ℕ ℕ UU ℕ cfg0 c) (t : Fin (cfg0.N + 1)) (O : CellTallies nD τ sig ℕ) (h0 : dat.owed t = O)
    (W : Waits sig ℕ) (hr : dat.recorded t = Set.univ) : (owes (c : Thread nD τ) O W : sProp 𝕄) ⊢ (dat.owesAt 0 t : sProp 𝕄) := by
  unfold Dat.owesAt Pipeline.owesWithin Dat.bound; rw [h0, hr]
  iintro HO; iexists W; isplitr; · ipureintro; exact fun _ _ => Or.inl trivial
  iexact HO
theorem owes_out {c : Dev nD} (dat : Dat τ (Elt F) ℕ ℕ UU ℕ cfg0 c) (t : Fin (cfg0.N + 1)) (O : CellTallies nD τ sig ℕ) (h0 : dat.owed t = O) :
    (dat.owesAt 0 t : sProp 𝕄) ⊢ iprop(∃ W, owes (c : Thread nD τ) O W) := by
  unfold Dat.owesAt Pipeline.owesWithin; rw [h0]
  iintro ⟨%W, -, HO⟩; iexists W; iexact HO

theorem before_0 (c : Dev nD) (d : (cfg0.win 0).block.Idx → Elt F (cfg0.win 0).elt) : (dat0 m c).before 0 t0_0 d = va m c := by
  unfold Dat.before; rw [if_pos (fetch0_0 t0_0)]; rfl
theorem before_1 (c : Dev nD) (d : (cfg0.win 1).block.Idx → Elt F (cfg0.win 1).elt) : (dat0 m c).before 1 t0_0 d = vl m c := by
  unfold Dat.before; rw [if_pos (fetch0_1 t0_0)]; rfl
theorem before_2 (c : Dev nD) (d : (cfg0.win 2).block.Idx → Elt F (cfg0.win 2).elt) : (dat0 m c).before 2 t0_0 d = vw m c := by
  unfold Dat.before; rw [if_pos (fetch0_2 t0_0)]; rfl

theorem owns_stg (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole buffer, at its location and through its memref. -/
theorem loc_pts (c : Dev nD) (b : Ref sig .tc) (f : Buf (Elt F) (((c : Dev nD) : Thread nD τ).loc b)) :
    ((((c : Thread nD τ).loc b) ↦{fullShare} f : sProp 𝕄)) = ((Memref.whole b).view.loc (c : Thread nD τ) ↦[(Memref.whole b).view.set]{fullShare} f) := by
  simp only [Memref.view_whole, View.set_whole]

theorem scr_eq (c : Dev nD) : (Pipeline.scopedRest (Ix := ℕ) (Name := ℕ) (U := UU) (Lvl := ℕ) (Val := Elt F) spec0 c : sProp 𝕄) = scr c := by
  rw [scopedRest0_eq]; unfold scr
  simp only [loc_pts]

/-! ## The body's obligation -/

/-- The invariant before the body's one point, and after it. -/
theorem Φ_first (c : Dev nD) : (dat0 m c).Φ t0_0.castSucc = iprop(Xk m c ∗ scr c ∗ ∃ r, prngReg c r) := rfl
theorem Φ_last (c : Dev nD) : (dat0 m c).Φ t0_0.succ = iprop(Yk c ∗ Pipeline.ownSems0 osem c ∗ scr c ∗ ∃ r, prngReg c r) := rfl

theorem bodyIn_invs (κ : GSem nD τ sig → ℕ) (c : Dev nD) : bodyIn (va m) (vl m) (vw m) κ c ⊢ iprop(invs (va m) (vl m) κ ∗ bodyIn (va m) (vl m) (vw m) κ c) := by
  unfold bodyIn look
  iintro ⟨⟨#HI, #Hlev⟩, H⟩
  isplitr; · iexact HI
  isplitr
  · isplitr; · iexact HI
    iexact Hlev
  iexact H

/-- The body with the cells closed behind it. -/
theorem body_closed (κ : GSem nD τ sig → ℕ) (c : Dev nD) {Q : PUnit → sProp (MT nD τ sig ℕ (Elt F) ℕ UU ℕ)} :
    bodyIn (va m) (vl m) (vw m) κ c ⊢ iprop(((ow c [] ∗ Yk c ∗ Pipeline.ownSems0 osem c
        ∗ pts accM c fullShare (va m c) ∗ pts lM c fullShare (vl m c) ∗ pts woM c fullShare (vw m c) ∗ pts outM c fullShare (outV (va m) (vl m) (vw m) c) ∗ scr c) -∗ Q ⟨⟩)
      -∗ W c (cc0__ring_body (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11) Q) := by
  iintro H Hk
  ihave H := (bodyIn_invs m κ c) $$ H
  icases H with ⟨#HI, H⟩
  iapply (wp_fupd frame (wpE (defs₀ (F := F)) 𝒱₀ (c : Thread nD τ) none) Set.univ (cc0__ring_body (F := F) accM (Memref.isWhole_whole _) lM (Memref.isWhole_whole _) woM (Memref.isWhole_whole _) outM (Memref.isWhole_whole _) xaM (Memref.isWhole_whole _) xlM (Memref.isWhole_whole _) raM (Memref.isWhole_whole _) rlM (Memref.isWhole_whole _) bcM (Memref.isWhole_whole _) cxM (Memref.isWhole_whole _) cc0_scratch6 cc0_scratch7 cc0_scratch8 cc0_scratch9 cc0_scratch10 cc0_scratch11) Q)
  iapply (body_run (va m) (vl m) (vw m) κ c) $$ H
  unfold bodyOut
  iintro ⟨HO, Hb, Hn, Ha, Hl, Hw, Ho, Hs⟩
  imod (close_bar (va m) (vl m) κ c) $$ [Hb] with Hb0
  · isplitr; · iexact HI
    iexact Hb
  imod (close_own (va m) (vl m) κ c) $$ [Hn] with Hn0
  · isplitr; · iexact HI
    iexact Hn
  imodintro
  iapply Hk
  isplitl [HO]; · iexact HO
  isplitl [Hb0]; · unfold Yk; iexact Hb0
  isplitl [Hn0]; · iexact Hn0
  isplitl [Ha]; · iexact Ha
  isplitl [Hl]; · iexact Hl
  isplitl [Hw]; · iexact Hw
  isplitl [Ho]; · iexact Ho
  unfold scr
  iexact Hs

set_option maxRecDepth 4000 in
/-- The library's obligation on the body. -/
theorem body (c : Dev nD) : BodyObligation (dat0 (F := F) m c) (defs₀ (F := F)) 𝒱₀ 0 Set.univ := fun t => by
  obtain rfl := fin_N0 t
  rw [bigSep_W0, bigSep_W0]
  simp only [owns_stg]
  rw [Φ_first, Φ_last]
  unfold Xk ride someInvs
  iintro ⟨⟨⟨⟨%κ, #HI⟩, #Hlev, Hn, #HR, Hbt, #Hnb, Hcb, Hpb, HT, Hk0, Hk1, Hcx, Hcl, HC0, HC1⟩, Hscr, Hreg⟩, HO, ⟨%d0, %f0, %hf0, H0⟩, ⟨%d1, %f1, %hf1, H1⟩, ⟨%d2, %f2, %hf2, H2⟩, ⟨%d3, %f3, %hf3, H3⟩⟩
  rw [before_0] at hf0
  rw [before_1] at hf1
  rw [before_2] at hf2
  subst hf0
  subst hf1
  subst hf2
  ihave HO' := (owes_out (dat0 m c) _ (O₀ c) (owed_first m c)) $$ HO
  icases HO' with ⟨%Wd, HO⟩
  iapply (body_closed m κ c) $$ [Hn Hbt Hcb Hpb HT Hk0 Hk1 Hcx Hcl HC0 HC1 Hscr HO H0 H1 H2 H3]
  · unfold bodyIn look
    isplitr
    · isplitr; · iexact HI
      iexact Hlev
    isplitl [HO]; · unfold ow; iexists Wd; iexact HO
    isplitl [Hbt]; · unfold bTok; iexact Hbt
    isplitr; · unfold nbrs; iexact Hnb
    isplitl [Hcb]; · iexact Hcb
    isplitl [Hpb]; · iexact Hpb
    isplitl [HT]; · iexact HT
    isplitl [Hk0]; · iexact Hk0
    isplitl [Hk1]; · iexact Hk1
    isplitl [Hn]; · iexact Hn
    isplitr; · iexact HR
    isplitl [Hcx]; · iexact Hcx
    isplitl [Hcl]; · iexact Hcl
    isplitl [HC0]; · iexact HC0
    isplitl [HC1]; · iexact HC1
    isplitl [H0]; · iapply (Entails.of_eq (loc_pts c cc0_stg0_0 (va m c))) $$ H0
    isplitl [H1]; · iapply (Entails.of_eq (loc_pts c cc0_stg1_0 (vl m c))) $$ H1
    isplitl [H2]; · iapply (Entails.of_eq (loc_pts c cc0_stg2_0 (vw m c))) $$ H2
    isplitl [H3]; · iexists f3; iapply (Entails.of_eq (loc_pts c cc0_stg3_0 f3)) $$ H3
    unfold scr; iexact Hscr
  iintro ⟨HO, HY, Hs, H0, H1, H2, H3, Hscr⟩
  unfold ow
  icases HO with ⟨%Wd', HO⟩
  isplitl [HY Hs Hscr Hreg]
  · isplitl [HY]; · iexact HY
    isplitl [Hs]; · iexact Hs
    isplitl [Hscr]; · iexact Hscr
    iexact Hreg
  isplitl [HO]; · iapply (owes_in (dat0 m c) t0_0.succ 0 (owed_last m c) Wd' rfl); iexact HO
  isplitl [H0]
  · iexists (va m c); isplitr; · ipureintro; rfl
    iapply (Entails.of_eq (loc_pts c cc0_stg0_0 (va m c)).symm) $$ H0
  isplitl [H1]
  · iexists (vl m c); isplitr; · ipureintro; rfl
    iapply (Entails.of_eq (loc_pts c cc0_stg1_0 (vl m c)).symm) $$ H1
  isplitl [H2]
  · iexists (vw m c); isplitr; · ipureintro; rfl
    iapply (Entails.of_eq (loc_pts c cc0_stg2_0 (vw m c)).symm) $$ H2
  · iexists (outV (va m) (vl m) (vw m) c); isplitr; · ipureintro; rfl
    iapply (Entails.of_eq (loc_pts c cc0_stg3_0 (outV (va m) (vl m) (vw m) c)).symm) $$ H3

/-! ## The region -/

/-- The memory at launch, and after the region: the result's array holds what the body left. -/
abbrev V₀ (c : Dev nD) : Valuation τ sig (Elt F) := fun b => m ((c : Dev nD), b)
abbrev finalA (c : Dev nD) : Buf (Elt F) ((cfg0.win 3).arr.view.loc (c : Thread nD τ)) := (dat0 m c).arrAt 3 cfg0.N
abbrev V₁ (c : Dev nD) : Valuation τ sig (Elt F) := Function.update (V₀ m c) (Proc.devRef .tc main_v1) (finalA m c)

theorem V₁_ne (c : Dev nD) (b : DevRef τ sig) (h : b ≠ Proc.devRef .tc main_v1) : V₁ m c b = V₀ m c b := Function.update_of_ne h _ _

theorem hopen (c : Dev nD) : iprop(Tk m c ∗ Pipeline.ownSems0 osem c ∗ levAts lvL lv) ⊢ (|={Set.univ}=> Xk m c : sProp 𝕄) := by
  unfold Tk Xk someInvs
  iintro ⟨⟨⟨%κ, #HI⟩, Ho, Hr⟩, Hs, #Hlev⟩
  imod (open_own (va m) (vl m) κ c) $$ [Ho Hs] with ⟨Hn, HR⟩
  · isplitr; · iexact HI
    isplitl [Ho] <;> iassumption
  imodintro
  isplitr; · iexists κ; iexact HI
  isplitr; · iexact Hlev
  isplitl [Hn]; · iexact Hn
  isplitl [HR] <;> iassumption

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem dues_above (c : Dev nD) : ∀ x ∈ duesP c, 0 < lvl x.1 x.2 ∧ lvl x.1 x.2 < lvlN := by revert c; decide +kernel

theorem cut (c : Dev nD) (t : Fin ((Pipeline.pin (pcfgs (F := F)) adm 0).N + 1)) (g : GSem nD τ sig) (i : ℕ) (h : 0 < (pdats (F := F) m 0 c).owed t g i) :
    i ∈ lvL g ∧ 0 < lv g i := by
  have e : (pdats (F := F) m 0 c).owed t = if t.val = 0 then O₀ c else 0 := rfl
  rw [e] at h
  by_cases h0 : t.val = 0
  · rw [if_pos h0] at h
    obtain ⟨x, hx, rfl, rfl⟩ := TalkSites.tallyL_pos h
    obtain ⟨y, hy, rfl⟩ := List.mem_map.mp hx
    exact ⟨SiteBlocks.mem_L' rfl (dues_above c y hy).2, (dues_above c y hy).1⟩
  · rw [if_neg h0] at h; exact absurd h (Nat.lt_irrefl 0)

theorem held_none (c : Dev nD) (W : Valuation τ sig (Elt F)) : (StableHlo.held (c : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r) ∗ StableHlo.held (c.tc : Thread nD τ) ∅ (V₀ m c) ∗ Xk m c)
    ⊢ (pdats m 0 c).Φ 0 := by
  rw [show (pdats m 0 c).Φ 0 = iprop(Xk m c ∗ scr c ∗ ∃ r, prngReg c r) from rfl,
    show (Pipeline.scopedRest (Pipeline.pin (pcfgs (F := F)) adm 0).spec c : sProp 𝕄) = scr c from scr_eq c]
  iintro ⟨Hs, Hp, -, HX⟩
  isplitl [HX]; · iexact HX
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₁ m c) ∗ Pipeline.ownSems0 osem c ∗ Yk c) := by
  rw [show (pdats m 0 c).Φ (Fin.last _) = iprop(Yk c ∗ Pipeline.ownSems0 osem c ∗ scr c ∗ ∃ r, prngReg c r) from rfl,
    show (Pipeline.scopedRest (Pipeline.pin (pcfgs (F := F)) adm 0).spec c : sProp 𝕄) = scr c from scr_eq c, held_none]
  iintro ⟨HY, Ho, Hs, Hp⟩
  isplitl [Hs]; · iexact Hs
  isplitl [Hp]; · iexact Hp
  isplitr; · iempintro
  isplitl [Ho] <;> iassumption

theorem after_arrays (c : Dev nD) : ∀ w : Fin cfg0.W, (pdats m 0 c).arrAt w (Pipeline.pin (pcfgs (F := F)) adm 0).N = V₁ m c (Proc.devRef .tc (Pipeline.arrRef spec0 w))
  | ⟨0, _⟩ => ((dat0 m c).arrAt_in 0 rfl _).trans (V₁_ne m c (Proc.devRef .tc main_arg0) (by decide)).symm
  | ⟨1, _⟩ => ((dat0 m c).arrAt_in 1 rfl _).trans (V₁_ne m c (Proc.devRef .tc main_arg1) (by decide)).symm
  | ⟨2, _⟩ => ((dat0 m c).arrAt_in 2 rfl _).trans (V₁_ne m c (Proc.devRef .tc main_arg2) (by decide)).symm
  | ⟨3, _⟩ => (Function.update_self (Proc.devRef .tc main_v1) (finalA m c) (V₀ m c)).symm

local notation "ℝ𝕊" => Pipeline.RegionSeg (pcfgs (F := F)) adm (pdats m) 0 defs₀ 𝒱₀ lvL lv

set_option backward.isDefEq.respectTransparency.types false in
/-- The region. -/
def reg0 : ℝ𝕊 0 :=
  Pipeline.RegionSeg.ofTalk (pcfgs (F := F)) adm (pdats m) 0 defs₀ 𝒱₀ lvL lv 0 osem (by decide : Pipeline.OwnSemFacts spec0 osem)
    ∅ ∅ (Finset.Subset.refl _) kitP rfl (fun c => (body m c).loose)
    (fun _ => 0) O₀ (fun c => (owed_zero m c).trans (zero_add _).symm) (owed_last m) (fun _ => rfl) (fun c => (pdats m 0 c).share_full fun _ => rfl)
    (V₀ m) (V₁ m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun _ _ _ => SiteBlocks.mem_L' rfl (by decide), fun _ _ _ => le_rfl, fun c t g i h => cut m c t g i h⟩
    (fun _ => iprop(emp))
    (fun _ _ => rfl) (after_arrays m)

/-- The program's unscoped buffers are the region's arrays. -/
theorem bufs_arr : ((StableHlo.tcRefs τ sig).filter fun b => ¬ b.isScoped) = Pipeline.arrRefs (τ := τ) spec0 := by decide

theorem unscoped_held (c : Dev nD) (W : Valuation τ sig (Elt F)) :
    (unscopedBufs c (fun b => W b) : sProp 𝕄) = StableHlo.held (c : Thread nD τ) (Pipeline.arrRefs (τ := τ) spec0) W := by
  rw [← bufs_arr]
  unfold unscopedBufs StableHlo.held StableHlo.tcRefs
  rw [Finset.filter_map, BI.bigSep_map]
  rfl

theorem held_four (c : Dev nD) (W : Valuation τ sig (Elt F)) : (StableHlo.held (c : Thread nD τ) (Pipeline.arrRefs (τ := τ) spec0) W : sProp 𝕄)
    = iprop(((c : Thread nD τ).loc main_arg0 ↦{fullShare} W main_arg0) ∗ ((c : Thread nD τ).loc main_arg1 ↦{fullShare} W main_arg1)
      ∗ ((c : Thread nD τ).loc main_arg2 ↦{fullShare} W main_arg2) ∗ ((c : Thread nD τ).loc main_v1 ↦{fullShare} W main_v1)) := by
  unfold StableHlo.held
  rw [bigSep_eq_bigSepL_of_eq [Proc.devRef .tc main_arg0, Proc.devRef .tc main_arg1, Proc.devRef .tc main_arg2, Proc.devRef .tc main_v1] (by decide) (by decide)]
  rfl

theorem unscopedSems_bar (c : Dev nD) : (unscopedSems0 c : sProp 𝕄) = semVal (cell c .bar) 0 := by
  unfold unscopedSems0
  rw [show (Finset.univ.filter fun sm : SemLoc sig => ¬ sm.isScoped .tc) = {Nm.bar.sem} from by decide +kernel, BI.bigSep_singleton]

/-- What a device starts its program with, and ends it with. -/
abbrev T₀ (c : Dev nD) : sProp 𝕄 :=
  iprop(StableHlo.held (c : Thread nD τ) (Pipeline.arrRefs (τ := τ) spec0) (V₀ m c) ∗ (∃ r, prngReg c r) ∗ Tk m c ∗ ∃ W, owes (c : Thread nD τ) (O₀ c) W)
abbrev Tₙ (c : Dev nD) : sProp 𝕄 := iprop(StableHlo.held (c : Thread nD τ) (Pipeline.arrRefs (τ := τ) spec0) (V₁ m c) ∗ semVal (cell c .bar) 0)

theorem reg_pre (c : Dev nD) : T₀ m c ⊢ (reg0 m).pre c := by
  show _ ⊢ iprop(StableHlo.held (c.tc : Thread nD τ) (Pipeline.arrRefs (τ := τ) (pcfgs (F := F) 0).spec) (V₀ m c) ∗ (∃ r, prngReg c r)
    ∗ (StableHlo.held (c.tc : Thread nD τ) ∅ (V₀ m c) ∗ emp) ∗ Tk m c ∗ ∃ Wd, owes (c : Thread nD τ) (0 + O₀ c) Wd)
  rw [held_none, zero_add]
  iintro ⟨Hh, Hp, HT, HO⟩
  isplitl [Hh]; · iexact Hh
  isplitl [Hp]; · iexact Hp
  isplitr; · isplitr <;> iempintro
  isplitl [HT] <;> iassumption

theorem reg_post (c : Dev nD) : (reg0 m).post c ⊢ iprop(Tₙ m c ∗ ∃ W, owes (c : Thread nD τ) (0 : CellTallies nD τ sig ℕ) W) := by
  show iprop(StableHlo.held (c.tc : Thread nD τ) (Pipeline.arrRefs (τ := τ) (pcfgs (F := F) 0).spec) (V₁ m c) ∗ (∃ r, prngReg c r)
    ∗ (StableHlo.held (c.tc : Thread nD τ) ∅ (V₁ m c) ∗ emp) ∗ Yk c ∗ ∃ Wd, owes (c : Thread nD τ) (0 : CellTallies nD τ sig ℕ) Wd) ⊢ _
  unfold Yk
  iintro ⟨Hh, -, -, Hb, HO⟩
  isplitr [HO]
  · isplitl [Hh]; · iexact Hh
    iexact Hb
  iexact HO

/-! ## The launch -/

/-- The launch element: the pipeline library's at the staging cells, the protocol's at its own. -/
def u₀ : UU :=
  (initOf (Pipeline.cells (Pipeline.pin (pcfgs (F := F)) adm) cellOf_inj) (Pipeline.launchToks (Pipeline.pin (pcfgs (F := F)) adm) cellOf_inj),
    launchOf fam.S fam.Sd fam.T)

/-- The protocol's launch element, kept on device 0 until the launch deals it. -/
def G (c : Dev nD) : sProp 𝕄 := if c = 0 then BI.own (ER (launchOf fam.S fam.Sd fam.T)) else iprop(emp)

theorem all_G : bigSep Finset.univ (G (F := F)) = BI.own (ER (launchOf fam.S fam.Sd fam.T)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- One barrier cell out of all. -/
theorem nbr_at (c p : Dev nD) : (bigSep Finset.univ fun n : Dev nD => (reached ER ((n.tc : Thread nD τ), fam.bar) 0 : sProp 𝕄)) ⊢ rch p .bar :=
  bigSep_elim (Finset.mem_univ p)

/-- What of a device's launch holdings is not the protocol's ghost state. -/
def bundle (c : Dev nD) : sProp 𝕄 :=
  iprop(StableHlo.held (c : Thread nD τ) (Pipeline.arrRefs (τ := τ) spec0) (V₀ m c) ∗ Pipeline.launchCred O₀ c
    ∗ owes (c : Thread nD τ) (O₀ c) ∅ ∗ ∃ r, prngReg c r)

theorem T₀_intro (c : Dev nD) : iprop(fam.launched ER (Rd (va m) (vl m)) (fun _ => Finset.univ) c ∗ bundle m c) ⊢ T₀ m c := by
  unfold bundle T₀ Tk ride Fam.launched
  iintro ⟨⟨HB, HJ⟩, Hh, Hcr, HO, Hp⟩
  ihave HJ := (Entails.of_eq (show (bigSep Finset.univ fun j => fam.rides ER (Rd (va m) (vl m)) c j) = fam.rides ER (Rd (va m) (vl m)) c 0 from by
    rw [show (Finset.univ : Finset (Fin 1)) = {0} from rfl, bigSep_singleton])) $$ HJ
  unfold Fam.rides Fam.barPos
  icases HB with ⟨-, Hat, #Hr⟩
  icases HJ with ⟨#HI, Ho, Ht⟩
  ihave Ht := (toks_body c) $$ Ht
  icases Ht with ⟨Hb, Hrt, Hk0, Hk1⟩
  ihave Hcr := (creds_body c) $$ Hcr
  icases Hcr with ⟨Hc5, Hcx, Hcl, HC0, HC1⟩
  ihave Ho := (Entails.of_eq (show (bigSep (fam.dorm 0) fun sm => (openTok ER ((c : Thread nD τ), sm) : sProp 𝕄)) = names fun n => openTok ER (cell c n) from dorm_names fun sm => openTok ER ((c : Thread nD τ), sm))) $$ Ho
  isplitl [Hh]; · iexact Hh
  isplitl [Hp]; · iexact Hp
  isplitr [HO]
  · isplitr; · unfold someInvs; iexact HI
    isplitl [Ho]; · iexact Ho
    isplitl [Hb]; · iexact Hb
    isplitr
    · unfold nbrs
      isplitr; · iapply (nbr_at c (partner 0 c)); iexact Hr
      isplitr; · iapply (nbr_at c (partner 1 c)); iexact Hr
      isplitr; · iapply (nbr_at c (partner 2 c)); iexact Hr
      isplitr; · iapply (nbr_at c (next 0 c)); iexact Hr
      iapply (nbr_at c (next 1 c)); iexact Hr
    isplitl [Hc5]; · iexact Hc5
    isplitl [Hat]; · iexact Hat
    isplitl [Hrt]; · iexact Hrt
    isplitl [Hk0]; · iexact Hk0
    isplitl [Hk1]; · iexact Hk1
    isplitl [Hcx]; · iexact Hcx
    isplitl [Hcl]; · iexact Hcl
    isplitl [HC0] <;> iassumption
  · iexists ∅; iexact HO

/-- The launch: every device's holdings become what it starts its program with. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts lvL lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ ((semVal (cell c .bar) 0 ∗ Pipeline.launchCred (fun _ => 0) c) ∗ G c)) : sProp 𝕄) := by
    rw [show unscopedBufs c (fun b => m ((c : Thread nD τ).loc b)) = StableHlo.held (c : Thread nD τ) (Pipeline.arrRefs (τ := τ) spec0) (V₀ m c) from unscoped_held c (V₀ m c),
      unscopedSems_bar, Pipeline.launchCred_zero]
    unfold bundle
    iintro ⟨Hh, Hus, HO, Hcr, Hp, HG⟩
    isplitl [Hh HO Hcr Hp]
    · isplitl [Hh]; · iexact Hh
      isplitl [Hcr]; · iexact Hcr
      isplitl [HO]; · iexact HO
      iexists (ρ c); iexact Hp
    isplitl [Hus]
    · isplitl [Hus]; · iexact Hus
      iempintro
    iexact HG
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ ((semVal (cell c .bar) 0 ∗ Pipeline.launchCred (fun _ => 0) c) ∗ G c)) : sProp 𝕄) from bigSep_mono fun c _ => hcore c) $$ H
  ihave H2 := bigSep_unpair $$ H'; icases H2 with ⟨HB, H3⟩
  ihave H4 := bigSep_unpair $$ H3; icases H4 with ⟨Hv, HG⟩
  ihave Hu := (Entails.of_eq (all_G (F := F))) $$ HG
  imod (fam.funds ER (Rd (va m) (vl m)) (fun _ _ h => h) (fun _ => Finset.univ) (Es := Set.univ)) $$ [Hv Hu] with HL
  · isplitl [Hv]; · iexact Hv
    iexact Hu
  imodintro
  ihave HA := bigSep_pair $$ [HL HB]
  · isplitl [HL]; · iexact HL
    iexact HB
  iapply (show _ ⊢ bigSep Finset.univ (T₀ m) from bigSep_mono fun c _ => T₀_intro m c) $$ HA

/-! ## The run -/

/-- The program as its one region. -/
def segs : List (Pipeline.Seg (pcfgs (F := F)) adm (pdats m) 0 defs₀ 𝒱₀ lvL lv) := [.region (reg0 m)]

theorem main_eq (c : Dev nD) : main (F := F) c = Pipeline.Seg.run (segs m) := main_segs adm (pdats m) 0 𝒱₀ lvL lv (reg0 m) c

theorem unscoped_eq : ∀ sm : SemLoc sig, sm.isScoped .tc = false → sm = Nm.bar.sem := by decide +kernel

set_option backward.isDefEq.respectTransparency.types false in
/-- From any memory with zero counters every run ends; then every device's arguments are as at the start, its result is
    what its region left, and every semaphore counter is zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v1) = finalA m c) ∧ r.2.sem = fun _ => 0) :=
  Pipeline.θ_run_regions_kit_sems (pcfgs (F := F)) adm (pdats m) 0 cellOf_inj EP defs₀ 𝒱₀ lvL lv m ρ main (segs m)
    (fun c Q => by rw [main_eq m c])
    (by simp only [segs, Pipeline.Seg.pipes_region, Pipeline.Seg.pipes_nil]; decide)
    (O₀ := O₀) (hL := SiteBlocks.hL lvlN) (G := G) (u₀ := u₀ (F := F))
    (hu₀ := by
      unfold u₀
      iintro Hu
      ihave H := (ownU_pair _ _) $$ Hu
      icases H with ⟨HP, HX⟩
      imodintro
      isplitl [HP]; · iexact HP
      rw [all_G]; iexact HX)
    (T₀ := T₀ m) (Tₙ := Tₙ m)
    (hch := ⟨reg_pre m, reg_post m⟩)
    (hinit := init m ρ)
    (QY := fun c s => (s.mem ((c : Thread nD τ).loc main_arg0) = V₁ m c main_arg0 ∧ s.mem ((c : Thread nD τ).loc main_arg1) = V₁ m c main_arg1
        ∧ s.mem ((c : Thread nD τ).loc main_arg2) = V₁ m c main_arg2 ∧ s.mem ((c : Thread nD τ).loc main_v1) = V₁ m c main_v1)
      ∧ s.sem (cell c .bar) = 0)
    (hfin := fun c s' => by
      dsimp only [Tₙ]; rw [held_four]
      iintro ⟨⟨⟨H0, H1, H2, H3⟩, Hb⟩, HSI⟩
      icombine HSI H0 gives %h0
      icombine HSI H1 gives %h1
      icombine HSI H2 gives %h2
      icombine HSI H3 gives %h3
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3⟩, by simpa using hb⟩
      iexact HSI)
    (hQ := fun s h hs => ⟨fun c => by
        obtain ⟨⟨h0, h1, h2, h3⟩, -⟩ := h c
        exact ⟨h0.trans (Function.update_of_ne (by decide) _ _), h1.trans (Function.update_of_ne (by decide) _ _),
          h2.trans (Function.update_of_ne (by decide) _ _), h3.trans (Function.update_self _ _ _)⟩,
      sem_eq_zero hs fun c sm hsm => by
        obtain rfl := unscoped_eq sm hsm
        exact (h c).2⟩)

end Cert.KernelIdeal.Talk

end
-- ==== Proof.Ref.lean ====
/-
  The run of the reference on its one device, and its result read at an index: a row between 128 and 1919 of the context
  is the first device's numerator over its denominator, every other row the sums over the devices of both; the result is
  the context's product with the projection.
-/
module

public import Idealize.ShloMosaic.Lib.StableHlo.Run
public import Idealize.ShloMosaic.Lib.Pipeline.Value
public import Idealize.ShloMosaic.Lib.Pointwise.Reduce
public import Idealize.ShloMosaic.Lib.ValueIdx
public import Idealize.ShloMosaic.PureOps.Ideal
public import proofs.«01_k».proof.Proof.Gen.ReferenceIdeal

@[expose] public section

noncomputable section

namespace Cert.ReferenceIdeal.Talk

open Cert.ReferenceIdeal Cert.ReferenceIdeal.Gen
open Idealize.ShloMosaic Idealize.ShloMosaic.TcCoe Idealize.ShloMosaic.StableHlo Idealize.SL.Sem
open Idealize.ShloMosaic.ValueIdx (idx2_lt0)

variable {F : FTy → Type} [FloatOps F]

/-- The rows from 128 to 1919. -/
abbrev inner : IVec S2048 1 :=
  andi (cmpi .sge (iotaInDim S2048 32 0) (broadcastInDim S2048 ![] bcast_S_S2048 (constantI S_ 32 128#32)))
    (cmpi .slt (iotaInDim S2048 32 0) (broadcastInDim S2048 ![] bcast_S_S2048 (constantI S_ 32 1920#32)))

/-- The numerators from all devices' partial ones. -/
abbrev num (a : FVec F S16384x1024 .f32) : FVec F S2048x1024 .f32 :=
  select (broadcastInDim S2048x1024 ![0, 1] bcast_S2048x1_S2048x1024_0_1 (broadcastInDim S2048x1 ![0] bcast_S2048_S2048x1_0 inner))
    (shapeCast S2048x1024 (extractStridedSlice S1x2048x1024 ![0, 0, 0] (shapeCast S8x2048x1024 a shapeCasts_S16384x1024_S8x2048x1024) slices_S8x2048x1024_S1x2048x1024_0_0_0) shapeCasts_S1x2048x1024_S2048x1024)
    (Host.reduceAdd (shapeCast S8x2048x1024 a shapeCasts_S16384x1024_S8x2048x1024) (constant S_ .f32 0x00000000#32) reducesTo_S8x2048x1024_S2048x1024_d0 h_S_)

/-- The denominators from all devices' partial ones. -/
abbrev den (l : FVec F S16384x8 .f32) : FVec F S2048x8 .f32 :=
  select (broadcastInDim S2048x8 ![0, 1] bcast_S2048x1_S2048x8_0_1 (broadcastInDim S2048x1 ![0] bcast_S2048_S2048x1_0 inner))
    (shapeCast S2048x8 (extractStridedSlice S1x2048x8 ![0, 0, 0] (shapeCast S8x2048x8 l shapeCasts_S16384x8_S8x2048x8) slices_S8x2048x8_S1x2048x8_0_0_0) shapeCasts_S1x2048x8_S2048x8)
    (Host.reduceAdd (shapeCast S8x2048x8 l shapeCasts_S16384x8_S8x2048x8) (constant S_ .f32 0x00000000#32) reducesTo_S8x2048x8_S2048x8_d0 h_S_)

/-- The context: numerators over denominators, head by head. -/
def ctx (a : FVec F S16384x1024 .f32) (l : FVec F S16384x8 .f32) : FVec F S2048x1024 .f32 :=
  shapeCast S2048x1024
    (Host.divf (shapeCast S2048x8x128 (num a) shapeCasts_S2048x1024_S2048x8x128)
      (broadcastInDim S2048x8x128 ![0, 1, 2] bcast_S2048x8x1_S2048x8x128_0_1_2 (broadcastInDim S2048x8x1 ![0, 1] bcast_S2048x8_S2048x8x1_0_1 (den l))))
    shapeCasts_S2048x8x128_S2048x1024

/-- The result from the three arguments. -/
def out (a : FVec F S16384x1024 .f32) (l : FVec F S16384x8 .f32) (w : FVec F S1024x1024 .f32) : FVec F S1x2048x1024 .f32 :=
  broadcastInDim S1x2048x1024 ![1, 2] bcast_S2048x1024_S1x2048x1024_1_2
    (Host.dotGeneral dot_S2048x1024_S1024x1024_S2048x1024_1_0_0_1_n_n none (ctx a l) w)

/-- The program's operations, in order. -/
abbrev ops : List (HloOp τ sig (Elt F)) :=
  [ reshape main_arg0 main_v0 (rfl : (.f32 : EltTy) = .f32) shapeCasts_S16384x1024_S8x2048x1024,
    reshape main_arg1 main_v1 (rfl : (.f32 : EltTy) = .f32) shapeCasts_S16384x8_S8x2048x8,
    nullary main_v2 (iotaInDim S2048 32 0),
    nullary main_c (constantI S_ 32 128#32),
    unary main_c main_v3 (broadcastInDim S2048 ![] bcast_S_S2048 : (⟨S_, .i32⟩ : BufTy).Contents (Elt F) → (⟨S2048, .i32⟩ : BufTy).Contents (Elt F)),
    binary main_v2 main_v3 main_v4 (cmpi .sge : (⟨S2048, .i32⟩ : BufTy).Contents (Elt F) → (⟨S2048, .i32⟩ : BufTy).Contents (Elt F) → (⟨S2048, .i1⟩ : BufTy).Contents (Elt F)),
    nullary main_c_0 (constantI S_ 32 1920#32),
    unary main_c_0 main_v5 (broadcastInDim S2048 ![] bcast_S_S2048 : (⟨S_, .i32⟩ : BufTy).Contents (Elt F) → (⟨S2048, .i32⟩ : BufTy).Contents (Elt F)),
    binary main_v2 main_v5 main_v6 (cmpi .slt : (⟨S2048, .i32⟩ : BufTy).Contents (Elt F) → (⟨S2048, .i32⟩ : BufTy).Contents (Elt F) → (⟨S2048, .i1⟩ : BufTy).Contents (Elt F)),
    binary main_v4 main_v6 main_v7 (andi : (⟨S2048, .i1⟩ : BufTy).Contents (Elt F) → (⟨S2048, .i1⟩ : BufTy).Contents (Elt F) → (⟨S2048, .i1⟩ : BufTy).Contents (Elt F)),
    unary main_v7 main_v8 (broadcastInDim S2048x1 ![0] bcast_S2048_S2048x1_0 : (⟨S2048, .i1⟩ : BufTy).Contents (Elt F) → (⟨S2048x1, .i1⟩ : BufTy).Contents (Elt F)),
    unary main_v0 main_v9 ((extractStridedSlice S1x2048x1024 ![0, 0, 0] · slices_S8x2048x1024_S1x2048x1024_0_0_0) : (⟨S8x2048x1024, .f32⟩ : BufTy).Contents (Elt F) → (⟨S1x2048x1024, .f32⟩ : BufTy).Contents (Elt F)),
    reshape main_v9 main_v10 (rfl : (.f32 : EltTy) = .f32) shapeCasts_S1x2048x1024_S2048x1024,
    nullary main_cst (constant S_ .f32 0x00000000#32),
    binary main_v0 main_cst main_v11 ((fun x v => Host.reduceAdd x v reducesTo_S8x2048x1024_S2048x1024_d0 h_S_) : (⟨S8x2048x1024, .f32⟩ : BufTy).Contents (Elt F) → (⟨S_, .f32⟩ : BufTy).Contents (Elt F) → (⟨S2048x1024, .f32⟩ : BufTy).Contents (Elt F)),
    TRef.unary (.of main_v8 : TRef sig ⟨S2048x1, .i1⟩) main_call0.v0 (broadcastInDim S2048x1024 ![0, 1] bcast_S2048x1_S2048x1024_0_1),
    TRef.ternary main_call0.v0 (.of main_v10) (.of main_v11) main_call0.v1 select,
    unary main_v7 main_v13 (broadcastInDim S2048x1 ![0] bcast_S2048_S2048x1_0 : (⟨S2048, .i1⟩ : BufTy).Contents (Elt F) → (⟨S2048x1, .i1⟩ : BufTy).Contents (Elt F)),
    unary main_v1 main_v14 ((extractStridedSlice S1x2048x8 ![0, 0, 0] · slices_S8x2048x8_S1x2048x8_0_0_0) : (⟨S8x2048x8, .f32⟩ : BufTy).Contents (Elt F) → (⟨S1x2048x8, .f32⟩ : BufTy).Contents (Elt F)),
    reshape main_v14 main_v15 (rfl : (.f32 : EltTy) = .f32) shapeCasts_S1x2048x8_S2048x8,
    nullary main_cst_1 (constant S_ .f32 0x00000000#32),
    binary main_v1 main_cst_1 main_v16 ((fun x v => Host.reduceAdd x v reducesTo_S8x2048x8_S2048x8_d0 h_S_) : (⟨S8x2048x8, .f32⟩ : BufTy).Contents (Elt F) → (⟨S_, .f32⟩ : BufTy).Contents (Elt F) → (⟨S2048x8, .f32⟩ : BufTy).Contents (Elt F)),
    TRef.unary (.of main_v13 : TRef sig ⟨S2048x1, .i1⟩) main_call1.v0 (broadcastInDim S2048x8 ![0, 1] bcast_S2048x1_S2048x8_0_1),
    TRef.ternary main_call1.v0 (.of main_v15) (.of main_v16) main_call1.v1 select,
    reshape main_v12 main_v18 (rfl : (.f32 : EltTy) = .f32) shapeCasts_S2048x1024_S2048x8x128,
    unary main_v17 main_v19 (broadcastInDim S2048x8x1 ![0, 1] bcast_S2048x8_S2048x8x1_0_1 : (⟨S2048x8, .f32⟩ : BufTy).Contents (Elt F) → (⟨S2048x8x1, .f32⟩ : BufTy).Contents (Elt F)),
    unary main_v19 main_v20 (broadcastInDim S2048x8x128 ![0, 1, 2] bcast_S2048x8x1_S2048x8x128_0_1_2 : (⟨S2048x8x1, .f32⟩ : BufTy).Contents (Elt F) → (⟨S2048x8x128, .f32⟩ : BufTy).Contents (Elt F)),
    binary main_v18 main_v20 main_v21 (Host.divf : (⟨S2048x8x128, .f32⟩ : BufTy).Contents (Elt F) → (⟨S2048x8x128, .f32⟩ : BufTy).Contents (Elt F) → (⟨S2048x8x128, .f32⟩ : BufTy).Contents (Elt F)),
    reshape main_v21 main_v22 (rfl : (.f32 : EltTy) = .f32) shapeCasts_S2048x8x128_S2048x1024,
    binary main_v22 main_arg2 main_v23 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    unary main_v23 main_v24 (broadcastInDim S1x2048x1024 ![1, 2] bcast_S2048x1024_S1x2048x1024_1_2 : (⟨S2048x1024, .f32⟩ : BufTy).Contents (Elt F) → (⟨S1x2048x1024, .f32⟩ : BufTy).Contents (Elt F)) ]

/-- The program is that straight line. -/
theorem main_eq (c : Dev nD) : main (F := F) c = seq ops := by
  simp only [main, fn_where.body, fn_where_0.body, seq, bind_assoc, pure_bind]

theorem out_eq (V : Valuation τ sig (Elt F)) :
    after ops V (main_v24 : DevRef τ sig) = out (V (main_arg0 : DevRef τ sig)) (V (main_arg1 : DevRef τ sig)) (V (main_arg2 : DevRef τ sig)) := by
  after_results_simp
  rfl

theorem arg0_eq (V : Valuation τ sig (Elt F)) : after ops V (main_arg0 : DevRef τ sig) = V (main_arg0 : DevRef τ sig) := by
  simp only [after_cons, after_nil]
  rfl

theorem arg1_eq (V : Valuation τ sig (Elt F)) : after ops V (main_arg1 : DevRef τ sig) = V (main_arg1 : DevRef τ sig) := by
  simp only [after_cons, after_nil]
  rfl

theorem arg2_eq (V : Valuation τ sig (Elt F)) : after ops V (main_arg2 : DevRef τ sig) = V (main_arg2 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., reshape_bufs_sub .., nullary_bufs_sub .., nullary_bufs_sub .., unary_bufs_sub .., binary_bufs_sub .., nullary_bufs_sub .., unary_bufs_sub .., binary_bufs_sub .., binary_bufs_sub .., unary_bufs_sub .., unary_bufs_sub .., reshape_bufs_sub .., nullary_bufs_sub .., binary_bufs_sub .., unary_bufs_sub .., ternary_bufs_sub .., unary_bufs_sub .., unary_bufs_sub .., reshape_bufs_sub .., nullary_bufs_sub .., binary_bufs_sub .., unary_bufs_sub .., ternary_bufs_sub .., reshape_bufs_sub .., unary_bufs_sub .., unary_bufs_sub .., binary_bufs_sub .., reshape_bufs_sub .., binary_bufs_sub .., unary_bufs_sub ..⟩

/-- On its one device, from any memory with zero counters, every run ends with the result's buffer at `out` of the arguments
    and the arguments as they were. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = out (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c main_v24).trans (out_eq _), (h c main_arg0).trans (arg0_eq _), (h c main_arg1).trans (arg1_eq _), (h c main_arg2).trans (arg2_eq _)⟩)
    (run_seq scopedRefs_eq scopedSems_eq defs main (fun _ => ops) main_eq (fun _ => ops_sub) m ρ)

/-! ## The result at an index -/

/-- A row as an index. -/
abbrev ix1 (r : Fin 2048) : S2048.Idx := fun a => match a with | ⟨0, _⟩ => r

/-- The bit of a row: set on rows 128 to 1919. -/
theorem inner_apply (r : Fin 2048) : inner (ix1 r) = if 128 ≤ r.val ∧ r.val < 1920 then 1#1 else 0#1 := by
  have e : inner (ix1 r) = (BitVec.ofBool ((128#32).sle (BitVec.ofNat 32 r.val))) &&& (BitVec.ofBool ((BitVec.ofNat 32 r.val).slt 1920#32)) := by
    rfl
  have hr := r.isLt
  have t : (BitVec.ofNat 32 r.val).toInt = (r.val : Int) := by
    rw [BitVec.toInt_eq_toNat_cond, BitVec.toNat_ofNat, Nat.mod_eq_of_lt (by omega), if_pos (by omega)]
  rw [e, BitVec.sle, BitVec.slt, t, show (128#32).toInt = 128 from by decide, show (1920#32).toInt = 1920 from by decide]
  by_cases h1 : 128 ≤ r.val
  · by_cases h2 : r.val < 1920
    · rw [if_pos ⟨h1, h2⟩, decide_eq_true (by omega : (128 : Int) ≤ r.val), decide_eq_true (by omega : (r.val : Int) < 1920)]; rfl
    · rw [if_neg (fun q => h2 q.2), decide_eq_true (by omega : (128 : Int) ≤ r.val), decide_eq_false (by omega : ¬ (r.val : Int) < 1920)]; rfl
  · rw [if_neg (fun q => h1 q.1), decide_eq_false (by omega : ¬ (128 : Int) ≤ r.val)]
    exact BitVec.zero_and

variable {α : Type}

theorem row_bit {n : ℕ} {x : S2048.Idx → α} {h1 : S2048.BroadcastsInDim S2048x1 (![0] : Fin 1 → Fin S2048x1.rank)}
    {h2 : S2048x1.BroadcastsInDim ⟨2, ![2048, n]⟩ (![0, 1] : Fin 2 → Fin 2)} (i : (⟨2, ![2048, n]⟩ : Shape).Idx) :
    broadcastInDim ⟨2, ![2048, n]⟩ ![0, 1] h2 (broadcastInDim S2048x1 ![0] h1 x) i = x (ix1 ⟨(i 0).val, idx2_lt0 i⟩) := by
  rw [broadcastInDim_apply _ h2 _ i (ix2 ⟨(i 0).val, idx2_lt0 i⟩ (0 : Fin 1)) (by
    intro a
    match a with
    | ⟨0, _⟩ => rfl
    | ⟨1, _⟩ => rfl)]
  exact broadcastInDim_apply _ h1 _ _ _ (by
    intro a
    match a with
    | ⟨0, _⟩ => rfl)

/-- Row r of device k's block. -/
abbrev at8 {n : ℕ} (x : (⟨2, ![16384, n]⟩ : Shape).Idx → α) (k : Fin 8) (r : Fin 2048) (j : Fin n) : α :=
  x (ix2 ⟨k.val * 2048 + r.val, by have := k.isLt; have := r.isLt; omega⟩ j)

theorem cast8 {n : ℕ} (x : (⟨2, ![16384, n]⟩ : Shape).Idx → α) {h : (⟨2, ![16384, n]⟩ : Shape).ShapeCasts ⟨3, ![8, 2048, n]⟩} (k : Fin 8) (r : Fin 2048) (j : Fin n) :
    shapeCast ⟨3, ![8, 2048, n]⟩ x h (ix3 k r j) = at8 x k r j :=
  shapeCast_apply x h _ _ (by rw [Shape.rowMajor_val_two, Shape.rowMajor_val_three]; rfl)

theorem first8 {n : ℕ} (x : (⟨2, ![16384, n]⟩ : Shape).Idx → α) {h : (⟨2, ![16384, n]⟩ : Shape).ShapeCasts ⟨3, ![8, 2048, n]⟩}
    {h1 : (⟨3, ![8, 2048, n]⟩ : Shape).Slices ![0, 0, 0] ⟨3, ![1, 2048, n]⟩} {h2 : (⟨3, ![1, 2048, n]⟩ : Shape).ShapeCasts ⟨2, ![2048, n]⟩} (r : Fin 2048) (j : Fin n) :
    shapeCast ⟨2, ![2048, n]⟩ (extractStridedSlice ⟨3, ![1, 2048, n]⟩ ![0, 0, 0] (shapeCast ⟨3, ![8, 2048, n]⟩ x h) h1) h2 (ix2 r j) = at8 x 0 r j := by
  rw [shapeCast_apply _ h2 (ix2 r j) (ix3 (0 : Fin 1) r j) (by
      rw [Shape.rowMajor_val_two, Shape.rowMajor_val_three]
      show (0 * 2048 + r.val) * n + j.val = r.val * n + j.val
      rw [Nat.zero_mul, Nat.zero_add]),
    extractStridedSlice_apply _ _ h1 (ix3 (0 : Fin 1) r j) (ix3 (0 : Fin 8) r j) (by
      intro a
      match a with
      | ⟨0, _⟩ => rfl
      | ⟨1, _⟩ => exact (Nat.zero_add _).symm
      | ⟨2, _⟩ => exact (Nat.zero_add _).symm)]
  exact cast8 x 0 r j

theorem all8 {n : ℕ} (x : (⟨2, ![16384, n]⟩ : Shape).Idx → EReal) {h : (⟨2, ![16384, n]⟩ : Shape).ShapeCasts ⟨3, ![8, 2048, n]⟩}
    {h1 : (⟨3, ![8, 2048, n]⟩ : Shape).ReducesTo [0] ⟨2, ![2048, n]⟩} (r : Fin 2048) (j : Fin n) :
    Host.reduceAdd (F := Ideal) (φ := .f32) (shapeCast ⟨3, ![8, 2048, n]⟩ x h) (constant S_ .f32 0x00000000#32) h1 h_S_ (ix2 r j) = ∑ k : Fin 8, at8 x k r j := by
  rw [Host.reduceAdd_apply]
  show Ideal.hostReduceAdd h1 _ (Ideal.ofBits .f32 0x00000000#32) (ix2 r j) = _
  rw [Ideal.hostReduceAdd_r3_a0, Ideal.ofBits_zero_f32, zero_add]
  exact Finset.sum_congr rfl fun k _ => cast8 x k r j

/-- A column's head. -/
abbrev headOf (j : Fin 1024) : Fin 8 := ⟨j.val / 128, by have := j.isLt; omega⟩

/-- Numerators, and denominators, at an index. -/
theorem pick_apply {n : ℕ} (x : (⟨2, ![16384, n]⟩ : Shape).Idx → EReal) {h : (⟨2, ![16384, n]⟩ : Shape).ShapeCasts ⟨3, ![8, 2048, n]⟩}
    {h1 : (⟨3, ![8, 2048, n]⟩ : Shape).Slices ![0, 0, 0] ⟨3, ![1, 2048, n]⟩} {h2 : (⟨3, ![1, 2048, n]⟩ : Shape).ShapeCasts ⟨2, ![2048, n]⟩}
    {h3 : (⟨3, ![8, 2048, n]⟩ : Shape).ReducesTo [0] ⟨2, ![2048, n]⟩} {h4 : S2048.BroadcastsInDim S2048x1 (![0] : Fin 1 → Fin S2048x1.rank)}
    {h5 : S2048x1.BroadcastsInDim ⟨2, ![2048, n]⟩ (![0, 1] : Fin 2 → Fin 2)} (r : Fin 2048) (j : Fin n) :
    select (broadcastInDim ⟨2, ![2048, n]⟩ ![0, 1] h5 (broadcastInDim S2048x1 ![0] h4 inner))
      (shapeCast ⟨2, ![2048, n]⟩ (extractStridedSlice ⟨3, ![1, 2048, n]⟩ ![0, 0, 0] (shapeCast ⟨3, ![8, 2048, n]⟩ x h) h1) h2)
      (Host.reduceAdd (F := Ideal) (φ := .f32) (shapeCast ⟨3, ![8, 2048, n]⟩ x h) (constant S_ .f32 0x00000000#32) h3 h_S_) (ix2 r j)
      = if 128 ≤ r.val ∧ r.val < 1920 then at8 x 0 r j else ∑ k : Fin 8, at8 x k r j := by
  have e : broadcastInDim ⟨2, ![2048, n]⟩ ![0, 1] h5 (broadcastInDim S2048x1 ![0] h4 inner) (ix2 r j) = if 128 ≤ r.val ∧ r.val < 1920 then 1#1 else 0#1 :=
    (row_bit (ix2 r j)).trans (inner_apply r)
  rw [show ∀ (p : IVec ⟨2, ![2048, n]⟩ 1) (y z : (⟨2, ![2048, n]⟩ : Shape).Idx → EReal), select p y z (ix2 r j) = if p (ix2 r j) = 1#1 then y (ix2 r j) else z (ix2 r j) from fun _ _ _ => rfl, e, first8, all8]
  by_cases hr : 128 ≤ r.val ∧ r.val < 1920
  · rw [if_pos hr, if_pos hr, if_pos rfl]
  · rw [if_neg hr, if_neg hr, if_neg (by decide)]

/-- The context at an index. -/
theorem ctx_apply (a : FVec Ideal S16384x1024 .f32) (l : FVec Ideal S16384x8 .f32) (r : Fin 2048) (j : Fin 1024) :
    ctx (F := Ideal) a l (ix2 r j) = Ideal.div (if 128 ≤ r.val ∧ r.val < 1920 then at8 a 0 r j else ∑ k : Fin 8, at8 a k r j)
      (if 128 ≤ r.val ∧ r.val < 1920 then at8 l 0 r (headOf j) else ∑ k : Fin 8, at8 l k r (headOf j)) := by
  unfold ctx
  rw [shapeCast_apply _ shapeCasts_S2048x8x128_S2048x1024 (ix2 r j) (ix3 r (headOf j) (⟨j.val % 128, Nat.mod_lt _ (by decide)⟩ : Fin 128)) (by
      rw [Shape.rowMajor_val_two, Shape.rowMajor_val_three]
      show (r.val * 8 + j.val / 128) * 128 + j.val % 128 = r.val * 1024 + j.val
      omega)]
  show Ideal.div (shapeCast S2048x8x128 (num a) shapeCasts_S2048x1024_S2048x8x128 _) (broadcastInDim S2048x8x128 ![0, 1, 2] bcast_S2048x8x1_S2048x8x128_0_1_2 (broadcastInDim S2048x8x1 ![0, 1] bcast_S2048x8_S2048x8x1_0_1 (den l)) _) = _
  rw [shapeCast_apply _ shapeCasts_S2048x1024_S2048x8x128 _ (ix2 r j) (by
      rw [Shape.rowMajor_val_two, Shape.rowMajor_val_three]
      show r.val * 1024 + j.val = (r.val * 8 + j.val / 128) * 128 + j.val % 128
      omega),
    broadcastInDim_apply _ bcast_S2048x8x1_S2048x8x128_0_1_2 _ _ (ix3 r (headOf j) (0 : Fin 1)) (by
      intro a
      match a with
      | ⟨0, _⟩ => rfl
      | ⟨1, _⟩ => rfl
      | ⟨2, _⟩ => rfl),
    broadcastInDim_apply _ bcast_S2048x8_S2048x8x1_0_1 _ _ (ix2 r (headOf j)) (by
      intro a
      match a with
      | ⟨0, _⟩ => rfl
      | ⟨1, _⟩ => rfl)]
  exact congrArg₂ Ideal.div (pick_apply a r j) (pick_apply l r (headOf j))

end Cert.ReferenceIdeal.Talk

end
-- ==== Proof.Value.lean ====
/-
  The kernel's result is the reference's: the exchanges' sums are the sums over the eight devices, on every device, so the
  context before the last product is the reference's at every index.
-/
module

public import proofs.«01_k».proof.Proof.Launch
public import proofs.«01_k».proof.Proof.Ref
public import Idealize.ShloMosaic.Lib.Layout
public import Idealize.ShloMosaic.Lib.KernelVsHost

@[expose] public section

noncomputable section

namespace Cert.KernelIdeal.Talk

open Idealize.ShloMosaic Idealize.ShloMosaic.TcCoe
open Cert.KernelIdeal.Gen
open Cert.ReferenceIdeal.Talk (at8)

/-! ## The arrays the windows name -/

variable {F : FTy → Type} [FloatOps F] in
/-- A fetched first argument is the device's first argument. -/
theorem va_eq (m : (ℓ : Loc nD τ sig) → Buf (Elt F) ℓ) (c : Dev nD) : va m c = m ((c : Thread nD τ).loc main_arg0) :=
  Memref.read_access_unit_zero (Elt F) main_arg0 (show (fun a => (win0_0.index (0 : Fin 1)) a * main_arg0.ty.shape.size a) = fun _ => 0 from funext fun a => by fin_cases a <;> decide) (fun a => by fin_cases a <;> decide) _

variable {F : FTy → Type} [FloatOps F] in
/-- A fetched second argument is the device's second argument. -/
theorem vl_eq (m : (ℓ : Loc nD τ sig) → Buf (Elt F) ℓ) (c : Dev nD) : vl m c = m ((c : Thread nD τ).loc main_arg1) :=
  Memref.read_access_unit_zero (Elt F) main_arg1 (show (fun a => (win0_1.index (0 : Fin 1)) a * main_arg1.ty.shape.size a) = fun _ => 0 from funext fun a => by fin_cases a <;> decide) (fun a => by fin_cases a <;> decide) _

variable {F : FTy → Type} [FloatOps F] in
/-- A fetched third argument is the device's third argument. -/
theorem vw_eq (m : (ℓ : Loc nD τ sig) → Buf (Elt F) ℓ) (c : Dev nD) : vw m c = m ((c : Thread nD τ).loc main_arg2) :=
  Memref.read_access_unit_zero (Elt F) main_arg2 (show (fun a => (win0_2.index (0 : Fin 1)) a * main_arg2.ty.shape.size a) = fun _ => 0 from funext fun a => by fin_cases a <;> decide) (fun a => by fin_cases a <;> decide) _

variable {F : FTy → Type} [FloatOps F] in
/-- The result's array after the run is what the body left in its staging buffer. -/
theorem finalA_eq (m : (ℓ : Loc nD τ sig) → Buf (Elt F) ℓ) (c : Dev nD) : finalA m c = outV (va m) (vl m) (vw m) c := by
  have hr := fun f => Memref.read_access_unit_zero (Elt F) main_v1 (show (fun a => (win0_3.index (0 : Fin 1)) a * main_v1.ty.shape.size a) = fun _ => 0 from funext fun a => by fin_cases a <;> decide) (fun a => by fin_cases a <;> decide) f
  have ho : (win0_3.blk (0 : Fin 1)).view.read (Elt F) (finalA m c) = outV (va m) (vl m) (vw m) c := by
    unfold finalA
    rw [show cfg0.N = ((0 : Fin 1) : Fin cfg0.N).val + 1 from rfl, (dat0 m c).arrAt_succ (3 : Fin 4) (0 : Fin 1)]
    rw [show (cfg0.win (3 : Fin 4)).flush (0 : Fin 1) = true from by decide, if_pos rfl]
    exact View.read_write_univ _ _
  exact (hr _).symm.trans ho

/-! ## The sums -/

/-- The devices whose blocks a device's sum holds after the three exchanges, in order. -/
def orbit (c : Dev nD) : List (Dev nD) :=
  [c, partner 0 c, partner 1 c, partner 0 (partner 1 c), partner 2 c, partner 0 (partner 2 c), partner 1 (partner 2 c), partner 0 (partner 1 (partner 2 c))]

theorem orbit_perm : ∀ c : Dev nD, (orbit c).Perm (List.finRange 8) := by decide

/-- The exchanges' tree of sums is the sum over the devices. -/
theorem tree (f : Dev nD → EReal) (c : Dev nD) :
    ((f c + f (partner 0 c)) + (f (partner 1 c) + f (partner 0 (partner 1 c))))
      + ((f (partner 2 c) + f (partner 0 (partner 2 c))) + (f (partner 1 (partner 2 c)) + f (partner 0 (partner 1 (partner 2 c)))))
      = ∑ k : Fin 8, f k := by
  rw [Fin.sum_univ_def, ← ((orbit_perm c).map f).sum_eq]
  simp only [orbit, List.map_cons, List.map_nil, List.sum_cons, List.sum_nil, add_zero, add_assoc]

theorem sums_apply (va : Dev nD → FVec Ideal S2048x1024 .f32) (c : Dev nD) (i : S256x1024.Idx) :
    sums (F := Ideal) va 3 c i = ∑ k : Fin 8, edge (F := Ideal) (va k) i :=
  tree (fun k => edge (F := Ideal) (va k) i) c

theorem dens_apply (vl : Dev nD → FVec Ideal S2048x8 .f32) (c : Dev nD) (i : S256x8.Idx) :
    dens (F := Ideal) vl 3 c i = ∑ k : Fin 8, edge (F := Ideal) (vl k) i :=
  tree (fun k => edge (F := Ideal) (vl k) i) c

/-! ## The context -/

/-- Row r of a device's block of an array cut in eight along its rows. -/
theorem block_row {n : ℕ} {h : Layout.Tiles ⟨2, ![2048, n]⟩ ⟨2, ![16384, n]⟩ 0 8} (x : (⟨2, ![16384, n]⟩ : Shape).Idx → EReal) (k : Fin 8) (r : Fin 2048) (j : Fin n) :
    Layout.block ⟨2, ![2048, n]⟩ ⟨2, ![16384, n]⟩ 0 8 k x h (ValueIdx.ix2 r j) = at8 x k r j := by
  rw [Layout.block_apply]
  refine congrArg x (funext fun a => ?_)
  match a with
  | ⟨0, _⟩ => exact Fin.ext (Layout.idx_rows_val h k (ValueIdx.ix2 r j)).1
  | ⟨1, _⟩ => exact Fin.ext (Layout.idx_rows_val h k (ValueIdx.ix2 r j)).2

section Agree

variable (va : Dev nD → FVec Ideal S2048x1024 .f32) (vl : Dev nD → FVec Ideal S2048x8 .f32)
variable (A : FVec Ideal ⟨2, ![16384, 1024]⟩ .f32) (L : FVec Ideal ⟨2, ![16384, 8]⟩ .f32)

/-- An edge row below 128, summed over the devices. -/
theorem edge_low {n : ℕ} (v : Dev nD → FVec Ideal ⟨2, ![2048, n]⟩ .f32) (x : FVec Ideal ⟨2, ![16384, n]⟩ .f32)
    (hv : ∀ k r j, v k (ValueIdx.ix2 r j) = at8 x k r j) (r : Fin 2048) (hr : r.val < 128) (j : Fin n) :
    ∑ k : Fin 8, edge (F := Ideal) (v k) (ValueIdx.ix2 ⟨r.val, by omega⟩ j) = ∑ k : Fin 8, at8 x k r j :=
  Finset.sum_congr rfl fun k _ => by
    unfold edge
    rw [if_pos (show ((ValueIdx.ix2 (⟨r.val, by omega⟩ : Fin 256) j) 0).val < 128 from hr)]
    exact hv k r j

/-- An edge row from 1920 on, summed over the devices. -/
theorem edge_high {n : ℕ} (v : Dev nD → FVec Ideal ⟨2, ![2048, n]⟩ .f32) (x : FVec Ideal ⟨2, ![16384, n]⟩ .f32)
    (hv : ∀ k r j, v k (ValueIdx.ix2 r j) = at8 x k r j) (r : Fin 2048) (hr : 1920 ≤ r.val) (j : Fin n) :
    ∑ k : Fin 8, edge (F := Ideal) (v k) (ValueIdx.ix2 ⟨r.val - 1792, by have := r.isLt; omega⟩ j) = ∑ k : Fin 8, at8 x k r j :=
  Finset.sum_congr rfl fun k _ => by
    unfold edge
    rw [if_neg (show ¬ ((ValueIdx.ix2 (⟨r.val - 1792, by have := r.isLt; omega⟩ : Fin 256) j) 0).val < 128 from by
      show ¬ r.val - 1792 < 128
      omega)]
    have e : (⟨r.val - 1792 + 1792, by have := r.isLt; omega⟩ : Fin 2048) = r := Fin.ext (by show r.val - 1792 + 1792 = r.val; omega)
    exact (congrArg (fun q => v k (ValueIdx.ix2 q j)) e).trans (hv k r j)

/-- The context is the reference's, on every device. -/
theorem ctx_eq (hA : ∀ k r j, va k (ValueIdx.ix2 r j) = at8 A k r j) (hL : ∀ k r j, vl k (ValueIdx.ix2 r j) = at8 L k r j) (c : Dev nD) :
    ctx (F := Ideal) va vl c = Cert.ReferenceIdeal.Talk.ctx (F := Ideal) A L := by
  funext i
  obtain ⟨r, j, rfl⟩ : ∃ (r : Fin 2048) (j : Fin 1024), i = ix2 r j :=
    ⟨i 0, i 1, by funext a; match a with | ⟨0, _⟩ => rfl | ⟨1, _⟩ => rfl⟩
  rw [Cert.ReferenceIdeal.Talk.ctx_apply]
  unfold ctx
  have hlt := r.isLt
  by_cases h : r.val < 128
  · rw [dif_pos (show ((ix2 r j : S2048x1024.Idx) 0).val < 128 from h), if_neg (by omega), if_neg (by omega), sums_apply, dens_apply]
    exact congrArg₂ Ideal.div (edge_low va A hA r h j) (edge_low vl L hL r h _)
  · rw [dif_neg (show ¬ ((ix2 r j : S2048x1024.Idx) 0).val < 128 from h)]
    by_cases h' : r.val < 1920
    · rw [dif_pos (show ((ix2 r j : S2048x1024.Idx) 0).val < 1920 from h'), if_pos (by omega), if_pos (by omega)]
      have e : (⟨r.val - 128 + 128, by omega⟩ : Fin 2048) = r := Fin.ext (by show r.val - 128 + 128 = r.val; omega)
      exact congrArg₂ Ideal.div ((congrArg (fun q => va 0 (ValueIdx.ix2 q j)) e).trans (hA 0 r j))
        ((congrArg (fun q => vl 0 (ValueIdx.ix2 q (headOf j))) e).trans (hL 0 r (headOf j)))
    · rw [dif_neg (show ¬ ((ix2 r j : S2048x1024.Idx) 0).val < 1920 from h'), if_neg (by omega), if_neg (by omega), sums_apply, dens_apply]
      exact congrArg₂ Ideal.div (edge_high va A hA r (by omega) j) (edge_high vl L hL r (by omega) _)

/-- The kernel's result is the reference's, on every device. -/
theorem outV_eq (vw : Dev nD → FVec Ideal S1024x1024 .f32) (hA : ∀ k r j, va k (ValueIdx.ix2 r j) = at8 A k r j) (hL : ∀ k r j, vl k (ValueIdx.ix2 r j) = at8 L k r j) (c : Dev nD) :
    outV (F := Ideal) va vl vw c = Cert.ReferenceIdeal.Talk.out (F := Ideal) A L (vw c) := by
  unfold outV Cert.ReferenceIdeal.Talk.out
  rw [ctx_eq va vl A L hA hL c]
  unfold k0_pay2
  rw [shapeCast_self]
  dsimp only
  rw [matmul_zero_eq_dotGeneral]
  funext i
  obtain ⟨z, r, j, rfl⟩ : ∃ (z : Fin 1) (r : Fin 2048) (j : Fin 1024), i = ix3 z r j :=
    ⟨i 0, i 1, i 2, by funext a; match a with | ⟨0, _⟩ => rfl | ⟨1, _⟩ => rfl | ⟨2, _⟩ => rfl⟩
  rw [shapeCast_apply _ shapeCasts_S2048x1024_S1x2048x1024 _ (ix2 r j) (by
      rw [Shape.rowMajor_val_two, Shape.rowMajor_val_three]
      show r.val * 1024 + j.val = (z.val * 2048 + r.val) * 1024 + j.val
      have := z.isLt
      omega),
    broadcastInDim_apply _ _ _ _ (ix2 r j) (by
      intro a
      match a with
      | ⟨0, _⟩ => rfl
      | ⟨1, _⟩ => rfl)]
  rfl

end Agree

end Cert.KernelIdeal.Talk

end
-- ==== Proof.PRun.lean ====
/-
  The run of the first call's body on one device.
-/
module

public import proofs.«01_k».proof.Proof.Gen.PartialIdeal.Skeleton
public import proofs.«01_k».proof.Proof.Gen.PartialIdeal.Launch
public import proofs.«01_k».proof.Proof.Gen.PartialIdeal.Points
public import Idealize.ShloMosaic.Lib.Tactic
public import Idealize.ShloMosaic.Lib.Exec
public import Idealize.ShloMosaic.Lib.Pipeline.Frame
public import Idealize.ShloMosaic.Lib.Pipeline.FrameBody
public import Idealize.ShloMosaic.Lib.Pipeline.FrameValue

@[expose] public section

noncomputable section

namespace Cert.PartialIdeal.Part

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.PartialIdeal.Gen

variable {F : FTy → Type} [FloatOps F]

/-- The word the body compares: the place of device c on the ring. -/
abbrev my (c : Dev nD) : BitVec 32 := Scalar.remsi (Scalar.divsi (Dev.word c) 1#32) 8#32

theorem is0 : ∀ c : Dev nD, Iff (Scalar.cmpi .ne (Scalar.extui (Scalar.cmpi .eq (my c) 0#32) : BitVec 32) 0#32 = 1#1) (c = 0) := by decide +kernel
theorem is1 : ∀ c : Dev nD, Iff (Scalar.cmpi .ne (Scalar.extui (Scalar.cmpi .eq (my c) 1#32) : BitVec 32) 0#32 = 1#1) (c = 1) := by decide +kernel

variable (c : Dev nD) (arg0 : Memref sig .tc .vmem S1x2048x1024 .f32) (harg0 : arg0.IsWhole) (arg1 : Memref sig .tc .vmem S1024x1024 .f32) (harg1 : arg1.IsWhole)
  (arg2 : Memref sig .tc .vmem S1x2048x8x128 .f32) (harg2 : arg2.IsWhole) (arg3 : Memref sig .tc .vmem S1x2048x8x128 .f32) (harg3 : arg3.IsWhole)
  (arg4 : Memref sig .tc .vmem S2048x1024 .f32) (harg4 : arg4.IsWhole) (arg5 : Memref sig .tc .vmem S2048x8 .f32) (harg5 : arg5.IsWhole)
  (f0 : Buf (Elt F) (arg0.view.loc (c : Thread nD τ))) (f1 : Buf (Elt F) (arg1.view.loc (c : Thread nD τ))) (f2 : Buf (Elt F) (arg2.view.loc (c : Thread nD τ))) (f3 : Buf (Elt F) (arg3.view.loc (c : Thread nD τ)))

/-- The body on device c, from inputs at f0, …, f3, leaves them and writes the pieces L4 and L5 into its two results. -/
def Runs (L4 : List (View.Piece (Elt F) S2048x1024 .f32)) (L5 : List (View.Piece (Elt F) S2048x8 .f32)) : Prop :=
  ∀ (f4 : Buf (Elt F) (arg4.view.loc (c : Thread nD τ))) (f5 : Buf (Elt F) (arg5.view.loc (c : Thread nD τ))) (K : PUnit → sProp (MT nD τ sig Unit (Elt F) ℕ (UR sig nD τ) ℕ)),
      iprop((arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3)
          ∗ (arg4.view.loc (c : Thread nD τ) ↦[arg4.view.set]{fullShare} f4) ∗ (arg5.view.loc (c : Thread nD τ) ↦[arg5.view.set]{fullShare} f5)
          ∗ (iprop((arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3)
            ∗ (arg4.view.loc (c : Thread nD τ) ↦[arg4.view.set]{fullShare} arg4.view.writes (Elt F) f4 L4) ∗ (arg5.view.loc (c : Thread nD τ) ↦[arg5.view.set]{fullShare} arg5.view.writes (Elt F) f5 L5)) -∗ K ⟨⟩))
        ⊢ wp frame (wpE (defs₀ (F := F)) Variants.none c none) Set.univ (cc0__partial_body arg0 harg0 arg1 harg1 arg2 harg2 arg3 harg3 arg4 harg4 arg5 harg5) K

variable {c arg0 harg0 arg1 harg1 arg2 harg2 arg3 harg3 arg4 harg4 arg5 harg5 f0 f1 f2 f3} in
/-- The same run at equal lists. -/
theorem Runs.of_eq {L4 L4' : List (View.Piece (Elt F) S2048x1024 .f32)} {L5 L5' : List (View.Piece (Elt F) S2048x8 .f32)}
    (h : Runs c arg0 harg0 arg1 harg1 arg2 harg2 arg3 harg3 arg4 harg4 arg5 harg5 f0 f1 f2 f3 L4 L5) (e4 : L4 = L4') (e5 : L5 = L5') :
    Runs c arg0 harg0 arg1 harg1 arg2 harg2 arg3 harg3 arg4 harg4 arg5 harg5 f0 f1 f2 f3 L4' L5' := by
  subst e4 e5; exact h

set_option maxHeartbeats 4000000 in
/-- The run away from the first two devices, its pieces as found. -/
def runR (h0 : c ≠ 0) (h1 : c ≠ 1) : Σ' (L4 : List (View.Piece (Elt F) S2048x1024 .f32)), { L5 : List (View.Piece (Elt F) S2048x8 .f32) // Runs c arg0 harg0 arg1 harg1 arg2 harg2 arg3 harg3 arg4 harg4 arg5 harg5 f0 f1 f2 f3 L4 L5 } := by
  have hA := mt (is0 c).1 h0
  have hB := mt (is1 c).1 h1
  refine ⟨?_, ?_, ?run⟩
  case run =>
    unfold Runs
    intro f4 f5 K
    rw [cc0__partial_body_eq_skeleton]; unfold cc0__partial_body_skel
    iintro ⟨H0, H1, H2, H3, H4, H5, Hk⟩
    sl_exec (disch := first | exact hA | exact hB)
    sl_step
    iapply Hk
    isplitl [H0]; · iexact H0
    isplitl [H1]; · iexact H1
    isplitl [H2]; · iexact H2
    isplitl [H3]; · iexact H3
    isplitl [H4]; · iexact H4
    iexact H5

set_option maxHeartbeats 4000000 in
/-- The run on device 1, its pieces as found. -/
def run1 (h1 : c = 1) : Σ' (L4 : List (View.Piece (Elt F) S2048x1024 .f32)), { L5 : List (View.Piece (Elt F) S2048x8 .f32) // Runs c arg0 harg0 arg1 harg1 arg2 harg2 arg3 harg3 arg4 harg4 arg5 harg5 f0 f1 f2 f3 L4 L5 } := by
  have hA := mt (is0 c).1 (by rw [h1]; decide)
  have hB := (is1 c).2 h1
  refine ⟨?_, ?_, ?run⟩
  case run =>
    unfold Runs
    intro f4 f5 K
    rw [cc0__partial_body_eq_skeleton]; unfold cc0__partial_body_skel
    iintro ⟨H0, H1, H2, H3, H4, H5, Hk⟩
    sl_exec (disch := first | exact hA | exact hB)
    sl_step
    iapply Hk
    isplitl [H0]; · iexact H0
    isplitl [H1]; · iexact H1
    isplitl [H2]; · iexact H2
    isplitl [H3]; · iexact H3
    isplitl [H4]; · iexact H4
    iexact H5

set_option maxHeartbeats 4000000 in
/-- The run on device 0, its pieces as found. -/
def run0 (h0 : c = 0) : Σ' (L4 : List (View.Piece (Elt F) S2048x1024 .f32)), { L5 : List (View.Piece (Elt F) S2048x8 .f32) // Runs c arg0 harg0 arg1 harg1 arg2 harg2 arg3 harg3 arg4 harg4 arg5 harg5 f0 f1 f2 f3 L4 L5 } := by
  have hA := (is0 c).2 h0
  have hB := mt (is1 c).1 (by rw [h0]; decide)
  refine ⟨?_, ?_, ?run⟩
  case run =>
    unfold Runs
    intro f4 f5 K
    rw [cc0__partial_body_eq_skeleton]; unfold cc0__partial_body_skel
    iintro ⟨H0, H1, H2, H3, H4, H5, Hk⟩
    sl_exec (disch := first | exact hA | exact hB)
    sl_step
    iapply Hk
    isplitl [H0]; · iexact H0
    isplitl [H1]; · iexact H1
    isplitl [H2]; · iexact H2
    isplitl [H3]; · iexact H3
    isplitl [H4]; · iexact H4
    iexact H5

end Cert.PartialIdeal.Part

end
-- ==== Proof.PBlock.lean ====
/-
  The blocks the first call's body writes: what a head's block of a result is, over the rows and the window of keys it
  reads, and the lists of pieces of the three kinds of devices as lists of such blocks.
-/
module

public import proofs.«01_k».proof.Proof.PRun

@[expose] public section

noncomputable section

namespace Cert.PartialIdeal.Part

open Idealize.ShloMosaic Idealize.ShloMosaic.TcCoe
open Cert.PartialIdeal.Gen

variable {F : FTy → Type} [FloatOps F]

/-! ## A block -/

/-- What the operations over a window of w keys need of w. -/
structure Win (w : ℕ) : Prop where
  i0 : (⟨2, ![512, w]⟩ : Shape).Iotas .tc 32 [0]
  i1 : (⟨2, ![512, w]⟩ : Shape).Iotas .tc 32 [1]
  sc : (⟨4, ![1, w, 1, 128]⟩ : Shape).ShapeCasts ⟨2, ![w, 128]⟩
  rd : (⟨2, ![512, w]⟩ : Shape).Reduces [1] S512

theorem win2048 : Win 2048 := ⟨by decide, by decide, by decide, by decide⟩
theorem win768 : Win 768 := ⟨by decide, by decide, by decide, by decide⟩
theorem win640 : Win 640 := ⟨by decide, by decide, by decide, by decide⟩
theorem win128 : Win 128 := ⟨by decide, by decide, by decide, by decide⟩

/-- Which of the keys ko, …, of the ring's part with word v2 the rows qo, … attend to. -/
def maskV (w : ℕ) (W : Win w) (qo ko v2 : BitVec 32) : IVec ⟨2, ![512, w]⟩ 1 :=
  ori (ori (cmpi .sle (absi (subi (addi (iota .tc ⟨2, ![512, w]⟩ 32 [0] W.i0) (broadcast _ qo))
        (addi (addi (iota .tc ⟨2, ![512, w]⟩ 32 [1] W.i1) (broadcast _ ko)) (broadcast _ (Scalar.muli v2 2048#32))))) (broadcast _ 128#32))
      (cmpi .slt (addi (addi (iota .tc ⟨2, ![512, w]⟩ 32 [1] W.i1) (broadcast _ ko)) (broadcast _ (Scalar.muli v2 2048#32))) (broadcast _ 32#32)))
    (cmpi .slt (addi (iota .tc ⟨2, ![512, w]⟩ 32 [0] W.i0) (broadcast _ qo)) (broadcast _ 32#32))

/-- A head's queries. -/
def qryV (x : FVec F S1x512x1024 .f32) (wq : FVec F S1024x128 .f32) : FVec F S512x128 .f32 :=
  matmul (DotDims.plain 512 1024 128) none (shapeCast S512x1024 x shapeCasts_S1x512x1024_S512x1024) (shapeCast S1024x128 wq shapeCasts_S1024x128_S1024x128) (constant S512x128 .f32 0x00000000#32)

/-- A head's weights over a window. -/
def wgtV (w : ℕ) (W : Win w) (qo ko v2 : BitVec 32) (q : FVec F S512x128 .f32) (k : FVec F ⟨4, ![1, w, 1, 128]⟩ .f32) : FVec F ⟨2, ![512, w]⟩ .f32 :=
  select (maskV w W qo ko v2)
    (exp (mulf (matmul (DotDims.transposedRhs 512 128 w) none q (shapeCast ⟨2, ![w, 128]⟩ k W.sc) (constant _ .f32 0x00000000#32)) (broadcast _ (Scalar.ofBits .f32 0x3DB504F3#32))))
    (broadcast _ (Scalar.ofBits .f32 0x00000000#32))

/-- The weighted values over a window. -/
def numV (w : ℕ) (W : Win w) (p : FVec F ⟨2, ![512, w]⟩ .f32) (v : FVec F ⟨4, ![1, w, 1, 128]⟩ .f32) : FVec F S512x128 .f32 :=
  matmul (DotDims.plain 512 w 128) none p (shapeCast ⟨2, ![w, 128]⟩ v W.sc) (constant S512x128 .f32 0x00000000#32)

/-- The weights' sums over a window. -/
def denV (w : ℕ) (W : Win w) (p : FVec F ⟨2, ![512, w]⟩ .f32) : FVec F S512x1 .f32 :=
  shapeCast S512x1 (multiReduction .add [1] S512 p 0x00000000#32 W.rd (.inl rfl) rfl) shapeCasts_S512_S512x1

/-! ## The pieces -/

section Pieces

variable (c : Dev nD) (x0 : S1x2048x1024.Idx → Elt F .f32) (x1 : S1024x1024.Idx → Elt F .f32) (x2 x3 : S1x2048x8x128.Idx → Elt F .f32)

/-- A block of 512 rows. -/
abbrev Rows (qo : ℕ) : Prop := qo + 512 ≤ 2048
/-- A window of keys. -/
abbrev Keys (ko w : ℕ) : Prop := ko + w ≤ 2048

theorem inX {qo : ℕ} (hq : Rows qo) : ∀ a, (![0, qo, 0] : Fin 3 → ℕ) a + S1x512x1024.size a ≤ S1x2048x1024.size a := by
  intro a; fin_cases a
  · exact le_refl 1
  · exact hq
  · exact le_refl 1024
theorem inW (h : Fin 8) : ∀ a, (![0, h.val * 128] : Fin 2 → ℕ) a + S1024x128.size a ≤ S1024x1024.size a := by
  intro a; fin_cases a
  · exact le_refl 1024
  · show h.val * 128 + 128 ≤ 1024; omega
theorem inK {ko w : ℕ} (hk : Keys ko w) (h : Fin 8) : ∀ a, (![0, ko, h.val, 0] : Fin 4 → ℕ) a + (⟨4, ![1, w, 1, 128]⟩ : Shape).size a ≤ S1x2048x8x128.size a := by
  intro a; fin_cases a
  · exact le_refl 1
  · exact hk
  · show h.val + 1 ≤ 8; omega
  · exact le_refl 128
theorem inA {qo : ℕ} (hq : Rows qo) (h : Fin 8) : ∀ a, (![qo, h.val * 128] : Fin 2 → ℕ) a + S512x128.size a ≤ S2048x1024.size a := by
  intro a; fin_cases a
  · exact hq
  · show h.val * 128 + 128 ≤ 1024; omega
theorem inL {qo : ℕ} (hq : Rows qo) (h : Fin 8) : ∀ a, (![qo, h.val] : Fin 2 → ℕ) a + S512x1.size a ≤ S2048x8.size a := by
  intro a; fin_cases a
  · exact hq
  · show h.val + 1 ≤ 8; omega

/-- What a load at r reads of contents x. -/
def ld {s : Shape} {e : EltTy} (x : s.Idx → Elt F e) (r : LoadRect s) : r.shape.Idx → Elt F e := fun i => x (r.idx i)

/-- A head's queries as the body loads and computes them. -/
def qryB {qo : ℕ} (hq : Rows qo) (h : Fin 8) : FVec F S512x128 .f32 :=
  qryV (ld x0 (Rect.unit (s := S1x2048x1024) ![0, qo, 0] S1x512x1024.size (inX hq)).toLoadRect)
    (ld x1 (Rect.unit (s := S1024x1024) ![0, h.val * 128] S1024x128.size (inW h)).toLoadRect)

/-- A head's weights as the body computes them. -/
def wgtB {qo ko w : ℕ} (W : Win w) (hq : Rows qo) (hk : Keys ko w) (h : Fin 8) : FVec F ⟨2, ![512, w]⟩ .f32 :=
  wgtV w W (BitVec.ofNat 32 qo) (BitVec.ofNat 32 ko) (my c) (qryB x0 x1 hq h)
    (ld x2 (Rect.unit (s := S1x2048x8x128) ![0, ko, h.val, 0] (⟨4, ![1, w, 1, 128]⟩ : Shape).size (inK hk h)).toLoadRect)

/-- A head's block of the first result over one window. -/
def numB {qo ko w : ℕ} (W : Win w) (hq : Rows qo) (hk : Keys ko w) (h : Fin 8) : FVec F S512x128 .f32 :=
  numV w W (wgtB c x0 x1 x2 W hq hk h)
    (ld x3 (Rect.unit (s := S1x2048x8x128) ![0, ko, h.val, 0] (⟨4, ![1, w, 1, 128]⟩ : Shape).size (inK hk h)).toLoadRect)

/-- A head's block of the second result over one window. -/
def denB {qo ko w : ℕ} (W : Win w) (hq : Rows qo) (hk : Keys ko w) (h : Fin 8) : FVec F S512x1 .f32 :=
  denV w W (wgtB c x0 x1 x2 W hq hk h)

/-- A block's piece of the first result. -/
def pcA {qo : ℕ} (hq : Rows qo) (h : Fin 8) (b : FVec F S512x128 .f32) : View.Piece (Elt F) S2048x1024 .f32 :=
  ⟨Rect.unit (s := S2048x1024) ![qo, h.val * 128] S512x128.size (inA hq h), b⟩
/-- A block's piece of the second result. -/
def pcL {qo : ℕ} (hq : Rows qo) (h : Fin 8) (b : FVec F S512x1 .f32) : View.Piece (Elt F) S2048x8 .f32 :=
  ⟨Rect.unit (s := S2048x8) ![qo, h.val] S512x1.size (inL hq h), b⟩

/-- The eight heads' pieces, the last one first. -/
def heads {α : Type} (f : Fin 8 → α) : List α := [f 7, f 6, f 5, f 4, f 3, f 2, f 1, f 0]

theorem r0 : Rows 0 := by decide
theorem r1 : Rows 512 := by decide
theorem r2 : Rows 1024 := by decide
theorem r3 : Rows 1536 := by decide
theorem k0 : Keys 0 2048 := by decide
theorem kS : Keys 0 128 := by decide
theorem k1 : Keys 384 768 := by decide
theorem k2 : Keys 896 768 := by decide
theorem k3 : Keys 1408 640 := by decide

/-- Every device's first rows. -/
def firstA : List (View.Piece (Elt F) S2048x1024 .f32) := heads fun h => pcA r0 h (numB c x0 x1 x2 x3 win2048 r0 k0 h)
def firstL : List (View.Piece (Elt F) S2048x8 .f32) := heads fun h => pcL r0 h (denB c x0 x1 x2 win2048 r0 k0 h)
/-- Rows over one window. -/
def oneA : List (View.Piece (Elt F) S2048x1024 .f32) := heads fun h => pcA r3 h (numB c x0 x1 x2 x3 win128 r3 kS h)
def oneL : List (View.Piece (Elt F) S2048x8 .f32) := heads fun h => pcL r3 h (denB c x0 x1 x2 win128 r3 kS h)
/-- Rows over two windows. -/
def twoA {qo ko w : ℕ} (W : Win w) (hq : Rows qo) (hk : Keys ko w) : List (View.Piece (Elt F) S2048x1024 .f32) :=
  heads fun h => pcA hq h (addf (numB c x0 x1 x2 x3 W hq hk h) (numB c x0 x1 x2 x3 win128 hq kS h))
def twoL {qo ko w : ℕ} (W : Win w) (hq : Rows qo) (hk : Keys ko w) : List (View.Piece (Elt F) S2048x8 .f32) :=
  heads fun h => pcL hq h (addf (denB c x0 x1 x2 W hq hk h) (denB c x0 x1 x2 win128 hq kS h))
/-- The zero fills. -/
def zeroA : View.Piece (Elt F) S2048x1024 .f32 := ⟨Rect.unit (s := S2048x1024) ![0, 0] S2048x1024.size inb_S2048x1024_S2048x1024_0_0, constant S2048x1024 .f32 0x00000000#32⟩
def zeroL : View.Piece (Elt F) S2048x8 .f32 := ⟨Rect.unit (s := S2048x8) ![0, 0] S2048x8.size inb_S2048x8_S2048x8_0_0, constant S2048x8 .f32 0x00000000#32⟩

section Lists

variable (arg0 : Memref sig .tc .vmem S1x2048x1024 .f32) (harg0 : arg0.IsWhole) (arg1 : Memref sig .tc .vmem S1024x1024 .f32) (harg1 : arg1.IsWhole)
  (arg2 : Memref sig .tc .vmem S1x2048x8x128 .f32) (harg2 : arg2.IsWhole) (arg3 : Memref sig .tc .vmem S1x2048x8x128 .f32) (harg3 : arg3.IsWhole)
  (arg4 : Memref sig .tc .vmem S2048x1024 .f32) (harg4 : arg4.IsWhole) (arg5 : Memref sig .tc .vmem S2048x8 .f32) (harg5 : arg5.IsWhole)
  (f0 : Buf (Elt F) (arg0.view.loc (c : Thread nD τ))) (f1 : Buf (Elt F) (arg1.view.loc (c : Thread nD τ))) (f2 : Buf (Elt F) (arg2.view.loc (c : Thread nD τ))) (f3 : Buf (Elt F) (arg3.view.loc (c : Thread nD τ)))

theorem runR_fst (h0 : c ≠ 0) (h1 : c ≠ 1) :
    (runR c arg0 harg0 arg1 harg1 arg2 harg2 arg3 harg3 arg4 harg4 arg5 harg5 f0 f1 f2 f3 h0 h1).1 = firstA c (arg0.view.read (Elt F) f0) (arg1.view.read (Elt F) f1) (arg2.view.read (Elt F) f2) (arg3.view.read (Elt F) f3) ++ [zeroA] := rfl
theorem runR_snd (h0 : c ≠ 0) (h1 : c ≠ 1) :
    (runR c arg0 harg0 arg1 harg1 arg2 harg2 arg3 harg3 arg4 harg4 arg5 harg5 f0 f1 f2 f3 h0 h1).2.1 = firstL c (arg0.view.read (Elt F) f0) (arg1.view.read (Elt F) f1) (arg2.view.read (Elt F) f2) ++ [zeroL] := rfl

theorem run1_fst (h1 : c = 1) :
    (run1 c arg0 harg0 arg1 harg1 arg2 harg2 arg3 harg3 arg4 harg4 arg5 harg5 f0 f1 f2 f3 h1).1 = oneA c (arg0.view.read (Elt F) f0) (arg1.view.read (Elt F) f1) (arg2.view.read (Elt F) f2) (arg3.view.read (Elt F) f3) ++ (firstA c (arg0.view.read (Elt F) f0) (arg1.view.read (Elt F) f1) (arg2.view.read (Elt F) f2) (arg3.view.read (Elt F) f3) ++ [zeroA]) := rfl
theorem run1_snd (h1 : c = 1) :
    (run1 c arg0 harg0 arg1 harg1 arg2 harg2 arg3 harg3 arg4 harg4 arg5 harg5 f0 f1 f2 f3 h1).2.1 = oneL c (arg0.view.read (Elt F) f0) (arg1.view.read (Elt F) f1) (arg2.view.read (Elt F) f2) ++ (firstL c (arg0.view.read (Elt F) f0) (arg1.view.read (Elt F) f1) (arg2.view.read (Elt F) f2) ++ [zeroL]) := rfl
theorem run0_fst (h0 : c = 0) :
    (run0 c arg0 harg0 arg1 harg1 arg2 harg2 arg3 harg3 arg4 harg4 arg5 harg5 f0 f1 f2 f3 h0).1 = twoA c (arg0.view.read (Elt F) f0) (arg1.view.read (Elt F) f1) (arg2.view.read (Elt F) f2) (arg3.view.read (Elt F) f3) win640 r3 k3 ++ (twoA c (arg0.view.read (Elt F) f0) (arg1.view.read (Elt F) f1) (arg2.view.read (Elt F) f2) (arg3.view.read (Elt F) f3) win768 r2 k2 ++ (twoA c (arg0.view.read (Elt F) f0) (arg1.view.read (Elt F) f1) (arg2.view.read (Elt F) f2) (arg3.view.read (Elt F) f3) win768 r1 k1 ++ (firstA c (arg0.view.read (Elt F) f0) (arg1.view.read (Elt F) f1) (arg2.view.read (Elt F) f2) (arg3.view.read (Elt F) f3) ++ [zeroA]))) := rfl
theorem run0_snd (h0 : c = 0) :
    (run0 c arg0 harg0 arg1 harg1 arg2 harg2 arg3 harg3 arg4 harg4 arg5 harg5 f0 f1 f2 f3 h0).2.1 = twoL c (arg0.view.read (Elt F) f0) (arg1.view.read (Elt F) f1) (arg2.view.read (Elt F) f2) win640 r3 k3 ++ (twoL c (arg0.view.read (Elt F) f0) (arg1.view.read (Elt F) f1) (arg2.view.read (Elt F) f2) win768 r2 k2 ++ (twoL c (arg0.view.read (Elt F) f0) (arg1.view.read (Elt F) f1) (arg2.view.read (Elt F) f2) win768 r1 k1 ++ (firstL c (arg0.view.read (Elt F) f0) (arg1.view.read (Elt F) f1) (arg2.view.read (Elt F) f2) ++ [zeroL]))) := rfl

end Lists

end Pieces

end Cert.PartialIdeal.Part

end
-- ==== Proof.PLaunch.lean ====
/-
  The run of the first call from any memory: what its body leaves in the two results, and the contents of every buffer
  after the run.
-/
module

public import proofs.«01_k».proof.Proof.PBlock
public import Idealize.ShloMosaic.Harness.Basic

@[expose] public section

noncomputable section

namespace Cert.PartialIdeal.Part

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation Window)
open Cert.PartialIdeal.Gen

variable {F : FTy → Type} [FloatOps F]

local notation "𝕄" => MT nD τ sig Unit (Elt F) ℕ (UR sig nD τ) ℕ

/-! ## What the body leaves -/

section Lists
variable (c : Dev nD) (x0 : S1x2048x1024.Idx → Elt F .f32) (x1 : S1024x1024.Idx → Elt F .f32) (x2 x3 : S1x2048x8x128.Idx → Elt F .f32)

/-- The pieces over the zero fill of the first result. -/
def lowA : List (View.Piece (Elt F) S2048x1024 .f32) :=
  if c = 0 then twoA c x0 x1 x2 x3 win640 r3 k3 ++ (twoA c x0 x1 x2 x3 win768 r2 k2 ++ (twoA c x0 x1 x2 x3 win768 r1 k1 ++ firstA c x0 x1 x2 x3))
  else if c = 1 then oneA c x0 x1 x2 x3 ++ firstA c x0 x1 x2 x3 else firstA c x0 x1 x2 x3
/-- The pieces over the zero fill of the second result. -/
def lowL : List (View.Piece (Elt F) S2048x8 .f32) :=
  if c = 0 then twoL c x0 x1 x2 win640 r3 k3 ++ (twoL c x0 x1 x2 win768 r2 k2 ++ (twoL c x0 x1 x2 win768 r1 k1 ++ firstL c x0 x1 x2))
  else if c = 1 then oneL c x0 x1 x2 ++ firstL c x0 x1 x2 else firstL c x0 x1 x2

/-- The two results as the body leaves them. -/
def outA : FVec F S2048x1024 .f32 := View.canon (lowA c x0 x1 x2 x3 ++ [zeroA])
def outL : FVec F S2048x8 .f32 := View.canon (lowL c x0 x1 x2 ++ [zeroL])
end Lists

/-- A whole buffer's zero fill covers it. -/
theorem coverA (L : List (View.Piece (Elt F) S2048x1024 .f32)) (y : S2048x1024.Idx) : ∃ p ∈ L ++ [zeroA], y ∈ p.1.set :=
  ⟨zeroA, List.mem_append_right _ (List.mem_singleton.2 rfl), (Rect.mem_set_unit (s := S2048x1024) (inb := inb_S2048x1024_S2048x1024_0_0)).2 fun a =>
    match a with
    | ⟨0, _⟩ => ⟨Nat.zero_le _, (y 0).isLt.trans_eq (Nat.zero_add _).symm⟩
    | ⟨1, _⟩ => ⟨Nat.zero_le _, (y 1).isLt.trans_eq (Nat.zero_add _).symm⟩⟩
theorem coverL (L : List (View.Piece (Elt F) S2048x8 .f32)) (y : S2048x8.Idx) : ∃ p ∈ L ++ [zeroL], y ∈ p.1.set :=
  ⟨zeroL, List.mem_append_right _ (List.mem_singleton.2 rfl), (Rect.mem_set_unit (s := S2048x8) (inb := inb_S2048x8_S2048x8_0_0)).2 fun a =>
    match a with
    | ⟨0, _⟩ => ⟨Nat.zero_le _, (y 0).isLt.trans_eq (Nat.zero_add _).symm⟩
    | ⟨1, _⟩ => ⟨Nat.zero_le _, (y 1).isLt.trans_eq (Nat.zero_add _).symm⟩⟩

section Body
variable (c : Dev nD) (arg0 : Memref sig .tc .vmem S1x2048x1024 .f32) (harg0 : arg0.IsWhole) (arg1 : Memref sig .tc .vmem S1024x1024 .f32) (harg1 : arg1.IsWhole)
  (arg2 : Memref sig .tc .vmem S1x2048x8x128 .f32) (harg2 : arg2.IsWhole) (arg3 : Memref sig .tc .vmem S1x2048x8x128 .f32) (harg3 : arg3.IsWhole)
  (arg4 : Memref sig .tc .vmem S2048x1024 .f32) (harg4 : arg4.IsWhole) (arg5 : Memref sig .tc .vmem S2048x8 .f32) (harg5 : arg5.IsWhole)

/-- The run of the body on any device. -/
theorem run_any (f0 : Buf (Elt F) (arg0.view.loc (c : Thread nD τ))) (f1 : Buf (Elt F) (arg1.view.loc (c : Thread nD τ))) (f2 : Buf (Elt F) (arg2.view.loc (c : Thread nD τ))) (f3 : Buf (Elt F) (arg3.view.loc (c : Thread nD τ))) :
    Runs c arg0 harg0 arg1 harg1 arg2 harg2 arg3 harg3 arg4 harg4 arg5 harg5 f0 f1 f2 f3
      (lowA c (arg0.view.read (Elt F) f0) (arg1.view.read (Elt F) f1) (arg2.view.read (Elt F) f2) (arg3.view.read (Elt F) f3) ++ [zeroA])
      (lowL c (arg0.view.read (Elt F) f0) (arg1.view.read (Elt F) f1) (arg2.view.read (Elt F) f2) ++ [zeroL]) := by
  unfold lowA lowL
  by_cases h0 : c = 0
  · rw [if_pos h0, if_pos h0, List.append_assoc, List.append_assoc, List.append_assoc, List.append_assoc, List.append_assoc, List.append_assoc]
    exact (run0 c arg0 harg0 arg1 harg1 arg2 harg2 arg3 harg3 arg4 harg4 arg5 harg5 f0 f1 f2 f3 h0).2.2.of_eq (run0_fst ..) (run0_snd ..)
  · by_cases h1 : c = 1
    · rw [if_neg h0, if_neg h0, if_pos h1, if_pos h1, List.append_assoc, List.append_assoc]
      exact (run1 c arg0 harg0 arg1 harg1 arg2 harg2 arg3 harg3 arg4 harg4 arg5 harg5 f0 f1 f2 f3 h1).2.2.of_eq (run1_fst ..) (run1_snd ..)
    · rw [if_neg h0, if_neg h0, if_neg h1, if_neg h1]
      exact (runR c arg0 harg0 arg1 harg1 arg2 harg2 arg3 harg3 arg4 harg4 arg5 harg5 f0 f1 f2 f3 h0 h1).2.2.of_eq (runR_fst ..) (runR_snd ..)

/-- The body's triple. -/
theorem sound_kernel (x0 : S1x2048x1024.Idx → Elt F .f32) (x1 : S1024x1024.Idx → Elt F .f32) (x2 x3 : S1x2048x8x128.Idx → Elt F .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
          ∗ owns (c : Thread nD τ) arg4 fullShare (outA c x0 x1 x2 x3) ∗ owns (c : Thread nD τ) arg5 fullShare (outL c x0 x1 x2)) -∗ K ⟨⟩))
      ⊢ wp frame (wpE (defs₀ (F := F)) Variants.none c none) Set.univ (cc0__partial_body arg0 harg0 arg1 harg1 arg2 harg2 arg3 harg3 arg4 harg4 arg5 harg5) K := by
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  have h := run_any c arg0 harg0 arg1 harg1 arg2 harg2 arg3 harg3 arg4 harg4 arg5 harg5 f0 f1 f2 f3
  unfold Runs at h
  iapply (h f4 f5 K)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverA _)
  iexists _; isplitr
  swap; · iexact H5
  ipureintro
  exact View.read_writes_eq_canon _ _ _ (coverL _)
end Body

/-! ## The region -/

variable (m : (ℓ : Loc nD τ sig) → Buf (Elt F) ℓ) (ρ : Dev nD → PrngReg)

/-- A device's buffers when the region is entered. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The region's data: each input at its block, each result as the body leaves it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outA c (iblk m c 0 t) (iblk m c 1 t) (iblk m c 2 t) (iblk m c 3 t)
    | ⟨5, _⟩ => outL c (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outA c (iblk m c 0 t) (iblk m c 1 t) (iblk m c 2 t) (iblk m c 3 t) := by dsimp only [dats]
theorem after5 (c : Dev nD) (t : Fin cfg0.N) : (dats m 0 c).after 5 t = outL c (iblk m c 0 t) (iblk m c 1 t) (iblk m c 2 t) := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every run ends, with every array at the data's contents and every counter at zero. -/
theorem run_arrays : θ_run defs (onTc (τ := τ) (main (F := F))) ⟨m, fun _ => 0, ρ⟩
    (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose)
    (hshare := fun c => (dats m 0 c).share_full fun _ => rfl) (howed := fun _ _ => rfl) (V := V m) (hmain := hmain m Variants.none) (hA := A_eq m) (hΦ := fun _ _ => rfl) (Q' := _)

/-- A fetched argument is the device's argument. -/
theorem iblk0_eq (c : Dev nD) (t : Fin cfg0.N) : iblk m c 0 t = m ((c : Thread nD τ).loc main_arg0) := by
  rw [fin_N0 t]
  exact Memref.read_access_unit_zero (Elt F) main_arg0 (show (fun a => (win0_0.index (0 : Fin 1)) a * main_arg0.ty.shape.size a) = fun _ => 0 from funext fun a => by fin_cases a <;> decide) (fun a => by fin_cases a <;> decide) _
/-- A fetched argument is the device's argument. -/
theorem iblk1_eq (c : Dev nD) (t : Fin cfg0.N) : iblk m c 1 t = m ((c : Thread nD τ).loc main_arg1) := by
  rw [fin_N0 t]
  exact Memref.read_access_unit_zero (Elt F) main_arg1 (show (fun a => (win0_1.index (0 : Fin 1)) a * main_arg1.ty.shape.size a) = fun _ => 0 from funext fun a => by fin_cases a <;> decide) (fun a => by fin_cases a <;> decide) _
/-- A fetched argument is the device's argument. -/
theorem iblk2_eq (c : Dev nD) (t : Fin cfg0.N) : iblk m c 2 t = m ((c : Thread nD τ).loc main_arg2) := by
  rw [fin_N0 t]
  exact Memref.read_access_unit_zero (Elt F) main_arg2 (show (fun a => (win0_2.index (0 : Fin 1)) a * main_arg2.ty.shape.size a) = fun _ => 0 from funext fun a => by fin_cases a <;> decide) (fun a => by fin_cases a <;> decide) _
/-- A fetched argument is the device's argument. -/
theorem iblk3_eq (c : Dev nD) (t : Fin cfg0.N) : iblk m c 3 t = m ((c : Thread nD τ).loc main_arg3) := by
  rw [fin_N0 t]
  exact Memref.read_access_unit_zero (Elt F) main_arg3 (show (fun a => (win0_3.index (0 : Fin 1)) a * main_arg3.ty.shape.size a) = fun _ => 0 from funext fun a => by fin_cases a <;> decide) (fun a => by fin_cases a <;> decide) _
/-- A result's array after the run is what the body left in its staging buffer. -/
theorem final4_eq (c : Dev nD) : (dats m 0 c).arrAt 4 cfg0.N = outA c (m ((c : Thread nD τ).loc main_arg0)) (m ((c : Thread nD τ).loc main_arg1)) (m ((c : Thread nD τ).loc main_arg2)) (m ((c : Thread nD τ).loc main_arg3)) := by
  have hr := fun f => Memref.read_access_unit_zero (Elt F) main_v1_0 (show (fun a => (win0_4.index (0 : Fin 1)) a * main_v1_0.ty.shape.size a) = fun _ => 0 from funext fun a => by fin_cases a <;> decide) (fun a => by fin_cases a <;> decide) f
  have ho : (win0_4.blk (0 : Fin 1)).view.read (Elt F) ((dats m 0 c).arrAt 4 cfg0.N) = outA c (m ((c : Thread nD τ).loc main_arg0)) (m ((c : Thread nD τ).loc main_arg1)) (m ((c : Thread nD τ).loc main_arg2)) (m ((c : Thread nD τ).loc main_arg3)) := by
    rw [show cfg0.N = (t0_0 : Fin cfg0.N).val + 1 from rfl, (dats m 0 c).arrAt_succ (4 : Fin 6) t0_0]
    rw [show (cfg0.win (4 : Fin 6)).flush t0_0 = true from flush0_4 t0_0, if_pos rfl]
    refine (View.read_write_univ _ _).trans ?_
    refine (after4 m c t0_0).trans ?_
    rw [iblk0_eq, iblk1_eq, iblk2_eq, iblk3_eq]
  exact (hr _).symm.trans ho

/-- A result's array after the run is what the body left in its staging buffer. -/
theorem final5_eq (c : Dev nD) : (dats m 0 c).arrAt 5 cfg0.N = outL c (m ((c : Thread nD τ).loc main_arg0)) (m ((c : Thread nD τ).loc main_arg1)) (m ((c : Thread nD τ).loc main_arg2)) := by
  have hr := fun f => Memref.read_access_unit_zero (Elt F) main_v1_1 (show (fun a => (win0_5.index (0 : Fin 1)) a * main_v1_1.ty.shape.size a) = fun _ => 0 from funext fun a => by fin_cases a <;> decide) (fun a => by fin_cases a <;> decide) f
  have ho : (win0_5.blk (0 : Fin 1)).view.read (Elt F) ((dats m 0 c).arrAt 5 cfg0.N) = outL c (m ((c : Thread nD τ).loc main_arg0)) (m ((c : Thread nD τ).loc main_arg1)) (m ((c : Thread nD τ).loc main_arg2)) := by
    rw [show cfg0.N = (t0_0 : Fin cfg0.N).val + 1 from rfl, (dats m 0 c).arrAt_succ (5 : Fin 6) t0_0]
    rw [show (cfg0.win (5 : Fin 6)).flush t0_0 = true from flush0_5 t0_0, if_pos rfl]
    refine (View.read_write_univ _ _).trans ?_
    refine (after5 m c t0_0).trans ?_
    rw [iblk0_eq, iblk1_eq, iblk2_eq]
  exact (hr _).symm.trans ho

/-- Every run ends, with the arguments as they were, the two results as the body leaves them and every counter at zero. -/
theorem run_main : θ_run defs (onTc (τ := τ) (main (F := F))) ⟨m, fun _ => 0, ρ⟩
    (fun r => (∀ c : Dev nD, r.2.mem ((c : Thread nD τ).loc main_v1_0) = outA c (m ((c : Thread nD τ).loc main_arg0)) (m ((c : Thread nD τ).loc main_arg1)) (m ((c : Thread nD τ).loc main_arg2)) (m ((c : Thread nD τ).loc main_arg3))
        ∧ r.2.mem ((c : Thread nD τ).loc main_v1_1) = outL c (m ((c : Thread nD τ).loc main_arg0)) (m ((c : Thread nD τ).loc main_arg1)) (m ((c : Thread nD τ).loc main_arg2))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  (θ_run defs _ _).mono (fun r h => ⟨fun c => ⟨((h.1 c).1 4).trans (final4_eq m c), ((h.1 c).1 5).trans (final5_eq m c),
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3))⟩, h.2⟩) (run_arrays m ρ)

end Cert.PartialIdeal.Part

end
-- ==== Proof.PSpec.lean ====
/-
  What the first call computes, at the ideal values: the part of the attention that one of the eight parts of the keys
  contributes. The mask as arithmetic on row and key numbers, the weights, and the sums over a window of the keys.
-/
module

public import Idealize.ShloMosaic.Lib.Pointwise.Reduce
public import Idealize.ShloMosaic.PureOps.Ideal

@[expose] public section

noncomputable section

namespace Cert.Part

open Idealize.ShloMosaic

/-- Row r attends to key g. -/
abbrev Att (r g : ℕ) : Prop := (r ≤ g + 128 ∧ g ≤ r + 128) ∨ g < 32 ∨ r < 32

theorem toInt_small {n : ℕ} (h : n < 32768) : (BitVec.ofNat 32 n).toInt = n := by
  rw [BitVec.toInt_eq_toNat_cond, BitVec.toNat_ofNat, Nat.mod_eq_of_lt (by omega), if_pos (by omega)]

theorem toInt_diff {r g : ℕ} (hr : r < 32768) (hg : g < 32768) : (BitVec.ofNat 32 r - BitVec.ofNat 32 g).toInt = (r : ℤ) - g := by
  rw [BitVec.toInt_sub, toInt_small hr, toInt_small hg, Int.bmod_eq_of_le (by omega) (by omega)]

theorem toInt_abs {x : BitVec 32} {d : ℤ} (h : x.toInt = d) (hd : -32768 < d) : (IntOp.absi x).toInt = |d| := by
  unfold IntOp.absi
  rw [BitVec.msb_eq_toInt, h]
  by_cases hn : d < 0
  · rw [if_pos (decide_eq_true hn), BitVec.toInt_neg, h, Int.bmod_eq_of_le (by omega) (by omega), abs_of_neg hn]
  · rw [if_neg (by simpa using hn), h, abs_of_nonneg (by omega)]

/-- The mask's word operations on a row's and a key's words. -/
theorem bits {r g : ℕ} (hr : r < 32768) (hg : g < 32768) :
    IntOp.ori (IntOp.ori (IntOp.cmpi .sle (IntOp.absi (IntOp.subi (BitVec.ofNat 32 r) (BitVec.ofNat 32 g))) 128#32) (IntOp.cmpi .slt (BitVec.ofNat 32 g) 32#32))
      (IntOp.cmpi .slt (BitVec.ofNat 32 r) 32#32) = if Att r g then 1#1 else 0#1 := by
  have a : IntOp.cmpi .sle (IntOp.absi (IntOp.subi (BitVec.ofNat 32 r) (BitVec.ofNat 32 g))) 128#32 = BitVec.ofBool (decide (r ≤ g + 128 ∧ g ≤ r + 128)) := by
    unfold IntOp.cmpi
    refine congrArg BitVec.ofBool ?_
    show BitVec.sle _ _ = _
    rw [BitVec.sle_eq_decide, show IntOp.subi (BitVec.ofNat 32 r) (BitVec.ofNat 32 g) = BitVec.ofNat 32 r - BitVec.ofNat 32 g from rfl,
      toInt_abs (toInt_diff hr hg) (by omega), toInt_small (n := 128) (by omega)]
    refine decide_eq_decide.2 ?_
    rw [abs_le]
    omega
  have b : ∀ {n : ℕ}, n < 32768 → IntOp.cmpi .slt (BitVec.ofNat 32 n) 32#32 = BitVec.ofBool (decide (n < 32)) := fun {n} h => by
    unfold IntOp.cmpi
    refine congrArg BitVec.ofBool ?_
    show BitVec.slt _ _ = _
    rw [BitVec.slt_eq_decide, toInt_small h, toInt_small (n := 32) (by omega)]
    exact decide_eq_decide.2 (by omega)
  rw [a, b hg, b hr]
  by_cases h1 : r ≤ g + 128 ∧ g ≤ r + 128 <;> by_cases h2 : g < 32 <;> by_cases h3 : r < 32 <;> simp [Att, h1, h2, h3] <;> rfl

/-! ## Sums over windows -/

section Sums

variable (f : Fin 2048 → EReal)

/-- A window's sum is the sum over all keys of what lies in the window. -/
theorem sum_window {ko w : ℕ} (hk : ko + w ≤ 2048) :
    ∑ j : Fin w, f ⟨ko + j.val, by have := j.isLt; omega⟩ = ∑ k : Fin 2048, if ko ≤ k.val ∧ k.val < ko + w then f k else 0 := by
  rw [← Finset.sum_filter]
  refine Finset.sum_bij (fun j _ => ⟨ko + j.val, by have := j.isLt; omega⟩) ?_ ?_ ?_ ?_
  · intro j _
    exact Finset.mem_filter.2 ⟨Finset.mem_univ _, Nat.le_add_right _ _, Nat.add_lt_add_left j.isLt _⟩
  · intro a _ b _ e
    exact Fin.ext (Nat.add_left_cancel (congrArg Fin.val e))
  · intro k hk'
    obtain ⟨-, h1, h2⟩ := Finset.mem_filter.1 hk'
    exact ⟨⟨k.val - ko, by omega⟩, Finset.mem_univ _, Fin.ext (by show ko + (k.val - ko) = k.val; omega)⟩
  · intro j _
    rfl

/-- One window that holds every key that counts. -/
theorem sum_one {ko w : ℕ} (hk : ko + w ≤ 2048) (h : ∀ k : Fin 2048, f k ≠ 0 → ko ≤ k.val ∧ k.val < ko + w) :
    ∑ j : Fin w, f ⟨ko + j.val, by have := j.isLt; omega⟩ = ∑ k : Fin 2048, f k := by
  rw [sum_window f hk]
  refine Finset.sum_congr rfl fun k _ => ?_
  by_cases h0 : f k = 0
  · rw [h0, ite_self]
  · rw [if_pos (h k h0)]

/-- Two windows apart that hold every key that counts. -/
theorem sum_two {ko w : ℕ} (hk : ko + w ≤ 2048) (hd : 128 ≤ ko) (h : ∀ k : Fin 2048, f k ≠ 0 → (ko ≤ k.val ∧ k.val < ko + w) ∨ k.val < 128) :
    ∑ j : Fin w, f ⟨ko + j.val, by have := j.isLt; omega⟩ + ∑ j : Fin 128, f ⟨0 + j.val, by have := j.isLt; omega⟩ = ∑ k : Fin 2048, f k := by
  rw [sum_window f hk, sum_window f (ko := 0) (w := 128) (by omega), ← Finset.sum_add_distrib]
  refine Finset.sum_congr rfl fun k _ => ?_
  by_cases h0 : f k = 0
  · rw [h0, ite_self, ite_self, add_zero]
  · rcases h k h0 with h1 | h1
    · rw [if_pos h1, if_neg (by omega), add_zero]
    · rw [if_neg (by omega), if_pos (by omega), zero_add]

end Sums

/-! ## The results -/

section Spec

variable (x : (⟨3, ![1, 2048, 1024]⟩ : Shape).Idx → EReal) (wq : (⟨2, ![1024, 1024]⟩ : Shape).Idx → EReal) (k v : (⟨4, ![1, 2048, 8, 128]⟩ : Shape).Idx → EReal)

/-- A head's column. -/
abbrev col (h : Fin 8) (d : Fin 128) : Fin 1024 := ⟨h.val * 128 + d.val, by have := h.isLt; have := d.isLt; omega⟩

/-- A query. -/
def qS (r : Fin 2048) (h : Fin 8) (d : Fin 128) : EReal := ∑ e : Fin 1024, x (ix3 0 r e) * wq (ix2 e (col h d))

/-- A score. -/
def sS (r : Fin 2048) (h : Fin 8) (j : Fin 2048) : EReal := ∑ d : Fin 128, qS x wq r h d * k (ix4 0 j h d)

/-- Row r's weight of key j of part c. -/
def wS (c : ℕ) (r : Fin 2048) (h : Fin 8) (j : Fin 2048) : EReal :=
  if Att r.val (c * 2048 + j.val) then Ideal.exp (sS x wq k r h j * Ideal.ofBits .f32 0x3DB504F3#32) else 0

/-- The weighted values of part c. -/
def nS (c : ℕ) (r : Fin 2048) (h : Fin 8) (d : Fin 128) : EReal := ∑ j : Fin 2048, wS x wq k c r h j * v (ix4 0 j h d)

/-- The weights' sum of part c. -/
def dS (c : ℕ) (r : Fin 2048) (h : Fin 8) : EReal := ∑ j : Fin 2048, wS x wq k c r h j

variable {x wq k v}

theorem wS_ne {c : ℕ} {r : Fin 2048} {h : Fin 8} {j : Fin 2048} (e : wS x wq k c r h j ≠ 0) : Att r.val (c * 2048 + j.val) := by
  by_contra hn
  exact e (if_neg hn)

theorem wS_mul_ne {c : ℕ} {r : Fin 2048} {h : Fin 8} {j : Fin 2048} {y : EReal} (e : wS x wq k c r h j * y ≠ 0) : Att r.val (c * 2048 + j.val) :=
  wS_ne fun h0 => e (by rw [h0, zero_mul])

end Spec

end Cert.Part

end
-- ==== Proof.PVal.lean ====
/-
  The two results the first call's body leaves, read at an index at the ideal values: the sums over the device's part of
  the keys, each block's windows holding every key its rows attend to.
-/
module

public import proofs.«01_k».proof.Proof.PLaunch
public import proofs.«01_k».proof.Proof.PSpec
public import Idealize.ShloMosaic.Lib.MatmulPlain
public import Idealize.ShloMosaic.Lib.Pipeline.Value

@[expose] public section

noncomputable section

namespace Cert.PartialIdeal.Part

open Idealize.ShloMosaic Idealize.ShloMosaic.TcCoe
open Cert.PartialIdeal.Gen Cert.Part

/-! ## A block at an index -/

/-- A block's row, and a window's key. -/
abbrev row {qo : ℕ} (hq : Rows qo) (i : Fin 512) : Fin 2048 := ⟨qo + i.val, Nat.lt_of_lt_of_le (Nat.add_lt_add_left i.isLt qo) hq⟩
abbrev key {ko w : ℕ} (hk : Keys ko w) (j : Fin w) : Fin 2048 := ⟨ko + j.val, Nat.lt_of_lt_of_le (Nat.add_lt_add_left j.isLt ko) hk⟩

theorem my_eq : ∀ c : Dev nD, my c = BitVec.ofNat 32 c.val := by decide +kernel

theorem mask_apply {w : ℕ} (W : Win w) {qo ko : ℕ} (hq : Rows qo) (hk : Keys ko w) (c : Dev nD) (i : Fin 512) (j : Fin w) :
    maskV w W (BitVec.ofNat 32 qo) (BitVec.ofNat 32 ko) (my c) (ix2 i j) = if Att (qo + i.val) (c.val * 2048 + (ko + j.val)) then 1#1 else 0#1 := by
  have hi := i.isLt
  have hj := j.isLt
  have hc : c.val < 8 := c.isLt
  have er : IntOp.addi (BitVec.ofNat 32 (0 * 512 + i.val)) (BitVec.ofNat 32 qo) = BitVec.ofNat 32 (qo + i.val) := by
    show BitVec.ofNat 32 (0 * 512 + i.val) + BitVec.ofNat 32 qo = _
    rw [← BitVec.ofNat_add]
    exact congrArg _ (by omega)
  have eg : IntOp.addi (IntOp.addi (BitVec.ofNat 32 (0 * w + j.val)) (BitVec.ofNat 32 ko)) (Scalar.muli (my c) 2048#32) = BitVec.ofNat 32 (c.val * 2048 + (ko + j.val)) := by
    rw [my_eq c]
    show BitVec.ofNat 32 (0 * w + j.val) + BitVec.ofNat 32 ko + BitVec.ofNat 32 c.val * BitVec.ofNat 32 2048 = _
    rw [← BitVec.ofNat_mul, ← BitVec.ofNat_add, ← BitVec.ofNat_add]
    exact congrArg _ (by omega)
  rw [← bits (r := qo + i.val) (g := c.val * 2048 + (ko + j.val)) (by omega) (by omega), ← er, ← eg]
  rfl

section Blocks

variable (c : Dev nD) (x0 : S1x2048x1024.Idx → EReal) (x1 : S1024x1024.Idx → EReal) (x2 x3 : S1x2048x8x128.Idx → EReal)
variable {qo ko w : ℕ} (W : Win w) (hq : Rows qo) (hk : Keys ko w) (h : Fin 8)

theorem zero_word : Ideal.ofBits .f32 0x00000000#32 = 0 := Ideal.ofBits_zero_f32

theorem ldK_apply (x : S1x2048x8x128.Idx → EReal) (j : Fin w) (d : Fin 128) :
    shapeCast ⟨2, ![w, 128]⟩ (ld (F := Ideal) (e := .f32) x (Rect.unit (s := S1x2048x8x128) ![0, ko, h.val, 0] (⟨4, ![1, w, 1, 128]⟩ : Shape).size (inK hk h)).toLoadRect) W.sc (ix2 j d)
      = x (ix4 0 (key hk j) h d) := by
  rw [shapeCast_apply _ W.sc (ix2 j d) (ix4 (0 : Fin 1) j (0 : Fin 1) d : (⟨4, ![1, w, 1, 128]⟩ : Shape).Idx) (by
    rw [Shape.rowMajor_val_two, Shape.rowMajor_val_four]
    show ((0 * w + j.val) * 1 + 0) * 128 + d.val = j.val * 128 + d.val
    omega)]
  refine congrArg x (funext fun a => Fin.ext ?_)
  match a with
  | ⟨0, _⟩ => rfl
  | ⟨1, _⟩ => exact congrArg (ko + ·) (Nat.one_mul _)
  | ⟨2, _⟩ => rfl
  | ⟨3, _⟩ => exact (Nat.zero_add _).trans (Nat.one_mul _)

theorem qryB_apply (i : Fin 512) (d : Fin 128) : qryB (F := Ideal) x0 x1 hq h (ix2 i d) = qS x0 x1 (row hq i) h d := by
  unfold qryB qryV qS
  refine (Ideal.matmul_plain_apply none _ _ _ i d).trans ?_
  rw [show (constant S512x128 .f32 0x00000000#32 : FVec Ideal S512x128 .f32) (ValueIdx.ix2 i d) = 0 from zero_word, zero_add]
  refine Finset.sum_congr rfl fun e _ => congrArg₂ (· * ·) ?_ ?_
  · rw [shapeCast_apply _ shapeCasts_S1x512x1024_S512x1024 _ (ix3 (0 : Fin 1) i e) (by
      rw [Shape.rowMajor_val_two, Shape.rowMajor_val_three]
      show (0 * 512 + i.val) * 1024 + e.val = i.val * 1024 + e.val
      omega)]
    refine congrArg x0 (funext fun a => Fin.ext ?_)
    match a with
    | ⟨0, _⟩ => rfl
    | ⟨1, _⟩ => exact congrArg (qo + ·) (Nat.one_mul _)
    | ⟨2, _⟩ => exact (Nat.zero_add _).trans (Nat.one_mul _)
  · rw [shapeCast_self]
    refine congrArg x1 (funext fun a => Fin.ext ?_)
    match a with
    | ⟨0, _⟩ => exact (Nat.zero_add _).trans (Nat.one_mul _)
    | ⟨1, _⟩ => exact congrArg (h.val * 128 + ·) (Nat.one_mul _)

theorem weights_apply {s : Shape} (M : IVec s 1) (S : FVec Ideal s .f32) (a z : BitVec 32) (i : s.Idx) :
    select M (exp (mulf S (broadcast _ (Scalar.ofBits .f32 a)))) (broadcast _ (Scalar.ofBits .f32 z)) i
      = if M i = 1#1 then Ideal.exp (S i * Ideal.ofBits .f32 a) else Ideal.ofBits .f32 z := rfl

theorem score_apply (i : Fin 512) (j : Fin w) :
    matmul (F := Ideal) (φ₁ := .f32) (φ₂ := .f32) (DotDims.transposedRhs 512 128 w) none (qryB (F := Ideal) x0 x1 hq h)
      (shapeCast ⟨2, ![w, 128]⟩ (ld (F := Ideal) (e := .f32) x2 (Rect.unit (s := S1x2048x8x128) ![0, ko, h.val, 0] (⟨4, ![1, w, 1, 128]⟩ : Shape).size (inK hk h)).toLoadRect) W.sc)
      (constant ⟨2, ![512, w]⟩ .f32 0x00000000#32) (ix2 i j) = ∑ d : Fin 128, qS x0 x1 (row hq i) h d * x2 (ix4 0 (key hk j) h d) := by
  refine (Ideal.matmul_transposedRhs_apply (φ₁ := .f32) (φ₂ := .f32) none _ _ _ i j).trans ?_
  rw [show (constant ⟨2, ![512, w]⟩ .f32 0x00000000#32 : FVec Ideal ⟨2, ![512, w]⟩ .f32) (ValueIdx.ix2 i j) = 0 from zero_word, zero_add]
  exact Finset.sum_congr rfl fun d _ => congrArg₂ (· * ·) (qryB_apply x0 x1 hq h i d) (ldK_apply W hk h x2 j d)

theorem wgtB_apply (i : Fin 512) (j : Fin w) : wgtB (F := Ideal) c x0 x1 x2 W hq hk h (ix2 i j) = wS x0 x1 x2 c.val (row hq i) h (key hk j) := by
  unfold wgtB wgtV wS sS
  have e := score_apply x0 x1 x2 W hq hk h i j
  refine (weights_apply _ _ _ _ _).trans ?_
  rw [mask_apply W hq hk c i j, e, zero_word]
  by_cases ha : Att (qo + i.val) (c.val * 2048 + (ko + j.val))
  · rw [if_pos ha, if_pos rfl, if_pos ha]
  · rw [if_neg ha, if_neg (by decide), if_neg ha]

theorem numB_apply (i : Fin 512) (d : Fin 128) :
    numB (F := Ideal) c x0 x1 x2 x3 W hq hk h (ix2 i d) = ∑ j : Fin w, wS x0 x1 x2 c.val (row hq i) h (key hk j) * x3 (ix4 0 (key hk j) h d) := by
  unfold numB numV
  refine (Ideal.matmul_plain_apply none _ _ _ i d).trans ?_
  rw [show (constant S512x128 .f32 0x00000000#32 : FVec Ideal S512x128 .f32) (ValueIdx.ix2 i d) = 0 from zero_word, zero_add]
  exact Finset.sum_congr rfl fun j _ => congrArg₂ (· * ·) (wgtB_apply c x0 x1 x2 W hq hk h i j) (ldK_apply W hk h x3 j d)

theorem denB_apply (i : Fin 512) (z : Fin 1) :
    denB (F := Ideal) c x0 x1 x2 W hq hk h (ix2 i z) = ∑ j : Fin w, wS x0 x1 x2 c.val (row hq i) h (key hk j) := by
  unfold denB denV
  rw [shapeCast_apply _ shapeCasts_S512_S512x1 (ix2 i z) (ix1 i) (by
    rw [Shape.rowMajor_val_two, Shape.rowMajor_val_one]
    show i.val = i.val * 1 + z.val
    have := z.isLt
    omega)]
  refine (Ideal.reduceAdd_r2_a1 W.rd _ (ix1 i)).trans ?_
  exact Finset.sum_congr rfl fun j _ => wgtB_apply c x0 x1 x2 W hq hk h i j

end Blocks

/-! ## The windows hold every key -/

section Windows

variable (c : Dev nD) (x0 : S1x2048x1024.Idx → EReal) (x1 : S1024x1024.Idx → EReal) (x2 x3 : S1x2048x8x128.Idx → EReal)

theorem num_one {qo ko w : ℕ} (W : Win w) (hq : Rows qo) (hk : Keys ko w) (h : Fin 8)
    (hw : ∀ r g : ℕ, qo ≤ r → r < qo + 512 → g < 2048 → Att r (c.val * 2048 + g) → ko ≤ g ∧ g < ko + w) (i : Fin 512) (d : Fin 128) :
    numB (F := Ideal) c x0 x1 x2 x3 W hq hk h (ix2 i d) = nS x0 x1 x2 x3 c.val (row hq i) h d :=
  (numB_apply c x0 x1 x2 x3 W hq hk h i d).trans
    (sum_one (fun j => wS x0 x1 x2 c.val (row hq i) h j * x3 (ix4 0 j h d)) hk fun g e =>
      hw _ _ (Nat.le_add_right _ _) (Nat.add_lt_add_left i.isLt _) g.isLt (wS_mul_ne e))

theorem den_one {qo ko w : ℕ} (W : Win w) (hq : Rows qo) (hk : Keys ko w) (h : Fin 8)
    (hw : ∀ r g : ℕ, qo ≤ r → r < qo + 512 → g < 2048 → Att r (c.val * 2048 + g) → ko ≤ g ∧ g < ko + w) (i : Fin 512) (z : Fin 1) :
    denB (F := Ideal) c x0 x1 x2 W hq hk h (ix2 i z) = dS x0 x1 x2 c.val (row hq i) h :=
  (denB_apply c x0 x1 x2 W hq hk h i z).trans
    (sum_one (fun j => wS x0 x1 x2 c.val (row hq i) h j) hk fun g e =>
      hw _ _ (Nat.le_add_right _ _) (Nat.add_lt_add_left i.isLt _) g.isLt (wS_ne e))

theorem num_two {qo ko w : ℕ} (W : Win w) (hq : Rows qo) (hk : Keys ko w) (hd : 128 ≤ ko) (h : Fin 8)
    (hw : ∀ r g : ℕ, qo ≤ r → r < qo + 512 → g < 2048 → Att r (c.val * 2048 + g) → (ko ≤ g ∧ g < ko + w) ∨ g < 128) (i : Fin 512) (d : Fin 128) :
    addf (numB (F := Ideal) c x0 x1 x2 x3 W hq hk h) (numB c x0 x1 x2 x3 win128 hq kS h) (ix2 i d) = nS x0 x1 x2 x3 c.val (row hq i) h d :=
  (congrArg₂ (· + ·) (numB_apply c x0 x1 x2 x3 W hq hk h i d) (numB_apply c x0 x1 x2 x3 win128 hq kS h i d)).trans
    (sum_two (fun j => wS x0 x1 x2 c.val (row hq i) h j * x3 (ix4 0 j h d)) hk hd fun g e =>
      hw _ _ (Nat.le_add_right _ _) (Nat.add_lt_add_left i.isLt _) g.isLt (wS_mul_ne e))

theorem den_two {qo ko w : ℕ} (W : Win w) (hq : Rows qo) (hk : Keys ko w) (hd : 128 ≤ ko) (h : Fin 8)
    (hw : ∀ r g : ℕ, qo ≤ r → r < qo + 512 → g < 2048 → Att r (c.val * 2048 + g) → (ko ≤ g ∧ g < ko + w) ∨ g < 128) (i : Fin 512) (z : Fin 1) :
    addf (denB (F := Ideal) c x0 x1 x2 W hq hk h) (denB c x0 x1 x2 win128 hq kS h) (ix2 i z) = dS x0 x1 x2 c.val (row hq i) h :=
  (congrArg₂ (· + ·) (denB_apply c x0 x1 x2 W hq hk h i z) (denB_apply c x0 x1 x2 win128 hq kS h i z)).trans
    (sum_two (fun j => wS x0 x1 x2 c.val (row hq i) h j) hk hd fun g e =>
      hw _ _ (Nat.le_add_right _ _) (Nat.add_lt_add_left i.isLt _) g.isLt (wS_ne e))

end Windows

/-! ## The lists of pieces -/

/-- Every piece of L holds f. -/
def Holds {s : Shape} (L : List (View.Piece (Elt Ideal) s .f32)) (f : s.Idx → EReal) : Prop := ∀ p ∈ L, ∀ y, p.2 y = f (p.1.emb y)

theorem Holds.append {s : Shape} {L M : List (View.Piece (Elt Ideal) s .f32)} {f : s.Idx → EReal} (hL : Holds L f) (hM : Holds M f) : Holds (L ++ M) f :=
  fun p hp => (List.mem_append.1 hp).elim (hL p) (hM p)

theorem mem_heads {α : Type} {f : Fin 8 → α} {a : α} : a ∈ heads f ↔ ∃ h, a = f h := by
  constructor
  · intro ha
    simp only [heads, List.mem_cons, List.not_mem_nil, or_false] at ha
    rcases ha with e | e | e | e | e | e | e | e
    exacts [⟨7, e⟩, ⟨6, e⟩, ⟨5, e⟩, ⟨4, e⟩, ⟨3, e⟩, ⟨2, e⟩, ⟨1, e⟩, ⟨0, e⟩]
  · rintro ⟨h, rfl⟩
    fin_cases h <;> simp [heads]

theorem canon_holds {s : Shape} {f : s.Idx → EReal} {z : View.Piece (Elt Ideal) s .f32} (hz : ∀ y, z.2 y = (0 : EReal)) (hc : ∀ y, y ∈ z.1.set) :
    ∀ {L : List (View.Piece (Elt Ideal) s .f32)}, Holds L f → ∀ y, ((∀ p ∈ L, y ∉ p.1.set) → f y = 0) → View.canon (L ++ [z]) y = f y
  | [], _, y, h0 => by
    obtain ⟨t, rfl⟩ := z.1.exists_idx_of_mem (hc y)
    exact (View.canon_cons_emb z.1 z.2 [] t).trans ((hz t).trans (h0 fun p hp => absurd hp List.not_mem_nil).symm)
  | p :: L, hL, y, h0 => by
    by_cases hy : y ∈ p.1.set
    · obtain ⟨t, rfl⟩ := p.1.exists_idx_of_mem hy
      exact (View.canon_cons_emb p.1 p.2 (L ++ [z]) t).trans (hL p List.mem_cons_self t)
    · refine (View.canon_cons_of_not_mem p (L ++ [z]) hy).trans (canon_holds hz hc (fun q hq => hL q (List.mem_cons_of_mem _ hq)) y fun h => h0 fun q hq => ?_)
      rcases List.mem_cons.1 hq with rfl | hq
      exacts [hy, h q hq]

section Results

variable (c : Dev nD) (x0 : S1x2048x1024.Idx → EReal) (x1 : S1024x1024.Idx → EReal) (x2 x3 : S1x2048x8x128.Idx → EReal)

/-- A column's head and its place there. -/
abbrev headOf (j : Fin 1024) : Fin 8 := ⟨j.val / 128, by have := j.isLt; omega⟩
abbrev inHead (j : Fin 1024) : Fin 128 := ⟨j.val % 128, Nat.mod_lt _ (by decide)⟩

/-- The two results as they are to be. -/
def resA : S2048x1024.Idx → EReal := fun y => nS x0 x1 x2 x3 c.val (y 0) (headOf (y 1)) (inHead (y 1))
def resL : S2048x8.Idx → EReal := fun y => dS x0 x1 x2 c.val (y 0) (y 1)

theorem holdsA {qo : ℕ} (hq : Rows qo) (b : Fin 8 → FVec Ideal S512x128 .f32)
    (hb : ∀ h i d, b h (ix2 i d) = nS x0 x1 x2 x3 c.val (row hq i) h d) : Holds (heads fun h => pcA hq h (b h)) (resA c x0 x1 x2 x3) := by
  intro p hp y
  obtain ⟨h, rfl⟩ := mem_heads.1 hp
  obtain ⟨i, d, rfl⟩ : ∃ (i : Fin 512) (d : Fin 128), y = ix2 i d := ⟨y 0, y 1, by funext a; match a with | ⟨0, _⟩ => rfl | ⟨1, _⟩ => rfl⟩
  refine (hb h i d).trans ?_
  have := d.isLt
  have e0 : ((pcA hq h (b h)).1.emb (ix2 i d)) 0 = row hq i := Fin.ext (congrArg (qo + ·) (Nat.one_mul _))
  have e1 : ((pcA hq h (b h)).1.emb (ix2 i d)) 1 = col h d := Fin.ext (congrArg (h.val * 128 + ·) (Nat.one_mul _))
  have eh : headOf (col h d) = h := Fin.ext (by show (h.val * 128 + d.val) / 128 = h.val; omega)
  have ed : inHead (col h d) = d := Fin.ext (by show (h.val * 128 + d.val) % 128 = d.val; omega)
  unfold resA
  rw [e0, e1, eh, ed]

theorem holdsL {qo : ℕ} (hq : Rows qo) (b : Fin 8 → FVec Ideal S512x1 .f32)
    (hb : ∀ h i z, b h (ix2 i z) = dS x0 x1 x2 c.val (row hq i) h) : Holds (heads fun h => pcL hq h (b h)) (resL c x0 x1 x2) := by
  intro p hp y
  obtain ⟨h, rfl⟩ := mem_heads.1 hp
  obtain ⟨i, z, rfl⟩ : ∃ (i : Fin 512) (z : Fin 1), y = ix2 i z := ⟨y 0, y 1, by funext a; match a with | ⟨0, _⟩ => rfl | ⟨1, _⟩ => rfl⟩
  refine (hb h i z).trans ?_
  have := z.isLt
  have e0 : ((pcL hq h (b h)).1.emb (ix2 i z)) 0 = row hq i := Fin.ext (congrArg (qo + ·) (Nat.one_mul _))
  have e1 : ((pcL hq h (b h)).1.emb (ix2 i z)) 1 = h := Fin.ext (by show h.val + 1 * z.val = h.val; omega)
  unfold resL
  rw [e0, e1]

/-- The heads' pieces of a block cover its rows. -/
theorem coversA {qo : ℕ} (hq : Rows qo) (b : Fin 8 → FVec Ideal S512x128 .f32) {y : S2048x1024.Idx} (h : ∀ p ∈ heads fun h => pcA hq h (b h), y ∉ p.1.set) :
    ¬ (qo ≤ (y 0).val ∧ (y 0).val < qo + 512) := fun hr =>
  h _ (mem_heads.2 ⟨headOf (y 1), rfl⟩) ((Rect.mem_set_unit (s := S2048x1024) (inb := inA hq (headOf (y 1)))).2 fun a =>
    match a with
    | ⟨0, _⟩ => hr
    | ⟨1, _⟩ => by
      show (y 1).val / 128 * 128 ≤ (y 1).val ∧ (y 1).val < (y 1).val / 128 * 128 + 128
      omega)
theorem coversL {qo : ℕ} (hq : Rows qo) (b : Fin 8 → FVec Ideal S512x1 .f32) {y : S2048x8.Idx} (h : ∀ p ∈ heads fun h => pcL hq h (b h), y ∉ p.1.set) :
    ¬ (qo ≤ (y 0).val ∧ (y 0).val < qo + 512) := fun hr =>
  h _ (mem_heads.2 ⟨y 1, rfl⟩) ((Rect.mem_set_unit (s := S2048x8) (inb := inL hq (y 1))).2 fun a =>
    match a with
    | ⟨0, _⟩ => hr
    | ⟨1, _⟩ => ⟨le_refl _, Nat.lt_succ_self _⟩)

/-- Rows no key of the part counts for. -/
theorem resA_zero {y : S2048x1024.Idx} (h : ∀ g : ℕ, g < 2048 → ¬ Att (y 0).val (c.val * 2048 + g)) : resA c x0 x1 x2 x3 y = 0 := by
  unfold resA nS
  refine Finset.sum_eq_zero fun j _ => Classical.byContradiction fun e => ?_
  exact h _ j.isLt (wS_mul_ne e)
theorem resL_zero {y : S2048x8.Idx} (h : ∀ g : ℕ, g < 2048 → ¬ Att (y 0).val (c.val * 2048 + g)) : resL c x0 x1 x2 y = 0 := by
  unfold resL dS
  refine Finset.sum_eq_zero fun j _ => Classical.byContradiction fun e => ?_
  exact h _ j.isLt (wS_ne e)

theorem lowA_holds : Holds (lowA (F := Ideal) c x0 x1 x2 x3) (resA c x0 x1 x2 x3) := by
  have hf : Holds (firstA (F := Ideal) c x0 x1 x2 x3) (resA c x0 x1 x2 x3) :=
    holdsA c x0 x1 x2 x3 r0 _ fun h => num_one c x0 x1 x2 x3 win2048 r0 k0 h fun r g _ _ hg _ => ⟨Nat.zero_le _, hg.trans_eq (Nat.zero_add _).symm⟩
  unfold lowA
  split
  · next h0 =>
    subst h0
    exact (holdsA _ x0 x1 x2 x3 r3 _ fun h => num_two _ x0 x1 x2 x3 win640 r3 k3 (by decide) h fun r g h1 h2 h3 ha => by
        simp only [Att, Fin.val_zero] at ha; omega).append
      ((holdsA _ x0 x1 x2 x3 r2 _ fun h => num_two _ x0 x1 x2 x3 win768 r2 k2 (by decide) h fun r g h1 h2 h3 ha => by
        simp only [Att, Fin.val_zero] at ha; omega).append
      ((holdsA _ x0 x1 x2 x3 r1 _ fun h => num_two _ x0 x1 x2 x3 win768 r1 k1 (by decide) h fun r g h1 h2 h3 ha => by
        simp only [Att, Fin.val_zero] at ha; omega).append hf))
  · split
    · next h1 =>
      subst h1
      exact (holdsA _ x0 x1 x2 x3 r3 _ fun h => num_one _ x0 x1 x2 x3 win128 r3 kS h fun r g h1 h2 h3 ha => by
        have e : ((1 : Dev nD) : ℕ) = 1 := rfl
        rw [e] at ha
        simp only [Att] at ha
        omega).append hf
    · exact hf

theorem lowL_holds : Holds (lowL (F := Ideal) c x0 x1 x2) (resL c x0 x1 x2) := by
  have hf : Holds (firstL (F := Ideal) c x0 x1 x2) (resL c x0 x1 x2) :=
    holdsL c x0 x1 x2 r0 _ fun h => den_one c x0 x1 x2 win2048 r0 k0 h fun r g _ _ hg _ => ⟨Nat.zero_le _, hg.trans_eq (Nat.zero_add _).symm⟩
  unfold lowL
  split
  · next h0 =>
    subst h0
    exact (holdsL _ x0 x1 x2 r3 _ fun h => den_two _ x0 x1 x2 win640 r3 k3 (by decide) h fun r g h1 h2 h3 ha => by
        simp only [Att, Fin.val_zero] at ha; omega).append
      ((holdsL _ x0 x1 x2 r2 _ fun h => den_two _ x0 x1 x2 win768 r2 k2 (by decide) h fun r g h1 h2 h3 ha => by
        simp only [Att, Fin.val_zero] at ha; omega).append
      ((holdsL _ x0 x1 x2 r1 _ fun h => den_two _ x0 x1 x2 win768 r1 k1 (by decide) h fun r g h1 h2 h3 ha => by
        simp only [Att, Fin.val_zero] at ha; omega).append hf))
  · split
    · next h1 =>
      subst h1
      exact (holdsL _ x0 x1 x2 r3 _ fun h => den_one _ x0 x1 x2 win128 r3 kS h fun r g h1 h2 h3 ha => by
        have e : ((1 : Dev nD) : ℕ) = 1 := rfl
        rw [e] at ha
        simp only [Att] at ha
        omega).append hf
    · exact hf

/-- A row no block covers has no key that counts. -/
theorem uncovered {r : ℕ} (hr : r < 2048) (h0 : ¬ (0 ≤ r ∧ r < 0 + 512)) (h : (c = 0 ∧ ¬ (512 ≤ r ∧ r < 512 + 512) ∧ ¬ (1024 ≤ r ∧ r < 1024 + 512) ∧ ¬ (1536 ≤ r ∧ r < 1536 + 512)) ∨ (c = 1 ∧ ¬ (1536 ≤ r ∧ r < 1536 + 512)) ∨ (c ≠ 0 ∧ c ≠ 1)) :
    ∀ g : ℕ, g < 2048 → ¬ Att r (c.val * 2048 + g) := by
  intro g hg ha
  have e : c ≠ 0 → c ≠ 1 → 2 ≤ c.val := (by decide : ∀ c : Dev nD, c ≠ 0 → c ≠ 1 → 2 ≤ c.val) c
  rcases h with ⟨-, h⟩ | ⟨rfl, h⟩ | ⟨h1, h2⟩
  · omega
  · have e1 : ((1 : Dev nD) : ℕ) = 1 := rfl
    rw [e1] at ha
    simp only [Att] at ha
    omega
  · have := e h1 h2
    simp only [Att] at ha
    omega

/-- The first result. -/
theorem outA_eq : outA (F := Ideal) c x0 x1 x2 x3 = resA c x0 x1 x2 x3 := by
  funext y
  refine canon_holds (fun _ => zero_word) (fun y => ?_) (lowA_holds c x0 x1 x2 x3) y fun h => resA_zero c x0 x1 x2 x3 ?_
  · obtain ⟨p, hp, hy⟩ := coverA (F := Ideal) [] y
    rw [List.nil_append, List.mem_singleton] at hp
    exact hp ▸ hy
  · unfold lowA at h
    split at h
    · next h0 =>
      have := coversA r0 _ fun p hp => h p (List.mem_append_right _ (List.mem_append_right _ (List.mem_append_right _ hp)))
      exact uncovered c (y 0).isLt this (.inl ⟨h0, coversA r1 _ fun p hp => h p (List.mem_append_right _ (List.mem_append_right _ (List.mem_append_left _ hp))),
        coversA r2 _ fun p hp => h p (List.mem_append_right _ (List.mem_append_left _ hp)), coversA r3 _ fun p hp => h p (List.mem_append_left _ hp)⟩)
    · next h0 =>
      split at h
      · next h1 =>
        exact uncovered c (y 0).isLt (coversA r0 _ fun p hp => h p (List.mem_append_right _ hp)) (.inr (.inl ⟨h1, coversA r3 _ fun p hp => h p (List.mem_append_left _ hp)⟩))
      · next h1 => exact uncovered c (y 0).isLt (coversA r0 _ h) (.inr (.inr ⟨h0, h1⟩))

/-- The second result. -/
theorem outL_eq : outL (F := Ideal) c x0 x1 x2 = resL c x0 x1 x2 := by
  funext y
  refine canon_holds (fun _ => zero_word) (fun y => ?_) (lowL_holds c x0 x1 x2) y fun h => resL_zero c x0 x1 x2 ?_
  · obtain ⟨p, hp, hy⟩ := coverL (F := Ideal) [] y
    rw [List.nil_append, List.mem_singleton] at hp
    exact hp ▸ hy
  · unfold lowL at h
    split at h
    · next h0 =>
      have := coversL r0 _ fun p hp => h p (List.mem_append_right _ (List.mem_append_right _ (List.mem_append_right _ hp)))
      exact uncovered c (y 0).isLt this (.inl ⟨h0, coversL r1 _ fun p hp => h p (List.mem_append_right _ (List.mem_append_right _ (List.mem_append_left _ hp))),
        coversL r2 _ fun p hp => h p (List.mem_append_right _ (List.mem_append_left _ hp)), coversL r3 _ fun p hp => h p (List.mem_append_left _ hp)⟩)
    · next h0 =>
      split at h
      · next h1 =>
        exact uncovered c (y 0).isLt (coversL r0 _ fun p hp => h p (List.mem_append_right _ hp)) (.inr (.inl ⟨h1, coversL r3 _ fun p hp => h p (List.mem_append_left _ hp)⟩))
      · next h1 => exact uncovered c (y 0).isLt (coversL r0 _ h) (.inr (.inr ⟨h0, h1⟩))

end Results

end Cert.PartialIdeal.Part

end
-- ==== Proof.PRef.lean ====
/-
  The run of the first call's reference on its one device: its two results as functions of its four arguments.
-/
module

public import Idealize.ShloMosaic.Lib.StableHlo.Run
public import Idealize.ShloMosaic.Lib.Pipeline.Value
public import Idealize.ShloMosaic.Lib.Pointwise.Reduce
public import Idealize.ShloMosaic.Lib.ValueIdx
public import Idealize.ShloMosaic.PureOps.Ideal
public import proofs.«01_k».proof.Proof.Gen.PartialReferenceIdeal

@[expose] public section

noncomputable section

namespace Cert.PartialReferenceIdeal.Part

open Cert.PartialReferenceIdeal Cert.PartialReferenceIdeal.Gen
open Idealize.ShloMosaic Idealize.ShloMosaic.TcCoe Idealize.ShloMosaic.StableHlo Idealize.SL.Sem

variable {F : FTy → Type} [FloatOps F]

/-- Every head's queries. -/
abbrev qry (x : FVec F S1x2048x1024 .f32) (w : FVec F S1024x1024 .f32) : FVec F S2048x8x128 .f32 :=
  shapeCast S2048x8x128 (Host.dotGeneral dot_S1x2048x1024_S1024x1024_S1x2048x1024_2_0_01_1_n_n none x w) shapeCasts_S1x2048x1024_S2048x8x128

/-- The rows' numbers and the keys'. -/
abbrev rowN : IVec S2048x1 32 := broadcastInDim S2048x1 ![0] bcast_S2048_S2048x1_0 (iotaInDim S2048 32 0)
abbrev keyN : IVec S1x16384 32 := broadcastInDim S1x16384 ![1] bcast_S16384_S1x16384_1 (iotaInDim S16384 32 0)

/-- Which keys a row attends to. -/
abbrev mask2 : IVec S2048x16384 1 :=
  ori (ori (cmpi .sle (absi (subi (broadcastInDim S2048x16384 ![0, 1] bcast_S2048x1_S2048x16384_0_1 rowN) (broadcastInDim S2048x16384 ![0, 1] bcast_S1x16384_S2048x16384_0_1 keyN)))
        (broadcastInDim S2048x16384 ![] bcast_S_S2048x16384 (constantI S_ 32 128#32)))
      (broadcastInDim S2048x16384 ![0, 1] bcast_S1x16384_S2048x16384_0_1 (cmpi .slt keyN (broadcastInDim S1x16384 ![] bcast_S_S1x16384 (constantI S_ 32 32#32)))))
    (broadcastInDim S2048x16384 ![0, 1] bcast_S2048x1_S2048x16384_0_1 (cmpi .slt rowN (broadcastInDim S2048x1 ![] bcast_S_S2048x1 (constantI S_ 32 32#32))))

/-- The same over every head, the keys by their parts. -/
abbrev mask4 : IVec S8x2048x8x2048 1 :=
  broadcastInDim S8x2048x8x2048 ![0, 1, 2, 3] bcast_S1x2048x8x2048_S8x2048x8x2048_0_1_2_3
    (broadcastInDim S1x2048x8x2048 ![1, 2, 3] bcast_S2048x8x2048_S1x2048x8x2048_1_2_3 (shapeCast S2048x8x2048 mask2 shapeCasts_S2048x16384_S2048x8x2048))

/-- The weights. -/
def wgt (x : FVec F S1x2048x1024 .f32) (w : FVec F S1024x1024 .f32) (k : FVec F S1x16384x8x128 .f32) : FVec F S8x2048x8x2048 .f32 :=
  select mask4
    (Host.exp (mulf (Host.dotGeneral dot_S2048x8x128_S8x2048x8x128_S8x2048x8x2048_2_3_0_01_1_2 none (qry x w) (shapeCast S8x2048x8x128 k shapeCasts_S1x16384x8x128_S8x2048x8x128))
      (broadcastInDim S8x2048x8x2048 ![] bcast_S_S8x2048x8x2048 (constant S_ .f32 0x3DB504F3#32))))
    (broadcastInDim S8x2048x8x2048 ![] bcast_S_S8x2048x8x2048 (constant S_ .f32 0x00000000#32))

/-- The weighted values, part by part. -/
def outN (x : FVec F S1x2048x1024 .f32) (w : FVec F S1024x1024 .f32) (k v : FVec F S1x16384x8x128 .f32) : FVec F S16384x1024 .f32 :=
  shapeCast S16384x1024
    (transpose S8x2048x8x128 [0, 3, 1, 2]
      (Host.dotGeneral dot_S8x2048x8x128_S8x2048x8x2048_S8x8x128x2048_1_3_3_1_02_20 none (shapeCast S8x2048x8x128 v shapeCasts_S1x16384x8x128_S8x2048x8x128) (wgt x w k))
      transposes_S8x8x128x2048_S8x2048x8x128_0_3_1_2)
    shapeCasts_S8x2048x8x128_S16384x1024

/-- The weights' sums, part by part. -/
def outD (x : FVec F S1x2048x1024 .f32) (w : FVec F S1024x1024 .f32) (k : FVec F S1x16384x8x128 .f32) : FVec F S16384x8 .f32 :=
  shapeCast S16384x8
    (transpose S8x2048x8 [2, 1, 0] (Host.reduceAdd (wgt x w k) (constant S_ .f32 0x00000000#32) reducesTo_S8x2048x8x2048_S8x2048x8_d3 h_S_) transposes_S8x2048x8_S8x2048x8_2_1_0)
    shapeCasts_S8x2048x8_S16384x8

/-- The program's operations, in order. -/
abbrev ops : List (HloOp τ sig (Elt F)) :=
  [ binary main_arg0 main_arg1 main_v0 ((fun l r => Host.dotGeneral dot_S1x2048x1024_S1024x1024_S1x2048x1024_2_0_01_1_n_n none l r) : (⟨S1x2048x1024, .f32⟩ : BufTy).Contents (Elt F) → (⟨S1024x1024, .f32⟩ : BufTy).Contents (Elt F) → (⟨S1x2048x1024, .f32⟩ : BufTy).Contents (Elt F)),
    reshape main_v0 main_v1 (rfl : (.f32 : EltTy) = .f32) shapeCasts_S1x2048x1024_S2048x8x128,
    reshape main_arg2 main_v2 (rfl : (.f32 : EltTy) = .f32) shapeCasts_S1x16384x8x128_S8x2048x8x128,
    reshape main_arg3 main_v3 (rfl : (.f32 : EltTy) = .f32) shapeCasts_S1x16384x8x128_S8x2048x8x128,
    nullary main_v4 (iotaInDim S2048 32 0),
    unary main_v4 main_v5 (broadcastInDim S2048x1 ![0] bcast_S2048_S2048x1_0 : (⟨S2048, .i32⟩ : BufTy).Contents (Elt F) → (⟨S2048x1, .i32⟩ : BufTy).Contents (Elt F)),
    nullary main_v6 (iotaInDim S16384 32 0),
    unary main_v6 main_v7 (broadcastInDim S1x16384 ![1] bcast_S16384_S1x16384_1 : (⟨S16384, .i32⟩ : BufTy).Contents (Elt F) → (⟨S1x16384, .i32⟩ : BufTy).Contents (Elt F)),
    unary main_v5 main_v8 (broadcastInDim S2048x16384 ![0, 1] bcast_S2048x1_S2048x16384_0_1 : (⟨S2048x1, .i32⟩ : BufTy).Contents (Elt F) → (⟨S2048x16384, .i32⟩ : BufTy).Contents (Elt F)),
    unary main_v7 main_v9 (broadcastInDim S2048x16384 ![0, 1] bcast_S1x16384_S2048x16384_0_1 : (⟨S1x16384, .i32⟩ : BufTy).Contents (Elt F) → (⟨S2048x16384, .i32⟩ : BufTy).Contents (Elt F)),
    binary main_v8 main_v9 main_v10 (subi : (⟨S2048x16384, .i32⟩ : BufTy).Contents (Elt F) → (⟨S2048x16384, .i32⟩ : BufTy).Contents (Elt F) → (⟨S2048x16384, .i32⟩ : BufTy).Contents (Elt F)),
    unary main_v10 main_v11 (absi : (⟨S2048x16384, .i32⟩ : BufTy).Contents (Elt F) → (⟨S2048x16384, .i32⟩ : BufTy).Contents (Elt F)),
    nullary main_c (constantI S_ 32 128#32),
    unary main_c main_v12 (broadcastInDim S2048x16384 ![] bcast_S_S2048x16384 : (⟨S_, .i32⟩ : BufTy).Contents (Elt F) → (⟨S2048x16384, .i32⟩ : BufTy).Contents (Elt F)),
    binary main_v11 main_v12 main_v13 (cmpi .sle : (⟨S2048x16384, .i32⟩ : BufTy).Contents (Elt F) → (⟨S2048x16384, .i32⟩ : BufTy).Contents (Elt F) → (⟨S2048x16384, .i1⟩ : BufTy).Contents (Elt F)),
    nullary main_c_0 (constantI S_ 32 32#32),
    unary main_c_0 main_v14 (broadcastInDim S1x16384 ![] bcast_S_S1x16384 : (⟨S_, .i32⟩ : BufTy).Contents (Elt F) → (⟨S1x16384, .i32⟩ : BufTy).Contents (Elt F)),
    binary main_v7 main_v14 main_v15 (cmpi .slt : (⟨S1x16384, .i32⟩ : BufTy).Contents (Elt F) → (⟨S1x16384, .i32⟩ : BufTy).Contents (Elt F) → (⟨S1x16384, .i1⟩ : BufTy).Contents (Elt F)),
    unary main_v15 main_v16 (broadcastInDim S2048x16384 ![0, 1] bcast_S1x16384_S2048x16384_0_1 : (⟨S1x16384, .i1⟩ : BufTy).Contents (Elt F) → (⟨S2048x16384, .i1⟩ : BufTy).Contents (Elt F)),
    binary main_v13 main_v16 main_v17 (ori : (⟨S2048x16384, .i1⟩ : BufTy).Contents (Elt F) → (⟨S2048x16384, .i1⟩ : BufTy).Contents (Elt F) → (⟨S2048x16384, .i1⟩ : BufTy).Contents (Elt F)),
    nullary main_c_1 (constantI S_ 32 32#32),
    unary main_c_1 main_v18 (broadcastInDim S2048x1 ![] bcast_S_S2048x1 : (⟨S_, .i32⟩ : BufTy).Contents (Elt F) → (⟨S2048x1, .i32⟩ : BufTy).Contents (Elt F)),
    binary main_v5 main_v18 main_v19 (cmpi .slt : (⟨S2048x1, .i32⟩ : BufTy).Contents (Elt F) → (⟨S2048x1, .i32⟩ : BufTy).Contents (Elt F) → (⟨S2048x1, .i1⟩ : BufTy).Contents (Elt F)),
    unary main_v19 main_v20 (broadcastInDim S2048x16384 ![0, 1] bcast_S2048x1_S2048x16384_0_1 : (⟨S2048x1, .i1⟩ : BufTy).Contents (Elt F) → (⟨S2048x16384, .i1⟩ : BufTy).Contents (Elt F)),
    binary main_v17 main_v20 main_v21 (ori : (⟨S2048x16384, .i1⟩ : BufTy).Contents (Elt F) → (⟨S2048x16384, .i1⟩ : BufTy).Contents (Elt F) → (⟨S2048x16384, .i1⟩ : BufTy).Contents (Elt F)),
    reshape main_v21 main_v22 (rfl : (.i1 : EltTy) = .i1) shapeCasts_S2048x16384_S2048x8x2048,
    binary main_v1 main_v2 main_v23 ((fun l r => Host.dotGeneral dot_S2048x8x128_S8x2048x8x128_S8x2048x8x2048_2_3_0_01_1_2 none l r) : (⟨S2048x8x128, .f32⟩ : BufTy).Contents (Elt F) → (⟨S8x2048x8x128, .f32⟩ : BufTy).Contents (Elt F) → (⟨S8x2048x8x2048, .f32⟩ : BufTy).Contents (Elt F)),
    nullary main_cst (constant S_ .f32 0x3DB504F3#32),
    unary main_cst main_v24 (broadcastInDim S8x2048x8x2048 ![] bcast_S_S8x2048x8x2048 : (⟨S_, .f32⟩ : BufTy).Contents (Elt F) → (⟨S8x2048x8x2048, .f32⟩ : BufTy).Contents (Elt F)),
    binary main_v23 main_v24 main_v25 (mulf : (⟨S8x2048x8x2048, .f32⟩ : BufTy).Contents (Elt F) → (⟨S8x2048x8x2048, .f32⟩ : BufTy).Contents (Elt F) → (⟨S8x2048x8x2048, .f32⟩ : BufTy).Contents (Elt F)),
    unary main_v22 main_v26 (broadcastInDim S1x2048x8x2048 ![1, 2, 3] bcast_S2048x8x2048_S1x2048x8x2048_1_2_3 : (⟨S2048x8x2048, .i1⟩ : BufTy).Contents (Elt F) → (⟨S1x2048x8x2048, .i1⟩ : BufTy).Contents (Elt F)),
    unary main_v25 main_v27 (Host.exp : (⟨S8x2048x8x2048, .f32⟩ : BufTy).Contents (Elt F) → (⟨S8x2048x8x2048, .f32⟩ : BufTy).Contents (Elt F)),
    nullary main_cst_2 (constant S_ .f32 0x00000000#32),
    TRef.unary (.of main_cst_2) main_call0.v0 id,
    TRef.unary (.of main_v26 : TRef sig ⟨S1x2048x8x2048, .i1⟩) main_call0.v1 (broadcastInDim S8x2048x8x2048 ![0, 1, 2, 3] bcast_S1x2048x8x2048_S8x2048x8x2048_0_1_2_3),
    TRef.unary main_call0.v0 main_call0.v2 (broadcastInDim S8x2048x8x2048 ![] bcast_S_S8x2048x8x2048),
    TRef.ternary main_call0.v1 (.of main_v27) main_call0.v2 main_call0.v3 select,
    binary main_v3 main_v28 main_v29 ((fun l r => Host.dotGeneral dot_S8x2048x8x128_S8x2048x8x2048_S8x8x128x2048_1_3_3_1_02_20 none l r) : (⟨S8x2048x8x128, .f32⟩ : BufTy).Contents (Elt F) → (⟨S8x2048x8x2048, .f32⟩ : BufTy).Contents (Elt F) → (⟨S8x8x128x2048, .f32⟩ : BufTy).Contents (Elt F)),
    unary main_v29 main_v30 ((transpose S8x2048x8x128 [0, 3, 1, 2] · transposes_S8x8x128x2048_S8x2048x8x128_0_3_1_2) : (⟨S8x8x128x2048, .f32⟩ : BufTy).Contents (Elt F) → (⟨S8x2048x8x128, .f32⟩ : BufTy).Contents (Elt F)),
    reshape main_v30 main_v31 (rfl : (.f32 : EltTy) = .f32) shapeCasts_S8x2048x8x128_S16384x1024,
    nullary main_cst_3 (constant S_ .f32 0x00000000#32),
    binary main_v28 main_cst_3 main_v32 ((fun x v => Host.reduceAdd x v reducesTo_S8x2048x8x2048_S8x2048x8_d3 h_S_) : (⟨S8x2048x8x2048, .f32⟩ : BufTy).Contents (Elt F) → (⟨S_, .f32⟩ : BufTy).Contents (Elt F) → (⟨S8x2048x8, .f32⟩ : BufTy).Contents (Elt F)),
    unary main_v32 main_v33 ((transpose S8x2048x8 [2, 1, 0] · transposes_S8x2048x8_S8x2048x8_2_1_0) : (⟨S8x2048x8, .f32⟩ : BufTy).Contents (Elt F) → (⟨S8x2048x8, .f32⟩ : BufTy).Contents (Elt F)),
    reshape main_v33 main_v34 (rfl : (.f32 : EltTy) = .f32) shapeCasts_S8x2048x8_S16384x8 ]

/-- The program is that straight line. -/
theorem main_eq (c : Dev nD) : main (F := F) c = seq ops := by
  simp only [main, fn_where.body, seq, bind_assoc, pure_bind]

theorem outN_eq (V : Valuation τ sig (Elt F)) :
    after ops V (main_v31 : DevRef τ sig) = outN (V (main_arg0 : DevRef τ sig)) (V (main_arg1 : DevRef τ sig)) (V (main_arg2 : DevRef τ sig)) (V (main_arg3 : DevRef τ sig)) := by
  after_results_simp
  rfl

theorem outD_eq (V : Valuation τ sig (Elt F)) :
    after ops V (main_v34 : DevRef τ sig) = outD (V (main_arg0 : DevRef τ sig)) (V (main_arg1 : DevRef τ sig)) (V (main_arg2 : DevRef τ sig)) := by
  after_results_simp
  rfl

theorem arg0_eq (V : Valuation τ sig (Elt F)) : after ops V (main_arg0 : DevRef τ sig) = V (main_arg0 : DevRef τ sig) := by
  simp only [after_cons, after_nil]
  rfl

theorem arg1_eq (V : Valuation τ sig (Elt F)) : after ops V (main_arg1 : DevRef τ sig) = V (main_arg1 : DevRef τ sig) := by
  simp only [after_cons, after_nil]
  rfl

theorem arg2_eq (V : Valuation τ sig (Elt F)) : after ops V (main_arg2 : DevRef τ sig) = V (main_arg2 : DevRef τ sig) := by
  simp only [after_cons, after_nil]
  rfl

theorem arg3_eq (V : Valuation τ sig (Elt F)) : after ops V (main_arg3 : DevRef τ sig) = V (main_arg3 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., reshape_bufs_sub .., reshape_bufs_sub .., reshape_bufs_sub .., nullary_bufs_sub .., unary_bufs_sub .., nullary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., reshape_bufs_sub .., binary_bufs_sub .., nullary_bufs_sub .., unary_bufs_sub .., binary_bufs_sub .., unary_bufs_sub .., unary_bufs_sub .., nullary_bufs_sub .., unary_bufs_sub .., unary_bufs_sub .., unary_bufs_sub .., ternary_bufs_sub .., binary_bufs_sub .., unary_bufs_sub .., reshape_bufs_sub .., nullary_bufs_sub .., binary_bufs_sub .., unary_bufs_sub .., reshape_bufs_sub ..⟩

/-- On its one device, from any memory with zero counters, every run ends with the two results' buffers at `outN` and `outD`
    of the arguments and the arguments as they were. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31) = outN (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v34) = outD (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run defs _ _).mono (fun _ h c => ⟨(h c main_v31).trans (outN_eq _), (h c main_v34).trans (outD_eq _), (h c main_arg0).trans (arg0_eq _), (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.PartialReferenceIdeal.Part

end
-- ==== Proof.PRefVal.lean ====
/-
  The two results of the first call's reference, read at an index at the ideal values: row r of part c is the sum over
  the keys of part c.
-/
module

public import proofs.«01_k».proof.Proof.PRef
public import proofs.«01_k».proof.Proof.PSpec
public import Idealize.ShloMosaic.Lib.Pointwise.Contract
public import Idealize.ShloMosaic.Lib.Layout

@[expose] public section

noncomputable section

namespace Cert.PartialReferenceIdeal.Part

open Cert.PartialReferenceIdeal Cert.PartialReferenceIdeal.Gen
open Idealize.ShloMosaic Idealize.ShloMosaic.TcCoe
open Cert.Part

/-- Row r of part c. -/
abbrev whole (c : Fin 8) (r : Fin 2048) : Fin 16384 := ⟨c.val * 2048 + r.val, by have := c.isLt; have := r.isLt; omega⟩

/-- Part c of the keys, or of the values. -/
def part (k : S1x16384x8x128.Idx → EReal) (c : Fin 8) : (⟨4, ![1, 2048, 8, 128]⟩ : Shape).Idx → EReal := fun y => k (ix4 0 (whole c (y 1)) (y 2) (y 3))

variable (x : S1x2048x1024.Idx → EReal) (w : S1024x1024.Idx → EReal) (k v : S1x16384x8x128.Idx → EReal)

theorem parts_apply (c : Fin 8) (j : Fin 2048) (h : Fin 8) (d : Fin 128) :
    shapeCast S8x2048x8x128 k shapeCasts_S1x16384x8x128_S8x2048x8x128 (ix4 c j h d) = part k c (ix4 0 j h d) :=
  shapeCast_apply k shapeCasts_S1x16384x8x128_S8x2048x8x128 _ _ (by
    rw [Shape.rowMajor_val_four, Shape.rowMajor_val_four]
    show ((0 * 16384 + (c.val * 2048 + j.val)) * 8 + h.val) * 128 + d.val = ((c.val * 2048 + j.val) * 8 + h.val) * 128 + d.val
    omega)

theorem qry_apply (i : Fin 2048) (h : Fin 8) (d : Fin 128) : qry (F := Ideal) x w (ix3 i h d) = qS x w i h d := by
  unfold qry qS
  rw [shapeCast_apply _ shapeCasts_S1x2048x1024_S2048x8x128 (ix3 i h d) (ix3 (0 : Fin 1) i (col h d)) (by
    rw [Shape.rowMajor_val_three, Shape.rowMajor_val_three]
    show (0 * 2048 + i.val) * 1024 + (h.val * 128 + d.val) = (i.val * 8 + h.val) * 128 + d.val
    omega)]
  refine (Ideal.matmul_apply₁_of dot_S1x2048x1024_S1024x1024_S1x2048x1024_2_0_01_1_n_n (a := 2) (K := 1024) rfl rfl x w (fun _ => 0) _
    (fun e => ix3 0 i e) (fun e => ix2 e (col h d)) ?_ ?_).trans (zero_add _)
  · intro e
    funext a
    match a with
    | ⟨0, _⟩ => rfl
    | ⟨1, _⟩ => rfl
    | ⟨2, _⟩ => rfl
  · intro e
    funext a
    match a with
    | ⟨0, _⟩ => rfl
    | ⟨1, _⟩ => rfl

theorem mask2_apply (i : Fin 2048) (g : Fin 16384) : mask2 (ix2 i g) = if Att i.val g.val then 1#1 else 0#1 :=
  (by rfl : mask2 (ix2 i g) = _).trans (bits (by have := i.isLt; omega) (by have := g.isLt; omega))

theorem mask4_apply (h : Fin 8) (i : Fin 2048) (c : Fin 8) (j : Fin 2048) : mask4 (ix4 h i c j) = if Att i.val (c.val * 2048 + j.val) then 1#1 else 0#1 := by
  unfold mask4
  rw [broadcastInDim_apply _ bcast_S1x2048x8x2048_S8x2048x8x2048_0_1_2_3 _ _ (ix4 (0 : Fin 1) i c j) (by
      intro a
      match a with
      | ⟨0, _⟩ => rfl
      | ⟨1, _⟩ => rfl
      | ⟨2, _⟩ => rfl
      | ⟨3, _⟩ => rfl),
    broadcastInDim_apply _ bcast_S2048x8x2048_S1x2048x8x2048_1_2_3 _ _ (ix3 i c j) (by
      intro a
      match a with
      | ⟨0, _⟩ => rfl
      | ⟨1, _⟩ => rfl
      | ⟨2, _⟩ => rfl),
    shapeCast_apply _ shapeCasts_S2048x16384_S2048x8x2048 (ix3 i c j) (ix2 i (whole c j)) (by
      rw [Shape.rowMajor_val_two, Shape.rowMajor_val_three]
      show i.val * 16384 + (c.val * 2048 + j.val) = (i.val * 8 + c.val) * 2048 + j.val
      omega)]
  exact mask2_apply i (whole c j)

theorem score_apply (h : Fin 8) (i : Fin 2048) (c : Fin 8) (j : Fin 2048) :
    Host.dotGeneral (F := Ideal) (φ₁ := .f32) (φ₂ := .f32) dot_S2048x8x128_S8x2048x8x128_S8x2048x8x2048_2_3_0_01_1_2 none (qry (F := Ideal) x w) (shapeCast S8x2048x8x128 k shapeCasts_S1x16384x8x128_S8x2048x8x128) (ix4 h i c j)
      = sS x w (part k c) i h j := by
  refine (Ideal.matmul_apply₁_of dot_S2048x8x128_S8x2048x8x128_S8x2048x8x2048_2_3_0_01_1_2 (a := 2) (K := 128) rfl rfl _ _ (fun _ => 0) _
    (fun d => ix3 i h d) (fun d => ix4 c j h d) ?_ ?_).trans ((zero_add _).trans ?_)
  · intro e
    funext a
    match a with
    | ⟨0, _⟩ => rfl
    | ⟨1, _⟩ => rfl
    | ⟨2, _⟩ => rfl
  · intro e
    funext a
    match a with
    | ⟨0, _⟩ => rfl
    | ⟨1, _⟩ => rfl
    | ⟨2, _⟩ => rfl
    | ⟨3, _⟩ => rfl
  · exact Finset.sum_congr rfl fun d _ => congrArg₂ (· * ·) (qry_apply x w i h d) (parts_apply k c j h d)

theorem weights_apply {s : Shape} (M : IVec s 1) (S : FVec Ideal s .f32) {b : S_.BroadcastsInDim s (![] : Fin 0 → Fin s.rank)} (a z : BitVec 32) (i : s.Idx) :
    select M (Host.exp (mulf S (broadcastInDim s ![] b (constant S_ .f32 a)))) (broadcastInDim s ![] b (constant S_ .f32 z)) i
      = if M i = 1#1 then Ideal.exp (S i * Ideal.ofBits .f32 a) else Ideal.ofBits .f32 z := rfl

theorem wgt_apply (h : Fin 8) (i : Fin 2048) (c : Fin 8) (j : Fin 2048) : wgt (F := Ideal) x w k (ix4 h i c j) = wS x w (part k c) c.val i h j := by
  unfold wgt wS
  refine (weights_apply _ _ _ _ _).trans ?_
  rw [mask4_apply, score_apply, Ideal.ofBits_zero_f32]
  by_cases ha : Att i.val (c.val * 2048 + j.val)
  · rw [if_pos ha, if_pos rfl, if_pos ha]
  · rw [if_neg ha, if_neg (by decide), if_neg ha]

/-- The first result at row r of part c. -/
theorem outN_apply (c : Fin 8) (r : Fin 2048) (h : Fin 8) (d : Fin 128) :
    outN (F := Ideal) x w k v (ix2 (whole c r) (col h d)) = nS x w (part k c) (part v c) c.val r h d := by
  unfold outN nS
  rw [shapeCast_apply _ shapeCasts_S8x2048x8x128_S16384x1024 (ix2 (whole c r) (col h d)) (ix4 c r h d) (by
      rw [Shape.rowMajor_val_two, Shape.rowMajor_val_four]
      show ((c.val * 2048 + r.val) * 8 + h.val) * 128 + d.val = (c.val * 2048 + r.val) * 1024 + (h.val * 128 + d.val)
      omega),
    transpose_apply _ _ transposes_S8x8x128x2048_S8x2048x8x128_0_3_1_2 (ix4 c r h d) (ix4 c h d r) (by
      intro a
      match a with
      | ⟨0, _⟩ => rfl
      | ⟨1, _⟩ => rfl
      | ⟨2, _⟩ => rfl
      | ⟨3, _⟩ => rfl)]
  refine (Ideal.matmul_apply₁_of dot_S8x2048x8x128_S8x2048x8x2048_S8x8x128x2048_1_3_3_1_02_20 (a := 1) (K := 2048) rfl rfl _ _ (fun _ => 0) _
    (fun j => ix4 c j h d) (fun j => ix4 h r c j) ?_ ?_).trans ((zero_add _).trans ?_)
  · intro e
    funext a
    match a with
    | ⟨0, _⟩ => rfl
    | ⟨1, _⟩ => rfl
    | ⟨2, _⟩ => rfl
    | ⟨3, _⟩ => rfl
  · intro e
    funext a
    match a with
    | ⟨0, _⟩ => rfl
    | ⟨1, _⟩ => rfl
    | ⟨2, _⟩ => rfl
    | ⟨3, _⟩ => rfl
  · exact Finset.sum_congr rfl fun j _ => (congrArg₂ (· * ·) (parts_apply v c j h d) (wgt_apply x w k h r c j)).trans (mul_comm _ _)

/-- The second result at row r of part c. -/
theorem outD_apply (c : Fin 8) (r : Fin 2048) (h : Fin 8) : outD (F := Ideal) x w k (ix2 (whole c r) h) = dS x w (part k c) c.val r h := by
  unfold outD dS
  rw [shapeCast_apply _ shapeCasts_S8x2048x8_S16384x8 (ix2 (whole c r) h) (ix3 c r h) (by
      rw [Shape.rowMajor_val_two, Shape.rowMajor_val_three]
      rfl),
    transpose_apply _ _ transposes_S8x2048x8_S8x2048x8_2_1_0 (ix3 c r h) (ix3 h r c) (by
      intro a
      match a with
      | ⟨0, _⟩ => rfl
      | ⟨1, _⟩ => rfl
      | ⟨2, _⟩ => rfl), Host.reduceAdd_apply]
  show Ideal.hostReduceAdd reducesTo_S8x2048x8x2048_S8x2048x8_d3 _ (Ideal.ofBits .f32 0x00000000#32) (ix3 h r c) = _
  rw [Ideal.hostReduceAdd_r4_a3, Ideal.ofBits_zero_f32, zero_add]
  exact Finset.sum_congr rfl fun j _ => wgt_apply x w k h r c j

/-! ## The devices' blocks -/

/-- A device's keys, or values, are its part of the whole. -/
theorem block_part {t : Layout.Tiles ⟨4, ![1, 2048, 8, 128]⟩ ⟨4, ![1, 16384, 8, 128]⟩ 1 8} (c : Fin 8) :
    Layout.block ⟨4, ![1, 2048, 8, 128]⟩ ⟨4, ![1, 16384, 8, 128]⟩ 1 8 c k t = part k c := by
  funext y
  refine congrArg k (funext fun a => Fin.ext ?_)
  match a with
  | ⟨0, _⟩ => exact Nat.lt_one_iff.1 (y 0).isLt
  | ⟨1, _⟩ => rfl
  | ⟨2, _⟩ => rfl
  | ⟨3, _⟩ => rfl

theorem block_rows {n : ℕ} {t : Layout.Tiles ⟨2, ![2048, n]⟩ ⟨2, ![16384, n]⟩ 0 8} (a : (⟨2, ![16384, n]⟩ : Shape).Idx → EReal) (c : Fin 8) (r : Fin 2048) (j : Fin n) :
    Layout.block ⟨2, ![2048, n]⟩ ⟨2, ![16384, n]⟩ 0 8 c a t (ix2 r j) = a (ix2 (whole c r) j) := by
  refine congrArg a (funext fun b => ?_)
  match b with
  | ⟨0, _⟩ => exact Fin.ext (Layout.idx_rows_val t c (ix2 r j)).1
  | ⟨1, _⟩ => exact Fin.ext (Layout.idx_rows_val t c (ix2 r j)).2

/-- A device's block of the first result, -/
theorem block_outN {t : Layout.Tiles ⟨2, ![2048, 1024]⟩ ⟨2, ![16384, 1024]⟩ 0 8} (c : Fin 8) (r : Fin 2048) (j : Fin 1024) :
    Layout.block ⟨2, ![2048, 1024]⟩ ⟨2, ![16384, 1024]⟩ 0 8 c (outN (F := Ideal) x w k v) t (ix2 r j)
      = nS x w (part k c) (part v c) c.val r ⟨j.val / 128, by have := j.isLt; omega⟩ ⟨j.val % 128, Nat.mod_lt _ (by decide)⟩ := by
  refine (block_rows _ c r j).trans (Eq.trans ?_ (outN_apply x w k v c r _ _))
  exact congrArg (fun q => outN (F := Ideal) x w k v (ix2 (whole c r) q)) (Fin.ext (by show j.val = j.val / 128 * 128 + j.val % 128; omega))

/-- and of the second. -/
theorem block_outD {t : Layout.Tiles ⟨2, ![2048, 8]⟩ ⟨2, ![16384, 8]⟩ 0 8} (c : Fin 8) (r : Fin 2048) (h : Fin 8) :
    Layout.block ⟨2, ![2048, 8]⟩ ⟨2, ![16384, 8]⟩ 0 8 c (outD (F := Ideal) x w k) t (ix2 r h) = dS x w (part k c) c.val r h :=
  (block_rows _ c r h).trans (outD_apply x w k c r h)

end Cert.PartialReferenceIdeal.Part

end
-- ==== Proof.lean ====
/-
  The claims of this certificate, proved for each of the two calls from the kernel's run (Proof/Launch.lean,
  Proof/PLaunch.lean), the reference's run (Proof/Ref.lean, Proof/PRef.lean) and the equality of the two results
  (Proof/Value.lean; Proof/PVal.lean and Proof/PRefVal.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Partial
public import proofs.«01_k».proof.Proof.Gen.PartialIdeal
public import proofs.«01_k».proof.Proof.Gen.PartialIdeal.Skeleton
public import proofs.«01_k».proof.Proof.Gen.PartialIdeal.Launch
public import proofs.«01_k».proof.Proof.Gen.PartialIdeal.Points
public import proofs.«01_k».proof.Proof.Gen.PartialReferenceIdeal
public import proofs.«01_k».proof.Proof.Launch
public import proofs.«01_k».proof.Proof.Ref
public import proofs.«01_k».proof.Proof.Value
public import proofs.«01_k».proof.Proof.PVal
public import proofs.«01_k».proof.Proof.PRefVal

@[expose] public section

noncomputable section

namespace Cert.Proof

open Idealize.ShloMosaic Idealize.SL.Sem

/-- The two prints of the kernel have the same body table: they differ in name alone. -/
theorem defs₀_eq {F : FTy → Type} [FloatOps F] : Cert.Kernel.defs₀ (F := F) = Cert.KernelIdeal.defs₀ (F := F) := by
  funext p l a
  cases p with
  | tc =>
    match l, a with
    | ⟨0, _⟩, (t, s) => rfl
  | _ => rfl

/-- And so have the two programs. -/
theorem defs_eq {F : FTy → Type} [FloatOps F] : Cert.Kernel.defs (F := F) = Cert.KernelIdeal.defs (F := F) :=
  congrArg (Pipeline.defs Cert.KernelIdeal.pcfgs) defs₀_eq

/-- The generic run at the machine's own numbers. -/
theorem frame_bits (m : (ℓ : Loc Cert.KernelIdeal.nD Cert.KernelIdeal.τ Cert.KernelIdeal.sig) → Buf (Elt Bits) ℓ) (ρ : Dev Cert.KernelIdeal.nD → PrngReg) :
    θ_run Cert.KernelIdeal.defs (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => ⟨(h.1 c).1, (h.1 c).2.1, (h.1 c).2.2.1⟩, h.2⟩)
    (Cert.KernelIdeal.Talk.run_main (F := Bits) m ρ)

/-- The kernel runs, its arguments end as they were, and every counter ends at zero: the generic run at the machine's own
    numbers. -/
theorem frame_kernel : Cert.quiescent_Kernel (hKernel := Cert.Kernel.Gen.facts) := fun m ρ _ => by
  have h := frame_bits m ρ
  rw [← defs_eq] at h
  exact h

/-- The same of the kernel read over the extended reals. -/
theorem frame_kernelIdeal : Cert.quiescent_KernelIdeal (hKernelIdeal := Cert.KernelIdeal.Gen.facts) := fun m ρ _ =>
  (θ_run Cert.KernelIdeal.defs _ _).mono (fun _ h => ⟨fun c => ⟨(h.1 c).1, (h.1 c).2.1, (h.1 c).2.2.1⟩, h.2⟩)
    (Cert.KernelIdeal.Talk.run_main (F := Ideal) m ρ)

/-- The reference runs and its arguments end as they were; it has no counters. -/
theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Talk.run_main (F := Ideal) m ρ)

/-- On arguments cut over the devices, every device's result is the reference's result of the whole arguments. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨_, (θ_run Cert.KernelIdeal.defs _ _).mono (fun _ h c => ⟨(h.1 c).2.2.2.trans ?_, (h.1 c).1, (h.1 c).2.1, (h.1 c).2.2.1⟩)
      (Cert.KernelIdeal.Talk.run_main (F := Ideal) m ρ),
    (θ_run Cert.ReferenceIdeal.defs _ _).mono (fun _ h => h 0) (Cert.ReferenceIdeal.Talk.run_main (F := Ideal) m' ρ')⟩
  rw [Cert.KernelIdeal.Talk.finalA_eq, Cert.KernelIdeal.Talk.outV_eq (A := m' (((0 : Dev Cert.ReferenceIdeal.nD).tc : Thread Cert.ReferenceIdeal.nD Cert.ReferenceIdeal.τ).loc Cert.ReferenceIdeal.main_arg0))
      (L := m' (((0 : Dev Cert.ReferenceIdeal.nD).tc : Thread Cert.ReferenceIdeal.nD Cert.ReferenceIdeal.τ).loc Cert.ReferenceIdeal.main_arg1))
      (hA := fun k r j => by rw [Cert.KernelIdeal.Talk.va_eq]; exact (congrFun (hagree k).1 _).trans (Cert.KernelIdeal.Talk.block_row _ k r j))
      (hL := fun k r j => by rw [Cert.KernelIdeal.Talk.vl_eq]; exact (congrFun (hagree k).2.1 _).trans (Cert.KernelIdeal.Talk.block_row _ k r j)),
    Cert.KernelIdeal.Talk.vw_eq]
  exact congrArg _ (hagree c).2.2

/-! ## The first call -/

/-- The two prints of the first call have the same body table: they differ in name alone. -/
theorem partial_defs₀_eq {F : FTy → Type} [FloatOps F] : Cert.Partial.defs₀ (F := F) = Cert.PartialIdeal.defs₀ (F := F) := by
  funext p l a
  cases p with
  | tc =>
    match l, a with
    | ⟨0, _⟩, (t, s) => rfl
  | _ => rfl

/-- And so have the two programs. -/
theorem partial_defs_eq {F : FTy → Type} [FloatOps F] : Cert.Partial.defs (F := F) = Cert.PartialIdeal.defs (F := F) :=
  congrArg (Pipeline.defs Cert.PartialIdeal.pcfgs) partial_defs₀_eq

/-- The generic run's frame. -/
theorem partial_frame {F : FTy → Type} [FloatOps F] (m : (ℓ : Loc Cert.PartialIdeal.nD Cert.PartialIdeal.τ Cert.PartialIdeal.sig) → Buf (Elt F) ℓ) (ρ : Dev Cert.PartialIdeal.nD → PrngReg) :
    θ_run Cert.PartialIdeal.defs (onTc (τ := Cert.PartialIdeal.τ) (Cert.PartialIdeal.main (F := F))) ⟨m, fun _ => 0, ρ⟩ (fun r => (∀ c : Dev Cert.PartialIdeal.nD,
      r.2.mem ((c.tc : Thread Cert.PartialIdeal.nD Cert.PartialIdeal.τ).loc Cert.PartialIdeal.main_arg0) = m ((c.tc : Thread Cert.PartialIdeal.nD Cert.PartialIdeal.τ).loc Cert.PartialIdeal.main_arg0)
      ∧ r.2.mem ((c.tc : Thread Cert.PartialIdeal.nD Cert.PartialIdeal.τ).loc Cert.PartialIdeal.main_arg1) = m ((c.tc : Thread Cert.PartialIdeal.nD Cert.PartialIdeal.τ).loc Cert.PartialIdeal.main_arg1)
      ∧ r.2.mem ((c.tc : Thread Cert.PartialIdeal.nD Cert.PartialIdeal.τ).loc Cert.PartialIdeal.main_arg2) = m ((c.tc : Thread Cert.PartialIdeal.nD Cert.PartialIdeal.τ).loc Cert.PartialIdeal.main_arg2)
      ∧ r.2.mem ((c.tc : Thread Cert.PartialIdeal.nD Cert.PartialIdeal.τ).loc Cert.PartialIdeal.main_arg3) = m ((c.tc : Thread Cert.PartialIdeal.nD Cert.PartialIdeal.τ).loc Cert.PartialIdeal.main_arg3))
      ∧ r.2.sem = fun _ => 0) :=
  (θ_run Cert.PartialIdeal.defs _ _).mono (fun _ h => ⟨fun c => (h.1 c).2.2, h.2⟩) (Cert.PartialIdeal.Part.run_main (F := F) m ρ)

/-- The first call runs, its arguments end as they were, and every counter ends at zero. -/
theorem frame_partial : Cert.quiescent_Partial (hPartial := Cert.Partial.Gen.facts) := fun m ρ _ => by
  have h := partial_frame (F := Bits) m ρ
  rw [← partial_defs_eq] at h
  exact h

/-- The same of it read over the extended reals. -/
theorem frame_partialIdeal : Cert.quiescent_PartialIdeal (hPartialIdeal := Cert.PartialIdeal.Gen.facts) := fun m ρ _ =>
  partial_frame (F := Ideal) m ρ

/-- Its reference runs and its arguments end as they were; it has no counters. -/
theorem frame_partialReference : Cert.quiescent_PartialReferenceIdeal (hPartialReferenceIdeal := Cert.PartialReferenceIdeal.Gen.facts) := fun m ρ _ =>
  (θ_run Cert.PartialReferenceIdeal.defs _ _).mono (fun r h => ⟨fun c => (h c).2.2, Idealize.ShloMosaic.sem_eq_zero_of_no_sems (by decide) r.2⟩)
    (Cert.PartialReferenceIdeal.Part.run_main (F := Ideal) m ρ)

/-- On keys and values cut over the devices, every device's two results are its blocks of the reference's. -/
theorem algebraic_partial : Cert.algebraic_PartialIdeal_PartialReferenceIdeal (hPartialIdeal := Cert.PartialIdeal.Gen.facts) (hPartialReferenceIdeal := Cert.PartialReferenceIdeal.Gen.facts) := by
  intro m ρ m' ρ' _ hagree
  refine ⟨_, _, (θ_run Cert.PartialIdeal.defs _ _).mono (fun _ h c => ⟨(h.1 c).1.trans ?_, (h.1 c).2.1.trans ?_, (h.1 c).2.2⟩)
      (Cert.PartialIdeal.Part.run_main (F := Ideal) m ρ),
    (θ_run Cert.PartialReferenceIdeal.defs _ _).mono (fun _ h => h 0) (Cert.PartialReferenceIdeal.Part.run_main (F := Ideal) m' ρ')⟩
  · obtain ⟨h0, h1, h2, h3⟩ := hagree c
    rw [Cert.PartialIdeal.Part.outA_eq, h0, h1, h2, h3, Cert.PartialReferenceIdeal.Part.block_part, Cert.PartialReferenceIdeal.Part.block_part]
    funext y
    obtain ⟨r, j, rfl⟩ : ∃ (r : Fin 2048) (j : Fin 1024), y = ix2 r j := ⟨y 0, y 1, by funext a; match a with | ⟨0, _⟩ => rfl | ⟨1, _⟩ => rfl⟩
    exact (Cert.PartialReferenceIdeal.Part.block_outN _ _ _ _ c r j).symm
  · obtain ⟨h0, h1, h2, -⟩ := hagree c
    rw [Cert.PartialIdeal.Part.outL_eq, h0, h1, h2, Cert.PartialReferenceIdeal.Part.block_part]
    funext y
    obtain ⟨r, j, rfl⟩ : ∃ (r : Fin 2048) (j : Fin 8), y = ix2 r j := ⟨y 0, y 1, by funext a; match a with | ⟨0, _⟩ => rfl | ⟨1, _⟩ => rfl⟩
    exact (Cert.PartialReferenceIdeal.Part.block_outD _ _ _ c r j).symm

theorem claim : Cert.Claim :=
  ⟨Cert.Kernel.Gen.facts, Cert.KernelIdeal.Gen.facts, Cert.ReferenceIdeal.Gen.facts,
    Cert.Partial.Gen.facts, Cert.PartialIdeal.Gen.facts, Cert.PartialReferenceIdeal.Gen.facts,
    frame_kernel, frame_kernelIdeal, frame_reference, frame_partial, frame_partialIdeal, frame_partialReference,
    trivial, algebraic, trivial, algebraic_partial⟩

end Cert.Proof

end
